-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Reference (m : (ℓ : Loc Cert.Reference.nD Cert.Reference.τ Cert.Reference.sig) → Buf (Elt Bits) ℓ) : Prop :=
  True

def Pre_WeightGrad (m : (ℓ : Loc Cert.WeightGrad.nD Cert.WeightGrad.τ Cert.WeightGrad.sig) → Buf (Elt Bits) ℓ) : Prop :=
  True

def Pre_WeightGradIdeal (m : (ℓ : Loc Cert.WeightGradIdeal.nD Cert.WeightGradIdeal.τ Cert.WeightGradIdeal.sig) → Buf (Elt Ideal) ℓ) : Prop :=
  True

def Pre_WeightGradRefIdeal (m : (ℓ : Loc Cert.WeightGradRefIdeal.nD Cert.WeightGradRefIdeal.τ Cert.WeightGradRefIdeal.sig) → Buf (Elt Ideal) ℓ) : Prop :=
  True

def Pre_WeightGradRef (m : (ℓ : Loc Cert.WeightGradRef.nD Cert.WeightGradRef.τ Cert.WeightGradRef.sig) → Buf (Elt Bits) ℓ) : Prop :=
  True

def Pre_RowGrad (m : (ℓ : Loc Cert.RowGrad.nD Cert.RowGrad.τ Cert.RowGrad.sig) → Buf (Elt Bits) ℓ) : Prop :=
  True

def Pre_RowGradIdeal (m : (ℓ : Loc Cert.RowGradIdeal.nD Cert.RowGradIdeal.τ Cert.RowGradIdeal.sig) → Buf (Elt Ideal) ℓ) : Prop :=
  True

def Pre_RowGradRefIdeal (m : (ℓ : Loc Cert.RowGradRefIdeal.nD Cert.RowGradRefIdeal.τ Cert.RowGradRefIdeal.sig) → Buf (Elt Ideal) ℓ) : Prop :=
  True

def Pre_RowGradRef (m : (ℓ : Loc Cert.RowGradRef.nD Cert.RowGradRef.τ Cert.RowGradRef.sig) → Buf (Elt Bits) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_InRef (m : (ℓ : Loc Cert.InRef.nD Cert.InRef.τ Cert.InRef.sig) → Buf (Elt Bits) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchRefIdeal (m : (ℓ : Loc Cert.BranchRefIdeal.nD Cert.BranchRefIdeal.τ Cert.BranchRefIdeal.sig) → Buf (Elt Ideal) ℓ) : Prop :=
  True

def Pre_BranchRef (m : (ℓ : Loc Cert.BranchRef.nD Cert.BranchRef.τ Cert.BranchRef.sig) → Buf (Elt Bits) ℓ) : Prop :=
  True

def Pre_BranchWeight (m : (ℓ : Loc Cert.BranchWeight.nD Cert.BranchWeight.τ Cert.BranchWeight.sig) → Buf (Elt Bits) ℓ) : Prop :=
  True

def Pre_BranchWeightIdeal (m : (ℓ : Loc Cert.BranchWeightIdeal.nD Cert.BranchWeightIdeal.τ Cert.BranchWeightIdeal.sig) → Buf (Elt Ideal) ℓ) : Prop :=
  True

def Pre_SquareWeightRefIdeal (m : (ℓ : Loc Cert.SquareWeightRefIdeal.nD Cert.SquareWeightRefIdeal.τ Cert.SquareWeightRefIdeal.sig) → Buf (Elt Ideal) ℓ) : Prop :=
  True

def Pre_SquareWeightRef (m : (ℓ : Loc Cert.SquareWeightRef.nD Cert.SquareWeightRef.τ Cert.SquareWeightRef.sig) → Buf (Elt Bits) ℓ) : Prop :=
  True

def Pre_OutWeight (m : (ℓ : Loc Cert.OutWeight.nD Cert.OutWeight.τ Cert.OutWeight.sig) → Buf (Elt Bits) ℓ) : Prop :=
  True

def Pre_OutWeightIdeal (m : (ℓ : Loc Cert.OutWeightIdeal.nD Cert.OutWeightIdeal.τ Cert.OutWeightIdeal.sig) → Buf (Elt Ideal) ℓ) : Prop :=
  True

def Pre_BranchRow (m : (ℓ : Loc Cert.BranchRow.nD Cert.BranchRow.τ Cert.BranchRow.sig) → Buf (Elt Bits) ℓ) : Prop :=
  True

def Pre_BranchRowIdeal (m : (ℓ : Loc Cert.BranchRowIdeal.nD Cert.BranchRowIdeal.τ Cert.BranchRowIdeal.sig) → Buf (Elt Ideal) ℓ) : Prop :=
  True

def Pre_SquareRowRefIdeal (m : (ℓ : Loc Cert.SquareRowRefIdeal.nD Cert.SquareRowRefIdeal.τ Cert.SquareRowRefIdeal.sig) → Buf (Elt Ideal) ℓ) : Prop :=
  True

def Pre_SquareRowRef (m : (ℓ : Loc Cert.SquareRowRef.nD Cert.SquareRowRef.τ Cert.SquareRowRef.sig) → Buf (Elt Bits) ℓ) : Prop :=
  True

def Pre_OutRow (m : (ℓ : Loc Cert.OutRow.nD Cert.OutRow.τ Cert.OutRow.sig) → Buf (Elt Bits) ℓ) : Prop :=
  True

def Pre_OutRowIdeal (m : (ℓ : Loc Cert.OutRowIdeal.nD Cert.OutRowIdeal.τ Cert.OutRowIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_OutRef (m : (ℓ : Loc Cert.OutRef.nD Cert.OutRef.τ Cert.OutRef.sig) → Buf (Elt Bits) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_QueryRef (m : (ℓ : Loc Cert.QueryRef.nD Cert.QueryRef.τ Cert.QueryRef.sig) → Buf (Elt Bits) ℓ) : Prop :=
  True

def Pre_KeyValue (m : (ℓ : Loc Cert.KeyValue.nD Cert.KeyValue.τ Cert.KeyValue.sig) → Buf (Elt Bits) ℓ) : Prop :=
  True

def Pre_KeyValueIdeal (m : (ℓ : Loc Cert.KeyValueIdeal.nD Cert.KeyValueIdeal.τ Cert.KeyValueIdeal.sig) → Buf (Elt Ideal) ℓ) : Prop :=
  True

def Pre_KeyValueRefIdeal (m : (ℓ : Loc Cert.KeyValueRefIdeal.nD Cert.KeyValueRefIdeal.τ Cert.KeyValueRefIdeal.sig) → Buf (Elt Ideal) ℓ) : Prop :=
  True

def Pre_KeyValueRef (m : (ℓ : Loc Cert.KeyValueRef.nD Cert.KeyValueRef.τ Cert.KeyValueRef.sig) → Buf (Elt Bits) ℓ) : Prop :=
  True

def Pre_QueryWeight (m : (ℓ : Loc Cert.QueryWeight.nD Cert.QueryWeight.τ Cert.QueryWeight.sig) → Buf (Elt Bits) ℓ) : Prop :=
  True

def Pre_QueryWeightIdeal (m : (ℓ : Loc Cert.QueryWeightIdeal.nD Cert.QueryWeightIdeal.τ Cert.QueryWeightIdeal.sig) → Buf (Elt Ideal) ℓ) : Prop :=
  True

def Pre_QueryWeightRefIdeal (m : (ℓ : Loc Cert.QueryWeightRefIdeal.nD Cert.QueryWeightRefIdeal.τ Cert.QueryWeightRefIdeal.sig) → Buf (Elt Ideal) ℓ) : Prop :=
  True

def Pre_QueryWeightRef (m : (ℓ : Loc Cert.QueryWeightRef.nD Cert.QueryWeightRef.τ Cert.QueryWeightRef.sig) → Buf (Elt Bits) ℓ) : Prop :=
  True

def Pre_QueryRow (m : (ℓ : Loc Cert.QueryRow.nD Cert.QueryRow.τ Cert.QueryRow.sig) → Buf (Elt Bits) ℓ) : Prop :=
  True

def Pre_QueryRowIdeal (m : (ℓ : Loc Cert.QueryRowIdeal.nD Cert.QueryRowIdeal.τ Cert.QueryRowIdeal.sig) → Buf (Elt Ideal) ℓ) : Prop :=
  True

def Pre_QueryRowRefIdeal (m : (ℓ : Loc Cert.QueryRowRefIdeal.nD Cert.QueryRowRefIdeal.τ Cert.QueryRowRefIdeal.sig) → Buf (Elt Ideal) ℓ) : Prop :=
  True

def Pre_QueryRowRef (m : (ℓ : Loc Cert.QueryRowRef.nD Cert.QueryRowRef.τ Cert.QueryRowRef.sig) → Buf (Elt Bits) ℓ) : Prop :=
  True

def Pre_Embed (m : (ℓ : Loc Cert.Embed.nD Cert.Embed.τ Cert.Embed.sig) → Buf (Elt Bits) ℓ) : Prop :=
  True

def Pre_EmbedIdeal (m : (ℓ : Loc Cert.EmbedIdeal.nD Cert.EmbedIdeal.τ Cert.EmbedIdeal.sig) → Buf (Elt Ideal) ℓ) : Prop :=
  True

def Pre_EmbedRefIdeal (m : (ℓ : Loc Cert.EmbedRefIdeal.nD Cert.EmbedRefIdeal.τ Cert.EmbedRefIdeal.sig) → Buf (Elt Ideal) ℓ) : Prop :=
  True

def Pre_EmbedRef (m : (ℓ : Loc Cert.EmbedRef.nD Cert.EmbedRef.τ Cert.EmbedRef.sig) → Buf (Elt Bits) ℓ) : Prop :=
  True

def Pre_EmbedWeight (m : (ℓ : Loc Cert.EmbedWeight.nD Cert.EmbedWeight.τ Cert.EmbedWeight.sig) → Buf (Elt Bits) ℓ) : Prop :=
  True

def Pre_EmbedWeightIdeal (m : (ℓ : Loc Cert.EmbedWeightIdeal.nD Cert.EmbedWeightIdeal.τ Cert.EmbedWeightIdeal.sig) → Buf (Elt Ideal) ℓ) : Prop :=
  True

def Pre_EmbedWeightRefIdeal (m : (ℓ : Loc Cert.EmbedWeightRefIdeal.nD Cert.EmbedWeightRefIdeal.τ Cert.EmbedWeightRefIdeal.sig) → Buf (Elt Ideal) ℓ) : Prop :=
  True

def Pre_EmbedWeightRef (m : (ℓ : Loc Cert.EmbedWeightRef.nD Cert.EmbedWeightRef.τ Cert.EmbedWeightRef.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def quiescent_WeightGrad [hWeightGrad : Cert.WeightGrad.Facts] : Prop :=
  ∀ (m : (ℓ : Loc Cert.WeightGrad.nD Cert.WeightGrad.τ Cert.WeightGrad.sig) → Buf (Elt Bits) ℓ) (g : Dev Cert.WeightGrad.nD → PrngReg), Pre_WeightGrad m →
    θ_run (Cert.WeightGrad.defs (F := Bits)) (onTc (τ := Cert.WeightGrad.τ) (Cert.WeightGrad.main (F := Bits))) ⟨m, fun _ => 0, g⟩ (fun r => (∀ c : Dev Cert.WeightGrad.nD,
      r.2.mem ((c.tc : Thread Cert.WeightGrad.nD Cert.WeightGrad.τ).loc Cert.WeightGrad.main_arg0) = m ((c.tc : Thread Cert.WeightGrad.nD Cert.WeightGrad.τ).loc Cert.WeightGrad.main_arg0)
      ∧ r.2.mem ((c.tc : Thread Cert.WeightGrad.nD Cert.WeightGrad.τ).loc Cert.WeightGrad.main_arg1) = m ((c.tc : Thread Cert.WeightGrad.nD Cert.WeightGrad.τ).loc Cert.WeightGrad.main_arg1)
      ∧ r.2.mem ((c.tc : Thread Cert.WeightGrad.nD Cert.WeightGrad.τ).loc Cert.WeightGrad.main_arg2) = m ((c.tc : Thread Cert.WeightGrad.nD Cert.WeightGrad.τ).loc Cert.WeightGrad.main_arg2))
      ∧ r.2.sem = fun _ => 0)

def quiescent_WeightGradIdeal [hWeightGradIdeal : Cert.WeightGradIdeal.Facts] : Prop :=
  ∀ (m : (ℓ : Loc Cert.WeightGradIdeal.nD Cert.WeightGradIdeal.τ Cert.WeightGradIdeal.sig) → Buf (Elt Ideal) ℓ) (g : Dev Cert.WeightGradIdeal.nD → PrngReg), Pre_WeightGradIdeal m →
    θ_run (Cert.WeightGradIdeal.defs (F := Ideal)) (onTc (τ := Cert.WeightGradIdeal.τ) (Cert.WeightGradIdeal.main (F := Ideal))) ⟨m, fun _ => 0, g⟩ (fun r => (∀ c : Dev Cert.WeightGradIdeal.nD,
      r.2.mem ((c.tc : Thread Cert.WeightGradIdeal.nD Cert.WeightGradIdeal.τ).loc Cert.WeightGradIdeal.main_arg0) = m ((c.tc : Thread Cert.WeightGradIdeal.nD Cert.WeightGradIdeal.τ).loc Cert.WeightGradIdeal.main_arg0)
      ∧ r.2.mem ((c.tc : Thread Cert.WeightGradIdeal.nD Cert.WeightGradIdeal.τ).loc Cert.WeightGradIdeal.main_arg1) = m ((c.tc : Thread Cert.WeightGradIdeal.nD Cert.WeightGradIdeal.τ).loc Cert.WeightGradIdeal.main_arg1)
      ∧ r.2.mem ((c.tc : Thread Cert.WeightGradIdeal.nD Cert.WeightGradIdeal.τ).loc Cert.WeightGradIdeal.main_arg2) = m ((c.tc : Thread Cert.WeightGradIdeal.nD Cert.WeightGradIdeal.τ).loc Cert.WeightGradIdeal.main_arg2))
      ∧ r.2.sem = fun _ => 0)

def quiescent_WeightGradRefIdeal [hWeightGradRefIdeal : Cert.WeightGradRefIdeal.Facts] : Prop :=
  ∀ (m : (ℓ : Loc Cert.WeightGradRefIdeal.nD Cert.WeightGradRefIdeal.τ Cert.WeightGradRefIdeal.sig) → Buf (Elt Ideal) ℓ) (g : Dev Cert.WeightGradRefIdeal.nD → PrngReg), Pre_WeightGradRefIdeal m →
    θ_run (Cert.WeightGradRefIdeal.defs (F := Ideal)) (onTc (τ := Cert.WeightGradRefIdeal.τ) (Cert.WeightGradRefIdeal.main (F := Ideal))) ⟨m, fun _ => 0, g⟩ (fun r => (∀ c : Dev Cert.WeightGradRefIdeal.nD,
      r.2.mem ((c.tc : Thread Cert.WeightGradRefIdeal.nD Cert.WeightGradRefIdeal.τ).loc Cert.WeightGradRefIdeal.main_arg0) = m ((c.tc : Thread Cert.WeightGradRefIdeal.nD Cert.WeightGradRefIdeal.τ).loc Cert.WeightGradRefIdeal.main_arg0)
      ∧ r.2.mem ((c.tc : Thread Cert.WeightGradRefIdeal.nD Cert.WeightGradRefIdeal.τ).loc Cert.WeightGradRefIdeal.main_arg1) = m ((c.tc : Thread Cert.WeightGradRefIdeal.nD Cert.WeightGradRefIdeal.τ).loc Cert.WeightGradRefIdeal.main_arg1)
      ∧ r.2.mem ((c.tc : Thread Cert.WeightGradRefIdeal.nD Cert.WeightGradRefIdeal.τ).loc Cert.WeightGradRefIdeal.main_arg2) = m ((c.tc : Thread Cert.WeightGradRefIdeal.nD Cert.WeightGradRefIdeal.τ).loc Cert.WeightGradRefIdeal.main_arg2))
      ∧ r.2.sem = fun _ => 0)

def quiescent_WeightGradRef [hWeightGradRef : Cert.WeightGradRef.Facts] : Prop :=
  ∀ (m : (ℓ : Loc Cert.WeightGradRef.nD Cert.WeightGradRef.τ Cert.WeightGradRef.sig) → Buf (Elt Bits) ℓ) (g : Dev Cert.WeightGradRef.nD → PrngReg), Pre_WeightGradRef m →
    θ_run (Cert.WeightGradRef.defs (F := Bits)) (onTc (τ := Cert.WeightGradRef.τ) (Cert.WeightGradRef.main (F := Bits))) ⟨m, fun _ => 0, g⟩ (fun r => (∀ c : Dev Cert.WeightGradRef.nD,
      r.2.mem ((c.tc : Thread Cert.WeightGradRef.nD Cert.WeightGradRef.τ).loc Cert.WeightGradRef.main_arg0) = m ((c.tc : Thread Cert.WeightGradRef.nD Cert.WeightGradRef.τ).loc Cert.WeightGradRef.main_arg0)
      ∧ r.2.mem ((c.tc : Thread Cert.WeightGradRef.nD Cert.WeightGradRef.τ).loc Cert.WeightGradRef.main_arg1) = m ((c.tc : Thread Cert.WeightGradRef.nD Cert.WeightGradRef.τ).loc Cert.WeightGradRef.main_arg1)
      ∧ r.2.mem ((c.tc : Thread Cert.WeightGradRef.nD Cert.WeightGradRef.τ).loc Cert.WeightGradRef.main_arg2) = m ((c.tc : Thread Cert.WeightGradRef.nD Cert.WeightGradRef.τ).loc Cert.WeightGradRef.main_arg2))
      ∧ r.2.sem = fun _ => 0)

def quiescent_RowGrad [hRowGrad : Cert.RowGrad.Facts] : Prop :=
  ∀ (m : (ℓ : Loc Cert.RowGrad.nD Cert.RowGrad.τ Cert.RowGrad.sig) → Buf (Elt Bits) ℓ) (g : Dev Cert.RowGrad.nD → PrngReg), Pre_RowGrad m →
    θ_run (Cert.RowGrad.defs (F := Bits)) (onTc (τ := Cert.RowGrad.τ) (Cert.RowGrad.main (F := Bits))) ⟨m, fun _ => 0, g⟩ (fun r => (∀ c : Dev Cert.RowGrad.nD,
      r.2.mem ((c.tc : Thread Cert.RowGrad.nD Cert.RowGrad.τ).loc Cert.RowGrad.main_arg0) = m ((c.tc : Thread Cert.RowGrad.nD Cert.RowGrad.τ).loc Cert.RowGrad.main_arg0)
      ∧ r.2.mem ((c.tc : Thread Cert.RowGrad.nD Cert.RowGrad.τ).loc Cert.RowGrad.main_arg1) = m ((c.tc : Thread Cert.RowGrad.nD Cert.RowGrad.τ).loc Cert.RowGrad.main_arg1)
      ∧ r.2.mem ((c.tc : Thread Cert.RowGrad.nD Cert.RowGrad.τ).loc Cert.RowGrad.main_arg2) = m ((c.tc : Thread Cert.RowGrad.nD Cert.RowGrad.τ).loc Cert.RowGrad.main_arg2))
      ∧ r.2.sem = fun _ => 0)

def quiescent_RowGradIdeal [hRowGradIdeal : Cert.RowGradIdeal.Facts] : Prop :=
  ∀ (m : (ℓ : Loc Cert.RowGradIdeal.nD Cert.RowGradIdeal.τ Cert.RowGradIdeal.sig) → Buf (Elt Ideal) ℓ) (g : Dev Cert.RowGradIdeal.nD → PrngReg), Pre_RowGradIdeal m →
    θ_run (Cert.RowGradIdeal.defs (F := Ideal)) (onTc (τ := Cert.RowGradIdeal.τ) (Cert.RowGradIdeal.main (F := Ideal))) ⟨m, fun _ => 0, g⟩ (fun r => (∀ c : Dev Cert.RowGradIdeal.nD,
      r.2.mem ((c.tc : Thread Cert.RowGradIdeal.nD Cert.RowGradIdeal.τ).loc Cert.RowGradIdeal.main_arg0) = m ((c.tc : Thread Cert.RowGradIdeal.nD Cert.RowGradIdeal.τ).loc Cert.RowGradIdeal.main_arg0)
      ∧ r.2.mem ((c.tc : Thread Cert.RowGradIdeal.nD Cert.RowGradIdeal.τ).loc Cert.RowGradIdeal.main_arg1) = m ((c.tc : Thread Cert.RowGradIdeal.nD Cert.RowGradIdeal.τ).loc Cert.RowGradIdeal.main_arg1)
      ∧ r.2.mem ((c.tc : Thread Cert.RowGradIdeal.nD Cert.RowGradIdeal.τ).loc Cert.RowGradIdeal.main_arg2) = m ((c.tc : Thread Cert.RowGradIdeal.nD Cert.RowGradIdeal.τ).loc Cert.RowGradIdeal.main_arg2))
      ∧ r.2.sem = fun _ => 0)

def quiescent_RowGradRefIdeal [hRowGradRefIdeal : Cert.RowGradRefIdeal.Facts] : Prop :=
  ∀ (m : (ℓ : Loc Cert.RowGradRefIdeal.nD Cert.RowGradRefIdeal.τ Cert.RowGradRefIdeal.sig) → Buf (Elt Ideal) ℓ) (g : Dev Cert.RowGradRefIdeal.nD → PrngReg), Pre_RowGradRefIdeal m →
    θ_run (Cert.RowGradRefIdeal.defs (F := Ideal)) (onTc (τ := Cert.RowGradRefIdeal.τ) (Cert.RowGradRefIdeal.main (F := Ideal))) ⟨m, fun _ => 0, g⟩ (fun r => (∀ c : Dev Cert.RowGradRefIdeal.nD,
      r.2.mem ((c.tc : Thread Cert.RowGradRefIdeal.nD Cert.RowGradRefIdeal.τ).loc Cert.RowGradRefIdeal.main_arg0) = m ((c.tc : Thread Cert.RowGradRefIdeal.nD Cert.RowGradRefIdeal.τ).loc Cert.RowGradRefIdeal.main_arg0)
      ∧ r.2.mem ((c.tc : Thread Cert.RowGradRefIdeal.nD Cert.RowGradRefIdeal.τ).loc Cert.RowGradRefIdeal.main_arg1) = m ((c.tc : Thread Cert.RowGradRefIdeal.nD Cert.RowGradRefIdeal.τ).loc Cert.RowGradRefIdeal.main_arg1)
      ∧ r.2.mem ((c.tc : Thread Cert.RowGradRefIdeal.nD Cert.RowGradRefIdeal.τ).loc Cert.RowGradRefIdeal.main_arg2) = m ((c.tc : Thread Cert.RowGradRefIdeal.nD Cert.RowGradRefIdeal.τ).loc Cert.RowGradRefIdeal.main_arg2))
      ∧ r.2.sem = fun _ => 0)

def quiescent_RowGradRef [hRowGradRef : Cert.RowGradRef.Facts] : Prop :=
  ∀ (m : (ℓ : Loc Cert.RowGradRef.nD Cert.RowGradRef.τ Cert.RowGradRef.sig) → Buf (Elt Bits) ℓ) (g : Dev Cert.RowGradRef.nD → PrngReg), Pre_RowGradRef m →
    θ_run (Cert.RowGradRef.defs (F := Bits)) (onTc (τ := Cert.RowGradRef.τ) (Cert.RowGradRef.main (F := Bits))) ⟨m, fun _ => 0, g⟩ (fun r => (∀ c : Dev Cert.RowGradRef.nD,
      r.2.mem ((c.tc : Thread Cert.RowGradRef.nD Cert.RowGradRef.τ).loc Cert.RowGradRef.main_arg0) = m ((c.tc : Thread Cert.RowGradRef.nD Cert.RowGradRef.τ).loc Cert.RowGradRef.main_arg0)
      ∧ r.2.mem ((c.tc : Thread Cert.RowGradRef.nD Cert.RowGradRef.τ).loc Cert.RowGradRef.main_arg1) = m ((c.tc : Thread Cert.RowGradRef.nD Cert.RowGradRef.τ).loc Cert.RowGradRef.main_arg1)
      ∧ r.2.mem ((c.tc : Thread Cert.RowGradRef.nD Cert.RowGradRef.τ).loc Cert.RowGradRef.main_arg2) = m ((c.tc : Thread Cert.RowGradRef.nD Cert.RowGradRef.τ).loc Cert.RowGradRef.main_arg2))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_InRef [hInRef : Cert.InRef.Facts] : Prop :=
  ∀ (m : (ℓ : Loc Cert.InRef.nD Cert.InRef.τ Cert.InRef.sig) → Buf (Elt Bits) ℓ) (g : Dev Cert.InRef.nD → PrngReg), Pre_InRef m →
    θ_run (Cert.InRef.defs (F := Bits)) (onTc (τ := Cert.InRef.τ) (Cert.InRef.main (F := Bits))) ⟨m, fun _ => 0, g⟩ (fun r => (∀ c : Dev Cert.InRef.nD,
      r.2.mem ((c.tc : Thread Cert.InRef.nD Cert.InRef.τ).loc Cert.InRef.main_arg0) = m ((c.tc : Thread Cert.InRef.nD Cert.InRef.τ).loc Cert.InRef.main_arg0)
      ∧ r.2.mem ((c.tc : Thread Cert.InRef.nD Cert.InRef.τ).loc Cert.InRef.main_arg1) = m ((c.tc : Thread Cert.InRef.nD Cert.InRef.τ).loc Cert.InRef.main_arg1))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ r.2.sem = fun _ => 0)

def quiescent_BranchRefIdeal [hBranchRefIdeal : Cert.BranchRefIdeal.Facts] : Prop :=
  ∀ (m : (ℓ : Loc Cert.BranchRefIdeal.nD Cert.BranchRefIdeal.τ Cert.BranchRefIdeal.sig) → Buf (Elt Ideal) ℓ) (g : Dev Cert.BranchRefIdeal.nD → PrngReg), Pre_BranchRefIdeal m →
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0)
      ∧ r.2.mem ((c.tc : Thread Cert.BranchRefIdeal.nD Cert.BranchRefIdeal.τ).loc Cert.BranchRefIdeal.main_arg1) = m ((c.tc : Thread Cert.BranchRefIdeal.nD Cert.BranchRefIdeal.τ).loc Cert.BranchRefIdeal.main_arg1))
      ∧ r.2.sem = fun _ => 0)

def quiescent_BranchRef [hBranchRef : Cert.BranchRef.Facts] : Prop :=
  ∀ (m : (ℓ : Loc Cert.BranchRef.nD Cert.BranchRef.τ Cert.BranchRef.sig) → Buf (Elt Bits) ℓ) (g : Dev Cert.BranchRef.nD → PrngReg), Pre_BranchRef m →
    θ_run (Cert.BranchRef.defs (F := Bits)) (onTc (τ := Cert.BranchRef.τ) (Cert.BranchRef.main (F := Bits))) ⟨m, fun _ => 0, g⟩ (fun r => (∀ c : Dev Cert.BranchRef.nD,
      r.2.mem ((c.tc : Thread Cert.BranchRef.nD Cert.BranchRef.τ).loc Cert.BranchRef.main_arg0) = m ((c.tc : Thread Cert.BranchRef.nD Cert.BranchRef.τ).loc Cert.BranchRef.main_arg0)
      ∧ r.2.mem ((c.tc : Thread Cert.BranchRef.nD Cert.BranchRef.τ).loc Cert.BranchRef.main_arg1) = m ((c.tc : Thread Cert.BranchRef.nD Cert.BranchRef.τ).loc Cert.BranchRef.main_arg1))
      ∧ r.2.sem = fun _ => 0)

def quiescent_BranchWeight [hBranchWeight : Cert.BranchWeight.Facts] : Prop :=
  ∀ (m : (ℓ : Loc Cert.BranchWeight.nD Cert.BranchWeight.τ Cert.BranchWeight.sig) → Buf (Elt Bits) ℓ) (g : Dev Cert.BranchWeight.nD → PrngReg), Pre_BranchWeight m →
    θ_run (Cert.BranchWeight.defs (F := Bits)) (onTc (τ := Cert.BranchWeight.τ) (Cert.BranchWeight.main (F := Bits))) ⟨m, fun _ => 0, g⟩ (fun r => (∀ c : Dev Cert.BranchWeight.nD,
      r.2.mem ((c.tc : Thread Cert.BranchWeight.nD Cert.BranchWeight.τ).loc Cert.BranchWeight.main_arg0) = m ((c.tc : Thread Cert.BranchWeight.nD Cert.BranchWeight.τ).loc Cert.BranchWeight.main_arg0)
      ∧ r.2.mem ((c.tc : Thread Cert.BranchWeight.nD Cert.BranchWeight.τ).loc Cert.BranchWeight.main_arg1) = m ((c.tc : Thread Cert.BranchWeight.nD Cert.BranchWeight.τ).loc Cert.BranchWeight.main_arg1)
      ∧ r.2.mem ((c.tc : Thread Cert.BranchWeight.nD Cert.BranchWeight.τ).loc Cert.BranchWeight.main_arg2) = m ((c.tc : Thread Cert.BranchWeight.nD Cert.BranchWeight.τ).loc Cert.BranchWeight.main_arg2))
      ∧ r.2.sem = fun _ => 0)

def quiescent_BranchWeightIdeal [hBranchWeightIdeal : Cert.BranchWeightIdeal.Facts] : Prop :=
  ∀ (m : (ℓ : Loc Cert.BranchWeightIdeal.nD Cert.BranchWeightIdeal.τ Cert.BranchWeightIdeal.sig) → Buf (Elt Ideal) ℓ) (g : Dev Cert.BranchWeightIdeal.nD → PrngReg), Pre_BranchWeightIdeal m →
    θ_run (Cert.BranchWeightIdeal.defs (F := Ideal)) (onTc (τ := Cert.BranchWeightIdeal.τ) (Cert.BranchWeightIdeal.main (F := Ideal))) ⟨m, fun _ => 0, g⟩ (fun r => (∀ c : Dev Cert.BranchWeightIdeal.nD,
      r.2.mem ((c.tc : Thread Cert.BranchWeightIdeal.nD Cert.BranchWeightIdeal.τ).loc Cert.BranchWeightIdeal.main_arg0) = m ((c.tc : Thread Cert.BranchWeightIdeal.nD Cert.BranchWeightIdeal.τ).loc Cert.BranchWeightIdeal.main_arg0)
      ∧ r.2.mem ((c.tc : Thread Cert.BranchWeightIdeal.nD Cert.BranchWeightIdeal.τ).loc Cert.BranchWeightIdeal.main_arg1) = m ((c.tc : Thread Cert.BranchWeightIdeal.nD Cert.BranchWeightIdeal.τ).loc Cert.BranchWeightIdeal.main_arg1)
      ∧ r.2.mem ((c.tc : Thread Cert.BranchWeightIdeal.nD Cert.BranchWeightIdeal.τ).loc Cert.BranchWeightIdeal.main_arg2) = m ((c.tc : Thread Cert.BranchWeightIdeal.nD Cert.BranchWeightIdeal.τ).loc Cert.BranchWeightIdeal.main_arg2))
      ∧ r.2.sem = fun _ => 0)

def quiescent_SquareWeightRefIdeal [hSquareWeightRefIdeal : Cert.SquareWeightRefIdeal.Facts] : Prop :=
  ∀ (m : (ℓ : Loc Cert.SquareWeightRefIdeal.nD Cert.SquareWeightRefIdeal.τ Cert.SquareWeightRefIdeal.sig) → Buf (Elt Ideal) ℓ) (g : Dev Cert.SquareWeightRefIdeal.nD → PrngReg), Pre_SquareWeightRefIdeal m →
    θ_run (Cert.SquareWeightRefIdeal.defs (F := Ideal)) (onTc (τ := Cert.SquareWeightRefIdeal.τ) (Cert.SquareWeightRefIdeal.main (F := Ideal))) ⟨m, fun _ => 0, g⟩ (fun r => (∀ c : Dev Cert.SquareWeightRefIdeal.nD,
      r.2.mem ((c.tc : Thread Cert.SquareWeightRefIdeal.nD Cert.SquareWeightRefIdeal.τ).loc Cert.SquareWeightRefIdeal.main_arg0) = m ((c.tc : Thread Cert.SquareWeightRefIdeal.nD Cert.SquareWeightRefIdeal.τ).loc Cert.SquareWeightRefIdeal.main_arg0)
      ∧ r.2.mem ((c.tc : Thread Cert.SquareWeightRefIdeal.nD Cert.SquareWeightRefIdeal.τ).loc Cert.SquareWeightRefIdeal.main_arg1) = m ((c.tc : Thread Cert.SquareWeightRefIdeal.nD Cert.SquareWeightRefIdeal.τ).loc Cert.SquareWeightRefIdeal.main_arg1)
      ∧ r.2.mem ((c.tc : Thread Cert.SquareWeightRefIdeal.nD Cert.SquareWeightRefIdeal.τ).loc Cert.SquareWeightRefIdeal.main_arg2) = m ((c.tc : Thread Cert.SquareWeightRefIdeal.nD Cert.SquareWeightRefIdeal.τ).loc Cert.SquareWeightRefIdeal.main_arg2))
      ∧ r.2.sem = fun _ => 0)

def quiescent_SquareWeightRef [hSquareWeightRef : Cert.SquareWeightRef.Facts] : Prop :=
  ∀ (m : (ℓ : Loc Cert.SquareWeightRef.nD Cert.SquareWeightRef.τ Cert.SquareWeightRef.sig) → Buf (Elt Bits) ℓ) (g : Dev Cert.SquareWeightRef.nD → PrngReg), Pre_SquareWeightRef m →
    θ_run (Cert.SquareWeightRef.defs (F := Bits)) (onTc (τ := Cert.SquareWeightRef.τ) (Cert.SquareWeightRef.main (F := Bits))) ⟨m, fun _ => 0, g⟩ (fun r => (∀ c : Dev Cert.SquareWeightRef.nD,
      r.2.mem ((c.tc : Thread Cert.SquareWeightRef.nD Cert.SquareWeightRef.τ).loc Cert.SquareWeightRef.main_arg0) = m ((c.tc : Thread Cert.SquareWeightRef.nD Cert.SquareWeightRef.τ).loc Cert.SquareWeightRef.main_arg0)
      ∧ r.2.mem ((c.tc : Thread Cert.SquareWeightRef.nD Cert.SquareWeightRef.τ).loc Cert.SquareWeightRef.main_arg1) = m ((c.tc : Thread Cert.SquareWeightRef.nD Cert.SquareWeightRef.τ).loc Cert.SquareWeightRef.main_arg1)
      ∧ r.2.mem ((c.tc : Thread Cert.SquareWeightRef.nD Cert.SquareWeightRef.τ).loc Cert.SquareWeightRef.main_arg2) = m ((c.tc : Thread Cert.SquareWeightRef.nD Cert.SquareWeightRef.τ).loc Cert.SquareWeightRef.main_arg2))
      ∧ r.2.sem = fun _ => 0)

def quiescent_OutWeight [hOutWeight : Cert.OutWeight.Facts] : Prop :=
  ∀ (m : (ℓ : Loc Cert.OutWeight.nD Cert.OutWeight.τ Cert.OutWeight.sig) → Buf (Elt Bits) ℓ) (g : Dev Cert.OutWeight.nD → PrngReg), Pre_OutWeight m →
    θ_run (Cert.OutWeight.defs (F := Bits)) (onTc (τ := Cert.OutWeight.τ) (Cert.OutWeight.main (F := Bits))) ⟨m, fun _ => 0, g⟩ (fun r => (∀ c : Dev Cert.OutWeight.nD,
      r.2.mem ((c.tc : Thread Cert.OutWeight.nD Cert.OutWeight.τ).loc Cert.OutWeight.main_arg0) = m ((c.tc : Thread Cert.OutWeight.nD Cert.OutWeight.τ).loc Cert.OutWeight.main_arg0)
      ∧ r.2.mem ((c.tc : Thread Cert.OutWeight.nD Cert.OutWeight.τ).loc Cert.OutWeight.main_arg1) = m ((c.tc : Thread Cert.OutWeight.nD Cert.OutWeight.τ).loc Cert.OutWeight.main_arg1)
      ∧ r.2.mem ((c.tc : Thread Cert.OutWeight.nD Cert.OutWeight.τ).loc Cert.OutWeight.main_arg2) = m ((c.tc : Thread Cert.OutWeight.nD Cert.OutWeight.τ).loc Cert.OutWeight.main_arg2))
      ∧ r.2.sem = fun _ => 0)

def quiescent_OutWeightIdeal [hOutWeightIdeal : Cert.OutWeightIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg), Pre_OutWeightIdeal m →
    θ_run (Cert.OutWeightIdeal.defs (F := Ideal)) (onTc (τ := Cert.OutWeightIdeal.τ) (Cert.OutWeightIdeal.main (F := Ideal))) ⟨m, fun _ => 0, g⟩ (fun r => (∀ c : Dev Cert.OutWeightIdeal.nD,
      r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
      ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1)
      ∧ r.2.mem ((c.tc : Thread Cert.OutWeightIdeal.nD Cert.OutWeightIdeal.τ).loc Cert.OutWeightIdeal.main_arg2) = m ((c.tc : Thread Cert.OutWeightIdeal.nD Cert.OutWeightIdeal.τ).loc Cert.OutWeightIdeal.main_arg2))
      ∧ r.2.sem = fun _ => 0)

def quiescent_BranchRow [hBranchRow : Cert.BranchRow.Facts] : Prop :=
  ∀ (m : (ℓ : Loc Cert.BranchRow.nD Cert.BranchRow.τ Cert.BranchRow.sig) → Buf (Elt Bits) ℓ) (g : Dev Cert.BranchRow.nD → PrngReg), Pre_BranchRow m →
    θ_run (Cert.BranchRow.defs (F := Bits)) (onTc (τ := Cert.BranchRow.τ) (Cert.BranchRow.main (F := Bits))) ⟨m, fun _ => 0, g⟩ (fun r => (∀ c : Dev Cert.BranchRow.nD,
      r.2.mem ((c.tc : Thread Cert.BranchRow.nD Cert.BranchRow.τ).loc Cert.BranchRow.main_arg0) = m ((c.tc : Thread Cert.BranchRow.nD Cert.BranchRow.τ).loc Cert.BranchRow.main_arg0)
      ∧ r.2.mem ((c.tc : Thread Cert.BranchRow.nD Cert.BranchRow.τ).loc Cert.BranchRow.main_arg1) = m ((c.tc : Thread Cert.BranchRow.nD Cert.BranchRow.τ).loc Cert.BranchRow.main_arg1)
      ∧ r.2.mem ((c.tc : Thread Cert.BranchRow.nD Cert.BranchRow.τ).loc Cert.BranchRow.main_arg2) = m ((c.tc : Thread Cert.BranchRow.nD Cert.BranchRow.τ).loc Cert.BranchRow.main_arg2))
      ∧ r.2.sem = fun _ => 0)

def quiescent_BranchRowIdeal [hBranchRowIdeal : Cert.BranchRowIdeal.Facts] : Prop :=
  ∀ (m : (ℓ : Loc Cert.BranchRowIdeal.nD Cert.BranchRowIdeal.τ Cert.BranchRowIdeal.sig) → Buf (Elt Ideal) ℓ) (g : Dev Cert.BranchRowIdeal.nD → PrngReg), Pre_BranchRowIdeal m →
    θ_run (Cert.BranchRowIdeal.defs (F := Ideal)) (onTc (τ := Cert.BranchRowIdeal.τ) (Cert.BranchRowIdeal.main (F := Ideal))) ⟨m, fun _ => 0, g⟩ (fun r => (∀ c : Dev Cert.BranchRowIdeal.nD,
      r.2.mem ((c.tc : Thread Cert.BranchRowIdeal.nD Cert.BranchRowIdeal.τ).loc Cert.BranchRowIdeal.main_arg0) = m ((c.tc : Thread Cert.BranchRowIdeal.nD Cert.BranchRowIdeal.τ).loc Cert.BranchRowIdeal.main_arg0)
      ∧ r.2.mem ((c.tc : Thread Cert.BranchRowIdeal.nD Cert.BranchRowIdeal.τ).loc Cert.BranchRowIdeal.main_arg1) = m ((c.tc : Thread Cert.BranchRowIdeal.nD Cert.BranchRowIdeal.τ).loc Cert.BranchRowIdeal.main_arg1)
      ∧ r.2.mem ((c.tc : Thread Cert.BranchRowIdeal.nD Cert.BranchRowIdeal.τ).loc Cert.BranchRowIdeal.main_arg2) = m ((c.tc : Thread Cert.BranchRowIdeal.nD Cert.BranchRowIdeal.τ).loc Cert.BranchRowIdeal.main_arg2))
      ∧ r.2.sem = fun _ => 0)

def quiescent_SquareRowRefIdeal [hSquareRowRefIdeal : Cert.SquareRowRefIdeal.Facts] : Prop :=
  ∀ (m : (ℓ : Loc Cert.SquareRowRefIdeal.nD Cert.SquareRowRefIdeal.τ Cert.SquareRowRefIdeal.sig) → Buf (Elt Ideal) ℓ) (g : Dev Cert.SquareRowRefIdeal.nD → PrngReg), Pre_SquareRowRefIdeal m →
    θ_run (Cert.SquareRowRefIdeal.defs (F := Ideal)) (onTc (τ := Cert.SquareRowRefIdeal.τ) (Cert.SquareRowRefIdeal.main (F := Ideal))) ⟨m, fun _ => 0, g⟩ (fun r => (∀ c : Dev Cert.SquareRowRefIdeal.nD,
      r.2.mem ((c.tc : Thread Cert.SquareRowRefIdeal.nD Cert.SquareRowRefIdeal.τ).loc Cert.SquareRowRefIdeal.main_arg0) = m ((c.tc : Thread Cert.SquareRowRefIdeal.nD Cert.SquareRowRefIdeal.τ).loc Cert.SquareRowRefIdeal.main_arg0)
      ∧ r.2.mem ((c.tc : Thread Cert.SquareRowRefIdeal.nD Cert.SquareRowRefIdeal.τ).loc Cert.SquareRowRefIdeal.main_arg1) = m ((c.tc : Thread Cert.SquareRowRefIdeal.nD Cert.SquareRowRefIdeal.τ).loc Cert.SquareRowRefIdeal.main_arg1)
      ∧ r.2.mem ((c.tc : Thread Cert.SquareRowRefIdeal.nD Cert.SquareRowRefIdeal.τ).loc Cert.SquareRowRefIdeal.main_arg2) = m ((c.tc : Thread Cert.SquareRowRefIdeal.nD Cert.SquareRowRefIdeal.τ).loc Cert.SquareRowRefIdeal.main_arg2))
      ∧ r.2.sem = fun _ => 0)

def quiescent_SquareRowRef [hSquareRowRef : Cert.SquareRowRef.Facts] : Prop :=
  ∀ (m : (ℓ : Loc Cert.SquareRowRef.nD Cert.SquareRowRef.τ Cert.SquareRowRef.sig) → Buf (Elt Bits) ℓ) (g : Dev Cert.SquareRowRef.nD → PrngReg), Pre_SquareRowRef m →
    θ_run (Cert.SquareRowRef.defs (F := Bits)) (onTc (τ := Cert.SquareRowRef.τ) (Cert.SquareRowRef.main (F := Bits))) ⟨m, fun _ => 0, g⟩ (fun r => (∀ c : Dev Cert.SquareRowRef.nD,
      r.2.mem ((c.tc : Thread Cert.SquareRowRef.nD Cert.SquareRowRef.τ).loc Cert.SquareRowRef.main_arg0) = m ((c.tc : Thread Cert.SquareRowRef.nD Cert.SquareRowRef.τ).loc Cert.SquareRowRef.main_arg0)
      ∧ r.2.mem ((c.tc : Thread Cert.SquareRowRef.nD Cert.SquareRowRef.τ).loc Cert.SquareRowRef.main_arg1) = m ((c.tc : Thread Cert.SquareRowRef.nD Cert.SquareRowRef.τ).loc Cert.SquareRowRef.main_arg1)
      ∧ r.2.mem ((c.tc : Thread Cert.SquareRowRef.nD Cert.SquareRowRef.τ).loc Cert.SquareRowRef.main_arg2) = m ((c.tc : Thread Cert.SquareRowRef.nD Cert.SquareRowRef.τ).loc Cert.SquareRowRef.main_arg2))
      ∧ r.2.sem = fun _ => 0)

def quiescent_OutRow [hOutRow : Cert.OutRow.Facts] : Prop :=
  ∀ (m : (ℓ : Loc Cert.OutRow.nD Cert.OutRow.τ Cert.OutRow.sig) → Buf (Elt Bits) ℓ) (g : Dev Cert.OutRow.nD → PrngReg), Pre_OutRow m →
    θ_run (Cert.OutRow.defs (F := Bits)) (onTc (τ := Cert.OutRow.τ) (Cert.OutRow.main (F := Bits))) ⟨m, fun _ => 0, g⟩ (fun r => (∀ c : Dev Cert.OutRow.nD,
      r.2.mem ((c.tc : Thread Cert.OutRow.nD Cert.OutRow.τ).loc Cert.OutRow.main_arg0) = m ((c.tc : Thread Cert.OutRow.nD Cert.OutRow.τ).loc Cert.OutRow.main_arg0)
      ∧ r.2.mem ((c.tc : Thread Cert.OutRow.nD Cert.OutRow.τ).loc Cert.OutRow.main_arg1) = m ((c.tc : Thread Cert.OutRow.nD Cert.OutRow.τ).loc Cert.OutRow.main_arg1)
      ∧ r.2.mem ((c.tc : Thread Cert.OutRow.nD Cert.OutRow.τ).loc Cert.OutRow.main_arg2) = m ((c.tc : Thread Cert.OutRow.nD Cert.OutRow.τ).loc Cert.OutRow.main_arg2))
      ∧ r.2.sem = fun _ => 0)

def quiescent_OutRowIdeal [hOutRowIdeal : Cert.OutRowIdeal.Facts] : Prop :=
  ∀ (m : (ℓ : Loc Cert.OutRowIdeal.nD Cert.OutRowIdeal.τ Cert.OutRowIdeal.sig) → Buf (Elt Ideal) ℓ) (g : Dev Cert.OutRowIdeal.nD → PrngReg), Pre_OutRowIdeal m →
    θ_run (Cert.OutRowIdeal.defs (F := Ideal)) (onTc (τ := Cert.OutRowIdeal.τ) (Cert.OutRowIdeal.main (F := Ideal))) ⟨m, fun _ => 0, g⟩ (fun r => (∀ c : Dev Cert.OutRowIdeal.nD,
      r.2.mem ((c.tc : Thread Cert.OutRowIdeal.nD Cert.OutRowIdeal.τ).loc Cert.OutRowIdeal.main_arg0) = m ((c.tc : Thread Cert.OutRowIdeal.nD Cert.OutRowIdeal.τ).loc Cert.OutRowIdeal.main_arg0)
      ∧ r.2.mem ((c.tc : Thread Cert.OutRowIdeal.nD Cert.OutRowIdeal.τ).loc Cert.OutRowIdeal.main_arg1) = m ((c.tc : Thread Cert.OutRowIdeal.nD Cert.OutRowIdeal.τ).loc Cert.OutRowIdeal.main_arg1)
      ∧ r.2.mem ((c.tc : Thread Cert.OutRowIdeal.nD Cert.OutRowIdeal.τ).loc Cert.OutRowIdeal.main_arg2) = m ((c.tc : Thread Cert.OutRowIdeal.nD Cert.OutRowIdeal.τ).loc Cert.OutRowIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_OutRef [hOutRef : Cert.OutRef.Facts] : Prop :=
  ∀ (m : (ℓ : Loc Cert.OutRef.nD Cert.OutRef.τ Cert.OutRef.sig) → Buf (Elt Bits) ℓ) (g : Dev Cert.OutRef.nD → PrngReg), Pre_OutRef m →
    θ_run (Cert.OutRef.defs (F := Bits)) (onTc (τ := Cert.OutRef.τ) (Cert.OutRef.main (F := Bits))) ⟨m, fun _ => 0, g⟩ (fun r => (∀ c : Dev Cert.OutRef.nD,
      r.2.mem ((c.tc : Thread Cert.OutRef.nD Cert.OutRef.τ).loc Cert.OutRef.main_arg0) = m ((c.tc : Thread Cert.OutRef.nD Cert.OutRef.τ).loc Cert.OutRef.main_arg0)
      ∧ r.2.mem ((c.tc : Thread Cert.OutRef.nD Cert.OutRef.τ).loc Cert.OutRef.main_arg1) = m ((c.tc : Thread Cert.OutRef.nD Cert.OutRef.τ).loc Cert.OutRef.main_arg1)
      ∧ r.2.mem ((c.tc : Thread Cert.OutRef.nD Cert.OutRef.τ).loc Cert.OutRef.main_arg2) = m ((c.tc : Thread Cert.OutRef.nD Cert.OutRef.τ).loc Cert.OutRef.main_arg2))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1))
      ∧ r.2.sem = fun _ => 0)

def quiescent_QueryRef [hQueryRef : Cert.QueryRef.Facts] : Prop :=
  ∀ (m : (ℓ : Loc Cert.QueryRef.nD Cert.QueryRef.τ Cert.QueryRef.sig) → Buf (Elt Bits) ℓ) (g : Dev Cert.QueryRef.nD → PrngReg), Pre_QueryRef m →
    θ_run (Cert.QueryRef.defs (F := Bits)) (onTc (τ := Cert.QueryRef.τ) (Cert.QueryRef.main (F := Bits))) ⟨m, fun _ => 0, g⟩ (fun r => (∀ c : Dev Cert.QueryRef.nD,
      r.2.mem ((c.tc : Thread Cert.QueryRef.nD Cert.QueryRef.τ).loc Cert.QueryRef.main_arg0) = m ((c.tc : Thread Cert.QueryRef.nD Cert.QueryRef.τ).loc Cert.QueryRef.main_arg0)
      ∧ r.2.mem ((c.tc : Thread Cert.QueryRef.nD Cert.QueryRef.τ).loc Cert.QueryRef.main_arg1) = m ((c.tc : Thread Cert.QueryRef.nD Cert.QueryRef.τ).loc Cert.QueryRef.main_arg1))
      ∧ r.2.sem = fun _ => 0)

def quiescent_KeyValue [hKeyValue : Cert.KeyValue.Facts] : Prop :=
  ∀ (m : (ℓ : Loc Cert.KeyValue.nD Cert.KeyValue.τ Cert.KeyValue.sig) → Buf (Elt Bits) ℓ) (g : Dev Cert.KeyValue.nD → PrngReg), Pre_KeyValue m →
    θ_run (Cert.KeyValue.defs (F := Bits)) (onTc (τ := Cert.KeyValue.τ) (Cert.KeyValue.main (F := Bits))) ⟨m, fun _ => 0, g⟩ (fun r => (∀ c : Dev Cert.KeyValue.nD,
      r.2.mem ((c.tc : Thread Cert.KeyValue.nD Cert.KeyValue.τ).loc Cert.KeyValue.main_arg0) = m ((c.tc : Thread Cert.KeyValue.nD Cert.KeyValue.τ).loc Cert.KeyValue.main_arg0)
      ∧ r.2.mem ((c.tc : Thread Cert.KeyValue.nD Cert.KeyValue.τ).loc Cert.KeyValue.main_arg1) = m ((c.tc : Thread Cert.KeyValue.nD Cert.KeyValue.τ).loc Cert.KeyValue.main_arg1))
      ∧ r.2.sem = fun _ => 0)

def quiescent_KeyValueIdeal [hKeyValueIdeal : Cert.KeyValueIdeal.Facts] : Prop :=
  ∀ (m : (ℓ : Loc Cert.KeyValueIdeal.nD Cert.KeyValueIdeal.τ Cert.KeyValueIdeal.sig) → Buf (Elt Ideal) ℓ) (g : Dev Cert.KeyValueIdeal.nD → PrngReg), Pre_KeyValueIdeal m →
    θ_run (Cert.KeyValueIdeal.defs (F := Ideal)) (onTc (τ := Cert.KeyValueIdeal.τ) (Cert.KeyValueIdeal.main (F := Ideal))) ⟨m, fun _ => 0, g⟩ (fun r => (∀ c : Dev Cert.KeyValueIdeal.nD,
      r.2.mem ((c.tc : Thread Cert.KeyValueIdeal.nD Cert.KeyValueIdeal.τ).loc Cert.KeyValueIdeal.main_arg0) = m ((c.tc : Thread Cert.KeyValueIdeal.nD Cert.KeyValueIdeal.τ).loc Cert.KeyValueIdeal.main_arg0)
      ∧ r.2.mem ((c.tc : Thread Cert.KeyValueIdeal.nD Cert.KeyValueIdeal.τ).loc Cert.KeyValueIdeal.main_arg1) = m ((c.tc : Thread Cert.KeyValueIdeal.nD Cert.KeyValueIdeal.τ).loc Cert.KeyValueIdeal.main_arg1))
      ∧ r.2.sem = fun _ => 0)

def quiescent_KeyValueRefIdeal [hKeyValueRefIdeal : Cert.KeyValueRefIdeal.Facts] : Prop :=
  ∀ (m : (ℓ : Loc Cert.KeyValueRefIdeal.nD Cert.KeyValueRefIdeal.τ Cert.KeyValueRefIdeal.sig) → Buf (Elt Ideal) ℓ) (g : Dev Cert.KeyValueRefIdeal.nD → PrngReg), Pre_KeyValueRefIdeal m →
    θ_run (Cert.KeyValueRefIdeal.defs (F := Ideal)) (onTc (τ := Cert.KeyValueRefIdeal.τ) (Cert.KeyValueRefIdeal.main (F := Ideal))) ⟨m, fun _ => 0, g⟩ (fun r => (∀ c : Dev Cert.KeyValueRefIdeal.nD,
      r.2.mem ((c.tc : Thread Cert.KeyValueRefIdeal.nD Cert.KeyValueRefIdeal.τ).loc Cert.KeyValueRefIdeal.main_arg0) = m ((c.tc : Thread Cert.KeyValueRefIdeal.nD Cert.KeyValueRefIdeal.τ).loc Cert.KeyValueRefIdeal.main_arg0)
      ∧ r.2.mem ((c.tc : Thread Cert.KeyValueRefIdeal.nD Cert.KeyValueRefIdeal.τ).loc Cert.KeyValueRefIdeal.main_arg1) = m ((c.tc : Thread Cert.KeyValueRefIdeal.nD Cert.KeyValueRefIdeal.τ).loc Cert.KeyValueRefIdeal.main_arg1))
      ∧ r.2.sem = fun _ => 0)

def quiescent_KeyValueRef [hKeyValueRef : Cert.KeyValueRef.Facts] : Prop :=
  ∀ (m : (ℓ : Loc Cert.KeyValueRef.nD Cert.KeyValueRef.τ Cert.KeyValueRef.sig) → Buf (Elt Bits) ℓ) (g : Dev Cert.KeyValueRef.nD → PrngReg), Pre_KeyValueRef m →
    θ_run (Cert.KeyValueRef.defs (F := Bits)) (onTc (τ := Cert.KeyValueRef.τ) (Cert.KeyValueRef.main (F := Bits))) ⟨m, fun _ => 0, g⟩ (fun r => (∀ c : Dev Cert.KeyValueRef.nD,
      r.2.mem ((c.tc : Thread Cert.KeyValueRef.nD Cert.KeyValueRef.τ).loc Cert.KeyValueRef.main_arg0) = m ((c.tc : Thread Cert.KeyValueRef.nD Cert.KeyValueRef.τ).loc Cert.KeyValueRef.main_arg0)
      ∧ r.2.mem ((c.tc : Thread Cert.KeyValueRef.nD Cert.KeyValueRef.τ).loc Cert.KeyValueRef.main_arg1) = m ((c.tc : Thread Cert.KeyValueRef.nD Cert.KeyValueRef.τ).loc Cert.KeyValueRef.main_arg1))
      ∧ r.2.sem = fun _ => 0)

def quiescent_QueryWeight [hQueryWeight : Cert.QueryWeight.Facts] : Prop :=
  ∀ (m : (ℓ : Loc Cert.QueryWeight.nD Cert.QueryWeight.τ Cert.QueryWeight.sig) → Buf (Elt Bits) ℓ) (g : Dev Cert.QueryWeight.nD → PrngReg), Pre_QueryWeight m →
    θ_run (Cert.QueryWeight.defs (F := Bits)) (onTc (τ := Cert.QueryWeight.τ) (Cert.QueryWeight.main (F := Bits))) ⟨m, fun _ => 0, g⟩ (fun r => (∀ c : Dev Cert.QueryWeight.nD,
      r.2.mem ((c.tc : Thread Cert.QueryWeight.nD Cert.QueryWeight.τ).loc Cert.QueryWeight.main_arg0) = m ((c.tc : Thread Cert.QueryWeight.nD Cert.QueryWeight.τ).loc Cert.QueryWeight.main_arg0)
      ∧ r.2.mem ((c.tc : Thread Cert.QueryWeight.nD Cert.QueryWeight.τ).loc Cert.QueryWeight.main_arg1) = m ((c.tc : Thread Cert.QueryWeight.nD Cert.QueryWeight.τ).loc Cert.QueryWeight.main_arg1)
      ∧ r.2.mem ((c.tc : Thread Cert.QueryWeight.nD Cert.QueryWeight.τ).loc Cert.QueryWeight.main_arg2) = m ((c.tc : Thread Cert.QueryWeight.nD Cert.QueryWeight.τ).loc Cert.QueryWeight.main_arg2))
      ∧ r.2.sem = fun _ => 0)

def quiescent_QueryWeightIdeal [hQueryWeightIdeal : Cert.QueryWeightIdeal.Facts] : Prop :=
  ∀ (m : (ℓ : Loc Cert.QueryWeightIdeal.nD Cert.QueryWeightIdeal.τ Cert.QueryWeightIdeal.sig) → Buf (Elt Ideal) ℓ) (g : Dev Cert.QueryWeightIdeal.nD → PrngReg), Pre_QueryWeightIdeal m →
    θ_run (Cert.QueryWeightIdeal.defs (F := Ideal)) (onTc (τ := Cert.QueryWeightIdeal.τ) (Cert.QueryWeightIdeal.main (F := Ideal))) ⟨m, fun _ => 0, g⟩ (fun r => (∀ c : Dev Cert.QueryWeightIdeal.nD,
      r.2.mem ((c.tc : Thread Cert.QueryWeightIdeal.nD Cert.QueryWeightIdeal.τ).loc Cert.QueryWeightIdeal.main_arg0) = m ((c.tc : Thread Cert.QueryWeightIdeal.nD Cert.QueryWeightIdeal.τ).loc Cert.QueryWeightIdeal.main_arg0)
      ∧ r.2.mem ((c.tc : Thread Cert.QueryWeightIdeal.nD Cert.QueryWeightIdeal.τ).loc Cert.QueryWeightIdeal.main_arg1) = m ((c.tc : Thread Cert.QueryWeightIdeal.nD Cert.QueryWeightIdeal.τ).loc Cert.QueryWeightIdeal.main_arg1)
      ∧ r.2.mem ((c.tc : Thread Cert.QueryWeightIdeal.nD Cert.QueryWeightIdeal.τ).loc Cert.QueryWeightIdeal.main_arg2) = m ((c.tc : Thread Cert.QueryWeightIdeal.nD Cert.QueryWeightIdeal.τ).loc Cert.QueryWeightIdeal.main_arg2))
      ∧ r.2.sem = fun _ => 0)

def quiescent_QueryWeightRefIdeal [hQueryWeightRefIdeal : Cert.QueryWeightRefIdeal.Facts] : Prop :=
  ∀ (m : (ℓ : Loc Cert.QueryWeightRefIdeal.nD Cert.QueryWeightRefIdeal.τ Cert.QueryWeightRefIdeal.sig) → Buf (Elt Ideal) ℓ) (g : Dev Cert.QueryWeightRefIdeal.nD → PrngReg), Pre_QueryWeightRefIdeal m →
    θ_run (Cert.QueryWeightRefIdeal.defs (F := Ideal)) (onTc (τ := Cert.QueryWeightRefIdeal.τ) (Cert.QueryWeightRefIdeal.main (F := Ideal))) ⟨m, fun _ => 0, g⟩ (fun r => (∀ c : Dev Cert.QueryWeightRefIdeal.nD,
      r.2.mem ((c.tc : Thread Cert.QueryWeightRefIdeal.nD Cert.QueryWeightRefIdeal.τ).loc Cert.QueryWeightRefIdeal.main_arg0) = m ((c.tc : Thread Cert.QueryWeightRefIdeal.nD Cert.QueryWeightRefIdeal.τ).loc Cert.QueryWeightRefIdeal.main_arg0)
      ∧ r.2.mem ((c.tc : Thread Cert.QueryWeightRefIdeal.nD Cert.QueryWeightRefIdeal.τ).loc Cert.QueryWeightRefIdeal.main_arg1) = m ((c.tc : Thread Cert.QueryWeightRefIdeal.nD Cert.QueryWeightRefIdeal.τ).loc Cert.QueryWeightRefIdeal.main_arg1)
      ∧ r.2.mem ((c.tc : Thread Cert.QueryWeightRefIdeal.nD Cert.QueryWeightRefIdeal.τ).loc Cert.QueryWeightRefIdeal.main_arg2) = m ((c.tc : Thread Cert.QueryWeightRefIdeal.nD Cert.QueryWeightRefIdeal.τ).loc Cert.QueryWeightRefIdeal.main_arg2))
      ∧ r.2.sem = fun _ => 0)

def quiescent_QueryWeightRef [hQueryWeightRef : Cert.QueryWeightRef.Facts] : Prop :=
  ∀ (m : (ℓ : Loc Cert.QueryWeightRef.nD Cert.QueryWeightRef.τ Cert.QueryWeightRef.sig) → Buf (Elt Bits) ℓ) (g : Dev Cert.QueryWeightRef.nD → PrngReg), Pre_QueryWeightRef m →
    θ_run (Cert.QueryWeightRef.defs (F := Bits)) (onTc (τ := Cert.QueryWeightRef.τ) (Cert.QueryWeightRef.main (F := Bits))) ⟨m, fun _ => 0, g⟩ (fun r => (∀ c : Dev Cert.QueryWeightRef.nD,
      r.2.mem ((c.tc : Thread Cert.QueryWeightRef.nD Cert.QueryWeightRef.τ).loc Cert.QueryWeightRef.main_arg0) = m ((c.tc : Thread Cert.QueryWeightRef.nD Cert.QueryWeightRef.τ).loc Cert.QueryWeightRef.main_arg0)
      ∧ r.2.mem ((c.tc : Thread Cert.QueryWeightRef.nD Cert.QueryWeightRef.τ).loc Cert.QueryWeightRef.main_arg1) = m ((c.tc : Thread Cert.QueryWeightRef.nD Cert.QueryWeightRef.τ).loc Cert.QueryWeightRef.main_arg1)
      ∧ r.2.mem ((c.tc : Thread Cert.QueryWeightRef.nD Cert.QueryWeightRef.τ).loc Cert.QueryWeightRef.main_arg2) = m ((c.tc : Thread Cert.QueryWeightRef.nD Cert.QueryWeightRef.τ).loc Cert.QueryWeightRef.main_arg2))
      ∧ r.2.sem = fun _ => 0)

def quiescent_QueryRow [hQueryRow : Cert.QueryRow.Facts] : Prop :=
  ∀ (m : (ℓ : Loc Cert.QueryRow.nD Cert.QueryRow.τ Cert.QueryRow.sig) → Buf (Elt Bits) ℓ) (g : Dev Cert.QueryRow.nD → PrngReg), Pre_QueryRow m →
    θ_run (Cert.QueryRow.defs (F := Bits)) (onTc (τ := Cert.QueryRow.τ) (Cert.QueryRow.main (F := Bits))) ⟨m, fun _ => 0, g⟩ (fun r => (∀ c : Dev Cert.QueryRow.nD,
      r.2.mem ((c.tc : Thread Cert.QueryRow.nD Cert.QueryRow.τ).loc Cert.QueryRow.main_arg0) = m ((c.tc : Thread Cert.QueryRow.nD Cert.QueryRow.τ).loc Cert.QueryRow.main_arg0)
      ∧ r.2.mem ((c.tc : Thread Cert.QueryRow.nD Cert.QueryRow.τ).loc Cert.QueryRow.main_arg1) = m ((c.tc : Thread Cert.QueryRow.nD Cert.QueryRow.τ).loc Cert.QueryRow.main_arg1)
      ∧ r.2.mem ((c.tc : Thread Cert.QueryRow.nD Cert.QueryRow.τ).loc Cert.QueryRow.main_arg2) = m ((c.tc : Thread Cert.QueryRow.nD Cert.QueryRow.τ).loc Cert.QueryRow.main_arg2))
      ∧ r.2.sem = fun _ => 0)

def quiescent_QueryRowIdeal [hQueryRowIdeal : Cert.QueryRowIdeal.Facts] : Prop :=
  ∀ (m : (ℓ : Loc Cert.QueryRowIdeal.nD Cert.QueryRowIdeal.τ Cert.QueryRowIdeal.sig) → Buf (Elt Ideal) ℓ) (g : Dev Cert.QueryRowIdeal.nD → PrngReg), Pre_QueryRowIdeal m →
    θ_run (Cert.QueryRowIdeal.defs (F := Ideal)) (onTc (τ := Cert.QueryRowIdeal.τ) (Cert.QueryRowIdeal.main (F := Ideal))) ⟨m, fun _ => 0, g⟩ (fun r => (∀ c : Dev Cert.QueryRowIdeal.nD,
      r.2.mem ((c.tc : Thread Cert.QueryRowIdeal.nD Cert.QueryRowIdeal.τ).loc Cert.QueryRowIdeal.main_arg0) = m ((c.tc : Thread Cert.QueryRowIdeal.nD Cert.QueryRowIdeal.τ).loc Cert.QueryRowIdeal.main_arg0)
      ∧ r.2.mem ((c.tc : Thread Cert.QueryRowIdeal.nD Cert.QueryRowIdeal.τ).loc Cert.QueryRowIdeal.main_arg1) = m ((c.tc : Thread Cert.QueryRowIdeal.nD Cert.QueryRowIdeal.τ).loc Cert.QueryRowIdeal.main_arg1)
      ∧ r.2.mem ((c.tc : Thread Cert.QueryRowIdeal.nD Cert.QueryRowIdeal.τ).loc Cert.QueryRowIdeal.main_arg2) = m ((c.tc : Thread Cert.QueryRowIdeal.nD Cert.QueryRowIdeal.τ).loc Cert.QueryRowIdeal.main_arg2))
      ∧ r.2.sem = fun _ => 0)

def quiescent_QueryRowRefIdeal [hQueryRowRefIdeal : Cert.QueryRowRefIdeal.Facts] : Prop :=
  ∀ (m : (ℓ : Loc Cert.QueryRowRefIdeal.nD Cert.QueryRowRefIdeal.τ Cert.QueryRowRefIdeal.sig) → Buf (Elt Ideal) ℓ) (g : Dev Cert.QueryRowRefIdeal.nD → PrngReg), Pre_QueryRowRefIdeal m →
    θ_run (Cert.QueryRowRefIdeal.defs (F := Ideal)) (onTc (τ := Cert.QueryRowRefIdeal.τ) (Cert.QueryRowRefIdeal.main (F := Ideal))) ⟨m, fun _ => 0, g⟩ (fun r => (∀ c : Dev Cert.QueryRowRefIdeal.nD,
      r.2.mem ((c.tc : Thread Cert.QueryRowRefIdeal.nD Cert.QueryRowRefIdeal.τ).loc Cert.QueryRowRefIdeal.main_arg0) = m ((c.tc : Thread Cert.QueryRowRefIdeal.nD Cert.QueryRowRefIdeal.τ).loc Cert.QueryRowRefIdeal.main_arg0)
      ∧ r.2.mem ((c.tc : Thread Cert.QueryRowRefIdeal.nD Cert.QueryRowRefIdeal.τ).loc Cert.QueryRowRefIdeal.main_arg1) = m ((c.tc : Thread Cert.QueryRowRefIdeal.nD Cert.QueryRowRefIdeal.τ).loc Cert.QueryRowRefIdeal.main_arg1)
      ∧ r.2.mem ((c.tc : Thread Cert.QueryRowRefIdeal.nD Cert.QueryRowRefIdeal.τ).loc Cert.QueryRowRefIdeal.main_arg2) = m ((c.tc : Thread Cert.QueryRowRefIdeal.nD Cert.QueryRowRefIdeal.τ).loc Cert.QueryRowRefIdeal.main_arg2))
      ∧ r.2.sem = fun _ => 0)

def quiescent_QueryRowRef [hQueryRowRef : Cert.QueryRowRef.Facts] : Prop :=
  ∀ (m : (ℓ : Loc Cert.QueryRowRef.nD Cert.QueryRowRef.τ Cert.QueryRowRef.sig) → Buf (Elt Bits) ℓ) (g : Dev Cert.QueryRowRef.nD → PrngReg), Pre_QueryRowRef m →
    θ_run (Cert.QueryRowRef.defs (F := Bits)) (onTc (τ := Cert.QueryRowRef.τ) (Cert.QueryRowRef.main (F := Bits))) ⟨m, fun _ => 0, g⟩ (fun r => (∀ c : Dev Cert.QueryRowRef.nD,
      r.2.mem ((c.tc : Thread Cert.QueryRowRef.nD Cert.QueryRowRef.τ).loc Cert.QueryRowRef.main_arg0) = m ((c.tc : Thread Cert.QueryRowRef.nD Cert.QueryRowRef.τ).loc Cert.QueryRowRef.main_arg0)
      ∧ r.2.mem ((c.tc : Thread Cert.QueryRowRef.nD Cert.QueryRowRef.τ).loc Cert.QueryRowRef.main_arg1) = m ((c.tc : Thread Cert.QueryRowRef.nD Cert.QueryRowRef.τ).loc Cert.QueryRowRef.main_arg1)
      ∧ r.2.mem ((c.tc : Thread Cert.QueryRowRef.nD Cert.QueryRowRef.τ).loc Cert.QueryRowRef.main_arg2) = m ((c.tc : Thread Cert.QueryRowRef.nD Cert.QueryRowRef.τ).loc Cert.QueryRowRef.main_arg2))
      ∧ r.2.sem = fun _ => 0)

def quiescent_Embed [hEmbed : Cert.Embed.Facts] : Prop :=
  ∀ (m : (ℓ : Loc Cert.Embed.nD Cert.Embed.τ Cert.Embed.sig) → Buf (Elt Bits) ℓ) (g : Dev Cert.Embed.nD → PrngReg), Pre_Embed m →
    θ_run (Cert.Embed.defs (F := Bits)) (onTc (τ := Cert.Embed.τ) (Cert.Embed.main (F := Bits))) ⟨m, fun _ => 0, g⟩ (fun r => (∀ c : Dev Cert.Embed.nD,
      r.2.mem ((c.tc : Thread Cert.Embed.nD Cert.Embed.τ).loc Cert.Embed.main_arg0) = m ((c.tc : Thread Cert.Embed.nD Cert.Embed.τ).loc Cert.Embed.main_arg0)
      ∧ r.2.mem ((c.tc : Thread Cert.Embed.nD Cert.Embed.τ).loc Cert.Embed.main_arg1) = m ((c.tc : Thread Cert.Embed.nD Cert.Embed.τ).loc Cert.Embed.main_arg1))
      ∧ r.2.sem = fun _ => 0)

def quiescent_EmbedIdeal [hEmbedIdeal : Cert.EmbedIdeal.Facts] : Prop :=
  ∀ (m : (ℓ : Loc Cert.EmbedIdeal.nD Cert.EmbedIdeal.τ Cert.EmbedIdeal.sig) → Buf (Elt Ideal) ℓ) (g : Dev Cert.EmbedIdeal.nD → PrngReg), Pre_EmbedIdeal m →
    θ_run (Cert.EmbedIdeal.defs (F := Ideal)) (onTc (τ := Cert.EmbedIdeal.τ) (Cert.EmbedIdeal.main (F := Ideal))) ⟨m, fun _ => 0, g⟩ (fun r => (∀ c : Dev Cert.EmbedIdeal.nD,
      r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
      ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1))
      ∧ r.2.sem = fun _ => 0)

def quiescent_EmbedRefIdeal [hEmbedRefIdeal : Cert.EmbedRefIdeal.Facts] : Prop :=
  ∀ (m : (ℓ : Loc Cert.EmbedRefIdeal.nD Cert.EmbedRefIdeal.τ Cert.EmbedRefIdeal.sig) → Buf (Elt Ideal) ℓ) (g : Dev Cert.EmbedRefIdeal.nD → PrngReg), Pre_EmbedRefIdeal m →
    θ_run (Cert.EmbedRefIdeal.defs (F := Ideal)) (onTc (τ := Cert.EmbedRefIdeal.τ) (Cert.EmbedRefIdeal.main (F := Ideal))) ⟨m, fun _ => 0, g⟩ (fun r => (∀ c : Dev Cert.EmbedRefIdeal.nD,
      r.2.mem ((c.tc : Thread Cert.EmbedRefIdeal.nD Cert.EmbedRefIdeal.τ).loc Cert.EmbedRefIdeal.main_arg0) = m ((c.tc : Thread Cert.EmbedRefIdeal.nD Cert.EmbedRefIdeal.τ).loc Cert.EmbedRefIdeal.main_arg0)
      ∧ r.2.mem ((c.tc : Thread Cert.EmbedRefIdeal.nD Cert.EmbedRefIdeal.τ).loc Cert.EmbedRefIdeal.main_arg1) = m ((c.tc : Thread Cert.EmbedRefIdeal.nD Cert.EmbedRefIdeal.τ).loc Cert.EmbedRefIdeal.main_arg1))
      ∧ r.2.sem = fun _ => 0)

def quiescent_EmbedRef [hEmbedRef : Cert.EmbedRef.Facts] : Prop :=
  ∀ (m : (ℓ : Loc Cert.EmbedRef.nD Cert.EmbedRef.τ Cert.EmbedRef.sig) → Buf (Elt Bits) ℓ) (g : Dev Cert.EmbedRef.nD → PrngReg), Pre_EmbedRef m →
    θ_run (Cert.EmbedRef.defs (F := Bits)) (onTc (τ := Cert.EmbedRef.τ) (Cert.EmbedRef.main (F := Bits))) ⟨m, fun _ => 0, g⟩ (fun r => (∀ c : Dev Cert.EmbedRef.nD,
      r.2.mem ((c.tc : Thread Cert.EmbedRef.nD Cert.EmbedRef.τ).loc Cert.EmbedRef.main_arg0) = m ((c.tc : Thread Cert.EmbedRef.nD Cert.EmbedRef.τ).loc Cert.EmbedRef.main_arg0)
      ∧ r.2.mem ((c.tc : Thread Cert.EmbedRef.nD Cert.EmbedRef.τ).loc Cert.EmbedRef.main_arg1) = m ((c.tc : Thread Cert.EmbedRef.nD Cert.EmbedRef.τ).loc Cert.EmbedRef.main_arg1))
      ∧ r.2.sem = fun _ => 0)

def quiescent_EmbedWeight [hEmbedWeight : Cert.EmbedWeight.Facts] : Prop :=
  ∀ (m : (ℓ : Loc Cert.EmbedWeight.nD Cert.EmbedWeight.τ Cert.EmbedWeight.sig) → Buf (Elt Bits) ℓ) (g : Dev Cert.EmbedWeight.nD → PrngReg), Pre_EmbedWeight m →
    θ_run (Cert.EmbedWeight.defs (F := Bits)) (onTc (τ := Cert.EmbedWeight.τ) (Cert.EmbedWeight.main (F := Bits))) ⟨m, fun _ => 0, g⟩ (fun r => (∀ c : Dev Cert.EmbedWeight.nD,
      r.2.mem ((c.tc : Thread Cert.EmbedWeight.nD Cert.EmbedWeight.τ).loc Cert.EmbedWeight.main_arg0) = m ((c.tc : Thread Cert.EmbedWeight.nD Cert.EmbedWeight.τ).loc Cert.EmbedWeight.main_arg0)
      ∧ r.2.mem ((c.tc : Thread Cert.EmbedWeight.nD Cert.EmbedWeight.τ).loc Cert.EmbedWeight.main_arg1) = m ((c.tc : Thread Cert.EmbedWeight.nD Cert.EmbedWeight.τ).loc Cert.EmbedWeight.main_arg1)
      ∧ r.2.mem ((c.tc : Thread Cert.EmbedWeight.nD Cert.EmbedWeight.τ).loc Cert.EmbedWeight.main_arg2) = m ((c.tc : Thread Cert.EmbedWeight.nD Cert.EmbedWeight.τ).loc Cert.EmbedWeight.main_arg2))
      ∧ r.2.sem = fun _ => 0)

def quiescent_EmbedWeightIdeal [hEmbedWeightIdeal : Cert.EmbedWeightIdeal.Facts] : Prop :=
  ∀ (m : (ℓ : Loc Cert.EmbedWeightIdeal.nD Cert.EmbedWeightIdeal.τ Cert.EmbedWeightIdeal.sig) → Buf (Elt Ideal) ℓ) (g : Dev Cert.EmbedWeightIdeal.nD → PrngReg), Pre_EmbedWeightIdeal m →
    θ_run (Cert.EmbedWeightIdeal.defs (F := Ideal)) (onTc (τ := Cert.EmbedWeightIdeal.τ) (Cert.EmbedWeightIdeal.main (F := Ideal))) ⟨m, fun _ => 0, g⟩ (fun r => (∀ c : Dev Cert.EmbedWeightIdeal.nD,
      r.2.mem ((c.tc : Thread Cert.EmbedWeightIdeal.nD Cert.EmbedWeightIdeal.τ).loc Cert.EmbedWeightIdeal.main_arg0) = m ((c.tc : Thread Cert.EmbedWeightIdeal.nD Cert.EmbedWeightIdeal.τ).loc Cert.EmbedWeightIdeal.main_arg0)
      ∧ r.2.mem ((c.tc : Thread Cert.EmbedWeightIdeal.nD Cert.EmbedWeightIdeal.τ).loc Cert.EmbedWeightIdeal.main_arg1) = m ((c.tc : Thread Cert.EmbedWeightIdeal.nD Cert.EmbedWeightIdeal.τ).loc Cert.EmbedWeightIdeal.main_arg1)
      ∧ r.2.mem ((c.tc : Thread Cert.EmbedWeightIdeal.nD Cert.EmbedWeightIdeal.τ).loc Cert.EmbedWeightIdeal.main_arg2) = m ((c.tc : Thread Cert.EmbedWeightIdeal.nD Cert.EmbedWeightIdeal.τ).loc Cert.EmbedWeightIdeal.main_arg2))
      ∧ r.2.sem = fun _ => 0)

def quiescent_EmbedWeightRefIdeal [hEmbedWeightRefIdeal : Cert.EmbedWeightRefIdeal.Facts] : Prop :=
  ∀ (m : (ℓ : Loc Cert.EmbedWeightRefIdeal.nD Cert.EmbedWeightRefIdeal.τ Cert.EmbedWeightRefIdeal.sig) → Buf (Elt Ideal) ℓ) (g : Dev Cert.EmbedWeightRefIdeal.nD → PrngReg), Pre_EmbedWeightRefIdeal m →
    θ_run (Cert.EmbedWeightRefIdeal.defs (F := Ideal)) (onTc (τ := Cert.EmbedWeightRefIdeal.τ) (Cert.EmbedWeightRefIdeal.main (F := Ideal))) ⟨m, fun _ => 0, g⟩ (fun r => (∀ c : Dev Cert.EmbedWeightRefIdeal.nD,
      r.2.mem ((c.tc : Thread Cert.EmbedWeightRefIdeal.nD Cert.EmbedWeightRefIdeal.τ).loc Cert.EmbedWeightRefIdeal.main_arg0) = m ((c.tc : Thread Cert.EmbedWeightRefIdeal.nD Cert.EmbedWeightRefIdeal.τ).loc Cert.EmbedWeightRefIdeal.main_arg0)
      ∧ r.2.mem ((c.tc : Thread Cert.EmbedWeightRefIdeal.nD Cert.EmbedWeightRefIdeal.τ).loc Cert.EmbedWeightRefIdeal.main_arg1) = m ((c.tc : Thread Cert.EmbedWeightRefIdeal.nD Cert.EmbedWeightRefIdeal.τ).loc Cert.EmbedWeightRefIdeal.main_arg1)
      ∧ r.2.mem ((c.tc : Thread Cert.EmbedWeightRefIdeal.nD Cert.EmbedWeightRefIdeal.τ).loc Cert.EmbedWeightRefIdeal.main_arg2) = m ((c.tc : Thread Cert.EmbedWeightRefIdeal.nD Cert.EmbedWeightRefIdeal.τ).loc Cert.EmbedWeightRefIdeal.main_arg2))
      ∧ r.2.sem = fun _ => 0)

def quiescent_EmbedWeightRef [hEmbedWeightRef : Cert.EmbedWeightRef.Facts] : Prop :=
  ∀ (m : (ℓ : Loc Cert.EmbedWeightRef.nD Cert.EmbedWeightRef.τ Cert.EmbedWeightRef.sig) → Buf (Elt Bits) ℓ) (g : Dev Cert.EmbedWeightRef.nD → PrngReg), Pre_EmbedWeightRef m →
    θ_run (Cert.EmbedWeightRef.defs (F := Bits)) (onTc (τ := Cert.EmbedWeightRef.τ) (Cert.EmbedWeightRef.main (F := Bits))) ⟨m, fun _ => 0, g⟩ (fun r => (∀ c : Dev Cert.EmbedWeightRef.nD,
      r.2.mem ((c.tc : Thread Cert.EmbedWeightRef.nD Cert.EmbedWeightRef.τ).loc Cert.EmbedWeightRef.main_arg0) = m ((c.tc : Thread Cert.EmbedWeightRef.nD Cert.EmbedWeightRef.τ).loc Cert.EmbedWeightRef.main_arg0)
      ∧ r.2.mem ((c.tc : Thread Cert.EmbedWeightRef.nD Cert.EmbedWeightRef.τ).loc Cert.EmbedWeightRef.main_arg1) = m ((c.tc : Thread Cert.EmbedWeightRef.nD Cert.EmbedWeightRef.τ).loc Cert.EmbedWeightRef.main_arg1)
      ∧ r.2.mem ((c.tc : Thread Cert.EmbedWeightRef.nD Cert.EmbedWeightRef.τ).loc Cert.EmbedWeightRef.main_arg2) = m ((c.tc : Thread Cert.EmbedWeightRef.nD Cert.EmbedWeightRef.τ).loc Cert.EmbedWeightRef.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "exp2_scale" .f32 0x3DD53B95#32 (((Real.sqrt 192)⁻¹ * (Real.log 2)⁻¹ : ℝ) : EReal)
  ∧ IdealRules.named_const.Statement Cert.KernelIdeal.κ "scale" .f32 0x3D93CD3A#32 (((Real.sqrt 192)⁻¹ : ℝ) : EReal)

def preserves_Reference_ReferenceIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v55_0)) (v1 : (c : Dev Cert.KernelIdeal.nD) → Buf (Elt Ideal) ((c.tc : Thread Cert.KernelIdeal.nD Cert.KernelIdeal.τ).loc Cert.KernelIdeal.main_v55_1)) (v2 : (c : Dev Cert.KernelIdeal.nD) → Buf (Elt Ideal) ((c.tc : Thread Cert.KernelIdeal.nD Cert.KernelIdeal.τ).loc Cert.KernelIdeal.main_v55_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55_0) = v0 c
          ∧ r.2.mem ((c.tc : Thread Cert.KernelIdeal.nD Cert.KernelIdeal.τ).loc Cert.KernelIdeal.main_v55_1) = v1 c
          ∧ r.2.mem ((c.tc : Thread Cert.KernelIdeal.nD Cert.KernelIdeal.τ).loc Cert.KernelIdeal.main_v55_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_v100) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_WeightGrad_WeightGradIdeal : Prop :=
  True

def preserves_WeightGradRef_WeightGradRefIdeal : Prop :=
  True

def algebraic_WeightGradIdeal_WeightGradRefIdeal [hWeightGradIdeal : Cert.WeightGradIdeal.Facts] [hWeightGradRefIdeal : Cert.WeightGradRefIdeal.Facts] : Prop :=
  ∀ (m : (ℓ : Loc Cert.WeightGradIdeal.nD Cert.WeightGradIdeal.τ Cert.WeightGradIdeal.sig) → Buf (Elt Ideal) ℓ) (g : Dev Cert.WeightGradIdeal.nD → PrngReg)
    (m' : (ℓ : Loc Cert.WeightGradRefIdeal.nD Cert.WeightGradRefIdeal.τ Cert.WeightGradRefIdeal.sig) → Buf (Elt Ideal) ℓ) (g' : Dev Cert.WeightGradRefIdeal.nD → PrngReg), Pre_WeightGradIdeal m →
    (∀ c : Dev Cert.WeightGradIdeal.nD,
      m' ((c.tc : Thread Cert.WeightGradRefIdeal.nD Cert.WeightGradRefIdeal.τ).loc Cert.WeightGradRefIdeal.main_arg0) = m ((c.tc : Thread Cert.WeightGradIdeal.nD Cert.WeightGradIdeal.τ).loc Cert.WeightGradIdeal.main_arg0)
      ∧ m' ((c.tc : Thread Cert.WeightGradRefIdeal.nD Cert.WeightGradRefIdeal.τ).loc Cert.WeightGradRefIdeal.main_arg1) = m ((c.tc : Thread Cert.WeightGradIdeal.nD Cert.WeightGradIdeal.τ).loc Cert.WeightGradIdeal.main_arg1)
      ∧ m' ((c.tc : Thread Cert.WeightGradRefIdeal.nD Cert.WeightGradRefIdeal.τ).loc Cert.WeightGradRefIdeal.main_arg2) = m ((c.tc : Thread Cert.WeightGradIdeal.nD Cert.WeightGradIdeal.τ).loc Cert.WeightGradIdeal.main_arg2)) →
    ∃ (v0 : (c : Dev Cert.WeightGradIdeal.nD) → Buf (Elt Ideal) ((c.tc : Thread Cert.WeightGradIdeal.nD Cert.WeightGradIdeal.τ).loc Cert.WeightGradIdeal.main_v2)),
      θ_run (Cert.WeightGradIdeal.defs (F := Ideal)) (onTc (τ := Cert.WeightGradIdeal.τ) (Cert.WeightGradIdeal.main (F := Ideal))) ⟨m, fun _ => 0, g⟩ (fun r => ∀ c : Dev Cert.WeightGradIdeal.nD,
          r.2.mem ((c.tc : Thread Cert.WeightGradIdeal.nD Cert.WeightGradIdeal.τ).loc Cert.WeightGradIdeal.main_v2) = v0 c
          ∧ r.2.mem ((c.tc : Thread Cert.WeightGradIdeal.nD Cert.WeightGradIdeal.τ).loc Cert.WeightGradIdeal.main_arg0) = m ((c.tc : Thread Cert.WeightGradIdeal.nD Cert.WeightGradIdeal.τ).loc Cert.WeightGradIdeal.main_arg0)
          ∧ r.2.mem ((c.tc : Thread Cert.WeightGradIdeal.nD Cert.WeightGradIdeal.τ).loc Cert.WeightGradIdeal.main_arg1) = m ((c.tc : Thread Cert.WeightGradIdeal.nD Cert.WeightGradIdeal.τ).loc Cert.WeightGradIdeal.main_arg1)
          ∧ r.2.mem ((c.tc : Thread Cert.WeightGradIdeal.nD Cert.WeightGradIdeal.τ).loc Cert.WeightGradIdeal.main_arg2) = m ((c.tc : Thread Cert.WeightGradIdeal.nD Cert.WeightGradIdeal.τ).loc Cert.WeightGradIdeal.main_arg2))
      ∧ θ_run (Cert.WeightGradRefIdeal.defs (F := Ideal)) (onTc (τ := Cert.WeightGradRefIdeal.τ) (Cert.WeightGradRefIdeal.main (F := Ideal))) ⟨m', fun _ => 0, g'⟩ (fun r => ∀ c : Dev Cert.WeightGradRefIdeal.nD,
          r.2.mem ((c.tc : Thread Cert.WeightGradRefIdeal.nD Cert.WeightGradRefIdeal.τ).loc Cert.WeightGradRefIdeal.main_v3) = v0 c
          ∧ r.2.mem ((c.tc : Thread Cert.WeightGradRefIdeal.nD Cert.WeightGradRefIdeal.τ).loc Cert.WeightGradRefIdeal.main_arg0) = m' ((c.tc : Thread Cert.WeightGradRefIdeal.nD Cert.WeightGradRefIdeal.τ).loc Cert.WeightGradRefIdeal.main_arg0)
          ∧ r.2.mem ((c.tc : Thread Cert.WeightGradRefIdeal.nD Cert.WeightGradRefIdeal.τ).loc Cert.WeightGradRefIdeal.main_arg1) = m' ((c.tc : Thread Cert.WeightGradRefIdeal.nD Cert.WeightGradRefIdeal.τ).loc Cert.WeightGradRefIdeal.main_arg1)
          ∧ r.2.mem ((c.tc : Thread Cert.WeightGradRefIdeal.nD Cert.WeightGradRefIdeal.τ).loc Cert.WeightGradRefIdeal.main_arg2) = m' ((c.tc : Thread Cert.WeightGradRefIdeal.nD Cert.WeightGradRefIdeal.τ).loc Cert.WeightGradRefIdeal.main_arg2))

def preserves_RowGrad_RowGradIdeal : Prop :=
  True

def preserves_RowGradRef_RowGradRefIdeal : Prop :=
  True

def algebraic_RowGradIdeal_RowGradRefIdeal [hRowGradIdeal : Cert.RowGradIdeal.Facts] [hRowGradRefIdeal : Cert.RowGradRefIdeal.Facts] : Prop :=
  ∀ (m : (ℓ : Loc Cert.RowGradIdeal.nD Cert.RowGradIdeal.τ Cert.RowGradIdeal.sig) → Buf (Elt Ideal) ℓ) (g : Dev Cert.RowGradIdeal.nD → PrngReg)
    (m' : (ℓ : Loc Cert.RowGradRefIdeal.nD Cert.RowGradRefIdeal.τ Cert.RowGradRefIdeal.sig) → Buf (Elt Ideal) ℓ) (g' : Dev Cert.RowGradRefIdeal.nD → PrngReg), Pre_RowGradIdeal m →
    (∀ c : Dev Cert.RowGradIdeal.nD,
      m' ((c.tc : Thread Cert.RowGradRefIdeal.nD Cert.RowGradRefIdeal.τ).loc Cert.RowGradRefIdeal.main_arg0) = m ((c.tc : Thread Cert.RowGradIdeal.nD Cert.RowGradIdeal.τ).loc Cert.RowGradIdeal.main_arg0)
      ∧ m' ((c.tc : Thread Cert.RowGradRefIdeal.nD Cert.RowGradRefIdeal.τ).loc Cert.RowGradRefIdeal.main_arg1) = m ((c.tc : Thread Cert.RowGradIdeal.nD Cert.RowGradIdeal.τ).loc Cert.RowGradIdeal.main_arg1)
      ∧ m' ((c.tc : Thread Cert.RowGradRefIdeal.nD Cert.RowGradRefIdeal.τ).loc Cert.RowGradRefIdeal.main_arg2) = m ((c.tc : Thread Cert.RowGradIdeal.nD Cert.RowGradIdeal.τ).loc Cert.RowGradIdeal.main_arg2)) →
    ∃ (v0 : (c : Dev Cert.RowGradIdeal.nD) → Buf (Elt Ideal) ((c.tc : Thread Cert.RowGradIdeal.nD Cert.RowGradIdeal.τ).loc Cert.RowGradIdeal.main_v2)),
      θ_run (Cert.RowGradIdeal.defs (F := Ideal)) (onTc (τ := Cert.RowGradIdeal.τ) (Cert.RowGradIdeal.main (F := Ideal))) ⟨m, fun _ => 0, g⟩ (fun r => ∀ c : Dev Cert.RowGradIdeal.nD,
          r.2.mem ((c.tc : Thread Cert.RowGradIdeal.nD Cert.RowGradIdeal.τ).loc Cert.RowGradIdeal.main_v2) = v0 c
          ∧ r.2.mem ((c.tc : Thread Cert.RowGradIdeal.nD Cert.RowGradIdeal.τ).loc Cert.RowGradIdeal.main_arg0) = m ((c.tc : Thread Cert.RowGradIdeal.nD Cert.RowGradIdeal.τ).loc Cert.RowGradIdeal.main_arg0)
          ∧ r.2.mem ((c.tc : Thread Cert.RowGradIdeal.nD Cert.RowGradIdeal.τ).loc Cert.RowGradIdeal.main_arg1) = m ((c.tc : Thread Cert.RowGradIdeal.nD Cert.RowGradIdeal.τ).loc Cert.RowGradIdeal.main_arg1)
          ∧ r.2.mem ((c.tc : Thread Cert.RowGradIdeal.nD Cert.RowGradIdeal.τ).loc Cert.RowGradIdeal.main_arg2) = m ((c.tc : Thread Cert.RowGradIdeal.nD Cert.RowGradIdeal.τ).loc Cert.RowGradIdeal.main_arg2))
      ∧ θ_run (Cert.RowGradRefIdeal.defs (F := Ideal)) (onTc (τ := Cert.RowGradRefIdeal.τ) (Cert.RowGradRefIdeal.main (F := Ideal))) ⟨m', fun _ => 0, g'⟩ (fun r => ∀ c : Dev Cert.RowGradRefIdeal.nD,
          r.2.mem ((c.tc : Thread Cert.RowGradRefIdeal.nD Cert.RowGradRefIdeal.τ).loc Cert.RowGradRefIdeal.main_v1) = v0 c
          ∧ r.2.mem ((c.tc : Thread Cert.RowGradRefIdeal.nD Cert.RowGradRefIdeal.τ).loc Cert.RowGradRefIdeal.main_arg0) = m' ((c.tc : Thread Cert.RowGradRefIdeal.nD Cert.RowGradRefIdeal.τ).loc Cert.RowGradRefIdeal.main_arg0)
          ∧ r.2.mem ((c.tc : Thread Cert.RowGradRefIdeal.nD Cert.RowGradRefIdeal.τ).loc Cert.RowGradRefIdeal.main_arg1) = m' ((c.tc : Thread Cert.RowGradRefIdeal.nD Cert.RowGradRefIdeal.τ).loc Cert.RowGradRefIdeal.main_arg1)
          ∧ r.2.mem ((c.tc : Thread Cert.RowGradRefIdeal.nD Cert.RowGradRefIdeal.τ).loc Cert.RowGradRefIdeal.main_arg2) = m' ((c.tc : Thread Cert.RowGradRefIdeal.nD Cert.RowGradRefIdeal.τ).loc Cert.RowGradRefIdeal.main_arg2))

def preserves_In_InIdeal : Prop :=
  True

def preserves_InRef_InRefIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v2)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v2) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v0) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_Branch_BranchIdeal : Prop :=
  True

def preserves_BranchRef_BranchRefIdeal : Prop :=
  True

def algebraic_BranchIdeal_BranchRefIdeal [hBranchIdeal : Cert.BranchIdeal.Facts] [hBranchRefIdeal : Cert.BranchRefIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchRefIdeal.nD Cert.BranchRefIdeal.τ Cert.BranchRefIdeal.sig) → Buf (Elt Ideal) ℓ) (g' : Dev Cert.BranchRefIdeal.nD → PrngReg), Pre_BranchIdeal m →
    (∀ c : Dev Cert.BranchIdeal.nD,
      m' ((c.tc : Thread Cert.BranchRefIdeal.nD Cert.BranchRefIdeal.τ).loc Cert.BranchRefIdeal.main_arg0) = m ((c.tc : Thread Cert.BranchIdeal.nD Cert.BranchIdeal.τ).loc Cert.BranchIdeal.main_arg0)
      ∧ m' ((c.tc : Thread Cert.BranchRefIdeal.nD Cert.BranchRefIdeal.τ).loc Cert.BranchRefIdeal.main_arg1) = m ((c.tc : Thread Cert.BranchIdeal.nD Cert.BranchIdeal.τ).loc Cert.BranchIdeal.main_arg1)) →
    ∃ (v0 : (c : Dev Cert.BranchIdeal.nD) → Buf (Elt Ideal) ((c.tc : Thread Cert.BranchIdeal.nD Cert.BranchIdeal.τ).loc Cert.BranchIdeal.main_v2)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v2) = v0 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ θ_run (Cert.BranchRefIdeal.defs (F := Ideal)) (onTc (τ := Cert.BranchRefIdeal.τ) (Cert.BranchRefIdeal.main (F := Ideal))) ⟨m', fun _ => 0, g'⟩ (fun r => ∀ c : Dev Cert.BranchRefIdeal.nD,
          r.2.mem ((c.tc : Thread Cert.BranchRefIdeal.nD Cert.BranchRefIdeal.τ).loc Cert.BranchRefIdeal.main_v0) = v0 c
          ∧ r.2.mem ((c.tc : Thread Cert.BranchRefIdeal.nD Cert.BranchRefIdeal.τ).loc Cert.BranchRefIdeal.main_arg0) = m' ((c.tc : Thread Cert.BranchRefIdeal.nD Cert.BranchRefIdeal.τ).loc Cert.BranchRefIdeal.main_arg0)
          ∧ r.2.mem ((c.tc : Thread Cert.BranchRefIdeal.nD Cert.BranchRefIdeal.τ).loc Cert.BranchRefIdeal.main_arg1) = m' ((c.tc : Thread Cert.BranchRefIdeal.nD Cert.BranchRefIdeal.τ).loc Cert.BranchRefIdeal.main_arg1))

def preserves_BranchWeight_BranchWeightIdeal : Prop :=
  True

def preserves_SquareWeightRef_SquareWeightRefIdeal : Prop :=
  True

def algebraic_BranchWeightIdeal_SquareWeightRefIdeal [hBranchWeightIdeal : Cert.BranchWeightIdeal.Facts] [hSquareWeightRefIdeal : Cert.SquareWeightRefIdeal.Facts] : Prop :=
  ∀ (m : (ℓ : Loc Cert.BranchWeightIdeal.nD Cert.BranchWeightIdeal.τ Cert.BranchWeightIdeal.sig) → Buf (Elt Ideal) ℓ) (g : Dev Cert.BranchWeightIdeal.nD → PrngReg)
    (m' : (ℓ : Loc Cert.SquareWeightRefIdeal.nD Cert.SquareWeightRefIdeal.τ Cert.SquareWeightRefIdeal.sig) → Buf (Elt Ideal) ℓ) (g' : Dev Cert.SquareWeightRefIdeal.nD → PrngReg), Pre_BranchWeightIdeal m →
    (∀ c : Dev Cert.BranchWeightIdeal.nD,
      m' ((c.tc : Thread Cert.SquareWeightRefIdeal.nD Cert.SquareWeightRefIdeal.τ).loc Cert.SquareWeightRefIdeal.main_arg0) = m ((c.tc : Thread Cert.BranchWeightIdeal.nD Cert.BranchWeightIdeal.τ).loc Cert.BranchWeightIdeal.main_arg0)
      ∧ m' ((c.tc : Thread Cert.SquareWeightRefIdeal.nD Cert.SquareWeightRefIdeal.τ).loc Cert.SquareWeightRefIdeal.main_arg1) = m ((c.tc : Thread Cert.BranchWeightIdeal.nD Cert.BranchWeightIdeal.τ).loc Cert.BranchWeightIdeal.main_arg1)
      ∧ m' ((c.tc : Thread Cert.SquareWeightRefIdeal.nD Cert.SquareWeightRefIdeal.τ).loc Cert.SquareWeightRefIdeal.main_arg2) = m ((c.tc : Thread Cert.BranchWeightIdeal.nD Cert.BranchWeightIdeal.τ).loc Cert.BranchWeightIdeal.main_arg2)) →
    ∃ (v0 : (c : Dev Cert.BranchWeightIdeal.nD) → Buf (Elt Ideal) ((c.tc : Thread Cert.BranchWeightIdeal.nD Cert.BranchWeightIdeal.τ).loc Cert.BranchWeightIdeal.main_v2)),
      θ_run (Cert.BranchWeightIdeal.defs (F := Ideal)) (onTc (τ := Cert.BranchWeightIdeal.τ) (Cert.BranchWeightIdeal.main (F := Ideal))) ⟨m, fun _ => 0, g⟩ (fun r => ∀ c : Dev Cert.BranchWeightIdeal.nD,
          r.2.mem ((c.tc : Thread Cert.BranchWeightIdeal.nD Cert.BranchWeightIdeal.τ).loc Cert.BranchWeightIdeal.main_v2) = v0 c
          ∧ r.2.mem ((c.tc : Thread Cert.BranchWeightIdeal.nD Cert.BranchWeightIdeal.τ).loc Cert.BranchWeightIdeal.main_arg0) = m ((c.tc : Thread Cert.BranchWeightIdeal.nD Cert.BranchWeightIdeal.τ).loc Cert.BranchWeightIdeal.main_arg0)
          ∧ r.2.mem ((c.tc : Thread Cert.BranchWeightIdeal.nD Cert.BranchWeightIdeal.τ).loc Cert.BranchWeightIdeal.main_arg1) = m ((c.tc : Thread Cert.BranchWeightIdeal.nD Cert.BranchWeightIdeal.τ).loc Cert.BranchWeightIdeal.main_arg1)
          ∧ r.2.mem ((c.tc : Thread Cert.BranchWeightIdeal.nD Cert.BranchWeightIdeal.τ).loc Cert.BranchWeightIdeal.main_arg2) = m ((c.tc : Thread Cert.BranchWeightIdeal.nD Cert.BranchWeightIdeal.τ).loc Cert.BranchWeightIdeal.main_arg2))
      ∧ θ_run (Cert.SquareWeightRefIdeal.defs (F := Ideal)) (onTc (τ := Cert.SquareWeightRefIdeal.τ) (Cert.SquareWeightRefIdeal.main (F := Ideal))) ⟨m', fun _ => 0, g'⟩ (fun r => ∀ c : Dev Cert.SquareWeightRefIdeal.nD,
          r.2.mem ((c.tc : Thread Cert.SquareWeightRefIdeal.nD Cert.SquareWeightRefIdeal.τ).loc Cert.SquareWeightRefIdeal.main_v3) = v0 c
          ∧ r.2.mem ((c.tc : Thread Cert.SquareWeightRefIdeal.nD Cert.SquareWeightRefIdeal.τ).loc Cert.SquareWeightRefIdeal.main_arg0) = m' ((c.tc : Thread Cert.SquareWeightRefIdeal.nD Cert.SquareWeightRefIdeal.τ).loc Cert.SquareWeightRefIdeal.main_arg0)
          ∧ r.2.mem ((c.tc : Thread Cert.SquareWeightRefIdeal.nD Cert.SquareWeightRefIdeal.τ).loc Cert.SquareWeightRefIdeal.main_arg1) = m' ((c.tc : Thread Cert.SquareWeightRefIdeal.nD Cert.SquareWeightRefIdeal.τ).loc Cert.SquareWeightRefIdeal.main_arg1)
          ∧ r.2.mem ((c.tc : Thread Cert.SquareWeightRefIdeal.nD Cert.SquareWeightRefIdeal.τ).loc Cert.SquareWeightRefIdeal.main_arg2) = m' ((c.tc : Thread Cert.SquareWeightRefIdeal.nD Cert.SquareWeightRefIdeal.τ).loc Cert.SquareWeightRefIdeal.main_arg2))

def preserves_OutWeight_OutWeightIdeal : Prop :=
  True

def algebraic_OutWeightIdeal_SquareWeightRefIdeal [hOutWeightIdeal : Cert.OutWeightIdeal.Facts] [hSquareWeightRefIdeal : Cert.SquareWeightRefIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg)
    (m' : (ℓ : Loc Cert.SquareWeightRefIdeal.nD Cert.SquareWeightRefIdeal.τ Cert.SquareWeightRefIdeal.sig) → Buf (Elt Ideal) ℓ) (g' : Dev Cert.SquareWeightRefIdeal.nD → PrngReg), Pre_OutWeightIdeal m →
    (∀ c : Dev Cert.OutWeightIdeal.nD,
      m' ((c.tc : Thread Cert.SquareWeightRefIdeal.nD Cert.SquareWeightRefIdeal.τ).loc Cert.SquareWeightRefIdeal.main_arg0) = m ((c.tc : Thread Cert.OutWeightIdeal.nD Cert.OutWeightIdeal.τ).loc Cert.OutWeightIdeal.main_arg0)
      ∧ m' ((c.tc : Thread Cert.SquareWeightRefIdeal.nD Cert.SquareWeightRefIdeal.τ).loc Cert.SquareWeightRefIdeal.main_arg1) = m ((c.tc : Thread Cert.OutWeightIdeal.nD Cert.OutWeightIdeal.τ).loc Cert.OutWeightIdeal.main_arg1)
      ∧ m' ((c.tc : Thread Cert.SquareWeightRefIdeal.nD Cert.SquareWeightRefIdeal.τ).loc Cert.SquareWeightRefIdeal.main_arg2) = m ((c.tc : Thread Cert.OutWeightIdeal.nD Cert.OutWeightIdeal.τ).loc Cert.OutWeightIdeal.main_arg2)) →
    ∃ (v0 : (c : Dev Cert.OutWeightIdeal.nD) → Buf (Elt Ideal) ((c.tc : Thread Cert.OutWeightIdeal.nD Cert.OutWeightIdeal.τ).loc Cert.OutWeightIdeal.main_v1)),
      θ_run (Cert.OutWeightIdeal.defs (F := Ideal)) (onTc (τ := Cert.OutWeightIdeal.τ) (Cert.OutWeightIdeal.main (F := Ideal))) ⟨m, fun _ => 0, g⟩ (fun r => ∀ c : Dev Cert.OutWeightIdeal.nD,
          r.2.mem ((c.tc : Thread Cert.OutWeightIdeal.nD Cert.OutWeightIdeal.τ).loc Cert.OutWeightIdeal.main_v1) = v0 c
          ∧ r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
          ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1)
          ∧ r.2.mem ((c.tc : Thread Cert.OutWeightIdeal.nD Cert.OutWeightIdeal.τ).loc Cert.OutWeightIdeal.main_arg2) = m ((c.tc : Thread Cert.OutWeightIdeal.nD Cert.OutWeightIdeal.τ).loc Cert.OutWeightIdeal.main_arg2))
      ∧ θ_run (Cert.SquareWeightRefIdeal.defs (F := Ideal)) (onTc (τ := Cert.SquareWeightRefIdeal.τ) (Cert.SquareWeightRefIdeal.main (F := Ideal))) ⟨m', fun _ => 0, g'⟩ (fun r => ∀ c : Dev Cert.SquareWeightRefIdeal.nD,
          r.2.mem ((c.tc : Thread Cert.SquareWeightRefIdeal.nD Cert.SquareWeightRefIdeal.τ).loc Cert.SquareWeightRefIdeal.main_v3) = v0 c
          ∧ r.2.mem ((c.tc : Thread Cert.SquareWeightRefIdeal.nD Cert.SquareWeightRefIdeal.τ).loc Cert.SquareWeightRefIdeal.main_arg0) = m' ((c.tc : Thread Cert.SquareWeightRefIdeal.nD Cert.SquareWeightRefIdeal.τ).loc Cert.SquareWeightRefIdeal.main_arg0)
          ∧ r.2.mem ((c.tc : Thread Cert.SquareWeightRefIdeal.nD Cert.SquareWeightRefIdeal.τ).loc Cert.SquareWeightRefIdeal.main_arg1) = m' ((c.tc : Thread Cert.SquareWeightRefIdeal.nD Cert.SquareWeightRefIdeal.τ).loc Cert.SquareWeightRefIdeal.main_arg1)
          ∧ r.2.mem ((c.tc : Thread Cert.SquareWeightRefIdeal.nD Cert.SquareWeightRefIdeal.τ).loc Cert.SquareWeightRefIdeal.main_arg2) = m' ((c.tc : Thread Cert.SquareWeightRefIdeal.nD Cert.SquareWeightRefIdeal.τ).loc Cert.SquareWeightRefIdeal.main_arg2))

def preserves_BranchRow_BranchRowIdeal : Prop :=
  True

def preserves_SquareRowRef_SquareRowRefIdeal : Prop :=
  True

def algebraic_BranchRowIdeal_SquareRowRefIdeal [hBranchRowIdeal : Cert.BranchRowIdeal.Facts] [hSquareRowRefIdeal : Cert.SquareRowRefIdeal.Facts] : Prop :=
  ∀ (m : (ℓ : Loc Cert.BranchRowIdeal.nD Cert.BranchRowIdeal.τ Cert.BranchRowIdeal.sig) → Buf (Elt Ideal) ℓ) (g : Dev Cert.BranchRowIdeal.nD → PrngReg)
    (m' : (ℓ : Loc Cert.SquareRowRefIdeal.nD Cert.SquareRowRefIdeal.τ Cert.SquareRowRefIdeal.sig) → Buf (Elt Ideal) ℓ) (g' : Dev Cert.SquareRowRefIdeal.nD → PrngReg), Pre_BranchRowIdeal m →
    (∀ c : Dev Cert.BranchRowIdeal.nD,
      m' ((c.tc : Thread Cert.SquareRowRefIdeal.nD Cert.SquareRowRefIdeal.τ).loc Cert.SquareRowRefIdeal.main_arg0) = m ((c.tc : Thread Cert.BranchRowIdeal.nD Cert.BranchRowIdeal.τ).loc Cert.BranchRowIdeal.main_arg0)
      ∧ m' ((c.tc : Thread Cert.SquareRowRefIdeal.nD Cert.SquareRowRefIdeal.τ).loc Cert.SquareRowRefIdeal.main_arg1) = m ((c.tc : Thread Cert.BranchRowIdeal.nD Cert.BranchRowIdeal.τ).loc Cert.BranchRowIdeal.main_arg1)
      ∧ m' ((c.tc : Thread Cert.SquareRowRefIdeal.nD Cert.SquareRowRefIdeal.τ).loc Cert.SquareRowRefIdeal.main_arg2) = m ((c.tc : Thread Cert.BranchRowIdeal.nD Cert.BranchRowIdeal.τ).loc Cert.BranchRowIdeal.main_arg2)) →
    ∃ (v0 : (c : Dev Cert.BranchRowIdeal.nD) → Buf (Elt Ideal) ((c.tc : Thread Cert.BranchRowIdeal.nD Cert.BranchRowIdeal.τ).loc Cert.BranchRowIdeal.main_v2)),
      θ_run (Cert.BranchRowIdeal.defs (F := Ideal)) (onTc (τ := Cert.BranchRowIdeal.τ) (Cert.BranchRowIdeal.main (F := Ideal))) ⟨m, fun _ => 0, g⟩ (fun r => ∀ c : Dev Cert.BranchRowIdeal.nD,
          r.2.mem ((c.tc : Thread Cert.BranchRowIdeal.nD Cert.BranchRowIdeal.τ).loc Cert.BranchRowIdeal.main_v2) = v0 c
          ∧ r.2.mem ((c.tc : Thread Cert.BranchRowIdeal.nD Cert.BranchRowIdeal.τ).loc Cert.BranchRowIdeal.main_arg0) = m ((c.tc : Thread Cert.BranchRowIdeal.nD Cert.BranchRowIdeal.τ).loc Cert.BranchRowIdeal.main_arg0)
          ∧ r.2.mem ((c.tc : Thread Cert.BranchRowIdeal.nD Cert.BranchRowIdeal.τ).loc Cert.BranchRowIdeal.main_arg1) = m ((c.tc : Thread Cert.BranchRowIdeal.nD Cert.BranchRowIdeal.τ).loc Cert.BranchRowIdeal.main_arg1)
          ∧ r.2.mem ((c.tc : Thread Cert.BranchRowIdeal.nD Cert.BranchRowIdeal.τ).loc Cert.BranchRowIdeal.main_arg2) = m ((c.tc : Thread Cert.BranchRowIdeal.nD Cert.BranchRowIdeal.τ).loc Cert.BranchRowIdeal.main_arg2))
      ∧ θ_run (Cert.SquareRowRefIdeal.defs (F := Ideal)) (onTc (τ := Cert.SquareRowRefIdeal.τ) (Cert.SquareRowRefIdeal.main (F := Ideal))) ⟨m', fun _ => 0, g'⟩ (fun r => ∀ c : Dev Cert.SquareRowRefIdeal.nD,
          r.2.mem ((c.tc : Thread Cert.SquareRowRefIdeal.nD Cert.SquareRowRefIdeal.τ).loc Cert.SquareRowRefIdeal.main_v1) = v0 c
          ∧ r.2.mem ((c.tc : Thread Cert.SquareRowRefIdeal.nD Cert.SquareRowRefIdeal.τ).loc Cert.SquareRowRefIdeal.main_arg0) = m' ((c.tc : Thread Cert.SquareRowRefIdeal.nD Cert.SquareRowRefIdeal.τ).loc Cert.SquareRowRefIdeal.main_arg0)
          ∧ r.2.mem ((c.tc : Thread Cert.SquareRowRefIdeal.nD Cert.SquareRowRefIdeal.τ).loc Cert.SquareRowRefIdeal.main_arg1) = m' ((c.tc : Thread Cert.SquareRowRefIdeal.nD Cert.SquareRowRefIdeal.τ).loc Cert.SquareRowRefIdeal.main_arg1)
          ∧ r.2.mem ((c.tc : Thread Cert.SquareRowRefIdeal.nD Cert.SquareRowRefIdeal.τ).loc Cert.SquareRowRefIdeal.main_arg2) = m' ((c.tc : Thread Cert.SquareRowRefIdeal.nD Cert.SquareRowRefIdeal.τ).loc Cert.SquareRowRefIdeal.main_arg2))

def preserves_OutRow_OutRowIdeal : Prop :=
  True

def algebraic_OutRowIdeal_SquareRowRefIdeal [hOutRowIdeal : Cert.OutRowIdeal.Facts] [hSquareRowRefIdeal : Cert.SquareRowRefIdeal.Facts] : Prop :=
  ∀ (m : (ℓ : Loc Cert.OutRowIdeal.nD Cert.OutRowIdeal.τ Cert.OutRowIdeal.sig) → Buf (Elt Ideal) ℓ) (g : Dev Cert.OutRowIdeal.nD → PrngReg)
    (m' : (ℓ : Loc Cert.SquareRowRefIdeal.nD Cert.SquareRowRefIdeal.τ Cert.SquareRowRefIdeal.sig) → Buf (Elt Ideal) ℓ) (g' : Dev Cert.SquareRowRefIdeal.nD → PrngReg), Pre_OutRowIdeal m →
    (∀ c : Dev Cert.OutRowIdeal.nD,
      m' ((c.tc : Thread Cert.SquareRowRefIdeal.nD Cert.SquareRowRefIdeal.τ).loc Cert.SquareRowRefIdeal.main_arg0) = m ((c.tc : Thread Cert.OutRowIdeal.nD Cert.OutRowIdeal.τ).loc Cert.OutRowIdeal.main_arg0)
      ∧ m' ((c.tc : Thread Cert.SquareRowRefIdeal.nD Cert.SquareRowRefIdeal.τ).loc Cert.SquareRowRefIdeal.main_arg1) = m ((c.tc : Thread Cert.OutRowIdeal.nD Cert.OutRowIdeal.τ).loc Cert.OutRowIdeal.main_arg1)
      ∧ m' ((c.tc : Thread Cert.SquareRowRefIdeal.nD Cert.SquareRowRefIdeal.τ).loc Cert.SquareRowRefIdeal.main_arg2) = m ((c.tc : Thread Cert.OutRowIdeal.nD Cert.OutRowIdeal.τ).loc Cert.OutRowIdeal.main_arg2)) →
    ∃ (v0 : (c : Dev Cert.OutRowIdeal.nD) → Buf (Elt Ideal) ((c.tc : Thread Cert.OutRowIdeal.nD Cert.OutRowIdeal.τ).loc Cert.OutRowIdeal.main_v1)),
      θ_run (Cert.OutRowIdeal.defs (F := Ideal)) (onTc (τ := Cert.OutRowIdeal.τ) (Cert.OutRowIdeal.main (F := Ideal))) ⟨m, fun _ => 0, g⟩ (fun r => ∀ c : Dev Cert.OutRowIdeal.nD,
          r.2.mem ((c.tc : Thread Cert.OutRowIdeal.nD Cert.OutRowIdeal.τ).loc Cert.OutRowIdeal.main_v1) = v0 c
          ∧ r.2.mem ((c.tc : Thread Cert.OutRowIdeal.nD Cert.OutRowIdeal.τ).loc Cert.OutRowIdeal.main_arg0) = m ((c.tc : Thread Cert.OutRowIdeal.nD Cert.OutRowIdeal.τ).loc Cert.OutRowIdeal.main_arg0)
          ∧ r.2.mem ((c.tc : Thread Cert.OutRowIdeal.nD Cert.OutRowIdeal.τ).loc Cert.OutRowIdeal.main_arg1) = m ((c.tc : Thread Cert.OutRowIdeal.nD Cert.OutRowIdeal.τ).loc Cert.OutRowIdeal.main_arg1)
          ∧ r.2.mem ((c.tc : Thread Cert.OutRowIdeal.nD Cert.OutRowIdeal.τ).loc Cert.OutRowIdeal.main_arg2) = m ((c.tc : Thread Cert.OutRowIdeal.nD Cert.OutRowIdeal.τ).loc Cert.OutRowIdeal.main_arg2))
      ∧ θ_run (Cert.SquareRowRefIdeal.defs (F := Ideal)) (onTc (τ := Cert.SquareRowRefIdeal.τ) (Cert.SquareRowRefIdeal.main (F := Ideal))) ⟨m', fun _ => 0, g'⟩ (fun r => ∀ c : Dev Cert.SquareRowRefIdeal.nD,
          r.2.mem ((c.tc : Thread Cert.SquareRowRefIdeal.nD Cert.SquareRowRefIdeal.τ).loc Cert.SquareRowRefIdeal.main_v1) = v0 c
          ∧ r.2.mem ((c.tc : Thread Cert.SquareRowRefIdeal.nD Cert.SquareRowRefIdeal.τ).loc Cert.SquareRowRefIdeal.main_arg0) = m' ((c.tc : Thread Cert.SquareRowRefIdeal.nD Cert.SquareRowRefIdeal.τ).loc Cert.SquareRowRefIdeal.main_arg0)
          ∧ r.2.mem ((c.tc : Thread Cert.SquareRowRefIdeal.nD Cert.SquareRowRefIdeal.τ).loc Cert.SquareRowRefIdeal.main_arg1) = m' ((c.tc : Thread Cert.SquareRowRefIdeal.nD Cert.SquareRowRefIdeal.τ).loc Cert.SquareRowRefIdeal.main_arg1)
          ∧ r.2.mem ((c.tc : Thread Cert.SquareRowRefIdeal.nD Cert.SquareRowRefIdeal.τ).loc Cert.SquareRowRefIdeal.main_arg2) = m' ((c.tc : Thread Cert.SquareRowRefIdeal.nD Cert.SquareRowRefIdeal.τ).loc Cert.SquareRowRefIdeal.main_arg2))

def preserves_Out_OutIdeal : Prop :=
  True

def preserves_OutRef_OutRefIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v1) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Query_QueryIdeal : Prop :=
  True

def preserves_QueryRef_QueryRefIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)) →
    ∃ (v0 : (c : Dev Cert.QueryIdeal.nD) → Buf (Elt Ideal) ((c.tc : Thread Cert.QueryIdeal.nD Cert.QueryIdeal.τ).loc Cert.QueryIdeal.main_v2)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v2) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v2) = v0 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1))

def preserves_KeyValue_KeyValueIdeal : Prop :=
  True

def preserves_KeyValueRef_KeyValueRefIdeal : Prop :=
  True

def algebraic_KeyValueIdeal_KeyValueRefIdeal [hKeyValueIdeal : Cert.KeyValueIdeal.Facts] [hKeyValueRefIdeal : Cert.KeyValueRefIdeal.Facts] : Prop :=
  ∀ (m : (ℓ : Loc Cert.KeyValueIdeal.nD Cert.KeyValueIdeal.τ Cert.KeyValueIdeal.sig) → Buf (Elt Ideal) ℓ) (g : Dev Cert.KeyValueIdeal.nD → PrngReg)
    (m' : (ℓ : Loc Cert.KeyValueRefIdeal.nD Cert.KeyValueRefIdeal.τ Cert.KeyValueRefIdeal.sig) → Buf (Elt Ideal) ℓ) (g' : Dev Cert.KeyValueRefIdeal.nD → PrngReg), Pre_KeyValueIdeal m →
    (∀ c : Dev Cert.KeyValueIdeal.nD,
      m' ((c.tc : Thread Cert.KeyValueRefIdeal.nD Cert.KeyValueRefIdeal.τ).loc Cert.KeyValueRefIdeal.main_arg0) = m ((c.tc : Thread Cert.KeyValueIdeal.nD Cert.KeyValueIdeal.τ).loc Cert.KeyValueIdeal.main_arg0)
      ∧ m' ((c.tc : Thread Cert.KeyValueRefIdeal.nD Cert.KeyValueRefIdeal.τ).loc Cert.KeyValueRefIdeal.main_arg1) = m ((c.tc : Thread Cert.KeyValueIdeal.nD Cert.KeyValueIdeal.τ).loc Cert.KeyValueIdeal.main_arg1)) →
    ∃ (v0 : (c : Dev Cert.KeyValueIdeal.nD) → Buf (Elt Ideal) ((c.tc : Thread Cert.KeyValueIdeal.nD Cert.KeyValueIdeal.τ).loc Cert.KeyValueIdeal.main_v2)),
      θ_run (Cert.KeyValueIdeal.defs (F := Ideal)) (onTc (τ := Cert.KeyValueIdeal.τ) (Cert.KeyValueIdeal.main (F := Ideal))) ⟨m, fun _ => 0, g⟩ (fun r => ∀ c : Dev Cert.KeyValueIdeal.nD,
          r.2.mem ((c.tc : Thread Cert.KeyValueIdeal.nD Cert.KeyValueIdeal.τ).loc Cert.KeyValueIdeal.main_v2) = v0 c
          ∧ r.2.mem ((c.tc : Thread Cert.KeyValueIdeal.nD Cert.KeyValueIdeal.τ).loc Cert.KeyValueIdeal.main_arg0) = m ((c.tc : Thread Cert.KeyValueIdeal.nD Cert.KeyValueIdeal.τ).loc Cert.KeyValueIdeal.main_arg0)
          ∧ r.2.mem ((c.tc : Thread Cert.KeyValueIdeal.nD Cert.KeyValueIdeal.τ).loc Cert.KeyValueIdeal.main_arg1) = m ((c.tc : Thread Cert.KeyValueIdeal.nD Cert.KeyValueIdeal.τ).loc Cert.KeyValueIdeal.main_arg1))
      ∧ θ_run (Cert.KeyValueRefIdeal.defs (F := Ideal)) (onTc (τ := Cert.KeyValueRefIdeal.τ) (Cert.KeyValueRefIdeal.main (F := Ideal))) ⟨m', fun _ => 0, g'⟩ (fun r => ∀ c : Dev Cert.KeyValueRefIdeal.nD,
          r.2.mem ((c.tc : Thread Cert.KeyValueRefIdeal.nD Cert.KeyValueRefIdeal.τ).loc Cert.KeyValueRefIdeal.main_v3) = v0 c
          ∧ r.2.mem ((c.tc : Thread Cert.KeyValueRefIdeal.nD Cert.KeyValueRefIdeal.τ).loc Cert.KeyValueRefIdeal.main_arg0) = m' ((c.tc : Thread Cert.KeyValueRefIdeal.nD Cert.KeyValueRefIdeal.τ).loc Cert.KeyValueRefIdeal.main_arg0)
          ∧ r.2.mem ((c.tc : Thread Cert.KeyValueRefIdeal.nD Cert.KeyValueRefIdeal.τ).loc Cert.KeyValueRefIdeal.main_arg1) = m' ((c.tc : Thread Cert.KeyValueRefIdeal.nD Cert.KeyValueRefIdeal.τ).loc Cert.KeyValueRefIdeal.main_arg1))

def preserves_QueryWeight_QueryWeightIdeal : Prop :=
  True

def preserves_QueryWeightRef_QueryWeightRefIdeal : Prop :=
  True

def algebraic_QueryWeightIdeal_QueryWeightRefIdeal [hQueryWeightIdeal : Cert.QueryWeightIdeal.Facts] [hQueryWeightRefIdeal : Cert.QueryWeightRefIdeal.Facts] : Prop :=
  ∀ (m : (ℓ : Loc Cert.QueryWeightIdeal.nD Cert.QueryWeightIdeal.τ Cert.QueryWeightIdeal.sig) → Buf (Elt Ideal) ℓ) (g : Dev Cert.QueryWeightIdeal.nD → PrngReg)
    (m' : (ℓ : Loc Cert.QueryWeightRefIdeal.nD Cert.QueryWeightRefIdeal.τ Cert.QueryWeightRefIdeal.sig) → Buf (Elt Ideal) ℓ) (g' : Dev Cert.QueryWeightRefIdeal.nD → PrngReg), Pre_QueryWeightIdeal m →
    (∀ c : Dev Cert.QueryWeightIdeal.nD,
      m' ((c.tc : Thread Cert.QueryWeightRefIdeal.nD Cert.QueryWeightRefIdeal.τ).loc Cert.QueryWeightRefIdeal.main_arg0) = m ((c.tc : Thread Cert.QueryWeightIdeal.nD Cert.QueryWeightIdeal.τ).loc Cert.QueryWeightIdeal.main_arg0)
      ∧ m' ((c.tc : Thread Cert.QueryWeightRefIdeal.nD Cert.QueryWeightRefIdeal.τ).loc Cert.QueryWeightRefIdeal.main_arg1) = m ((c.tc : Thread Cert.QueryWeightIdeal.nD Cert.QueryWeightIdeal.τ).loc Cert.QueryWeightIdeal.main_arg1)
      ∧ m' ((c.tc : Thread Cert.QueryWeightRefIdeal.nD Cert.QueryWeightRefIdeal.τ).loc Cert.QueryWeightRefIdeal.main_arg2) = m ((c.tc : Thread Cert.QueryWeightIdeal.nD Cert.QueryWeightIdeal.τ).loc Cert.QueryWeightIdeal.main_arg2)) →
    ∃ (v0 : (c : Dev Cert.QueryWeightIdeal.nD) → Buf (Elt Ideal) ((c.tc : Thread Cert.QueryWeightIdeal.nD Cert.QueryWeightIdeal.τ).loc Cert.QueryWeightIdeal.main_v2)),
      θ_run (Cert.QueryWeightIdeal.defs (F := Ideal)) (onTc (τ := Cert.QueryWeightIdeal.τ) (Cert.QueryWeightIdeal.main (F := Ideal))) ⟨m, fun _ => 0, g⟩ (fun r => ∀ c : Dev Cert.QueryWeightIdeal.nD,
          r.2.mem ((c.tc : Thread Cert.QueryWeightIdeal.nD Cert.QueryWeightIdeal.τ).loc Cert.QueryWeightIdeal.main_v2) = v0 c
          ∧ r.2.mem ((c.tc : Thread Cert.QueryWeightIdeal.nD Cert.QueryWeightIdeal.τ).loc Cert.QueryWeightIdeal.main_arg0) = m ((c.tc : Thread Cert.QueryWeightIdeal.nD Cert.QueryWeightIdeal.τ).loc Cert.QueryWeightIdeal.main_arg0)
          ∧ r.2.mem ((c.tc : Thread Cert.QueryWeightIdeal.nD Cert.QueryWeightIdeal.τ).loc Cert.QueryWeightIdeal.main_arg1) = m ((c.tc : Thread Cert.QueryWeightIdeal.nD Cert.QueryWeightIdeal.τ).loc Cert.QueryWeightIdeal.main_arg1)
          ∧ r.2.mem ((c.tc : Thread Cert.QueryWeightIdeal.nD Cert.QueryWeightIdeal.τ).loc Cert.QueryWeightIdeal.main_arg2) = m ((c.tc : Thread Cert.QueryWeightIdeal.nD Cert.QueryWeightIdeal.τ).loc Cert.QueryWeightIdeal.main_arg2))
      ∧ θ_run (Cert.QueryWeightRefIdeal.defs (F := Ideal)) (onTc (τ := Cert.QueryWeightRefIdeal.τ) (Cert.QueryWeightRefIdeal.main (F := Ideal))) ⟨m', fun _ => 0, g'⟩ (fun r => ∀ c : Dev Cert.QueryWeightRefIdeal.nD,
          r.2.mem ((c.tc : Thread Cert.QueryWeightRefIdeal.nD Cert.QueryWeightRefIdeal.τ).loc Cert.QueryWeightRefIdeal.main_v7) = v0 c
          ∧ r.2.mem ((c.tc : Thread Cert.QueryWeightRefIdeal.nD Cert.QueryWeightRefIdeal.τ).loc Cert.QueryWeightRefIdeal.main_arg0) = m' ((c.tc : Thread Cert.QueryWeightRefIdeal.nD Cert.QueryWeightRefIdeal.τ).loc Cert.QueryWeightRefIdeal.main_arg0)
          ∧ r.2.mem ((c.tc : Thread Cert.QueryWeightRefIdeal.nD Cert.QueryWeightRefIdeal.τ).loc Cert.QueryWeightRefIdeal.main_arg1) = m' ((c.tc : Thread Cert.QueryWeightRefIdeal.nD Cert.QueryWeightRefIdeal.τ).loc Cert.QueryWeightRefIdeal.main_arg1)
          ∧ r.2.mem ((c.tc : Thread Cert.QueryWeightRefIdeal.nD Cert.QueryWeightRefIdeal.τ).loc Cert.QueryWeightRefIdeal.main_arg2) = m' ((c.tc : Thread Cert.QueryWeightRefIdeal.nD Cert.QueryWeightRefIdeal.τ).loc Cert.QueryWeightRefIdeal.main_arg2))

def preserves_QueryRow_QueryRowIdeal : Prop :=
  True

def preserves_QueryRowRef_QueryRowRefIdeal : Prop :=
  True

def algebraic_QueryRowIdeal_QueryRowRefIdeal [hQueryRowIdeal : Cert.QueryRowIdeal.Facts] [hQueryRowRefIdeal : Cert.QueryRowRefIdeal.Facts] : Prop :=
  ∀ (m : (ℓ : Loc Cert.QueryRowIdeal.nD Cert.QueryRowIdeal.τ Cert.QueryRowIdeal.sig) → Buf (Elt Ideal) ℓ) (g : Dev Cert.QueryRowIdeal.nD → PrngReg)
    (m' : (ℓ : Loc Cert.QueryRowRefIdeal.nD Cert.QueryRowRefIdeal.τ Cert.QueryRowRefIdeal.sig) → Buf (Elt Ideal) ℓ) (g' : Dev Cert.QueryRowRefIdeal.nD → PrngReg), Pre_QueryRowIdeal m →
    (∀ c : Dev Cert.QueryRowIdeal.nD,
      m' ((c.tc : Thread Cert.QueryRowRefIdeal.nD Cert.QueryRowRefIdeal.τ).loc Cert.QueryRowRefIdeal.main_arg0) = m ((c.tc : Thread Cert.QueryRowIdeal.nD Cert.QueryRowIdeal.τ).loc Cert.QueryRowIdeal.main_arg0)
      ∧ m' ((c.tc : Thread Cert.QueryRowRefIdeal.nD Cert.QueryRowRefIdeal.τ).loc Cert.QueryRowRefIdeal.main_arg1) = m ((c.tc : Thread Cert.QueryRowIdeal.nD Cert.QueryRowIdeal.τ).loc Cert.QueryRowIdeal.main_arg1)
      ∧ m' ((c.tc : Thread Cert.QueryRowRefIdeal.nD Cert.QueryRowRefIdeal.τ).loc Cert.QueryRowRefIdeal.main_arg2) = m ((c.tc : Thread Cert.QueryRowIdeal.nD Cert.QueryRowIdeal.τ).loc Cert.QueryRowIdeal.main_arg2)) →
    ∃ (v0 : (c : Dev Cert.QueryRowIdeal.nD) → Buf (Elt Ideal) ((c.tc : Thread Cert.QueryRowIdeal.nD Cert.QueryRowIdeal.τ).loc Cert.QueryRowIdeal.main_v2)),
      θ_run (Cert.QueryRowIdeal.defs (F := Ideal)) (onTc (τ := Cert.QueryRowIdeal.τ) (Cert.QueryRowIdeal.main (F := Ideal))) ⟨m, fun _ => 0, g⟩ (fun r => ∀ c : Dev Cert.QueryRowIdeal.nD,
          r.2.mem ((c.tc : Thread Cert.QueryRowIdeal.nD Cert.QueryRowIdeal.τ).loc Cert.QueryRowIdeal.main_v2) = v0 c
          ∧ r.2.mem ((c.tc : Thread Cert.QueryRowIdeal.nD Cert.QueryRowIdeal.τ).loc Cert.QueryRowIdeal.main_arg0) = m ((c.tc : Thread Cert.QueryRowIdeal.nD Cert.QueryRowIdeal.τ).loc Cert.QueryRowIdeal.main_arg0)
          ∧ r.2.mem ((c.tc : Thread Cert.QueryRowIdeal.nD Cert.QueryRowIdeal.τ).loc Cert.QueryRowIdeal.main_arg1) = m ((c.tc : Thread Cert.QueryRowIdeal.nD Cert.QueryRowIdeal.τ).loc Cert.QueryRowIdeal.main_arg1)
          ∧ r.2.mem ((c.tc : Thread Cert.QueryRowIdeal.nD Cert.QueryRowIdeal.τ).loc Cert.QueryRowIdeal.main_arg2) = m ((c.tc : Thread Cert.QueryRowIdeal.nD Cert.QueryRowIdeal.τ).loc Cert.QueryRowIdeal.main_arg2))
      ∧ θ_run (Cert.QueryRowRefIdeal.defs (F := Ideal)) (onTc (τ := Cert.QueryRowRefIdeal.τ) (Cert.QueryRowRefIdeal.main (F := Ideal))) ⟨m', fun _ => 0, g'⟩ (fun r => ∀ c : Dev Cert.QueryRowRefIdeal.nD,
          r.2.mem ((c.tc : Thread Cert.QueryRowRefIdeal.nD Cert.QueryRowRefIdeal.τ).loc Cert.QueryRowRefIdeal.main_v5) = v0 c
          ∧ r.2.mem ((c.tc : Thread Cert.QueryRowRefIdeal.nD Cert.QueryRowRefIdeal.τ).loc Cert.QueryRowRefIdeal.main_arg0) = m' ((c.tc : Thread Cert.QueryRowRefIdeal.nD Cert.QueryRowRefIdeal.τ).loc Cert.QueryRowRefIdeal.main_arg0)
          ∧ r.2.mem ((c.tc : Thread Cert.QueryRowRefIdeal.nD Cert.QueryRowRefIdeal.τ).loc Cert.QueryRowRefIdeal.main_arg1) = m' ((c.tc : Thread Cert.QueryRowRefIdeal.nD Cert.QueryRowRefIdeal.τ).loc Cert.QueryRowRefIdeal.main_arg1)
          ∧ r.2.mem ((c.tc : Thread Cert.QueryRowRefIdeal.nD Cert.QueryRowRefIdeal.τ).loc Cert.QueryRowRefIdeal.main_arg2) = m' ((c.tc : Thread Cert.QueryRowRefIdeal.nD Cert.QueryRowRefIdeal.τ).loc Cert.QueryRowRefIdeal.main_arg2))

def preserves_Embed_EmbedIdeal : Prop :=
  True

def preserves_EmbedRef_EmbedRefIdeal : Prop :=
  True

def algebraic_EmbedIdeal_EmbedRefIdeal [hEmbedIdeal : Cert.EmbedIdeal.Facts] [hEmbedRefIdeal : Cert.EmbedRefIdeal.Facts] : Prop :=
  ∀ (m : (ℓ : Loc Cert.EmbedIdeal.nD Cert.EmbedIdeal.τ Cert.EmbedIdeal.sig) → Buf (Elt Ideal) ℓ) (g : Dev Cert.EmbedIdeal.nD → PrngReg)
    (m' : (ℓ : Loc Cert.EmbedRefIdeal.nD Cert.EmbedRefIdeal.τ Cert.EmbedRefIdeal.sig) → Buf (Elt Ideal) ℓ) (g' : Dev Cert.EmbedRefIdeal.nD → PrngReg), Pre_EmbedIdeal m →
    (∀ c : Dev Cert.EmbedIdeal.nD,
      m' ((c.tc : Thread Cert.EmbedRefIdeal.nD Cert.EmbedRefIdeal.τ).loc Cert.EmbedRefIdeal.main_arg0) = m ((c.tc : Thread Cert.EmbedIdeal.nD Cert.EmbedIdeal.τ).loc Cert.EmbedIdeal.main_arg0)
      ∧ m' ((c.tc : Thread Cert.EmbedRefIdeal.nD Cert.EmbedRefIdeal.τ).loc Cert.EmbedRefIdeal.main_arg1) = m ((c.tc : Thread Cert.EmbedIdeal.nD Cert.EmbedIdeal.τ).loc Cert.EmbedIdeal.main_arg1)) →
    ∃ (v0 : (c : Dev Cert.EmbedIdeal.nD) → Buf (Elt Ideal) ((c.tc : Thread Cert.EmbedIdeal.nD Cert.EmbedIdeal.τ).loc Cert.EmbedIdeal.main_v1)),
      θ_run (Cert.EmbedIdeal.defs (F := Ideal)) (onTc (τ := Cert.EmbedIdeal.τ) (Cert.EmbedIdeal.main (F := Ideal))) ⟨m, fun _ => 0, g⟩ (fun r => ∀ c : Dev Cert.EmbedIdeal.nD,
          r.2.mem ((c.tc : Thread Cert.EmbedIdeal.nD Cert.EmbedIdeal.τ).loc Cert.EmbedIdeal.main_v1) = v0 c
          ∧ r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
          ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1))
      ∧ θ_run (Cert.EmbedRefIdeal.defs (F := Ideal)) (onTc (τ := Cert.EmbedRefIdeal.τ) (Cert.EmbedRefIdeal.main (F := Ideal))) ⟨m', fun _ => 0, g'⟩ (fun r => ∀ c : Dev Cert.EmbedRefIdeal.nD,
          r.2.mem ((c.tc : Thread Cert.EmbedRefIdeal.nD Cert.EmbedRefIdeal.τ).loc Cert.EmbedRefIdeal.main_v0) = v0 c
          ∧ r.2.mem ((c.tc : Thread Cert.EmbedRefIdeal.nD Cert.EmbedRefIdeal.τ).loc Cert.EmbedRefIdeal.main_arg0) = m' ((c.tc : Thread Cert.EmbedRefIdeal.nD Cert.EmbedRefIdeal.τ).loc Cert.EmbedRefIdeal.main_arg0)
          ∧ r.2.mem ((c.tc : Thread Cert.EmbedRefIdeal.nD Cert.EmbedRefIdeal.τ).loc Cert.EmbedRefIdeal.main_arg1) = m' ((c.tc : Thread Cert.EmbedRefIdeal.nD Cert.EmbedRefIdeal.τ).loc Cert.EmbedRefIdeal.main_arg1))

def preserves_EmbedWeight_EmbedWeightIdeal : Prop :=
  True

def preserves_EmbedWeightRef_EmbedWeightRefIdeal : Prop :=
  True

def algebraic_EmbedWeightIdeal_EmbedWeightRefIdeal [hEmbedWeightIdeal : Cert.EmbedWeightIdeal.Facts] [hEmbedWeightRefIdeal : Cert.EmbedWeightRefIdeal.Facts] : Prop :=
  ∀ (m : (ℓ : Loc Cert.EmbedWeightIdeal.nD Cert.EmbedWeightIdeal.τ Cert.EmbedWeightIdeal.sig) → Buf (Elt Ideal) ℓ) (g : Dev Cert.EmbedWeightIdeal.nD → PrngReg)
    (m' : (ℓ : Loc Cert.EmbedWeightRefIdeal.nD Cert.EmbedWeightRefIdeal.τ Cert.EmbedWeightRefIdeal.sig) → Buf (Elt Ideal) ℓ) (g' : Dev Cert.EmbedWeightRefIdeal.nD → PrngReg), Pre_EmbedWeightIdeal m →
    (∀ c : Dev Cert.EmbedWeightIdeal.nD,
      m' ((c.tc : Thread Cert.EmbedWeightRefIdeal.nD Cert.EmbedWeightRefIdeal.τ).loc Cert.EmbedWeightRefIdeal.main_arg0) = m ((c.tc : Thread Cert.EmbedWeightIdeal.nD Cert.EmbedWeightIdeal.τ).loc Cert.EmbedWeightIdeal.main_arg0)
      ∧ m' ((c.tc : Thread Cert.EmbedWeightRefIdeal.nD Cert.EmbedWeightRefIdeal.τ).loc Cert.EmbedWeightRefIdeal.main_arg1) = m ((c.tc : Thread Cert.EmbedWeightIdeal.nD Cert.EmbedWeightIdeal.τ).loc Cert.EmbedWeightIdeal.main_arg1)
      ∧ m' ((c.tc : Thread Cert.EmbedWeightRefIdeal.nD Cert.EmbedWeightRefIdeal.τ).loc Cert.EmbedWeightRefIdeal.main_arg2) = m ((c.tc : Thread Cert.EmbedWeightIdeal.nD Cert.EmbedWeightIdeal.τ).loc Cert.EmbedWeightIdeal.main_arg2)) →
    ∃ (v0 : (c : Dev Cert.EmbedWeightIdeal.nD) → Buf (Elt Ideal) ((c.tc : Thread Cert.EmbedWeightIdeal.nD Cert.EmbedWeightIdeal.τ).loc Cert.EmbedWeightIdeal.main_v1)),
      θ_run (Cert.EmbedWeightIdeal.defs (F := Ideal)) (onTc (τ := Cert.EmbedWeightIdeal.τ) (Cert.EmbedWeightIdeal.main (F := Ideal))) ⟨m, fun _ => 0, g⟩ (fun r => ∀ c : Dev Cert.EmbedWeightIdeal.nD,
          r.2.mem ((c.tc : Thread Cert.EmbedWeightIdeal.nD Cert.EmbedWeightIdeal.τ).loc Cert.EmbedWeightIdeal.main_v1) = v0 c
          ∧ r.2.mem ((c.tc : Thread Cert.EmbedWeightIdeal.nD Cert.EmbedWeightIdeal.τ).loc Cert.EmbedWeightIdeal.main_arg0) = m ((c.tc : Thread Cert.EmbedWeightIdeal.nD Cert.EmbedWeightIdeal.τ).loc Cert.EmbedWeightIdeal.main_arg0)
          ∧ r.2.mem ((c.tc : Thread Cert.EmbedWeightIdeal.nD Cert.EmbedWeightIdeal.τ).loc Cert.EmbedWeightIdeal.main_arg1) = m ((c.tc : Thread Cert.EmbedWeightIdeal.nD Cert.EmbedWeightIdeal.τ).loc Cert.EmbedWeightIdeal.main_arg1)
          ∧ r.2.mem ((c.tc : Thread Cert.EmbedWeightIdeal.nD Cert.EmbedWeightIdeal.τ).loc Cert.EmbedWeightIdeal.main_arg2) = m ((c.tc : Thread Cert.EmbedWeightIdeal.nD Cert.EmbedWeightIdeal.τ).loc Cert.EmbedWeightIdeal.main_arg2))
      ∧ θ_run (Cert.EmbedWeightRefIdeal.defs (F := Ideal)) (onTc (τ := Cert.EmbedWeightRefIdeal.τ) (Cert.EmbedWeightRefIdeal.main (F := Ideal))) ⟨m', fun _ => 0, g'⟩ (fun r => ∀ c : Dev Cert.EmbedWeightRefIdeal.nD,
          r.2.mem ((c.tc : Thread Cert.EmbedWeightRefIdeal.nD Cert.EmbedWeightRefIdeal.τ).loc Cert.EmbedWeightRefIdeal.main_v3) = v0 c
          ∧ r.2.mem ((c.tc : Thread Cert.EmbedWeightRefIdeal.nD Cert.EmbedWeightRefIdeal.τ).loc Cert.EmbedWeightRefIdeal.main_arg0) = m' ((c.tc : Thread Cert.EmbedWeightRefIdeal.nD Cert.EmbedWeightRefIdeal.τ).loc Cert.EmbedWeightRefIdeal.main_arg0)
          ∧ r.2.mem ((c.tc : Thread Cert.EmbedWeightRefIdeal.nD Cert.EmbedWeightRefIdeal.τ).loc Cert.EmbedWeightRefIdeal.main_arg1) = m' ((c.tc : Thread Cert.EmbedWeightRefIdeal.nD Cert.EmbedWeightRefIdeal.τ).loc Cert.EmbedWeightRefIdeal.main_arg1)
          ∧ r.2.mem ((c.tc : Thread Cert.EmbedWeightRefIdeal.nD Cert.EmbedWeightRefIdeal.τ).loc Cert.EmbedWeightRefIdeal.main_arg2) = m' ((c.tc : Thread Cert.EmbedWeightRefIdeal.nD Cert.EmbedWeightRefIdeal.τ).loc Cert.EmbedWeightRefIdeal.main_arg2))

def Claim : Prop :=
  ∃ (hKernel : Cert.Kernel.Facts) (hKernelIdeal : Cert.KernelIdeal.Facts) (hReferenceIdeal : Cert.ReferenceIdeal.Facts) (hReference : Cert.Reference.Facts) (hWeightGrad : Cert.WeightGrad.Facts) (hWeightGradIdeal : Cert.WeightGradIdeal.Facts) (hWeightGradRefIdeal : Cert.WeightGradRefIdeal.Facts) (hWeightGradRef : Cert.WeightGradRef.Facts) (hRowGrad : Cert.RowGrad.Facts) (hRowGradIdeal : Cert.RowGradIdeal.Facts) (hRowGradRefIdeal : Cert.RowGradRefIdeal.Facts) (hRowGradRef : Cert.RowGradRef.Facts) (hIn : Cert.In.Facts) (hInIdeal : Cert.InIdeal.Facts) (hInRefIdeal : Cert.InRefIdeal.Facts) (hInRef : Cert.InRef.Facts) (hBranch : Cert.Branch.Facts) (hBranchIdeal : Cert.BranchIdeal.Facts) (hBranchRefIdeal : Cert.BranchRefIdeal.Facts) (hBranchRef : Cert.BranchRef.Facts) (hBranchWeight : Cert.BranchWeight.Facts) (hBranchWeightIdeal : Cert.BranchWeightIdeal.Facts) (hSquareWeightRefIdeal : Cert.SquareWeightRefIdeal.Facts) (hSquareWeightRef : Cert.SquareWeightRef.Facts) (hOutWeight : Cert.OutWeight.Facts) (hOutWeightIdeal : Cert.OutWeightIdeal.Facts) (hBranchRow : Cert.BranchRow.Facts) (hBranchRowIdeal : Cert.BranchRowIdeal.Facts) (hSquareRowRefIdeal : Cert.SquareRowRefIdeal.Facts) (hSquareRowRef : Cert.SquareRowRef.Facts) (hOutRow : Cert.OutRow.Facts) (hOutRowIdeal : Cert.OutRowIdeal.Facts) (hOut : Cert.Out.Facts) (hOutIdeal : Cert.OutIdeal.Facts) (hOutRefIdeal : Cert.OutRefIdeal.Facts) (hOutRef : Cert.OutRef.Facts) (hQuery : Cert.Query.Facts) (hQueryIdeal : Cert.QueryIdeal.Facts) (hQueryRefIdeal : Cert.QueryRefIdeal.Facts) (hQueryRef : Cert.QueryRef.Facts) (hKeyValue : Cert.KeyValue.Facts) (hKeyValueIdeal : Cert.KeyValueIdeal.Facts) (hKeyValueRefIdeal : Cert.KeyValueRefIdeal.Facts) (hKeyValueRef : Cert.KeyValueRef.Facts) (hQueryWeight : Cert.QueryWeight.Facts) (hQueryWeightIdeal : Cert.QueryWeightIdeal.Facts) (hQueryWeightRefIdeal : Cert.QueryWeightRefIdeal.Facts) (hQueryWeightRef : Cert.QueryWeightRef.Facts) (hQueryRow : Cert.QueryRow.Facts) (hQueryRowIdeal : Cert.QueryRowIdeal.Facts) (hQueryRowRefIdeal : Cert.QueryRowRefIdeal.Facts) (hQueryRowRef : Cert.QueryRowRef.Facts) (hEmbed : Cert.Embed.Facts) (hEmbedIdeal : Cert.EmbedIdeal.Facts) (hEmbedRefIdeal : Cert.EmbedRefIdeal.Facts) (hEmbedRef : Cert.EmbedRef.Facts) (hEmbedWeight : Cert.EmbedWeight.Facts) (hEmbedWeightIdeal : Cert.EmbedWeightIdeal.Facts) (hEmbedWeightRefIdeal : Cert.EmbedWeightRefIdeal.Facts) (hEmbedWeightRef : Cert.EmbedWeightRef.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Reference (hReference := hReference)
    ∧ quiescent_WeightGrad (hWeightGrad := hWeightGrad)
    ∧ quiescent_WeightGradIdeal (hWeightGradIdeal := hWeightGradIdeal)
    ∧ quiescent_WeightGradRefIdeal (hWeightGradRefIdeal := hWeightGradRefIdeal)
    ∧ quiescent_WeightGradRef (hWeightGradRef := hWeightGradRef)
    ∧ quiescent_RowGrad (hRowGrad := hRowGrad)
    ∧ quiescent_RowGradIdeal (hRowGradIdeal := hRowGradIdeal)
    ∧ quiescent_RowGradRefIdeal (hRowGradRefIdeal := hRowGradRefIdeal)
    ∧ quiescent_RowGradRef (hRowGradRef := hRowGradRef)
    ∧ quiescent_In (hIn := hIn)
    ∧ quiescent_InIdeal (hInIdeal := hInIdeal)
    ∧ quiescent_InRefIdeal (hInRefIdeal := hInRefIdeal)
    ∧ quiescent_InRef (hInRef := hInRef)
    ∧ quiescent_Branch (hBranch := hBranch)
    ∧ quiescent_BranchIdeal (hBranchIdeal := hBranchIdeal)
    ∧ quiescent_BranchRefIdeal (hBranchRefIdeal := hBranchRefIdeal)
    ∧ quiescent_BranchRef (hBranchRef := hBranchRef)
    ∧ quiescent_BranchWeight (hBranchWeight := hBranchWeight)
    ∧ quiescent_BranchWeightIdeal (hBranchWeightIdeal := hBranchWeightIdeal)
    ∧ quiescent_SquareWeightRefIdeal (hSquareWeightRefIdeal := hSquareWeightRefIdeal)
    ∧ quiescent_SquareWeightRef (hSquareWeightRef := hSquareWeightRef)
    ∧ quiescent_OutWeight (hOutWeight := hOutWeight)
    ∧ quiescent_OutWeightIdeal (hOutWeightIdeal := hOutWeightIdeal)
    ∧ quiescent_BranchRow (hBranchRow := hBranchRow)
    ∧ quiescent_BranchRowIdeal (hBranchRowIdeal := hBranchRowIdeal)
    ∧ quiescent_SquareRowRefIdeal (hSquareRowRefIdeal := hSquareRowRefIdeal)
    ∧ quiescent_SquareRowRef (hSquareRowRef := hSquareRowRef)
    ∧ quiescent_OutRow (hOutRow := hOutRow)
    ∧ quiescent_OutRowIdeal (hOutRowIdeal := hOutRowIdeal)
    ∧ quiescent_Out (hOut := hOut)
    ∧ quiescent_OutIdeal (hOutIdeal := hOutIdeal)
    ∧ quiescent_OutRefIdeal (hOutRefIdeal := hOutRefIdeal)
    ∧ quiescent_OutRef (hOutRef := hOutRef)
    ∧ quiescent_Query (hQuery := hQuery)
    ∧ quiescent_QueryIdeal (hQueryIdeal := hQueryIdeal)
    ∧ quiescent_QueryRefIdeal (hQueryRefIdeal := hQueryRefIdeal)
    ∧ quiescent_QueryRef (hQueryRef := hQueryRef)
    ∧ quiescent_KeyValue (hKeyValue := hKeyValue)
    ∧ quiescent_KeyValueIdeal (hKeyValueIdeal := hKeyValueIdeal)
    ∧ quiescent_KeyValueRefIdeal (hKeyValueRefIdeal := hKeyValueRefIdeal)
    ∧ quiescent_KeyValueRef (hKeyValueRef := hKeyValueRef)
    ∧ quiescent_QueryWeight (hQueryWeight := hQueryWeight)
    ∧ quiescent_QueryWeightIdeal (hQueryWeightIdeal := hQueryWeightIdeal)
    ∧ quiescent_QueryWeightRefIdeal (hQueryWeightRefIdeal := hQueryWeightRefIdeal)
    ∧ quiescent_QueryWeightRef (hQueryWeightRef := hQueryWeightRef)
    ∧ quiescent_QueryRow (hQueryRow := hQueryRow)
    ∧ quiescent_QueryRowIdeal (hQueryRowIdeal := hQueryRowIdeal)
    ∧ quiescent_QueryRowRefIdeal (hQueryRowRefIdeal := hQueryRowRefIdeal)
    ∧ quiescent_QueryRowRef (hQueryRowRef := hQueryRowRef)
    ∧ quiescent_Embed (hEmbed := hEmbed)
    ∧ quiescent_EmbedIdeal (hEmbedIdeal := hEmbedIdeal)
    ∧ quiescent_EmbedRefIdeal (hEmbedRefIdeal := hEmbedRefIdeal)
    ∧ quiescent_EmbedRef (hEmbedRef := hEmbedRef)
    ∧ quiescent_EmbedWeight (hEmbedWeight := hEmbedWeight)
    ∧ quiescent_EmbedWeightIdeal (hEmbedWeightIdeal := hEmbedWeightIdeal)
    ∧ quiescent_EmbedWeightRefIdeal (hEmbedWeightRefIdeal := hEmbedWeightRefIdeal)
    ∧ quiescent_EmbedWeightRef (hEmbedWeightRef := hEmbedWeightRef)
    ∧ preserves_Kernel_KernelIdeal
    ∧ preserves_Reference_ReferenceIdeal
    ∧ algebraic_KernelIdeal_ReferenceIdeal_pre_finite (hKernelIdeal := hKernelIdeal) (hReferenceIdeal := hReferenceIdeal) (hPre_finite := hPre_finite)
    ∧ preserves_WeightGrad_WeightGradIdeal
    ∧ preserves_WeightGradRef_WeightGradRefIdeal
    ∧ algebraic_WeightGradIdeal_WeightGradRefIdeal (hWeightGradIdeal := hWeightGradIdeal) (hWeightGradRefIdeal := hWeightGradRefIdeal)
    ∧ preserves_RowGrad_RowGradIdeal
    ∧ preserves_RowGradRef_RowGradRefIdeal
    ∧ algebraic_RowGradIdeal_RowGradRefIdeal (hRowGradIdeal := hRowGradIdeal) (hRowGradRefIdeal := hRowGradRefIdeal)
    ∧ preserves_In_InIdeal
    ∧ preserves_InRef_InRefIdeal
    ∧ algebraic_InIdeal_InRefIdeal (hInIdeal := hInIdeal) (hInRefIdeal := hInRefIdeal)
    ∧ preserves_Branch_BranchIdeal
    ∧ preserves_BranchRef_BranchRefIdeal
    ∧ algebraic_BranchIdeal_BranchRefIdeal (hBranchIdeal := hBranchIdeal) (hBranchRefIdeal := hBranchRefIdeal)
    ∧ preserves_BranchWeight_BranchWeightIdeal
    ∧ preserves_SquareWeightRef_SquareWeightRefIdeal
    ∧ algebraic_BranchWeightIdeal_SquareWeightRefIdeal (hBranchWeightIdeal := hBranchWeightIdeal) (hSquareWeightRefIdeal := hSquareWeightRefIdeal)
    ∧ preserves_OutWeight_OutWeightIdeal
    ∧ algebraic_OutWeightIdeal_SquareWeightRefIdeal (hOutWeightIdeal := hOutWeightIdeal) (hSquareWeightRefIdeal := hSquareWeightRefIdeal)
    ∧ preserves_BranchRow_BranchRowIdeal
    ∧ preserves_SquareRowRef_SquareRowRefIdeal
    ∧ algebraic_BranchRowIdeal_SquareRowRefIdeal (hBranchRowIdeal := hBranchRowIdeal) (hSquareRowRefIdeal := hSquareRowRefIdeal)
    ∧ preserves_OutRow_OutRowIdeal
    ∧ algebraic_OutRowIdeal_SquareRowRefIdeal (hOutRowIdeal := hOutRowIdeal) (hSquareRowRefIdeal := hSquareRowRefIdeal)
    ∧ preserves_Out_OutIdeal
    ∧ preserves_OutRef_OutRefIdeal
    ∧ algebraic_OutIdeal_OutRefIdeal (hOutIdeal := hOutIdeal) (hOutRefIdeal := hOutRefIdeal)
    ∧ preserves_Query_QueryIdeal
    ∧ preserves_QueryRef_QueryRefIdeal
    ∧ algebraic_QueryIdeal_QueryRefIdeal (hQueryIdeal := hQueryIdeal) (hQueryRefIdeal := hQueryRefIdeal)
    ∧ preserves_KeyValue_KeyValueIdeal
    ∧ preserves_KeyValueRef_KeyValueRefIdeal
    ∧ algebraic_KeyValueIdeal_KeyValueRefIdeal (hKeyValueIdeal := hKeyValueIdeal) (hKeyValueRefIdeal := hKeyValueRefIdeal)
    ∧ preserves_QueryWeight_QueryWeightIdeal
    ∧ preserves_QueryWeightRef_QueryWeightRefIdeal
    ∧ algebraic_QueryWeightIdeal_QueryWeightRefIdeal (hQueryWeightIdeal := hQueryWeightIdeal) (hQueryWeightRefIdeal := hQueryWeightRefIdeal)
    ∧ preserves_QueryRow_QueryRowIdeal
    ∧ preserves_QueryRowRef_QueryRowRefIdeal
    ∧ algebraic_QueryRowIdeal_QueryRowRefIdeal (hQueryRowIdeal := hQueryRowIdeal) (hQueryRowRefIdeal := hQueryRowRefIdeal)
    ∧ preserves_Embed_EmbedIdeal
    ∧ preserves_EmbedRef_EmbedRefIdeal
    ∧ algebraic_EmbedIdeal_EmbedRefIdeal (hEmbedIdeal := hEmbedIdeal) (hEmbedRefIdeal := hEmbedRefIdeal)
    ∧ preserves_EmbedWeight_EmbedWeightIdeal
    ∧ preserves_EmbedWeightRef_EmbedWeightRefIdeal
    ∧ algebraic_EmbedWeightIdeal_EmbedWeightRefIdeal (hEmbedWeightIdeal := hEmbedWeightIdeal) (hEmbedWeightRefIdeal := hEmbedWeightRefIdeal)
-- ==== Pre_finite.lean ====
abbrev S16x8192x256 : Shape := ⟨3, ![16, 8192, 256]⟩
abbrev S8192x64 : Shape := ⟨2, ![8192, 64]⟩
abbrev S8192x32 : Shape := ⟨2, ![8192, 32]⟩
abbrev S8192x2048 : Shape := ⟨2, ![8192, 2048]⟩
abbrev S_ : Shape := ⟨0, ![]⟩

class Facts : Prop where
  bcast_S_S16x8192x256 : S_.BroadcastsInDim S16x8192x256 (![] : Fin 0 → Fin S16x8192x256.rank)
  reducesTo_S16x8192x256_S_d0_1_2 : S16x8192x256.ReducesTo [0, 1, 2] S_
  h_S_ : 0 < S_.numel
  bcast_S_S8192x64 : S_.BroadcastsInDim S8192x64 (![] : Fin 0 → Fin S8192x64.rank)
  reducesTo_S8192x64_S_d0_1 : S8192x64.ReducesTo [0, 1] S_
  bcast_S_S8192x32 : S_.BroadcastsInDim S8192x32 (![] : Fin 0 → Fin S8192x32.rank)
  reducesTo_S8192x32_S_d0_1 : S8192x32.ReducesTo [0, 1] S_
  bcast_S_S8192x2048 : S_.BroadcastsInDim S8192x2048 (![] : Fin 0 → Fin S8192x2048.rank)
  reducesTo_S8192x2048_S_d0_1 : S8192x2048.ReducesTo [0, 1] S_

variable [Facts]

def fn_part1 {F : FTy → Type} [FloatOps F] (main_arg4 : FVec F S8192x32 .f32) (main_arg5 : FVec F S8192x2048 .f32) (main_v13 : IVec S_ 1) (main_v16 : IVec S8192x32 1) : IVec S_ 1 :=
  let main_c_5 : IVec S_ 1 := constantI S_ 1 1#1
  let main_v17 : IVec S_ 1 := (fun x v => Host.reduce IntOp.andi x v reducesTo_S8192x32_S_d0_1 h_S_) main_v16 main_c_5
  let main_v18 : IVec S_ 1 := andi main_v13 main_v17
  let main_v19 : FVec F S8192x32 .f32 := Host.absf main_arg4
  let main_cst_6 : FVec F S_ .f32 := constant S_ .f32 0x7F800000#32
  let main_v20 : FVec F S8192x32 .f32 := broadcastInDim S8192x32 ![] bcast_S_S8192x32 main_cst_6
  let main_v21 : IVec S8192x32 1 := cmpf .olt main_v19 main_v20
  let main_c_7 : IVec S_ 1 := constantI S_ 1 1#1
  let main_v22 : IVec S_ 1 := (fun x v => Host.reduce IntOp.andi x v reducesTo_S8192x32_S_d0_1 h_S_) main_v21 main_c_7
  let main_v23 : IVec S_ 1 := andi main_v18 main_v22
  let main_v24 : FVec F S8192x2048 .f32 := Host.absf main_arg5
  let main_cst_8 : FVec F S_ .f32 := constant S_ .f32 0x7F800000#32
  let main_v25 : FVec F S8192x2048 .f32 := broadcastInDim S8192x2048 ![] bcast_S_S8192x2048 main_cst_8
  let main_v26 : IVec S8192x2048 1 := cmpf .olt main_v24 main_v25
  let main_c_9 : IVec S_ 1 := constantI S_ 1 1#1
  let main_v27 : IVec S_ 1 := (fun x v => Host.reduce IntOp.andi x v reducesTo_S8192x2048_S_d0_1 h_S_) main_v26 main_c_9
  let main_v28 : IVec S_ 1 := andi main_v23 main_v27
  main_v28

def fn {F : FTy → Type} [FloatOps F] (main_arg0 : FVec F S16x8192x256 .f32) (main_arg1 : FVec F S16x8192x256 .f32) (main_arg2 : FVec F S8192x64 .f32) (main_arg3 : FVec F S8192x32 .f32) (main_arg4 : FVec F S8192x32 .f32) (main_arg5 : FVec F S8192x2048 .f32) : IVec S_ 1 :=
  let main_v0 : FVec F S16x8192x256 .f32 := Host.absf main_arg0
  let main_cst : FVec F S_ .f32 := constant S_ .f32 0x7F800000#32
  let main_v1 : FVec F S16x8192x256 .f32 := broadcastInDim S16x8192x256 ![] bcast_S_S16x8192x256 main_cst
  let main_v2 : IVec S16x8192x256 1 := cmpf .olt main_v0 main_v1
  let main_c : IVec S_ 1 := constantI S_ 1 1#1
  let main_v3 : IVec S_ 1 := (fun x v => Host.reduce IntOp.andi x v reducesTo_S16x8192x256_S_d0_1_2 h_S_) main_v2 main_c
  let main_v4 : FVec F S16x8192x256 .f32 := Host.absf main_arg1
  let main_cst_0 : FVec F S_ .f32 := constant S_ .f32 0x7F800000#32
  let main_v5 : FVec F S16x8192x256 .f32 := broadcastInDim S16x8192x256 ![] bcast_S_S16x8192x256 main_cst_0
  let main_v6 : IVec S16x8192x256 1 := cmpf .olt main_v4 main_v5
  let main_c_1 : IVec S_ 1 := constantI S_ 1 1#1
  let main_v7 : IVec S_ 1 := (fun x v => Host.reduce IntOp.andi x v reducesTo_S16x8192x256_S_d0_1_2 h_S_) main_v6 main_c_1
  let main_v8 : IVec S_ 1 := andi main_v3 main_v7
  let main_v9 : FVec F S8192x64 .f32 := Host.absf main_arg2
  let main_cst_2 : FVec F S_ .f32 := constant S_ .f32 0x7F800000#32
  let main_v10 : FVec F S8192x64 .f32 := broadcastInDim S8192x64 ![] bcast_S_S8192x64 main_cst_2
  let main_v11 : IVec S8192x64 1 := cmpf .olt main_v9 main_v10
  let main_c_3 : IVec S_ 1 := constantI S_ 1 1#1
  let main_v12 : IVec S_ 1 := (fun x v => Host.reduce IntOp.andi x v reducesTo_S8192x64_S_d0_1 h_S_) main_v11 main_c_3
  let main_v13 : IVec S_ 1 := andi main_v8 main_v12
  let main_v14 : FVec F S8192x32 .f32 := Host.absf main_arg3
  let main_cst_4 : FVec F S_ .f32 := constant S_ .f32 0x7F800000#32
  let main_v15 : FVec F S8192x32 .f32 := broadcastInDim S8192x32 ![] bcast_S_S8192x32 main_cst_4
  let main_v16 : IVec S8192x32 1 := cmpf .olt main_v14 main_v15
  fn_part1 (F := F) main_arg4 main_arg5 main_v13 main_v16
-- ==== Kernel.lean ====
abbrev S16x8192x256 : Shape := ⟨3, ![16, 8192, 256]⟩
abbrev S8192x64 : Shape := ⟨2, ![8192, 64]⟩
abbrev S8192x32 : Shape := ⟨2, ![8192, 32]⟩
abbrev S8192x2048 : Shape := ⟨2, ![8192, 2048]⟩
abbrev S8192x128 : Shape := ⟨2, ![8192, 128]⟩
abbrev S_ : Shape := ⟨0, ![]⟩
abbrev S16x8192x64 : Shape := ⟨3, ![16, 8192, 64]⟩
abbrev S1x8192x64 : Shape := ⟨3, ![1, 8192, 64]⟩
abbrev S16x8192x128 : Shape := ⟨3, ![16, 8192, 128]⟩
abbrev S16x8192x8192 : Shape := ⟨3, ![16, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S16x8192 : Shape := ⟨2, ![16, 8192]⟩
abbrev S16x8192x1 : Shape := ⟨3, ![16, 8192, 1]⟩
abbrev S16x128x8192 : Shape := ⟨3, ![16, 128, 8192]⟩
abbrev S8192x16x128 : Shape := ⟨3, ![8192, 16, 128]⟩
abbrev S1x1024x256 : Shape := ⟨3, ![1, 1024, 256]⟩
abbrev S1x8192x256 : Shape := ⟨3, ![1, 8192, 256]⟩
abbrev S1024x128 : Shape := ⟨2, ![1024, 128]⟩
abbrev S1x1024x128 : Shape := ⟨3, ![1, 1024, 128]⟩
abbrev S8192x256 : Shape := ⟨2, ![8192, 256]⟩
abbrev S1024x512 : Shape := ⟨2, ![1024, 512]⟩
abbrev S1024x256 : Shape := ⟨2, ![1024, 256]⟩
abbrev S1024 : Shape := ⟨1, ![1024]⟩
abbrev S1024x1 : Shape := ⟨2, ![1024, 1]⟩
abbrev S1x512x256 : Shape := ⟨3, ![1, 512, 256]⟩
abbrev S512x256 : Shape := ⟨2, ![512, 256]⟩
abbrev S512x128 : Shape := ⟨2, ![512, 128]⟩
abbrev S64x512 : Shape := ⟨2, ![64, 512]⟩
abbrev S64x128 : Shape := ⟨2, ![64, 128]⟩
abbrev S512x1024 : Shape := ⟨2, ![512, 1024]⟩

abbrev nBuf : Space → Nat
  | .hbm => 74
  | .vmem => 28
  | .smem => 0
  | _ => 0

abbrev bufTy : (tb : Table) → Fin (tcTables nBuf tb) → BufTy
  | .hbm, ⟨0, _⟩ => ⟨S16x8192x256, .f32⟩
  | .hbm, ⟨1, _⟩ => ⟨S16x8192x256, .f32⟩
  | .hbm, ⟨2, _⟩ => ⟨S8192x64, .f32⟩
  | .hbm, ⟨3, _⟩ => ⟨S8192x32, .f32⟩
  | .hbm, ⟨4, _⟩ => ⟨S8192x32, .f32⟩
  | .hbm, ⟨5, _⟩ => ⟨S8192x2048, .f32⟩
  | .hbm, ⟨6, _⟩ => ⟨S8192x128, .f32⟩
  | .hbm, ⟨7, _⟩ => ⟨S_, .f32⟩
  | .hbm, ⟨8, _⟩ => ⟨S8192x64, .f32⟩
  | .hbm, ⟨9, _⟩ => ⟨S8192x128, .f32⟩
  | .hbm, ⟨10, _⟩ => ⟨S16x8192x64, .f32⟩
  | .hbm, ⟨11, _⟩ => ⟨S8192x64, .f32⟩
  | .hbm, ⟨12, _⟩ => ⟨S1x8192x64, .f32⟩
  | .hbm, ⟨13, _⟩ => ⟨S16x8192x64, .f32⟩
  | .hbm, ⟨14, _⟩ => ⟨S16x8192x64, .f32⟩
  | .hbm, ⟨15, _⟩ => ⟨S16x8192x64, .f32⟩
  | .hbm, ⟨16, _⟩ => ⟨S8192x64, .f32⟩
  | .hbm, ⟨17, _⟩ => ⟨S1x8192x64, .f32⟩
  | .hbm, ⟨18, _⟩ => ⟨S16x8192x64, .f32⟩
  | .hbm, ⟨19, _⟩ => ⟨S16x8192x64, .f32⟩
  | .hbm, ⟨20, _⟩ => ⟨S16x8192x64, .f32⟩
  | .hbm, ⟨21, _⟩ => ⟨S16x8192x128, .f32⟩
  | .hbm, ⟨22, _⟩ => ⟨S_, .f32⟩
  | .hbm, ⟨23, _⟩ => ⟨S16x8192x64, .f32⟩
  | .hbm, ⟨24, _⟩ => ⟨S16x8192x256, .f32⟩
  | .hbm, ⟨25, _⟩ => ⟨S16x8192x128, .f32⟩
  | .hbm, ⟨26, _⟩ => ⟨S16x8192x128, .f32⟩
  | .hbm, ⟨27, _⟩ => ⟨S16x8192x8192, .f32⟩
  | .hbm, ⟨28, _⟩ => ⟨S16x8192x64, .f32⟩
  | .hbm, ⟨29, _⟩ => ⟨S16x8192x8192, .f32⟩
  | .hbm, ⟨30, _⟩ => ⟨S16x8192x8192, .f32⟩
  | .hbm, ⟨31, _⟩ => ⟨S_, .f32⟩
  | .hbm, ⟨32, _⟩ => ⟨S_, .f32⟩
  | .hbm, ⟨33, _⟩ => ⟨S16x8192x8192, .f32⟩
  | .hbm, ⟨34, _⟩ => ⟨S16x8192x8192, .f32⟩
  | .hbm, ⟨35, _⟩ => ⟨S8192, .i32⟩
  | .hbm, ⟨36, _⟩ => ⟨S_, .i32⟩
  | .hbm, ⟨37, _⟩ => ⟨S8192, .i32⟩
  | .hbm, ⟨38, _⟩ => ⟨S8192, .i32⟩
  | .hbm, ⟨39, _⟩ => ⟨S1x8192, .i32⟩
  | .hbm, ⟨40, _⟩ => ⟨S8192x1, .i32⟩
  | .hbm, ⟨41, _⟩ => ⟨S8192x8192, .i32⟩
  | .hbm, ⟨42, _⟩ => ⟨S8192x8192, .i32⟩
  | .hbm, ⟨43, _⟩ => ⟨S8192x8192, .i1⟩
  | .hbm, ⟨44, _⟩ => ⟨S1x8192x8192, .i1⟩
  | .hbm, ⟨45, _⟩ => ⟨S_, .f32⟩
  | .hbm, ⟨46, _⟩ => ⟨S_, .f32⟩
  | .hbm, ⟨47, _⟩ => ⟨S16x8192x8192, .i1⟩
  | .hbm, ⟨48, _⟩ => ⟨S16x8192x8192, .f32⟩
  | .hbm, ⟨49, _⟩ => ⟨S16x8192x8192, .f32⟩
  | .hbm, ⟨50, _⟩ => ⟨S_, .f32⟩
  | .hbm, ⟨51, _⟩ => ⟨S16x8192, .f32⟩
  | .hbm, ⟨52, _⟩ => ⟨S16x8192x1, .f32⟩
  | .hbm, ⟨53, _⟩ => ⟨S16x8192x8192, .f32⟩
  | .hbm, ⟨54, _⟩ => ⟨S16x8192x8192, .f32⟩
  | .hbm, ⟨55, _⟩ => ⟨S16x8192x8192, .f32⟩
  | .hbm, ⟨56, _⟩ => ⟨S_, .f32⟩
  | .hbm, ⟨57, _⟩ => ⟨S16x8192, .f32⟩
  | .hbm, ⟨58, _⟩ => ⟨S16x8192x1, .f32⟩
  | .hbm, ⟨59, _⟩ => ⟨S16x8192x8192, .f32⟩
  | .hbm, ⟨60, _⟩ => ⟨S16x8192x8192, .f32⟩
  | .hbm, ⟨61, _⟩ => ⟨S16x8192x128, .f32⟩
  | .hbm, ⟨62, _⟩ => ⟨S16x128x8192, .f32⟩
  | .hbm, ⟨63, _⟩ => ⟨S8192x16x128, .f32⟩
  | .hbm, ⟨64, _⟩ => ⟨S8192x2048, .f32⟩
  | .hbm, ⟨65, _⟩ => ⟨S16x8192x1, .f32⟩
  | .hbm, ⟨66, _⟩ => ⟨S16x8192x1, .f32⟩
  | .hbm, ⟨67, _⟩ => ⟨S16x8192x128, .f32⟩
  | .hbm, ⟨68, _⟩ => ⟨S16x8192x256, .bf16⟩
  | .hbm, ⟨69, _⟩ => ⟨S16x8192x256, .bf16⟩
  | .hbm, ⟨70, _⟩ => ⟨S8192x128, .bf16⟩
  | .hbm, ⟨71, _⟩ => ⟨S16x8192x256, .bf16⟩
  | .hbm, ⟨72, _⟩ => ⟨S16x8192x256, .bf16⟩
  | .hbm, ⟨73, _⟩ => ⟨S8192x128, .f32⟩
  | .local _ .vmem, ⟨0, _⟩ => ⟨S1x1024x256, .bf16⟩
  | .local _ .vmem, ⟨1, _⟩ => ⟨S1x1024x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S8192x128, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1x1024x128, .f32⟩
  | .local _ .vmem, ⟨10, _⟩ => ⟨S1x1024x128, .f32⟩
  | .local _ .vmem, ⟨11, _⟩ => ⟨S1024x128, .f32⟩
  | .local _ .vmem, ⟨12, _⟩ => ⟨S1024x128, .f32⟩
  | .local _ .vmem, ⟨13, _⟩ => ⟨S1x1024x256, .bf16⟩
  | .local _ .vmem, ⟨14, _⟩ => ⟨S1x1024x256, .bf16⟩
  | .local _ .vmem, ⟨15, _⟩ => ⟨S1x8192x256, .bf16⟩
  | .local _ .vmem, ⟨16, _⟩ => ⟨S1x8192x256, .bf16⟩
  | .local _ .vmem, ⟨17, _⟩ => ⟨S8192x128, .f32⟩
  | .local _ .vmem, ⟨18, _⟩ => ⟨S8192x256, .f32⟩
  | .local _ .vmem, ⟨19, _⟩ => ⟨S8192x128, .f32⟩
  | .local _ .vmem, ⟨20, _⟩ => ⟨S1024x512, .f32⟩
  | .local _ .vmem, ⟨21, _⟩ => ⟨S1024x512, .f32⟩
  | .local _ .vmem, ⟨22, _⟩ => ⟨S1024x512, .bf16⟩
  | .local _ .vmem, ⟨23, _⟩ => ⟨S1024x512, .bf16⟩
  | .local _ .vmem, ⟨24, _⟩ => ⟨S1024x128, .f32⟩
  | .local _ .vmem, ⟨25, _⟩ => ⟨S1024x128, .f32⟩
  | .local _ .vmem, ⟨26, _⟩ => ⟨S1024x128, .bf16⟩
  | .local _ .vmem, ⟨27, _⟩ => ⟨S1024x256, .f32⟩
  | _, _ => ⟨S16x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_2 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_4 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55_0 : Ref sig .tc := ⟨.hbm, 71, rfl⟩
abbrev main_v55_1 : Ref sig .tc := ⟨.hbm, 72, rfl⟩
abbrev main_v55_2 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_scratch8 : Ref sig .tc := ⟨.vmem, 26, rfl⟩
abbrev cc0_scratch9 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨2, ![16, 8], ![false, false]⟩

@[reducible] def k0_t1_loop (i : grid0.Coords) : Scf.Loop 32 :=
  let c0_i32_21 : BitVec 32 := 0#32
  let arg1 : BitVec 32 := BitVec.ofNat 32 (i 1).val
  let c2_i32 : BitVec 32 := 2#32
  let v34 : BitVec 32 := Scalar.muli arg1 c2_i32
  let v35 : BitVec 32 := Scalar.subi v34 c0_i32_21
  let c1_i32 : BitVec 32 := 1#32
  let v37 : BitVec 32 := Scalar.divsi v35 c1_i32
  let v38 : BitVec 32 := Scalar.muli v37 c1_i32
  let v39 : BitVec 32 := Scalar.addi c0_i32_21 v38
  let c1_i32_22 : BitVec 32 := 1#32
  ⟨c0_i32_21, v39, c1_i32_22⟩
def k0_mult1 (i : grid0.Coords) (k0_t1 : Fin (k0_t1_loop i).trips) : BitVec 32 :=
  let c0_i32_21 : BitVec 32 := 0#32
  let c1_i32_22 : BitVec 32 := 1#32
  let arg22 : BitVec 32 := Scf.iv c0_i32_21 c1_i32_22 k0_t1
  let c512_i32_696 : BitVec 32 := 512#32
  let v1338 : BitVec 32 := Scalar.muli arg22 c512_i32_696
  v1338
def k0_off1 (i : grid0.Coords) (k0_t1 : Fin (k0_t1_loop i).trips) : Fin 3 → Nat :=
  let c0_697 : Index := 0#32
  let c0_i32_21 : BitVec 32 := 0#32
  let c1_i32_22 : BitVec 32 := 1#32
  let arg22 : BitVec 32 := Scf.iv c0_i32_21 c1_i32_22 k0_t1
  let c512_i32_696 : BitVec 32 := 512#32
  let v1338 : BitVec 32 := Scalar.muli arg22 c512_i32_696
  let v1339 : BitVec 32 := v1338
  let v1340 : Index := Scalar.indexCast v1339
  let c0_698 : Index := 0#32
  ![0, v1340.toNat, 0]
def k0_off2 (i : grid0.Coords) (k0_t1 : Fin (k0_t1_loop i).trips) : Fin 2 → Nat :=
  let c0_i32_21 : BitVec 32 := 0#32
  let c1_i32_22 : BitVec 32 := 1#32
  let arg22 : BitVec 32 := Scf.iv c0_i32_21 c1_i32_22 k0_t1
  let c512_i32_696 : BitVec 32 := 512#32
  let v1338 : BitVec 32 := Scalar.muli arg22 c512_i32_696
  let v1339 : BitVec 32 := v1338
  let v1344 : Index := Scalar.indexCast v1339
  let c0_699 : Index := 0#32
  ![v1344.toNat, 0]
def k0_off3 (i : grid0.Coords) (k0_t1 : Fin (k0_t1_loop i).trips) : Fin 2 → Nat :=
  let c0_i32_21 : BitVec 32 := 0#32
  let c1_i32_22 : BitVec 32 := 1#32
  let arg22 : BitVec 32 := Scf.iv c0_i32_21 c1_i32_22 k0_t1
  let c512_i32_696 : BitVec 32 := 512#32
  let v1338 : BitVec 32 := Scalar.muli arg22 c512_i32_696
  let v1339 : BitVec 32 := v1338
  let v1691 : Index := Scalar.indexCast v1339
  let c0_926 : Index := 0#32
  ![v1691.toNat, 0]
def k0_mult2 (i : grid0.Coords) (k0_t1 : Fin (k0_t1_loop i).trips) : BitVec 32 :=
  let c0_i32_21 : BitVec 32 := 0#32
  let c1_i32_22 : BitVec 32 := 1#32
  let arg22 : BitVec 32 := Scf.iv c0_i32_21 c1_i32_22 k0_t1
  let c512_i32_934 : BitVec 32 := 512#32
  let v1703 : BitVec 32 := Scalar.muli arg22 c512_i32_934
  v1703
@[reducible] def k0_t2_loop (i : grid0.Coords) : Scf.Loop 32 :=
  let c0_i32_21 : BitVec 32 := 0#32
  let arg1 : BitVec 32 := BitVec.ofNat 32 (i 1).val
  let c2_i32 : BitVec 32 := 2#32
  let v34 : BitVec 32 := Scalar.muli arg1 c2_i32
  let v35 : BitVec 32 := Scalar.subi v34 c0_i32_21
  let c1_i32 : BitVec 32 := 1#32
  let v37 : BitVec 32 := Scalar.divsi v35 c1_i32
  let v38 : BitVec 32 := Scalar.muli v37 c1_i32
  let v39 : BitVec 32 := Scalar.addi c0_i32_21 v38
  let v36 : BitVec 32 := Scalar.addi c0_i32_21 v35
  let c1_i32_23 : BitVec 32 := 1#32
  ⟨v39, v36, c1_i32_23⟩
def k0_mult3 (i : grid0.Coords) (k0_t2 : Fin (k0_t2_loop i).trips) : BitVec 32 :=
  let c0_i32_21 : BitVec 32 := 0#32
  let arg1 : BitVec 32 := BitVec.ofNat 32 (i 1).val
  let c2_i32 : BitVec 32 := 2#32
  let v34 : BitVec 32 := Scalar.muli arg1 c2_i32
  let v35 : BitVec 32 := Scalar.subi v34 c0_i32_21
  let c1_i32 : BitVec 32 := 1#32
  let v37 : BitVec 32 := Scalar.divsi v35 c1_i32
  let v38 : BitVec 32 := Scalar.muli v37 c1_i32
  let v39 : BitVec 32 := Scalar.addi c0_i32_21 v38
  let c1_i32_23 : BitVec 32 := 1#32
  let arg22 : BitVec 32 := Scf.iv v39 c1_i32_23 k0_t2
  let c512_i32_696 : BitVec 32 := 512#32
  let v1338 : BitVec 32 := Scalar.muli arg22 c512_i32_696
  v1338
def k0_off4 (i : grid0.Coords) (k0_t2 : Fin (k0_t2_loop i).trips) : Fin 3 → Nat :=
  let c0_697 : Index := 0#32
  let c0_i32_21 : BitVec 32 := 0#32
  let arg1 : BitVec 32 := BitVec.ofNat 32 (i 1).val
  let c2_i32 : BitVec 32 := 2#32
  let v34 : BitVec 32 := Scalar.muli arg1 c2_i32
  let v35 : BitVec 32 := Scalar.subi v34 c0_i32_21
  let c1_i32 : BitVec 32 := 1#32
  let v37 : BitVec 32 := Scalar.divsi v35 c1_i32
  let v38 : BitVec 32 := Scalar.muli v37 c1_i32
  let v39 : BitVec 32 := Scalar.addi c0_i32_21 v38
  let c1_i32_23 : BitVec 32 := 1#32
  let arg22 : BitVec 32 := Scf.iv v39 c1_i32_23 k0_t2
  let c512_i32_696 : BitVec 32 := 512#32
  let v1338 : BitVec 32 := Scalar.muli arg22 c512_i32_696
  let v1339 : BitVec 32 := v1338
  let v1340 : Index := Scalar.indexCast v1339
  let c0_698 : Index := 0#32
  ![0, v1340.toNat, 0]
def k0_off5 (i : grid0.Coords) (k0_t2 : Fin (k0_t2_loop i).trips) : Fin 2 → Nat :=
  let c0_i32_21 : BitVec 32 := 0#32
  let arg1 : BitVec 32 := BitVec.ofNat 32 (i 1).val
  let c2_i32 : BitVec 32 := 2#32
  let v34 : BitVec 32 := Scalar.muli arg1 c2_i32
  let v35 : BitVec 32 := Scalar.subi v34 c0_i32_21
  let c1_i32 : BitVec 32 := 1#32
  let v37 : BitVec 32 := Scalar.divsi v35 c1_i32
  let v38 : BitVec 32 := Scalar.muli v37 c1_i32
  let v39 : BitVec 32 := Scalar.addi c0_i32_21 v38
  let c1_i32_23 : BitVec 32 := 1#32
  let arg22 : BitVec 32 := Scf.iv v39 c1_i32_23 k0_t2
  let c512_i32_696 : BitVec 32 := 512#32
  let v1338 : BitVec 32 := Scalar.muli arg22 c512_i32_696
  let v1339 : BitVec 32 := v1338
  let v1344 : Index := Scalar.indexCast v1339
  let c0_699 : Index := 0#32
  ![v1344.toNat, 0]
def k0_off6 (i : grid0.Coords) (k0_t2 : Fin (k0_t2_loop i).trips) : Fin 2 → Nat :=
  let c0_i32_21 : BitVec 32 := 0#32
  let arg1 : BitVec 32 := BitVec.ofNat 32 (i 1).val
  let c2_i32 : BitVec 32 := 2#32
  let v34 : BitVec 32 := Scalar.muli arg1 c2_i32
  let v35 : BitVec 32 := Scalar.subi v34 c0_i32_21
  let c1_i32 : BitVec 32 := 1#32
  let v37 : BitVec 32 := Scalar.divsi v35 c1_i32
  let v38 : BitVec 32 := Scalar.muli v37 c1_i32
  let v39 : BitVec 32 := Scalar.addi c0_i32_21 v38
  let c1_i32_23 : BitVec 32 := 1#32
  let arg22 : BitVec 32 := Scf.iv v39 c1_i32_23 k0_t2
  let c512_i32_696 : BitVec 32 := 512#32
  let v1338 : BitVec 32 := Scalar.muli arg22 c512_i32_696
  let v1339 : BitVec 32 := v1338
  let v1691 : Index := Scalar.indexCast v1339
  let c0_926 : Index := 0#32
  ![v1691.toNat, 0]
def k0_mult4 (i : grid0.Coords) (k0_t2 : Fin (k0_t2_loop i).trips) : BitVec 32 :=
  let c0_i32_21 : BitVec 32 := 0#32
  let arg1 : BitVec 32 := BitVec.ofNat 32 (i 1).val
  let c2_i32 : BitVec 32 := 2#32
  let v34 : BitVec 32 := Scalar.muli arg1 c2_i32
  let v35 : BitVec 32 := Scalar.subi v34 c0_i32_21
  let c1_i32 : BitVec 32 := 1#32
  let v37 : BitVec 32 := Scalar.divsi v35 c1_i32
  let v38 : BitVec 32 := Scalar.muli v37 c1_i32
  let v39 : BitVec 32 := Scalar.addi c0_i32_21 v38
  let c1_i32_23 : BitVec 32 := 1#32
  let arg22 : BitVec 32 := Scf.iv v39 c1_i32_23 k0_t2
  let c512_i32_934 : BitVec 32 := 512#32
  let v1703 : BitVec 32 := Scalar.muli arg22 c512_i32_934
  v1703
def k0_mult5 (i : grid0.Coords) : BitVec 32 :=
  let arg1 : BitVec 32 := BitVec.ofNat 32 (i 1).val
  let c2_i32_24 : BitVec 32 := 2#32
  let v40 : BitVec 32 := Scalar.muli arg1 c2_i32_24
  let c0_i32_25 : BitVec 32 := 0#32
  let v41 : BitVec 32 := Scalar.addi v40 c0_i32_25
  let c512_i32 : BitVec 32 := 512#32
  let v42 : BitVec 32 := Scalar.muli v41 c512_i32
  v42
def k0_off7 (i : grid0.Coords) (c0_i32_25 : BitVec 32) : Fin 3 → Nat :=
  let c0_26 : Index := 0#32
  let arg1 : BitVec 32 := BitVec.ofNat 32 (i 1).val
  let c2_i32_24 : BitVec 32 := 2#32
  let v40 : BitVec 32 := Scalar.muli arg1 c2_i32_24
  let v41 : BitVec 32 := Scalar.addi v40 c0_i32_25
  let c512_i32 : BitVec 32 := 512#32
  let v42 : BitVec 32 := Scalar.muli v41 c512_i32
  let v43 : BitVec 32 := v42
  let v44 : Index := Scalar.indexCast v43
  let c0_27 : Index := 0#32
  ![0, v44.toNat, 0]
def k0_off8 (i : grid0.Coords) (c0_i32_25 : BitVec 32) : Fin 2 → Nat :=
  let arg1 : BitVec 32 := BitVec.ofNat 32 (i 1).val
  let c2_i32_24 : BitVec 32 := 2#32
  let v40 : BitVec 32 := Scalar.muli arg1 c2_i32_24
  let v41 : BitVec 32 := Scalar.addi v40 c0_i32_25
  let c512_i32 : BitVec 32 := 512#32
  let v42 : BitVec 32 := Scalar.muli v41 c512_i32
  let v43 : BitVec 32 := v42
  let v48 : Index := Scalar.indexCast v43
  let c0_28 : Index := 0#32
  ![v48.toNat, 0]
def k0_off9 (i : grid0.Coords) (c0_i32_25 : BitVec 32) : Fin 2 → Nat :=
  let arg1 : BitVec 32 := BitVec.ofNat 32 (i 1).val
  let c2_i32_24 : BitVec 32 := 2#32
  let v40 : BitVec 32 := Scalar.muli arg1 c2_i32_24
  let v41 : BitVec 32 := Scalar.addi v40 c0_i32_25
  let c512_i32 : BitVec 32 := 512#32
  let v42 : BitVec 32 := Scalar.muli v41 c512_i32
  let v43 : BitVec 32 := v42
  let v651 : Index := Scalar.indexCast v43
  let c0_320 : Index := 0#32
  ![v651.toNat, 0]
def k0_mult6 (i : grid0.Coords) : BitVec 32 :=
  let arg1 : BitVec 32 := BitVec.ofNat 32 (i 1).val
  let c2_i32_24 : BitVec 32 := 2#32
  let v40 : BitVec 32 := Scalar.muli arg1 c2_i32_24
  let c0_i32_25 : BitVec 32 := 0#32
  let v41 : BitVec 32 := Scalar.addi v40 c0_i32_25
  let c512_i32_328 : BitVec 32 := 512#32
  let v663 : BitVec 32 := Scalar.muli v41 c512_i32_328
  v663
def k0_mult7 (i : grid0.Coords) : BitVec 32 :=
  let arg1 : BitVec 32 := BitVec.ofNat 32 (i 1).val
  let c2_i32_339 : BitVec 32 := 2#32
  let v680 : BitVec 32 := Scalar.muli arg1 c2_i32_339
  let c1_i32_340 : BitVec 32 := 1#32
  let v681 : BitVec 32 := Scalar.addi v680 c1_i32_340
  let c512_i32_341 : BitVec 32 := 512#32
  let v682 : BitVec 32 := Scalar.muli v681 c512_i32_341
  v682
def k0_mult8 (i : grid0.Coords) : BitVec 32 :=
  let arg1 : BitVec 32 := BitVec.ofNat 32 (i 1).val
  let c2_i32_339 : BitVec 32 := 2#32
  let v680 : BitVec 32 := Scalar.muli arg1 c2_i32_339
  let c1_i32_340 : BitVec 32 := 1#32
  let v681 : BitVec 32 := Scalar.addi v680 c1_i32_340
  let c512_i32_675 : BitVec 32 := 512#32
  let v1303 : BitVec 32 := Scalar.muli v681 c512_i32_675
  v1303
def k0_cond3 (i : grid0.Coords) : BitVec 1 :=
  let arg1 : BitVec 32 := BitVec.ofNat 32 (i 1).val
  let c7_i32 : BitVec 32 := 7#32
  let v1335 : BitVec 1 := Scalar.cmpi .eq arg1 c7_i32
  let v1336 : BitVec 32 := Scalar.extui v1335
  let c0_i32_695 : BitVec 32 := 0#32
  let v1337 : BitVec 1 := Scalar.cmpi .ne v1336 c0_i32_695
  v1337

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8192x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8192x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S8192x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== KernelIdeal.lean ====
variable {F : FTy → Type} [FloatOps F] [Named F]
def κ : String → Option EReal := fun
  | "exp2_scale" => some (((Real.sqrt 192)⁻¹ * (Real.log 2)⁻¹ : ℝ) : EReal)
  | "log2e" => some (((Real.log 2)⁻¹ : ℝ) : EReal)
  | "scale" => some (((Real.sqrt 192)⁻¹ : ℝ) : EReal)
  | _ => none
-- ==== Reference.lean ====
abbrev S16x8192x256 : Shape := ⟨3, ![16, 8192, 256]⟩
abbrev S8192x64 : Shape := ⟨2, ![8192, 64]⟩
abbrev S8192x32 : Shape := ⟨2, ![8192, 32]⟩
abbrev S8192x2048 : Shape := ⟨2, ![8192, 2048]⟩
abbrev S16x8192x128 : Shape := ⟨3, ![16, 8192, 128]⟩
abbrev S16x8192x64 : Shape := ⟨3, ![16, 8192, 64]⟩
abbrev S1x8192x64 : Shape := ⟨3, ![1, 8192, 64]⟩
abbrev S16x8192x8192 : Shape := ⟨3, ![16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S16x8192 : Shape := ⟨2, ![16, 8192]⟩
abbrev S16x8192x1 : Shape := ⟨3, ![16, 8192, 1]⟩
abbrev S16x128x8192 : Shape := ⟨3, ![16, 128, 8192]⟩
abbrev S8192x16x128 : Shape := ⟨3, ![8192, 16, 128]⟩
abbrev S8192x128 : Shape := ⟨2, ![8192, 128]⟩

abbrev nBuf : Space → Nat
  | .hbm => 135
  | .vmem => 0
  | .smem => 0
  | _ => 0

abbrev hbmTy0_0 (i : Nat) : BufTy := match i % 128 with
  | 0 => ⟨S16x8192x256, .f32⟩
  | 1 => ⟨S16x8192x256, .f32⟩
  | 2 => ⟨S8192x64, .f32⟩
  | 3 => ⟨S8192x32, .f32⟩
  | 4 => ⟨S8192x32, .f32⟩
  | 5 => ⟨S8192x2048, .f32⟩
  | 6 => ⟨S16x8192x128, .f32⟩
  | 7 => ⟨S16x8192x64, .f32⟩
  | 8 => ⟨S8192x64, .f32⟩
  | 9 => ⟨S1x8192x64, .f32⟩
  | 10 => ⟨S16x8192x64, .f32⟩
  | 11 => ⟨S16x8192x64, .f32⟩
  | 12 => ⟨S16x8192x64, .f32⟩
  | 13 => ⟨S8192x64, .f32⟩
  | 14 => ⟨S1x8192x64, .f32⟩
  | 15 => ⟨S16x8192x64, .f32⟩
  | 16 => ⟨S16x8192x64, .f32⟩
  | 17 => ⟨S16x8192x64, .f32⟩
  | 18 => ⟨S16x8192x128, .f32⟩
  | 19 => ⟨S16x8192x128, .f32⟩
  | 20 => ⟨S16x8192x8192, .f32⟩
  | 21 => ⟨S16x8192x8192, .f32⟩
  | 22 => ⟨S16x8192x8192, .f32⟩
  | 23 => ⟨S_, .f32⟩
  | 24 => ⟨S_, .f32⟩
  | 25 => ⟨S16x8192x8192, .f32⟩
  | 26 => ⟨S16x8192x8192, .f32⟩
  | 27 => ⟨S8192, .i32⟩
  | 28 => ⟨S_, .i32⟩
  | 29 => ⟨S8192, .i32⟩
  | 30 => ⟨S8192, .i32⟩
  | 31 => ⟨S1x8192, .i32⟩
  | 32 => ⟨S8192x1, .i32⟩
  | 33 => ⟨S8192x8192, .i32⟩
  | 34 => ⟨S8192x8192, .i32⟩
  | 35 => ⟨S8192x8192, .i1⟩
  | 36 => ⟨S1x8192x8192, .i1⟩
  | 37 => ⟨S_, .f32⟩
  | 38 => ⟨S_, .f32⟩
  | 39 => ⟨S16x8192x8192, .i1⟩
  | 40 => ⟨S16x8192x8192, .f32⟩
  | 41 => ⟨S16x8192x8192, .f32⟩
  | 42 => ⟨S_, .f32⟩
  | 43 => ⟨S16x8192x8192, .f32⟩
  | 44 => ⟨S_, .f32⟩
  | 45 => ⟨S16x8192, .f32⟩
  | 46 => ⟨S16x8192x1, .f32⟩
  | 47 => ⟨S16x8192x8192, .f32⟩
  | 48 => ⟨S16x8192x8192, .i1⟩
  | 49 => ⟨S16x8192x8192, .f32⟩
  | 50 => ⟨S_, .f32⟩
  | 51 => ⟨S16x8192, .f32⟩
  | 52 => ⟨S_, .f32⟩
  | 53 => ⟨S16x8192, .f32⟩
  | 54 => ⟨S16x8192, .f32⟩
  | 55 => ⟨S_, .f32⟩
  | 56 => ⟨S16x8192, .f32⟩
  | 57 => ⟨S16x8192, .i1⟩
  | 58 => ⟨S_, .f32⟩
  | 59 => ⟨S16x8192, .f32⟩
  | 60 => ⟨S16x8192, .i1⟩
  | 61 => ⟨S_, .f32⟩
  | 62 => ⟨S16x8192, .f32⟩
  | 63 => ⟨S_, .f32⟩
  | 64 => ⟨S16x8192, .f32⟩
  | 65 => ⟨S_, .f32⟩
  | 66 => ⟨S16x8192, .f32⟩
  | 67 => ⟨S16x8192, .f32⟩
  | 68 => ⟨S16x8192, .f32⟩
  | 69 => ⟨S16x8192x1, .f32⟩
  | 70 => ⟨S16x8192x8192, .f32⟩
  | 71 => ⟨S16x8192x8192, .f32⟩
  | 72 => ⟨S16x8192x8192, .f32⟩
  | 73 => ⟨S_, .f32⟩
  | 74 => ⟨S16x8192, .f32⟩
  | 75 => ⟨S16x8192x1, .f32⟩
  | 76 => ⟨S16x8192x8192, .f32⟩
  | 77 => ⟨S16x8192x8192, .f32⟩
  | 78 => ⟨S16x8192x1, .f32⟩
  | 79 => ⟨S_, .f32⟩
  | 80 => ⟨S16x8192x1, .f32⟩
  | 81 => ⟨S16x8192x1, .f32⟩
  | 82 => ⟨S16x128x8192, .f32⟩
  | 83 => ⟨S8192x16x128, .f32⟩
  | 84 => ⟨S8192x2048, .f32⟩
  | 85 => ⟨S8192x16x128, .f32⟩
  | 86 => ⟨S16x128x8192, .f32⟩
  | 87 => ⟨S16x8192x8192, .f32⟩
  | 88 => ⟨S16x128x8192, .f32⟩
  | 89 => ⟨S16x8192x128, .f32⟩
  | 90 => ⟨S16x8192x8192, .f32⟩
  | 91 => ⟨S16x8192x8192, .f32⟩
  | 92 => ⟨S16x8192x8192, .f32⟩
  | 93 => ⟨S_, .f32⟩
  | 94 => ⟨S16x8192, .f32⟩
  | 95 => ⟨S16x8192x1, .f32⟩
  | 96 => ⟨S16x8192x1, .f32⟩
  | 97 => ⟨S16x8192x8192, .f32⟩
  | 98 => ⟨S16x8192x8192, .f32⟩
  | 99 => ⟨S_, .f32⟩
  | 100 => ⟨S16x8192, .f32⟩
  | 101 => ⟨S16x8192x8192, .f32⟩
  | 102 => ⟨S16x8192x8192, .f32⟩
  | 103 => ⟨S16x8192x8192, .f32⟩
  | 104 => ⟨S_, .f32⟩
  | 105 => ⟨S16x8192x8192, .f32⟩
  | 106 => ⟨S16x8192x8192, .f32⟩
  | 107 => ⟨S16x8192x8192, .f32⟩
  | 108 => ⟨S16x8192x8192, .f32⟩
  | 109 => ⟨S8192x64, .f32⟩
  | 110 => ⟨S16x8192x64, .f32⟩
  | 111 => ⟨S16x8192x128, .f32⟩
  | 112 => ⟨S16x8192x128, .f32⟩
  | 113 => ⟨S_, .f32⟩
  | 114 => ⟨S16x8192x256, .f32⟩
  | 115 => ⟨S_, .f32⟩
  | 116 => ⟨S16x8192x256, .f32⟩
  | 117 => ⟨S16x8192x256, .f32⟩
  | 118 => ⟨S16x8192x64, .f32⟩
  | 119 => ⟨S16x8192x64, .f32⟩
  | 120 => ⟨S_, .f32⟩
  | 121 => ⟨S16x8192x256, .f32⟩
  | 122 => ⟨S16x8192x64, .f32⟩
  | 123 => ⟨S16x8192x64, .f32⟩
  | 124 => ⟨S_, .f32⟩
  | 125 => ⟨S16x8192x256, .f32⟩
  | 126 => ⟨S16x8192x256, .f32⟩
  | 127 => ⟨S_, .f32⟩
  | _ => ⟨S16x8192x256, .f32⟩

abbrev hbmTy0_1 (i : Nat) : BufTy := match i % 128 with
  | 0 => ⟨S16x8192x256, .f32⟩
  | 1 => ⟨S16x8192x256, .f32⟩
  | 2 => ⟨S16x8192x256, .bf16⟩
  | 3 => ⟨S16x8192x256, .bf16⟩
  | 4 => ⟨S_, .f32⟩
  | 5 => ⟨S8192x64, .f32⟩
  | 6 => ⟨S8192x128, .f32⟩
  | _ => ⟨S16x8192x256, .f32⟩

abbrev hbmTy (i : Nat) : BufTy := match i / 128 with
  | 0 => hbmTy0_0 i
  | 1 => hbmTy0_1 i
  | _ => ⟨S16x8192x256, .f32⟩

abbrev bufTy : (tb : Table) → Fin (tcTables nBuf tb) → BufTy
  | .hbm, ⟨i, _⟩ => hbmTy i
  | _, _ => ⟨S16x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_0 : Ref sig .tc := ⟨.hbm, 37, rfl⟩
abbrev main_call0_v0 : Ref sig .tc := ⟨.hbm, 38, rfl⟩
abbrev main_v29_1 : Ref sig .tc := ⟨.hbm, 39, rfl⟩
abbrev main_call0_v2 : Ref sig .tc := ⟨.hbm, 40, rfl⟩
abbrev main_v29_0 : Ref sig .tc := ⟨.hbm, 41, rfl⟩
abbrev main_call0_cst : Ref sig .tc := ⟨.hbm, 42, rfl⟩
abbrev main_v29_2 : Ref sig .tc := ⟨.hbm, 43, rfl⟩
abbrev main_cst_1 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_2 : Ref sig .tc := ⟨.hbm, 50, rfl⟩
abbrev main_v35 : Ref sig .tc := ⟨.hbm, 51, rfl⟩
abbrev main_cst_3 : Ref sig .tc := ⟨.hbm, 52, rfl⟩
abbrev main_v36 : Ref sig .tc := ⟨.hbm, 53, rfl⟩
abbrev main_v37 : Ref sig .tc := ⟨.hbm, 54, rfl⟩
abbrev main_cst_4 : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_v40 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_11 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_12 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_call1_cst : Ref sig .tc := ⟨.hbm, 104, rfl⟩
abbrev main_call1_v0 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_13 : Ref sig .tc := ⟨.hbm, 113, rfl⟩
abbrev main_v85 : Ref sig .tc := ⟨.hbm, 114, rfl⟩
abbrev main_cst_14 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_15 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_16 : Ref sig .tc := ⟨.hbm, 124, rfl⟩
abbrev main_v93 : Ref sig .tc := ⟨.hbm, 125, rfl⟩
abbrev main_v94 : Ref sig .tc := ⟨.hbm, 126, rfl⟩
abbrev main_cst_17 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_cst_18 : Ref sig .tc := ⟨.hbm, 132, rfl⟩
abbrev main_v99 : Ref sig .tc := ⟨.hbm, 133, rfl⟩
abbrev main_v100 : Ref sig .tc := ⟨.hbm, 134, rfl⟩

abbrev nD : Nat := 1
abbrev τ : Topo := Topo.v7x

variable {F : FTy → Type} [FloatOps F]
-- ==== WeightGrad.lean ====
abbrev S8192x2048 : Shape := ⟨2, ![8192, 2048]⟩
abbrev S2048x11520 : Shape := ⟨2, ![2048, 11520]⟩
abbrev S8192x11520 : Shape := ⟨2, ![8192, 11520]⟩
abbrev S2048x1024 : Shape := ⟨2, ![2048, 1024]⟩
abbrev S2048x1280 : Shape := ⟨2, ![2048, 1280]⟩
abbrev S1024x1280 : Shape := ⟨2, ![1024, 1280]⟩
abbrev S1024x2048 : Shape := ⟨2, ![1024, 2048]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x11520, .f32⟩
  | .hbm, ⟨2, _⟩ => ⟨S8192x11520, .f32⟩
  | .hbm, ⟨3, _⟩ => ⟨S8192x2048, .bf16⟩
  | .hbm, ⟨4, _⟩ => ⟨S8192x11520, .bf16⟩
  | .hbm, ⟨5, _⟩ => ⟨S2048x11520, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1280, .bf16⟩
  | .local _ .vmem, ⟨3, _⟩ => ⟨S2048x1280, .bf16⟩
  | .local _ .vmem, ⟨4, _⟩ => ⟨S1024x1280, .bf16⟩
  | .local _ .vmem, ⟨5, _⟩ => ⟨S1024x1280, .bf16⟩
  | .local _ .vmem, ⟨6, _⟩ => ⟨S1024x1280, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 9, 4], ![false, false, false]⟩

def k0_cond3 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WeightGradRefIdeal.lean ====
abbrev S8192x2048 : Shape := ⟨2, ![8192, 2048]⟩
abbrev S2048x11520 : Shape := ⟨2, ![2048, 11520]⟩
abbrev S8192x11520 : Shape := ⟨2, ![8192, 11520]⟩
abbrev S11520x2048 : Shape := ⟨2, ![11520, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x11520, .f32⟩
  | .hbm, ⟨2, _⟩ => ⟨S8192x11520, .f32⟩
  | .hbm, ⟨3, _⟩ => ⟨S8192x11520, .f32⟩
  | .hbm, ⟨4, _⟩ => ⟨S11520x2048, .f32⟩
  | .hbm, ⟨5, _⟩ => ⟨S2048x11520, .f32⟩
  | .hbm, ⟨6, _⟩ => ⟨S2048x11520, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== WeightGradRef.lean ====
abbrev S8192x2048 : Shape := ⟨2, ![8192, 2048]⟩
abbrev S2048x11520 : Shape := ⟨2, ![2048, 11520]⟩
abbrev S8192x11520 : Shape := ⟨2, ![8192, 11520]⟩
abbrev S11520x2048 : Shape := ⟨2, ![11520, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x11520, .f32⟩
  | .hbm, ⟨2, _⟩ => ⟨S8192x11520, .f32⟩
  | .hbm, ⟨3, _⟩ => ⟨S8192x11520, .f32⟩
  | .hbm, ⟨4, _⟩ => ⟨S11520x2048, .f32⟩
  | .hbm, ⟨5, _⟩ => ⟨S2048x11520, .f32⟩
  | .hbm, ⟨6, _⟩ => ⟨S2048x11520, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== RowGrad.lean ====
abbrev S8192x2048 : Shape := ⟨2, ![8192, 2048]⟩
abbrev S2048x11520 : Shape := ⟨2, ![2048, 11520]⟩
abbrev S8192x11520 : Shape := ⟨2, ![8192, 11520]⟩
abbrev S1024x2304 : Shape := ⟨2, ![1024, 2304]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x11520, .f32⟩
  | .hbm, ⟨2, _⟩ => ⟨S8192x11520, .f32⟩
  | .hbm, ⟨3, _⟩ => ⟨S8192x11520, .bf16⟩
  | .hbm, ⟨4, _⟩ => ⟨S2048x11520, .bf16⟩
  | .hbm, ⟨5, _⟩ => ⟨S8192x2048, .f32⟩
  | .local _ .vmem, ⟨0, _⟩ => ⟨S1024x2304, .bf16⟩
  | .local _ .vmem, ⟨1, _⟩ => ⟨S1024x2304, .bf16⟩
  | .local _ .vmem, ⟨2, _⟩ => ⟨S1024x2304, .bf16⟩
  | .local _ .vmem, ⟨3, _⟩ => ⟨S1024x2304, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 5], ![false, false, false]⟩

def k0_cond3 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RowGradRefIdeal.lean ====
abbrev S8192x2048 : Shape := ⟨2, ![8192, 2048]⟩
abbrev S2048x11520 : Shape := ⟨2, ![2048, 11520]⟩
abbrev S8192x11520 : Shape := ⟨2, ![8192, 11520]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x11520, .f32⟩
  | .hbm, ⟨2, _⟩ => ⟨S8192x11520, .f32⟩
  | .hbm, ⟨3, _⟩ => ⟨S8192x11520, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== RowGradRef.lean ====
abbrev S8192x2048 : Shape := ⟨2, ![8192, 2048]⟩
abbrev S2048x11520 : Shape := ⟨2, ![2048, 11520]⟩
abbrev S8192x11520 : Shape := ⟨2, ![8192, 11520]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x11520, .f32⟩
  | .hbm, ⟨2, _⟩ => ⟨S8192x11520, .f32⟩
  | .hbm, ⟨3, _⟩ => ⟨S8192x11520, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== In.lean ====
abbrev S8192x2048 : Shape := ⟨2, ![8192, 2048]⟩
abbrev S2048x11520 : Shape := ⟨2, ![2048, 11520]⟩
abbrev S8192x11520 : Shape := ⟨2, ![8192, 11520]⟩
abbrev S1024x2048 : Shape := ⟨2, ![1024, 2048]⟩
abbrev S2048x1280 : Shape := ⟨2, ![2048, 1280]⟩
abbrev S1024x1280 : Shape := ⟨2, ![1024, 1280]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x11520, .f32⟩
  | .hbm, ⟨2, _⟩ => ⟨S8192x2048, .bf16⟩
  | .hbm, ⟨3, _⟩ => ⟨S2048x11520, .bf16⟩
  | .hbm, ⟨4, _⟩ => ⟨S8192x11520, .f32⟩
  | .local _ .vmem, ⟨0, _⟩ => ⟨S1024x2048, .bf16⟩
  | .local _ .vmem, ⟨1, _⟩ => ⟨S1024x2048, .bf16⟩
  | .local _ .vmem, ⟨2, _⟩ => ⟨S2048x1280, .bf16⟩
  | .local _ .vmem, ⟨3, _⟩ => ⟨S2048x1280, .bf16⟩
  | .local _ .vmem, ⟨4, _⟩ => ⟨S1024x1280, .f32⟩
  | .local _ .vmem, ⟨5, _⟩ => ⟨S1024x1280, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRefIdeal.lean ====
abbrev S8192x2048 : Shape := ⟨2, ![8192, 2048]⟩
abbrev S2048x11520 : Shape := ⟨2, ![2048, 11520]⟩
abbrev S8192x11520 : Shape := ⟨2, ![8192, 11520]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x11520, .f32⟩
  | .hbm, ⟨2, _⟩ => ⟨S8192x11520, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== InRef.lean ====
abbrev S8192x2048 : Shape := ⟨2, ![8192, 2048]⟩
abbrev S2048x11520 : Shape := ⟨2, ![2048, 11520]⟩
abbrev S8192x11520 : Shape := ⟨2, ![8192, 11520]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x11520, .f32⟩
  | .hbm, ⟨2, _⟩ => ⟨S8192x11520, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Branch.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .bf16⟩
  | .hbm, ⟨3, _⟩ => ⟨S2048x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchRefIdeal.lean ====
abbrev S8192x2048 : Shape := ⟨2, ![8192, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== BranchRef.lean ====
abbrev S8192x2048 : Shape := ⟨2, ![8192, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== BranchWeight.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩
abbrev S1024x2048 : Shape := ⟨2, ![1024, 2048]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S8192x2048, .bf16⟩
  | .hbm, ⟨5, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SquareWeightRefIdeal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== SquareWeightRef.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutWeight.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩
abbrev S1024x2048 : Shape := ⟨2, ![1024, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchRow.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S2048x2048, .bf16⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SquareRowRef.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== OutRow.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S2048x2048, .bf16⟩
  | .hbm, ⟨4, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Out.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S2048x2048, .bf16⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutRef.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Query.lean ====
abbrev S8192x512 : Shape := ⟨2, ![8192, 512]⟩
abbrev S512x4096 : Shape := ⟨2, ![512, 4096]⟩
abbrev S16x8192x256 : Shape := ⟨3, ![16, 8192, 256]⟩
abbrev S1024x512 : Shape := ⟨2, ![1024, 512]⟩
abbrev S512x1024 : Shape := ⟨2, ![512, 1024]⟩
abbrev S4x1024x256 : Shape := ⟨3, ![4, 1024, 256]⟩
abbrev S1024x1024 : Shape := ⟨2, ![1024, 1024]⟩
abbrev S1024x256 : Shape := ⟨2, ![1024, 256]⟩
abbrev S1x1024x256 : Shape := ⟨3, ![1, 1024, 256]⟩

abbrev nBuf : Space → Nat
  | .hbm => 5
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x4096, .f32⟩
  | .hbm, ⟨2, _⟩ => ⟨S8192x512, .bf16⟩
  | .hbm, ⟨3, _⟩ => ⟨S512x4096, .bf16⟩
  | .hbm, ⟨4, _⟩ => ⟨S16x8192x256, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S4x1024x256, .f32⟩
  | .local _ .vmem, ⟨5, _⟩ => ⟨S4x1024x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryRef.lean ====
abbrev S8192x512 : Shape := ⟨2, ![8192, 512]⟩
abbrev S512x4096 : Shape := ⟨2, ![512, 4096]⟩
abbrev S8192x4096 : Shape := ⟨2, ![8192, 4096]⟩
abbrev S8192x16x256 : Shape := ⟨3, ![8192, 16, 256]⟩
abbrev S16x8192x256 : Shape := ⟨3, ![16, 8192, 256]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x4096, .f32⟩
  | .hbm, ⟨2, _⟩ => ⟨S8192x4096, .f32⟩
  | .hbm, ⟨3, _⟩ => ⟨S8192x16x256, .f32⟩
  | .hbm, ⟨4, _⟩ => ⟨S16x8192x256, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KeyValue.lean ====
abbrev S8192x512 : Shape := ⟨2, ![8192, 512]⟩
abbrev S512x4096 : Shape := ⟨2, ![512, 4096]⟩
abbrev S16x8192x256 : Shape := ⟨3, ![16, 8192, 256]⟩
abbrev S1024x512 : Shape := ⟨2, ![1024, 512]⟩
abbrev S512x1024 : Shape := ⟨2, ![512, 1024]⟩
abbrev S4x1024x256 : Shape := ⟨3, ![4, 1024, 256]⟩
abbrev S1024x1024 : Shape := ⟨2, ![1024, 1024]⟩
abbrev S1024x256 : Shape := ⟨2, ![1024, 256]⟩
abbrev S1x1024x256 : Shape := ⟨3, ![1, 1024, 256]⟩

abbrev nBuf : Space → Nat
  | .hbm => 5
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x4096, .f32⟩
  | .hbm, ⟨2, _⟩ => ⟨S8192x512, .bf16⟩
  | .hbm, ⟨3, _⟩ => ⟨S512x4096, .bf16⟩
  | .hbm, ⟨4, _⟩ => ⟨S16x8192x256, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S4x1024x256, .bf16⟩
  | .local _ .vmem, ⟨5, _⟩ => ⟨S4x1024x256, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KeyValueRef.lean ====
abbrev S8192x512 : Shape := ⟨2, ![8192, 512]⟩
abbrev S512x4096 : Shape := ⟨2, ![512, 4096]⟩
abbrev S8192x4096 : Shape := ⟨2, ![8192, 4096]⟩
abbrev S8192x16x256 : Shape := ⟨3, ![8192, 16, 256]⟩
abbrev S16x8192x256 : Shape := ⟨3, ![16, 8192, 256]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x4096, .f32⟩
  | .hbm, ⟨2, _⟩ => ⟨S8192x4096, .f32⟩
  | .hbm, ⟨3, _⟩ => ⟨S8192x16x256, .f32⟩
  | .hbm, ⟨4, _⟩ => ⟨S16x8192x256, .f32⟩
  | .hbm, ⟨5, _⟩ => ⟨S16x8192x256, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== QueryWeight.lean ====
abbrev S8192x512 : Shape := ⟨2, ![8192, 512]⟩
abbrev S512x4096 : Shape := ⟨2, ![512, 4096]⟩
abbrev S16x8192x256 : Shape := ⟨3, ![16, 8192, 256]⟩
abbrev S2048x512 : Shape := ⟨2, ![2048, 512]⟩
abbrev S4x2048x256 : Shape := ⟨3, ![4, 2048, 256]⟩
abbrev S512x1024 : Shape := ⟨2, ![512, 1024]⟩
abbrev S1x2048x256 : Shape := ⟨3, ![1, 2048, 256]⟩
abbrev S2048x256 : Shape := ⟨2, ![2048, 256]⟩
abbrev S2048x1024 : Shape := ⟨2, ![2048, 1024]⟩
abbrev S512x2048 : Shape := ⟨2, ![512, 2048]⟩

abbrev nBuf : Space → Nat
  | .hbm => 6
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S512x4096, .f32⟩
  | .hbm, ⟨2, _⟩ => ⟨S16x8192x256, .f32⟩
  | .hbm, ⟨3, _⟩ => ⟨S8192x512, .bf16⟩
  | .hbm, ⟨4, _⟩ => ⟨S16x8192x256, .bf16⟩
  | .hbm, ⟨5, _⟩ => ⟨S512x4096, .bf16⟩
  | .local _ .vmem, ⟨0, _⟩ => ⟨S2048x512, .bf16⟩
  | .local _ .vmem, ⟨1, _⟩ => ⟨S2048x512, .bf16⟩
  | .local _ .vmem, ⟨2, _⟩ => ⟨S4x2048x256, .bf16⟩
  | .local _ .vmem, ⟨3, _⟩ => ⟨S4x2048x256, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_13 : BitVec 32 := 0#32
  let v21 : BitVec 1 := Scalar.cmpi .ne v20 c0_i32_13
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryWeightRef.lean ====
abbrev S8192x512 : Shape := ⟨2, ![8192, 512]⟩
abbrev S512x4096 : Shape := ⟨2, ![512, 4096]⟩
abbrev S16x8192x256 : Shape := ⟨3, ![16, 8192, 256]⟩
abbrev S8192x4096 : Shape := ⟨2, ![8192, 4096]⟩
abbrev S8192x16x256 : Shape := ⟨3, ![8192, 16, 256]⟩
abbrev S4096x512 : Shape := ⟨2, ![4096, 512]⟩

abbrev nBuf : Space → Nat
  | .hbm => 11
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x4096, .f32⟩
  | .hbm, ⟨2, _⟩ => ⟨S16x8192x256, .f32⟩
  | .hbm, ⟨3, _⟩ => ⟨S8192x4096, .f32⟩
  | .hbm, ⟨4, _⟩ => ⟨S8192x16x256, .f32⟩
  | .hbm, ⟨5, _⟩ => ⟨S16x8192x256, .f32⟩
  | .hbm, ⟨6, _⟩ => ⟨S8192x16x256, .f32⟩
  | .hbm, ⟨7, _⟩ => ⟨S8192x4096, .f32⟩
  | .hbm, ⟨8, _⟩ => ⟨S4096x512, .f32⟩
  | .hbm, ⟨9, _⟩ => ⟨S512x4096, .f32⟩
  | .hbm, ⟨10, _⟩ => ⟨S512x4096, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== QueryRow.lean ====
abbrev S8192x512 : Shape := ⟨2, ![8192, 512]⟩
abbrev S512x4096 : Shape := ⟨2, ![512, 4096]⟩
abbrev S16x8192x256 : Shape := ⟨3, ![16, 8192, 256]⟩
abbrev S8x1024x256 : Shape := ⟨3, ![8, 1024, 256]⟩
abbrev S512x2048 : Shape := ⟨2, ![512, 2048]⟩
abbrev S1024x512 : Shape := ⟨2, ![1024, 512]⟩
abbrev S1x1024x256 : Shape := ⟨3, ![1, 1024, 256]⟩
abbrev S1024x256 : Shape := ⟨2, ![1024, 256]⟩
abbrev S1024x2048 : Shape := ⟨2, ![1024, 2048]⟩

abbrev nBuf : Space → Nat
  | .hbm => 6
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S512x4096, .f32⟩
  | .hbm, ⟨2, _⟩ => ⟨S16x8192x256, .f32⟩
  | .hbm, ⟨3, _⟩ => ⟨S16x8192x256, .bf16⟩
  | .hbm, ⟨4, _⟩ => ⟨S512x4096, .bf16⟩
  | .hbm, ⟨5, _⟩ => ⟨S8192x512, .f32⟩
  | .local _ .vmem, ⟨0, _⟩ => ⟨S8x1024x256, .bf16⟩
  | .local _ .vmem, ⟨1, _⟩ => ⟨S8x1024x256, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v26 : BitVec 1 := Scalar.cmpi .eq arg2 c1_i32
  let v27 : BitVec 32 := Scalar.extui v26
  let c0_i32_21 : BitVec 32 := 0#32
  let v28 : BitVec 1 := Scalar.cmpi .ne v27 c0_i32_21
  v28

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryRowRef.lean ====
abbrev S8192x512 : Shape := ⟨2, ![8192, 512]⟩
abbrev S512x4096 : Shape := ⟨2, ![512, 4096]⟩
abbrev S16x8192x256 : Shape := ⟨3, ![16, 8192, 256]⟩
abbrev S8192x4096 : Shape := ⟨2, ![8192, 4096]⟩
abbrev S8192x16x256 : Shape := ⟨3, ![8192, 16, 256]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x4096, .f32⟩
  | .hbm, ⟨2, _⟩ => ⟨S16x8192x256, .f32⟩
  | .hbm, ⟨3, _⟩ => ⟨S8192x4096, .f32⟩
  | .hbm, ⟨4, _⟩ => ⟨S8192x16x256, .f32⟩
  | .hbm, ⟨5, _⟩ => ⟨S16x8192x256, .f32⟩
  | .hbm, ⟨6, _⟩ => ⟨S8192x16x256, .f32⟩
  | .hbm, ⟨7, _⟩ => ⟨S8192x4096, .f32⟩
  | .hbm, ⟨8, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Embed.lean ====
abbrev S8192x256 : Shape := ⟨2, ![8192, 256]⟩
abbrev S256x2048 : Shape := ⟨2, ![256, 2048]⟩
abbrev S8192x2048 : Shape := ⟨2, ![8192, 2048]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S256x2048, .f32⟩
  | .hbm, ⟨2, _⟩ => ⟨S256x2048, .bf16⟩
  | .hbm, ⟨3, _⟩ => ⟨S8192x2048, .f32⟩
  | .local _ .vmem, ⟨0, _⟩ => ⟨S1024x256, .f32⟩
  | .local _ .vmem, ⟨1, _⟩ => ⟨S1024x256, .f32⟩
  | .local _ .vmem, ⟨2, _⟩ => ⟨S256x1024, .bf16⟩
  | .local _ .vmem, ⟨3, _⟩ => ⟨S256x1024, .bf16⟩
  | .local _ .vmem, ⟨4, _⟩ => ⟨S1024x1024, .f32⟩
  | .local _ .vmem, ⟨5, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EmbedRef.lean ====
abbrev S8192x256 : Shape := ⟨2, ![8192, 256]⟩
abbrev S256x2048 : Shape := ⟨2, ![256, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x2048, .f32⟩
  | .hbm, ⟨2, _⟩ => ⟨S8192x2048, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== EmbedWeight.lean ====
abbrev S8192x256 : Shape := ⟨2, ![8192, 256]⟩
abbrev S256x2048 : Shape := ⟨2, ![256, 2048]⟩
abbrev S8192x2048 : Shape := ⟨2, ![8192, 2048]⟩
abbrev S2048x256 : Shape := ⟨2, ![2048, 256]⟩
abbrev S2048x1024 : Shape := ⟨2, ![2048, 1024]⟩
abbrev S256x1024 : Shape := ⟨2, ![256, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S256x2048, .f32⟩
  | .hbm, ⟨2, _⟩ => ⟨S8192x2048, .f32⟩
  | .hbm, ⟨3, _⟩ => ⟨S8192x2048, .bf16⟩
  | .hbm, ⟨4, _⟩ => ⟨S256x2048, .bf16⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EmbedWeightRef.lean ====
abbrev S8192x256 : Shape := ⟨2, ![8192, 256]⟩
abbrev S256x2048 : Shape := ⟨2, ![256, 2048]⟩
abbrev S8192x2048 : Shape := ⟨2, ![8192, 2048]⟩
abbrev S2048x256 : Shape := ⟨2, ![2048, 256]⟩

abbrev nBuf : Space → Nat
  | .hbm => 7
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x2048, .f32⟩
  | .hbm, ⟨2, _⟩ => ⟨S8192x2048, .f32⟩
  | .hbm, ⟨3, _⟩ => ⟨S8192x2048, .f32⟩
  | .hbm, ⟨4, _⟩ => ⟨S2048x256, .f32⟩
  | .hbm, ⟨5, _⟩ => ⟨S256x2048, .f32⟩
  | .hbm, ⟨6, _⟩ => ⟨S256x2048, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Trip.lean ====
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The algebra of the run: the pipeline library's, with no counters of the kernel's own. -/
abbrev UU (nD : Nat) (τ : Topo) : Type := UR sig nD τ
abbrev 𝒱₀ : Variants := Variants.none
local notation "𝕄" => MT nD τ sig Unit (Elt F) ℕ (UU nD τ) ℕ

/-- `g k`, with `f` spelt for `g 0`: so that the loop's entry shows the contents it starts from. -/
@[reducible] def from0 {α : Type*} (f : α) (g : ℕ → α) (k : ℕ) : α := Nat.rec f (fun j _ => g (j + 1)) k
theorem from0_eq {α : Type*} (f : α) (g : ℕ → α) (h : g 0 = f) (k : ℕ) : from0 f g k = g k := by
  cases k with
  | zero => exact h.symm
  | succ k => rfl
theorem from0_succ {α : Type*} (f : α) (g : ℕ → α) (k : ℕ) : from0 f g (k + 1) = g (k + 1) := rfl

section Trip

variable (c : Dev nD) (i : grid0.Coords)
  (arg2 : Memref sig .tc .vmem S1x1024x256 .bf16) (harg2 : arg2.IsWhole)
  (arg3 : Memref sig .tc .vmem S1x8192x256 .bf16) (harg3 : arg3.IsWhole)
  (arg4 : Memref sig .tc .vmem S8192x128 .bf16) (harg4 : arg4.IsWhole)
  (arg5 : Memref sig .tc .vmem S1024x128 .f32) (harg5 : arg5.IsWhole)
  (arg6 : Memref sig .tc .vmem S1024x128 .f32) (harg6 : arg6.IsWhole)
  (arg7 : Memref sig .tc .vmem S1x1024x128 .f32) (harg7 : arg7.IsWhole)
  (arg8 : Memref sig .tc .vmem S1024x128 .f32) (harg8 : arg8.IsWhole)
  (arg9 : Memref sig .tc .vmem S1x1024x256 .bf16) (harg9 : arg9.IsWhole)
  (arg10 : Memref sig .tc .vmem S1x8192x256 .bf16) (harg10 : arg10.IsWhole)
  (arg11 : Memref sig .tc .vmem S8192x128 .f32) (harg11 : arg11.IsWhole)
  (arg12 : Memref sig .tc .vmem S8192x256 .f32) (harg12 : arg12.IsWhole)
  (arg13 : Memref sig .tc .vmem S8192x128 .f32) (harg13 : arg13.IsWhole)
  (arg14 : Memref sig .tc .vmem S1024x512 .f32) (harg14 : arg14.IsWhole)
  (arg15 : Memref sig .tc .vmem S1024x512 .f32) (harg15 : arg15.IsWhole)
  (arg16 : Memref sig .tc .vmem S1024x512 .bf16) (harg16 : arg16.IsWhole)
  (arg17 : Memref sig .tc .vmem S1024x512 .bf16) (harg17 : arg17.IsWhole)
  (arg18 : Memref sig .tc .vmem S1024x128 .f32) (harg18 : arg18.IsWhole)
  (arg19 : Memref sig .tc .vmem S1024x128 .f32) (harg19 : arg19.IsWhole)
  (arg20 : Memref sig .tc .vmem S1024x128 .bf16) (harg20 : arg20.IsWhole)
  (arg21 : Memref sig .tc .vmem S1024x256 .f32) (harg21 : arg21.IsWhole)
variable (arg1 : BitVec 32) (v30 : FVec F S1024x256 .f32)

/-- What a trip of the loop over the key blocks holds: the staged blocks and the row statistics it reads,
    at their contents; the two running sums over the queries and the block's own sum, at theirs; the four
    tiles it fills and reads back, at anything. -/
abbrev tripRes (f2 : Buf (Elt F) (arg2.view.loc (c : Thread nD τ))) (f3 : Buf (Elt F) (arg3.view.loc (c : Thread nD τ)))
    (f4 : Buf (Elt F) (arg4.view.loc (c : Thread nD τ))) (f18 : Buf (Elt F) (arg18.view.loc (c : Thread nD τ)))
    (f19 : Buf (Elt F) (arg19.view.loc (c : Thread nD τ))) (f20 : Buf (Elt F) (arg20.view.loc (c : Thread nD τ)))
    (f12 : Buf (Elt F) (arg12.view.loc (c : Thread nD τ))) (f13 : Buf (Elt F) (arg13.view.loc (c : Thread nD τ)))
    (f21 : Buf (Elt F) (arg21.view.loc (c : Thread nD τ))) : sProp 𝕄 :=
  iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg12.view.loc (c : Thread nD τ) ↦[arg12.view.set]{fullShare} f12) ∗ (arg13.view.loc (c : Thread nD τ) ↦[arg13.view.set]{fullShare} f13) ∗ (arg21.view.loc (c : Thread nD τ) ↦[arg21.view.set]{fullShare} f21) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)))

set_option maxHeartbeats 4000000 in
set_option backward.proofsInPublic true in
/-- ONE TRIP over a full key block: what it stores into the three sums, found by the run. -/
def tripRun (k : Fin (k0_t1_loop i).trips) (f2 : Buf (Elt F) (arg2.view.loc (c : Thread nD τ))) (f3 : Buf (Elt F) (arg3.view.loc (c : Thread nD τ)))
    (f4 : Buf (Elt F) (arg4.view.loc (c : Thread nD τ))) (f18 : Buf (Elt F) (arg18.view.loc (c : Thread nD τ)))
    (f19 : Buf (Elt F) (arg19.view.loc (c : Thread nD τ))) (f20 : Buf (Elt F) (arg20.view.loc (c : Thread nD τ)))
    (f12 : Buf (Elt F) (arg12.view.loc (c : Thread nD τ))) (f13 : Buf (Elt F) (arg13.view.loc (c : Thread nD τ)))
    (f21 : Buf (Elt F) (arg21.view.loc (c : Thread nD τ))) :
    { w : List (View.Piece (Elt F) S8192x256 .f32) × List (View.Piece (Elt F) S8192x128 .f32) × List (View.Piece (Elt F) S1024x256 .f32) //
      tripRes c arg2 arg3 arg4 arg12 arg13 arg14 arg15 arg16 arg17 arg18 arg19 arg20 arg21 f2 f3 f4 f18 f19 f20 f12 f13 f21
      ⊢ wp frame (wpE (defs₀ (F := F)) 𝒱₀ (c : Thread nD τ) none) Set.univ
          (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v30 k ())
          (fun _ => tripRes c arg2 arg3 arg4 arg12 arg13 arg14 arg15 arg16 arg17 arg18 arg19 arg20 arg21 f2 f3 f4 f18 f19 f20
            (arg12.view.writes (Elt F) f12 w.1) (arg13.view.writes (Elt F) f13 w.2.1) (arg21.view.writes (Elt F) f21 w.2.2)) } := by
  refine ⟨(?w12, ?w13, ?w21), ?run⟩
  case run =>
    unfold tripRes
    iintro ⟨H2, H3, H4, H18, H19, H20, H12, H13, H21, ⟨%f14, H14⟩, ⟨%f15, H15⟩, ⟨%f16, H16⟩, ⟨%f17, H17⟩⟩
    sl_unfold [k0_t1_body]
    sl_exec_parts
    sl_step
    isplitl [H2]; · iexact H2
    isplitl [H3]; · iexact H3
    isplitl [H4]; · iexact H4
    isplitl [H18]; · iexact H18
    isplitl [H19]; · iexact H19
    isplitl [H20]; · iexact H20
    isplitl [H12]; · iexact H12
    isplitl [H13]; · iexact H13
    isplitl [H21]; · iexact H21
    isplitl [H14]; · iexists _; iexact H14
    isplitl [H15]; · iexists _; iexact H15
    isplitl [H16]; · iexists _; iexact H16
    iexists _; iexact H17

/-- The three sums before trip `k`: from their contents at the loop's entry, each trip's stores on top. -/
def sums (f2 : Buf (Elt F) (arg2.view.loc (c : Thread nD τ))) (f3 : Buf (Elt F) (arg3.view.loc (c : Thread nD τ))) (f4 : Buf (Elt F) (arg4.view.loc (c : Thread nD τ))) (f18 : Buf (Elt F) (arg18.view.loc (c : Thread nD τ))) (f19 : Buf (Elt F) (arg19.view.loc (c : Thread nD τ))) (f20 : Buf (Elt F) (arg20.view.loc (c : Thread nD τ))) (f12 : Buf (Elt F) (arg12.view.loc (c : Thread nD τ))) (f13 : Buf (Elt F) (arg13.view.loc (c : Thread nD τ))) (f21 : Buf (Elt F) (arg21.view.loc (c : Thread nD τ))) :
    ℕ → Buf (Elt F) (arg12.view.loc (c : Thread nD τ)) × Buf (Elt F) (arg13.view.loc (c : Thread nD τ)) × Buf (Elt F) (arg21.view.loc (c : Thread nD τ))
  | 0 => (f12, f13, f21)
  | k + 1 =>
    if h : k < (k0_t1_loop i).trips then
      let a := sums f2 f3 f4 f18 f19 f20 f12 f13 f21 k
      let w := (tripRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v30 ⟨k, h⟩ f2 f3 f4 f18 f19 f20 a.1 a.2.1 a.2.2).1
      (arg12.view.writes (Elt F) a.1 w.1, arg13.view.writes (Elt F) a.2.1 w.2.1, arg21.view.writes (Elt F) a.2.2 w.2.2)
    else sums f2 f3 f4 f18 f19 f20 f12 f13 f21 k

theorem sums_succ (f2 : Buf (Elt F) (arg2.view.loc (c : Thread nD τ))) (f3 : Buf (Elt F) (arg3.view.loc (c : Thread nD τ))) (f4 : Buf (Elt F) (arg4.view.loc (c : Thread nD τ))) (f18 : Buf (Elt F) (arg18.view.loc (c : Thread nD τ))) (f19 : Buf (Elt F) (arg19.view.loc (c : Thread nD τ))) (f20 : Buf (Elt F) (arg20.view.loc (c : Thread nD τ))) (f12 : Buf (Elt F) (arg12.view.loc (c : Thread nD τ))) (f13 : Buf (Elt F) (arg13.view.loc (c : Thread nD τ))) (f21 : Buf (Elt F) (arg21.view.loc (c : Thread nD τ))) (k : Fin (k0_t1_loop i).trips) :
    sums c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v30 f2 f3 f4 f18 f19 f20 f12 f13 f21 (k.val + 1)
      = (fun a : Buf (Elt F) (arg12.view.loc (c : Thread nD τ)) × Buf (Elt F) (arg13.view.loc (c : Thread nD τ)) × Buf (Elt F) (arg21.view.loc (c : Thread nD τ)) =>
          (fun w : List (View.Piece (Elt F) S8192x256 .f32) × List (View.Piece (Elt F) S8192x128 .f32) × List (View.Piece (Elt F) S1024x256 .f32) =>
            (arg12.view.writes (Elt F) a.1 w.1, arg13.view.writes (Elt F) a.2.1 w.2.1, arg21.view.writes (Elt F) a.2.2 w.2.2))
          (tripRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v30 k f2 f3 f4 f18 f19 f20 a.1 a.2.1 a.2.2).1) (sums c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v30 f2 f3 f4 f18 f19 f20 f12 f13 f21 k.val) := by
  rw [sums, dif_pos k.isLt]

set_option warn.classDefReducibility false in
/-- The invariant of the loop over the full key blocks: the three sums of the trips before `k`. -/
@[sl_loop] def loopInv1 (f2 : Buf (Elt F) (arg2.view.loc (c : Thread nD τ))) (f3 : Buf (Elt F) (arg3.view.loc (c : Thread nD τ))) (f4 : Buf (Elt F) (arg4.view.loc (c : Thread nD τ))) (f18 : Buf (Elt F) (arg18.view.loc (c : Thread nD τ))) (f19 : Buf (Elt F) (arg19.view.loc (c : Thread nD τ))) (f20 : Buf (Elt F) (arg20.view.loc (c : Thread nD τ))) (f12 : Buf (Elt F) (arg12.view.loc (c : Thread nD τ))) (f13 : Buf (Elt F) (arg13.view.loc (c : Thread nD τ))) (f21 : Buf (Elt F) (arg21.view.loc (c : Thread nD τ))) :
    LoopInvTy_k0_t1 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v30 where
  inv k _ := tripRes c arg2 arg3 arg4 arg12 arg13 arg14 arg15 arg16 arg17 arg18 arg19 arg20 arg21 f2 f3 f4 f18 f19 f20 (from0 f12 (fun k => (sums c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v30 f2 f3 f4 f18 f19 f20 f12 f13 f21 k).1) k)
    (from0 f13 (fun k => (sums c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v30 f2 f3 f4 f18 f19 f20 f12 f13 f21 k).2.1) k) (from0 f21 (fun k => (sums c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v30 f2 f3 f4 f18 f19 f20 f12 f13 f21 k).2.2) k)
  step k u := by
    cases u
    rw [from0_succ, from0_succ, from0_succ, from0_eq f12 (fun k => (sums c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v30 f2 f3 f4 f18 f19 f20 f12 f13 f21 k).1) rfl,
      from0_eq f13 (fun k => (sums c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v30 f2 f3 f4 f18 f19 f20 f12 f13 f21 k).2.1) rfl, from0_eq f21 (fun k => (sums c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v30 f2 f3 f4 f18 f19 f20 f12 f13 f21 k).2.2) rfl]
    rw [sums_succ]
    generalize sums c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v30 f2 f3 f4 f18 f19 f20 f12 f13 f21 k.val = a
    dsimp only
    generalize tripRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v30 k f2 f3 f4 f18 f19 f20 a.1 a.2.1 a.2.2 = r
    exact r.2

set_option warn.classDefReducibility false in
/-- The remainder loop makes no trip. -/
@[sl_loop] def loopInv2 (v39 : BitVec 32) (f2 : Buf (Elt F) (arg2.view.loc (c : Thread nD τ))) (f3 : Buf (Elt F) (arg3.view.loc (c : Thread nD τ))) (f4 : Buf (Elt F) (arg4.view.loc (c : Thread nD τ))) (f18 : Buf (Elt F) (arg18.view.loc (c : Thread nD τ))) (f19 : Buf (Elt F) (arg19.view.loc (c : Thread nD τ))) (f20 : Buf (Elt F) (arg20.view.loc (c : Thread nD τ))) (f12 : Buf (Elt F) (arg12.view.loc (c : Thread nD τ))) (f13 : Buf (Elt F) (arg13.view.loc (c : Thread nD τ))) (f21 : Buf (Elt F) (arg21.view.loc (c : Thread nD τ))) :
    LoopInvTy_k0_t2 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v30 v39 where
  inv _ _ := tripRes c arg2 arg3 arg4 arg12 arg13 arg14 arg15 arg16 arg17 arg18 arg19 arg20 arg21 f2 f3 f4 f18 f19 f20 f12 f13 f21
  step k _ := (Nat.not_lt_zero _ (Nat.lt_of_lt_of_le k.isLt (k0_t2_abs i).2.1)).elim

end Trip

end Cert.Proof.KernelIdeal
-- ==== Proof.Body.lean ====
module

public import proofs.«01_k».proof.Defs
public import proofs.«01_k».proof.Proof.Trip
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

section Body

variable (c : Dev nD) (i : grid0.Coords)
  (arg2 : Memref sig .tc .vmem S1x1024x256 .bf16) (harg2 : arg2.IsWhole)
  (arg3 : Memref sig .tc .vmem S1x8192x256 .bf16) (harg3 : arg3.IsWhole)
  (arg4 : Memref sig .tc .vmem S8192x128 .bf16) (harg4 : arg4.IsWhole)
  (arg5 : Memref sig .tc .vmem S1024x128 .f32) (harg5 : arg5.IsWhole)
  (arg6 : Memref sig .tc .vmem S1024x128 .f32) (harg6 : arg6.IsWhole)
  (arg7 : Memref sig .tc .vmem S1x1024x128 .f32) (harg7 : arg7.IsWhole)
  (arg8 : Memref sig .tc .vmem S1024x128 .f32) (harg8 : arg8.IsWhole)
  (arg9 : Memref sig .tc .vmem S1x1024x256 .bf16) (harg9 : arg9.IsWhole)
  (arg10 : Memref sig .tc .vmem S1x8192x256 .bf16) (harg10 : arg10.IsWhole)
  (arg11 : Memref sig .tc .vmem S8192x128 .f32) (harg11 : arg11.IsWhole)
  (arg12 : Memref sig .tc .vmem S8192x256 .f32) (harg12 : arg12.IsWhole)
  (arg13 : Memref sig .tc .vmem S8192x128 .f32) (harg13 : arg13.IsWhole)
  (arg14 : Memref sig .tc .vmem S1024x512 .f32) (harg14 : arg14.IsWhole)
  (arg15 : Memref sig .tc .vmem S1024x512 .f32) (harg15 : arg15.IsWhole)
  (arg16 : Memref sig .tc .vmem S1024x512 .bf16) (harg16 : arg16.IsWhole)
  (arg17 : Memref sig .tc .vmem S1024x512 .bf16) (harg17 : arg17.IsWhole)
  (arg18 : Memref sig .tc .vmem S1024x128 .f32) (harg18 : arg18.IsWhole)
  (arg19 : Memref sig .tc .vmem S1024x128 .f32) (harg19 : arg19.IsWhole)
  (arg20 : Memref sig .tc .vmem S1024x128 .bf16) (harg20 : arg20.IsWhole)
  (arg21 : Memref sig .tc .vmem S1024x256 .f32) (harg21 : arg21.IsWhole)

/-- What the body holds: the seven staged blocks it reads; the block of dq; the two blocks of outputs and the two
    running sums that last from one point to the next, at their contents; the tiles of its own at anything. -/
def bodyRes (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) : sProp 𝕄 :=
  iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f)) ∗ (∃ f, (arg21.view.loc (c : Thread nD τ) ↦[arg21.view.set]{fullShare} f)))

set_option maxHeartbeats 16000000 in
set_option backward.proofsInPublic true in
/-- ONE POINT: what it leaves in the three outputs' blocks and the two running sums, found by the run. -/
def bodyRun (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) :
    { w : Buf (Elt F) (arg9.view.loc (c : Thread nD τ)) × Buf (Elt F) (arg10.view.loc (c : Thread nD τ)) × Buf (Elt F) (arg11.view.loc (c : Thread nD τ)) × Buf (Elt F) (arg12.view.loc (c : Thread nD τ)) × Buf (Elt F) (arg13.view.loc (c : Thread nD τ)) //
      bodyRes c arg2 arg3 arg4 arg5 arg6 arg7 arg8 arg9 arg10 arg11 arg12 arg13 arg14 arg15 arg16 arg17 arg18 arg19 arg20 arg21 f2 f3 f4 f5 f6 f7 f8 f9 f10 f11 f12 f13
      ⊢ wp frame (wpE (defs₀ (F := F)) 𝒱₀ (c : Thread nD τ) none) Set.univ
          (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21)
          (fun _ => bodyRes c arg2 arg3 arg4 arg5 arg6 arg7 arg8 arg9 arg10 arg11 arg12 arg13 arg14 arg15 arg16 arg17 arg18 arg19 arg20 arg21 f2 f3 f4 f5 f6 f7 f8 w.1 w.2.1 w.2.2.1 w.2.2.2.1 w.2.2.2.2) } := by
  refine ⟨(?w9, ?w10, ?w11, ?w12, ?w13), ?run⟩
  case run =>
    unfold bodyRes
    iintro ⟨H2, H3, H4, H5, H6, H7, H8, H9, H10, H11, H12, H13, ⟨%f14, H14⟩, ⟨%f15, H15⟩, ⟨%f16, H16⟩, ⟨%f17, H17⟩, ⟨%f18, H18⟩, ⟨%f19, H19⟩, ⟨%f20, H20⟩, ⟨%f21, H21⟩⟩
    sl_unfold [cc0_attn_bwd]
    sl_exec_parts
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    iexists _; iexact H21

end Body

end Cert.Proof.KernelIdeal
-- ==== Proof.Launch.lean ====
module

public import proofs.«01_k».proof.Defs
public import proofs.«01_k».proof.Proof.Body
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

/-- What the body of a point finds in the ten current staging buffers and the two running sums, by name. -/
abbrev pointRun (c : Dev nD) (t : Fin cfg0.N) :=
  bodyRun (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _)

/-- The body's holdings at a point. -/
abbrev pointRes (c : Dev nD) (t : Fin cfg0.N) :=
  bodyRes (F := F) c (st0_0 t) (st0_1 t) (st0_2 t) (st0_3 t) (st0_4 t) (st0_5 t) (st0_6 t) (st0_7 t) (st0_8 t) (st0_9 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9)

variable (m : (ℓ : Loc nD τ sig) → Buf (Elt F) ℓ) (ρ : Dev nD → PrngReg)

/-- Proof data that names nothing of the three outputs: the arrays as the region finds them, the blocks read left as
    fetched, the scratch at anything between points. -/
def looseDats (_ : Fin 1) (c : Dev nD) : Pipeline.Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => Pipeline.Dat.unnamed (cfg := cfg0) (Val := Elt F) 7 t
    | ⟨8, _⟩ => Pipeline.Dat.unnamed (cfg := cfg0) (Val := Elt F) 8 t
    | ⟨9, _⟩ => Pipeline.Dat.unnamed (cfg := cfg0) (Val := Elt F) 9 t
  Φ _ := Pipeline.ΦA spec0 c
  q _ := fullShare
  owed _ := 0

/-- The three outputs are the windows of which nothing is said. -/
abbrev outs : Fin cfg0.W → Bool := fun w => decide (7 ≤ w.val)

omit [FloatOps F] [Named F] in
/-- A whole buffer at anything, as the piece of itself a body holds. -/
theorem cell_eq (c : Dev nD) (b : Ref sig .tc) :
    (iprop(∃ f : Buf (Elt F) ((c : Thread nD τ).loc b), ((c : Thread nD τ).loc b) ↦{fullShare} f) : sProp 𝕄)
      = iprop(∃ f, (Memref.whole b).view.loc (c : Thread nD τ) ↦[(Memref.whole b).view.set]{fullShare} f) := by
  rw [show (Memref.whole b).view.set = Finset.univ from View.set_whole b]

omit [FloatOps F] [Named F] in
/-- The scratch buffers, each as the piece of itself a body holds. -/
theorem rest_eq (c : Dev nD) :
    (Pipeline.scopedRest (Ix := Unit) (Name := ℕ) (U := UU nD τ) (Lvl := ℕ) (Val := Elt F) spec0 c : sProp 𝕄)
      = iprop((∃ f, (Memref.whole cc0_scratch0).view.loc (c : Thread nD τ) ↦[(Memref.whole cc0_scratch0).view.set]{fullShare} f) ∗ (∃ f, (Memref.whole cc0_scratch1).view.loc (c : Thread nD τ) ↦[(Memref.whole cc0_scratch1).view.set]{fullShare} f) ∗ (∃ f, (Memref.whole cc0_scratch2).view.loc (c : Thread nD τ) ↦[(Memref.whole cc0_scratch2).view.set]{fullShare} f) ∗ (∃ f, (Memref.whole cc0_scratch3).view.loc (c : Thread nD τ) ↦[(Memref.whole cc0_scratch3).view.set]{fullShare} f) ∗ (∃ f, (Memref.whole cc0_scratch4).view.loc (c : Thread nD τ) ↦[(Memref.whole cc0_scratch4).view.set]{fullShare} f) ∗ (∃ f, (Memref.whole cc0_scratch5).view.loc (c : Thread nD τ) ↦[(Memref.whole cc0_scratch5).view.set]{fullShare} f) ∗ (∃ f, (Memref.whole cc0_scratch6).view.loc (c : Thread nD τ) ↦[(Memref.whole cc0_scratch6).view.set]{fullShare} f) ∗ (∃ f, (Memref.whole cc0_scratch7).view.loc (c : Thread nD τ) ↦[(Memref.whole cc0_scratch7).view.set]{fullShare} f) ∗ (∃ f, (Memref.whole cc0_scratch8).view.loc (c : Thread nD τ) ↦[(Memref.whole cc0_scratch8).view.set]{fullShare} f) ∗ (∃ f, (Memref.whole cc0_scratch9).view.loc (c : Thread nD τ) ↦[(Memref.whole cc0_scratch9).view.set]{fullShare} f)) := by
  exact (scopedRest0_eq c).trans (congrArg₂ BIBase.sep (cell_eq c cc0_scratch0) (congrArg₂ BIBase.sep (cell_eq c cc0_scratch1) (congrArg₂ BIBase.sep (cell_eq c cc0_scratch2) (congrArg₂ BIBase.sep (cell_eq c cc0_scratch3) (congrArg₂ BIBase.sep (cell_eq c cc0_scratch4) (congrArg₂ BIBase.sep (cell_eq c cc0_scratch5) (congrArg₂ BIBase.sep (cell_eq c cc0_scratch6) (congrArg₂ BIBase.sep (cell_eq c cc0_scratch7) (congrArg₂ BIBase.sep (cell_eq c cc0_scratch8) (cell_eq c cc0_scratch9))))))))))

set_option maxHeartbeats 4000000 in
/-- A point, from the run of its body. -/
theorem looseBody (c : Dev nD) :
    Pipeline.BodyObligationLoose (looseDats m 0 c) (defs₀ (F := F)) 𝒱₀ () Set.univ outs := fun t => by
  rw [Gen.bigSep_W0, Gen.bigSep_W0]
  show _ ⊢ wp frame (wpE (defs₀ (F := F)) 𝒱₀ (c : Thread nD τ) none) Set.univ (bodyAt0 t) _
  rw [show (looseDats m 0 c).Φ t.castSucc = Pipeline.ΦA spec0 c from rfl, show (looseDats m 0 c).Φ t.succ = Pipeline.ΦA spec0 c from rfl,
    show (looseDats m 0 c).owesAt () t.succ = (looseDats m 0 c).owesAt () t.castSucc from rfl]
  unfold Pipeline.ΦA
  rw [rest_eq]
  rw [show outs 0 = false from rfl, show outs 1 = false from rfl, show outs 2 = false from rfl, show outs 3 = false from rfl,
    show outs 4 = false from rfl, show outs 5 = false from rfl, show outs 6 = false from rfl, show outs 7 = true from rfl,
    show outs 8 = true from rfl, show outs 9 = true from rfl]
  dsimp only
  unfold owns
  iintro ⟨⟨⟨⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩⟩, Hr⟩, Ho,
    ⟨%d0, %f2, %e2, H2⟩, ⟨%d1, %f3, %e3, H3⟩, ⟨%d2, %f4, %e4, H4⟩, ⟨%d3, %f5, %e5, H5⟩, ⟨%d4, %f6, %e6, H6⟩, ⟨%d5, %f7, %e7, H7⟩, ⟨%d6, %f8, %e8, H8⟩,
    ⟨%d7, %f9, %e9, H9⟩, ⟨%d8, %f10, %e10, H10⟩, ⟨%d9, %f11, %e11, H11⟩⟩
  rw [before0_0_of m (looseDats m 0 c) rfl (fun _ => rfl)] at e2
  rw [before0_1_of m (looseDats m 0 c) rfl (fun _ => rfl)] at e3
  rw [before0_2_of m (looseDats m 0 c) rfl (fun _ => rfl)] at e4
  rw [before0_3_of m (looseDats m 0 c) rfl (fun _ => rfl)] at e5
  rw [before0_4_of m (looseDats m 0 c) rfl (fun _ => rfl)] at e6
  rw [before0_5_of m (looseDats m 0 c) rfl (fun _ => rfl)] at e7
  rw [before0_6_of m (looseDats m 0 c) rfl (fun _ => rfl)] at e8
  have run := (pointRun c t f2 f3 f4 f5 f6 f7 f8 f9 f10 f11 f12 f13).2
  generalize (pointRun c t f2 f3 f4 f5 f6 f7 f8 f9 f10 f11 f12 f13).1 = w at run
  iapply (wp_wand _ _ _) $$ [H2 H3 H4 H5 H6 H7 H8 H9 H10 H11 H12 H13 H14 H15 H16 H17 H18 H19 H20 H21]
  · iapply run
    unfold bodyRes
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    iexists _; iexact H21
  iintro %u
  unfold bodyRes
  iintro ⟨H2, H3, H4, H5, H6, H7, H8, H9, H10, H11, H12, H13, H14, H15, H16, H17, H18, H19, H20, H21⟩
  isplitl [H12 H13 H14 H15 H16 H17 H18 H19 H20 H21 Hr]
  · isplitr [Hr]; swap
    · iexact Hr
    isplitl [H12]; · iexists _; iexact H12
    isplitl [H13]; · iexists _; iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  isplitl [Ho]; · iexact Ho
  isplitl [H2]; · iexists f2; isplitr; swap; (· iexact H2); ipureintro; exact e2
  isplitl [H3]; · iexists f3; isplitr; swap; (· iexact H3); ipureintro; exact e3
  isplitl [H4]; · iexists f4; isplitr; swap; (· iexact H4); ipureintro; exact e4
  isplitl [H5]; · iexists f5; isplitr; swap; (· iexact H5); ipureintro; exact e5
  isplitl [H6]; · iexists f6; isplitr; swap; (· iexact H6); ipureintro; exact e6
  isplitl [H7]; · iexists f7; isplitr; swap; (· iexact H7); ipureintro; exact e7
  isplitl [H8]; · iexists f8; isplitr; swap; (· iexact H8); ipureintro; exact e8
  isplitl [H9]; · iexists _; iexists _; isplitr; swap; (· iexact H9); ipureintro; rfl
  isplitl [H10]; · iexists _; iexists _; isplitr; swap; (· iexact H10); ipureintro; rfl
  iexists _; iexists _; isplitr; swap; (· iexact H11); ipureintro; rfl

theorem looseShare (c : Dev nD) (w : Fin cfg0.W) : (looseDats m 0 c).share w = fullShare := by
  unfold Pipeline.Dat.share; split <;> rfl

/-- THE FRAME: every run ends, the six arguments as launched and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  Pipeline.θ_run_frame_track_forget cfgs (looseDats m) 0 Gen.launch0 defs₀ 𝒱₀ outs m ρ main (looseBody m) (looseShare m)
    (fun _ _ => rfl) (V m) (Gen.hmain m 𝒱₀) (fun _ _ => rfl) (fun _ => .rfl) (fun _ => .rfl) _
    (fun r h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      (Pipeline.RDat.FramePost.arr_in h.1 c 4 rfl).trans (V_main_arg5 m c)⟩, h.2⟩)

end Cert.Proof.KernelIdeal
-- ==== Proof.Tiles.lean ====
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import proofs.«01_k».proof.Proof.Body
import all proofs.«01_k».proof.Proof.Trip
import all proofs.«01_k».proof.Proof.Body
import all proofs.«01_k».proof.Proof.Body
import all proofs.«01_k».proof.Proof.Body
import all proofs.«01_k».proof.Proof.Body
import all proofs.«01_k».proof.Proof.Body
import all proofs.«01_k».proof.Proof.Body
import all proofs.«01_k».proof.Proof.Body
import all proofs.«01_k».proof.Proof.Body
public import Idealize.ShloMosaic.Lib.Tactic
public import Idealize.ShloMosaic.Lib.WordCmp
public import Idealize.ShloMosaic.Lib.Pipeline.ValueKit
public import Idealize.ShloMosaic.Lib.Pipeline.ReadBack

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section

variable (c : Dev nD) (i : grid0.Coords)
  (arg2 : Memref sig .tc .vmem S1x1024x256 .bf16)
  (arg3 : Memref sig .tc .vmem S1x8192x256 .bf16)
  (arg4 : Memref sig .tc .vmem S8192x128 .bf16)
  (arg5 : Memref sig .tc .vmem S1024x128 .f32)
  (arg6 : Memref sig .tc .vmem S1024x128 .f32)
  (arg7 : Memref sig .tc .vmem S1x1024x128 .f32)
  (arg14 : Memref sig .tc .vmem S1024x512 .f32)
  (arg15 : Memref sig .tc .vmem S1024x512 .f32)
  (arg18 : Memref sig .tc .vmem S1024x128 .f32)
  (arg19 : Memref sig .tc .vmem S1024x128 .f32)
  (arg20 : Memref sig .tc .vmem S1024x128 .bf16)
  (f2 : Buf (Elt Ideal) (arg2.view.loc (c : Thread nD τ))) (f3 : Buf (Elt Ideal) (arg3.view.loc (c : Thread nD τ)))
    (f4 : Buf (Elt Ideal) (arg4.view.loc (c : Thread nD τ))) (f5 : Buf (Elt Ideal) (arg5.view.loc (c : Thread nD τ))) (f6 : Buf (Elt Ideal) (arg6.view.loc (c : Thread nD τ))) (f7 : Buf (Elt Ideal) (arg7.view.loc (c : Thread nD τ))) (f18 : Buf (Elt Ideal) (arg18.view.loc (c : Thread nD τ)))
    (f19 : Buf (Elt Ideal) (arg19.view.loc (c : Thread nD τ))) (f20 : Buf (Elt Ideal) (arg20.view.loc (c : Thread nD τ)))
  (k : Fin (k0_t1_loop i).trips)

/-- The factor of the scores in the exponent of two. -/
abbrev κe : EReal := Named.named (F := Ideal) (φ := .f32) κ "exp2_scale" 1037384597#32
/-- The probabilities of a tile, from the scores and the rows' statistic. -/
def PT (s : S1024x512.Idx → EReal) (lr : Fin 1024 → EReal) (y : S1024x512.Idx) : EReal :=
  FloatOps.exp2 (F := Ideal) (φ := .f32) (s y * κe - lr (y 0))
/-- The gradients of a tile's scores. -/
def DT (s dp : S1024x512.Idx → EReal) (lr dr : Fin 1024 → EReal) (y : S1024x512.Idx) : EReal :=
  PT s lr y * (dp y - dr (y 0))
/-- The scores of a tile on the diagonal: row `q0 + y 0` sees the keys up to its own chunk of 64. -/
def msk (q0 j0 : ℕ) (s : S1024x512.Idx → EReal) (y : S1024x512.Idx) : EReal :=
  if (j0 + (y 1 : ℕ)) / 64 ≤ (q0 + (y 0 : ℕ)) / 64 then s y else ⊥

theorem neg_top : Ideal.ofBits FTy.f32 4286578688#32 = (⊥ : EReal) := by
  simp [Ideal.ofBits, Ideal.ieee]

/-- The chunk comparison of the words is the comparison of the numbers. -/
theorem mask_sel (P Q : BitVec 32) (p q : ℕ) (hP : P.toNat = p) (hQ : Q.toNat = q) (hp : p < 2 ^ 20) (hq : q < 2 ^ 20)
    (s t : EReal) : Scalar.select (IntOp.cmpi .sle (IntOp.shrsi .vector P 6#32) (IntOp.shrsi .vector Q 6#32)) s t
      = if p / 64 ≤ q / 64 then s else t := by
  have key : ∀ (P : BitVec 32) (p : ℕ), P.toNat = p → p < 2 ^ 20 → IntOp.shrsi .vector P 6#32 = BitVec.ofNat 32 (p / 64) := by
    intro P p hP hp
    have hm : P.msb = false := by
      rw [BitVec.msb_eq_decide]; simp only [decide_eq_false_iff_not]; omega
    apply BitVec.eq_of_toNat_eq
    unfold IntOp.shrsi
    rw [if_pos (by decide), BitVec.sshiftRight_eq', BitVec.toNat_sshiftRight_of_msb_false hm]
    rw [BitVec.toNat_ofNat, Nat.shiftRight_eq_div_pow, hP]
    norm_num
    omega
  rw [key P p hP hp, key Q q hQ hq, WordCmp.cmpi_sle_ofNat (by norm_num; omega) (by norm_num; omega)]
  unfold Scalar.select
  by_cases h : p / 64 ≤ q / 64 <;> simp [h]

/-- Sixteen stores that hold an index decide it, whatever was stored before. -/
theorem canon_app {s : Shape} {e : EltTy} (L L' : List (View.Piece (Elt Ideal) s e)) (y : s.Idx) (h : ∃ p ∈ L, y ∈ p.1.set) :
    View.canon (L ++ L') y = View.canon L y := by
  induction L with
  | nil => obtain ⟨p, hp, _⟩ := h; simp at hp
  | cons p L ih =>
    rw [List.cons_append, View.canon_cons, View.canon_cons]
    by_cases hy : y ∈ p.1.set
    · obtain ⟨r, w⟩ := p
      obtain ⟨x, rfl⟩ : ∃ x, r.emb x = y := r.exists_idx_of_mem hy
      exact ((r.overlay_emb _ _ x).trans (r.overlay_emb _ _ x).symm)
    · rw [Rect.overlay_of_not_mem _ _ _ hy, Rect.overlay_of_not_mem _ _ _ hy]
      obtain ⟨p', hm, hy'⟩ := h
      rcases List.mem_cons.mp hm with rfl | hm
      · exact absurd hy' hy
      · exact ih ⟨p', hm, hy'⟩

theorem canon_app16 {s : Shape} {e : EltTy} (a1 a2 a3 a4 a5 a6 a7 a8 a9 a10 a11 a12 a13 a14 a15 a16 : View.Piece (Elt Ideal) s e)
    (L' : List (View.Piece (Elt Ideal) s e)) (y : s.Idx)
    (h : ∃ p ∈ [a1, a2, a3, a4, a5, a6, a7, a8, a9, a10, a11, a12, a13, a14, a15, a16], y ∈ p.1.set) :
    View.canon (a1 :: a2 :: a3 :: a4 :: a5 :: a6 :: a7 :: a8 :: a9 :: a10 :: a11 :: a12 :: a13 :: a14 :: a15 :: a16 :: L') y
      = View.canon [a1, a2, a3, a4, a5, a6, a7, a8, a9, a10, a11, a12, a13, a14, a15, a16] y :=
  canon_app [a1, a2, a3, a4, a5, a6, a7, a8, a9, a10, a11, a12, a13, a14, a15, a16] L' y h

theorem trip_p (S : S1024x512.Idx → EReal) (lr : Fin 1024 → EReal)
    (hS : ∀ B, arg14.view.readCov (tripRun.sl.H14_1 c i arg2 arg3 arg4 k f2 f3 f4) B = fun j => S (B.idx j))
    (hL : ∀ B, arg18.view.readAt (Elt Ideal) B f18 = fun j => lr (B.idx j 0)) (y : S1024x512.Idx) :
    View.canon (tripRun.sl.H16_16 c i arg2 arg3 arg4 arg14 arg18 k f2 f3 f4 f18) y = PT S lr y := by
  simp only [tripRun.sl.H16_1, tripRun.sl.H16_11, tripRun.sl.H16_13, tripRun.sl.H16_14, tripRun.sl.H16_16, tripRun.sl.H16_2, tripRun.sl.H16_4, tripRun.sl.H16_6, tripRun.sl.H16_7, tripRun.sl.H16_9, tripRun.sl.H17_10, tripRun.sl.H17_12, tripRun.sl.H17_14, tripRun.sl.H17_16, tripRun.sl.H17_2, tripRun.sl.H17_4, tripRun.sl.H17_5, tripRun.sl.H17_7, tripRun.sl.H17_9, tripRun.sl.arg22, tripRun.sl.cst_924, tripRun.sl.cst_932, tripRun.sl.r, tripRun.sl.r_1, tripRun.sl.r_10, tripRun.sl.r_11, tripRun.sl.r_2, tripRun.sl.r_3, tripRun.sl.r_4, tripRun.sl.r_5, tripRun.sl.r_6, tripRun.sl.r_7, tripRun.sl.r_8, tripRun.sl.r_9, tripRun.sl.v1338, tripRun.sl.v1360, tripRun.sl.v1371, tripRun.sl.v1380, tripRun.sl.v1391, tripRun.sl.v1400, tripRun.sl.v1411, tripRun.sl.v1420, tripRun.sl.v1431, tripRun.sl.v1440, tripRun.sl.v1451, tripRun.sl.v1460, tripRun.sl.v1471, tripRun.sl.v1480, tripRun.sl.v1491, tripRun.sl.v1500, tripRun.sl.v1511, tripRun.sl.v1520, tripRun.sl.v1531, tripRun.sl.v1540, tripRun.sl.v1551, tripRun.sl.v1560, tripRun.sl.v1571, tripRun.sl.v1580, tripRun.sl.v1591, tripRun.sl.v1600, tripRun.sl.v1611, tripRun.sl.v1620, tripRun.sl.v1631, tripRun.sl.v1640, tripRun.sl.v1651, tripRun.sl.v1660, tripRun.sl.v1671, tripRun.sl.v1680, tripRun.sl.v1682, tripRun.sl.v1684, tripRun.sl.v1685, tripRun.sl.v1686, tripRun.sl.v1689, tripRun.sl.v1690, tripRun.sl.v1693, tripRun.sl.v1695, tripRun.sl.v1696, tripRun.sl.v1697, tripRun.sl.v1698, tripRun.sl.v1701, tripRun.sl.v1702, tripRun.sl.v1707, tripRun.sl.v1708, tripRun.sl.v1711, tripRun.sl.v1712, tripRun.sl.v1713, tripRun.sl.v1715, hS, hL]
  canon_tiles x h
  all_goals
    pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, PT]
    have e0 := fun h => congrArg lr (Fin.ext (a := ⟨_, h⟩) h0.symm)
    have eS : ∀ h, S (ix2 ⟨_, h⟩ (x 1)) = S y := fun h => congrArg S (by
      funext a
      fin_cases a
      · exact Fin.ext h0.symm
      · exact Fin.ext h1.symm)
    set_option backward.isDefEq.respectTransparency false in
    simp only [e0, eS, dite_eq_ite, ite_self]

theorem trip_ds (S DP : S1024x512.Idx → EReal) (lr dr : Fin 1024 → EReal)
    (hS : ∀ B, arg14.view.readCov (tripRun.sl.H14_1 c i arg2 arg3 arg4 k f2 f3 f4) B = fun j => S (B.idx j))
    (hD : ∀ B, arg15.view.readCov (tripRun.sl.H15_1 c i arg3 arg20 k f3 f20) B = fun j => DP (B.idx j))
    (hL : ∀ B, arg18.view.readAt (Elt Ideal) B f18 = fun j => lr (B.idx j 0))
    (hR : ∀ B, arg19.view.readAt (Elt Ideal) B f19 = fun j => dr (B.idx j 0)) (y : S1024x512.Idx) :
    View.canon (tripRun.sl.H17_16 c i arg2 arg3 arg4 arg14 arg15 arg18 arg19 arg20 k f2 f3 f4 f18 f19 f20) y = DT S DP lr dr y := by
  simp only [tripRun.sl.H16_1, tripRun.sl.H16_11, tripRun.sl.H16_13, tripRun.sl.H16_14, tripRun.sl.H16_16, tripRun.sl.H16_2, tripRun.sl.H16_4, tripRun.sl.H16_6, tripRun.sl.H16_7, tripRun.sl.H16_9, tripRun.sl.H17_10, tripRun.sl.H17_12, tripRun.sl.H17_14, tripRun.sl.H17_16, tripRun.sl.H17_2, tripRun.sl.H17_4, tripRun.sl.H17_5, tripRun.sl.H17_7, tripRun.sl.H17_9, tripRun.sl.arg22, tripRun.sl.cst_924, tripRun.sl.cst_932, tripRun.sl.r, tripRun.sl.r_1, tripRun.sl.r_10, tripRun.sl.r_11, tripRun.sl.r_2, tripRun.sl.r_3, tripRun.sl.r_4, tripRun.sl.r_5, tripRun.sl.r_6, tripRun.sl.r_7, tripRun.sl.r_8, tripRun.sl.r_9, tripRun.sl.v1338, tripRun.sl.v1360, tripRun.sl.v1371, tripRun.sl.v1380, tripRun.sl.v1391, tripRun.sl.v1400, tripRun.sl.v1411, tripRun.sl.v1420, tripRun.sl.v1431, tripRun.sl.v1440, tripRun.sl.v1451, tripRun.sl.v1460, tripRun.sl.v1471, tripRun.sl.v1480, tripRun.sl.v1491, tripRun.sl.v1500, tripRun.sl.v1511, tripRun.sl.v1520, tripRun.sl.v1531, tripRun.sl.v1540, tripRun.sl.v1551, tripRun.sl.v1560, tripRun.sl.v1571, tripRun.sl.v1580, tripRun.sl.v1591, tripRun.sl.v1600, tripRun.sl.v1611, tripRun.sl.v1620, tripRun.sl.v1631, tripRun.sl.v1640, tripRun.sl.v1651, tripRun.sl.v1660, tripRun.sl.v1671, tripRun.sl.v1680, tripRun.sl.v1682, tripRun.sl.v1684, tripRun.sl.v1685, tripRun.sl.v1686, tripRun.sl.v1689, tripRun.sl.v1690, tripRun.sl.v1693, tripRun.sl.v1695, tripRun.sl.v1696, tripRun.sl.v1697, tripRun.sl.v1698, tripRun.sl.v1701, tripRun.sl.v1702, tripRun.sl.v1707, tripRun.sl.v1708, tripRun.sl.v1711, tripRun.sl.v1712, tripRun.sl.v1713, tripRun.sl.v1715, hS, hD, hL, hR]
  canon_tiles x h
  all_goals
    pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, DT, PT]
    have e0 := fun h => congrArg lr (Fin.ext (a := ⟨_, h⟩) h0.symm)
    have d0 := fun h => congrArg dr (Fin.ext (a := ⟨_, h⟩) h0.symm)
    have eS : ∀ h, S (ix2 ⟨_, h⟩ (x 1)) = S y := fun h => congrArg S (by
      funext a
      fin_cases a
      · exact Fin.ext h0.symm
      · exact Fin.ext h1.symm)
    have eD : ∀ h, DP (ix2 ⟨_, h⟩ (x 1)) = DP y := fun h => congrArg DP (by
      funext a
      fin_cases a
      · exact Fin.ext h0.symm
      · exact Fin.ext h1.symm)
    set_option backward.isDefEq.respectTransparency false in
    simp only [e0, d0, eS, eD, dite_eq_ite, ite_self]

set_option maxHeartbeats 4000000 in
theorem body_p1 (S : S1024x512.Idx → EReal) (lr : Fin 1024 → EReal)
    (hS : ∀ B, arg14.view.readCov (bodyRun.sl.H14_1 c i arg2 arg3 arg4 f2 f3 f4) B = fun j => S (B.idx j))
    (hL : ∀ B, arg18.view.readCov (bodyRun.sl.H18_1 c arg7 f7) B = fun j => lr (B.idx j 0))
    (y : S1024x512.Idx) : View.canon (bodyRun.sl.H16_16 c i arg2 arg3 arg4 arg7 arg14 arg18 f2 f3 f4 f7) y
      = PT (msk (1024 * (i 1 : ℕ)) (512 * (2 * (i 1 : ℕ) + 0)) S) lr y := by
  have hi : (i 1 : ℕ) < 8 := (i 1).isLt
  simp only [bodyRun.sl.H16_1, bodyRun.sl.H16_10, bodyRun.sl.H16_11, bodyRun.sl.H16_12, bodyRun.sl.H16_13, bodyRun.sl.H16_14, bodyRun.sl.H16_17, bodyRun.sl.H16_18, bodyRun.sl.H16_19, bodyRun.sl.H16_2, bodyRun.sl.H16_20, bodyRun.sl.H16_21, bodyRun.sl.H16_22, bodyRun.sl.H16_23, bodyRun.sl.H16_24, bodyRun.sl.H16_25, bodyRun.sl.H16_26, bodyRun.sl.H16_27, bodyRun.sl.H16_28, bodyRun.sl.H16_29, bodyRun.sl.H16_3, bodyRun.sl.H16_30, bodyRun.sl.H16_31, bodyRun.sl.H16_32, bodyRun.sl.H16_4, bodyRun.sl.H16_5, bodyRun.sl.H16_6, bodyRun.sl.H16_7, bodyRun.sl.H16_8, bodyRun.sl.H16_9, bodyRun.sl.cst_318, bodyRun.sl.cst_326, bodyRun.sl.cst_336, bodyRun.sl.cst_348, bodyRun.sl.r, bodyRun.sl.r_1, bodyRun.sl.r_10, bodyRun.sl.r_11, bodyRun.sl.r_12, bodyRun.sl.r_13, bodyRun.sl.r_14, bodyRun.sl.r_15, bodyRun.sl.r_16, bodyRun.sl.r_17, bodyRun.sl.r_18, bodyRun.sl.r_19, bodyRun.sl.r_2, bodyRun.sl.r_20, bodyRun.sl.r_21, bodyRun.sl.r_22, bodyRun.sl.r_23, bodyRun.sl.r_24, bodyRun.sl.r_25, bodyRun.sl.r_26, bodyRun.sl.r_27, bodyRun.sl.r_28, bodyRun.sl.r_29, bodyRun.sl.r_3, bodyRun.sl.r_30, bodyRun.sl.r_31, bodyRun.sl.r_32, bodyRun.sl.r_33, bodyRun.sl.r_34, bodyRun.sl.r_4, bodyRun.sl.r_5, bodyRun.sl.r_6, bodyRun.sl.r_7, bodyRun.sl.r_8, bodyRun.sl.r_9, bodyRun.sl.v, bodyRun.sl.v0, bodyRun.sl.v1, bodyRun.sl.v100, bodyRun.sl.v1019, bodyRun.sl.v1028, bodyRun.sl.v1055, bodyRun.sl.v1064, bodyRun.sl.v1091, bodyRun.sl.v1100, bodyRun.sl.v1127, bodyRun.sl.v1136, bodyRun.sl.v1163, bodyRun.sl.v1172, bodyRun.sl.v119, bodyRun.sl.v1199, bodyRun.sl.v1208, bodyRun.sl.v1235, bodyRun.sl.v1244, bodyRun.sl.v127, bodyRun.sl.v1270, bodyRun.sl.v1271, bodyRun.sl.v1274, bodyRun.sl.v1275, bodyRun.sl.v1276, bodyRun.sl.v1277, bodyRun.sl.v1278, bodyRun.sl.v1279, bodyRun.sl.v128, bodyRun.sl.v1281, bodyRun.sl.v1282, bodyRun.sl.v1284, bodyRun.sl.v1285, bodyRun.sl.v1286, bodyRun.sl.v1289, bodyRun.sl.v1290, bodyRun.sl.v1292, bodyRun.sl.v1293, bodyRun.sl.v1296, bodyRun.sl.v1297, bodyRun.sl.v1298, bodyRun.sl.v1301, bodyRun.sl.v1302, bodyRun.sl.v1313, bodyRun.sl.v1314, bodyRun.sl.v1320, bodyRun.sl.v1338, bodyRun.sl.v1341, bodyRun.sl.v1347, bodyRun.sl.v1349, bodyRun.sl.v136, bodyRun.sl.v155, bodyRun.sl.v163, bodyRun.sl.v164, bodyRun.sl.v172, bodyRun.sl.v173, bodyRun.sl.v174, bodyRun.sl.v191, bodyRun.sl.v199, bodyRun.sl.v2, bodyRun.sl.v200, bodyRun.sl.v208, bodyRun.sl.v227, bodyRun.sl.v235, bodyRun.sl.v236, bodyRun.sl.v244, bodyRun.sl.v251, bodyRun.sl.v263, bodyRun.sl.v271, bodyRun.sl.v272, bodyRun.sl.v280, bodyRun.sl.v299, bodyRun.sl.v307, bodyRun.sl.v308, bodyRun.sl.v316, bodyRun.sl.v335, bodyRun.sl.v34, bodyRun.sl.v343, bodyRun.sl.v344, bodyRun.sl.v35, bodyRun.sl.v352, bodyRun.sl.v37, bodyRun.sl.v371, bodyRun.sl.v379, bodyRun.sl.v38, bodyRun.sl.v380, bodyRun.sl.v388, bodyRun.sl.v39, bodyRun.sl.v40, bodyRun.sl.v407, bodyRun.sl.v41, bodyRun.sl.v415, bodyRun.sl.v416, bodyRun.sl.v42, bodyRun.sl.v424, bodyRun.sl.v443, bodyRun.sl.v451, bodyRun.sl.v452, bodyRun.sl.v460, bodyRun.sl.v479, bodyRun.sl.v487, bodyRun.sl.v488, bodyRun.sl.v496, bodyRun.sl.v515, bodyRun.sl.v523, bodyRun.sl.v524, bodyRun.sl.v532, bodyRun.sl.v551, bodyRun.sl.v559, bodyRun.sl.v560, bodyRun.sl.v568, bodyRun.sl.v587, bodyRun.sl.v59, bodyRun.sl.v595, bodyRun.sl.v596, bodyRun.sl.v604, bodyRun.sl.v623, bodyRun.sl.v631, bodyRun.sl.v632, bodyRun.sl.v633, bodyRun.sl.v634, bodyRun.sl.v635, bodyRun.sl.v636, bodyRun.sl.v637, bodyRun.sl.v638, bodyRun.sl.v639, bodyRun.sl.v64, bodyRun.sl.v640, bodyRun.sl.v641, bodyRun.sl.v642, bodyRun.sl.v643, bodyRun.sl.v644, bodyRun.sl.v645, bodyRun.sl.v646, bodyRun.sl.v649, bodyRun.sl.v650, bodyRun.sl.v652, bodyRun.sl.v653, bodyRun.sl.v655, bodyRun.sl.v656, bodyRun.sl.v657, bodyRun.sl.v658, bodyRun.sl.v661, bodyRun.sl.v662, bodyRun.sl.v667, bodyRun.sl.v668, bodyRun.sl.v671, bodyRun.sl.v672, bodyRun.sl.v673, bodyRun.sl.v675, bodyRun.sl.v676, bodyRun.sl.v678, bodyRun.sl.v679, bodyRun.sl.v681, bodyRun.sl.v682, bodyRun.sl.v684, bodyRun.sl.v686, bodyRun.sl.v687, bodyRun.sl.v690, bodyRun.sl.v691, bodyRun.sl.v692, bodyRun.sl.v695, bodyRun.sl.v696, bodyRun.sl.v697, bodyRun.sl.v704, bodyRun.sl.v731, bodyRun.sl.v737, bodyRun.sl.v740, bodyRun.sl.v767, bodyRun.sl.v776, bodyRun.sl.v803, bodyRun.sl.v83, bodyRun.sl.v839, bodyRun.sl.v848, bodyRun.sl.v875, bodyRun.sl.v884, bodyRun.sl.v887, bodyRun.sl.v91, bodyRun.sl.v911, bodyRun.sl.v92, bodyRun.sl.v920, bodyRun.sl.v947, bodyRun.sl.v956, bodyRun.sl.v983, bodyRun.sl.v992, bodyRun.sl.H16_16, hS, hL]
  canon_tiles x h
  all_goals
    pointwise [k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, PT, msk]
    try (set_option backward.isDefEq.respectTransparency false in
      simp only [hL]); pointwise []
    have e0 := fun h => congrArg lr (Fin.ext (a := ⟨_, h⟩) h0.symm)
    have eS : ∀ h, S (ix2 ⟨_, h⟩ (x 1)) = S y := fun h => congrArg S (by
      funext a
      fin_cases a
      · exact Fin.ext h0.symm
      · exact Fin.ext h1.symm)
    set_option backward.isDefEq.respectTransparency false in
    simp only [e0, eS, dite_eq_ite, ite_self]

    rw [mask_sel _ _ (512 * (2 * (i 1 : ℕ) + 0) + (y 1 : ℕ)) (1024 * (i 1 : ℕ) + (y 0 : ℕ)) (by
      simp only [IntOp.addi, IntOp.muli, Scalar.muli, Scalar.addi, BitVec.toNat_add, BitVec.toNat_mul, BitVec.toNat_ofNat]; omega) (by
      simp only [IntOp.addi, IntOp.muli, Scalar.muli, Scalar.addi, BitVec.toNat_add, BitVec.toNat_mul, BitVec.toNat_ofNat]; omega) (by omega) (by omega)]
    try simp only [neg_top]
    try rfl

set_option maxHeartbeats 4000000 in
theorem body_ds1 (S DP : S1024x512.Idx → EReal) (lr dr : Fin 1024 → EReal)
    (hS : ∀ B, arg14.view.readCov (bodyRun.sl.H14_1 c i arg2 arg3 arg4 f2 f3 f4) B = fun j => S (B.idx j))
    (hD : ∀ B, arg15.view.readCov (bodyRun.sl.H15_1 c i arg3 arg6 arg20 f3 f6) B = fun j => DP (B.idx j))
    (hL : ∀ B, arg18.view.readCov (bodyRun.sl.H18_1 c arg7 f7) B = fun j => lr (B.idx j 0))
    (hR : ∀ B, arg19.view.readCov (bodyRun.sl.H19_1 c arg5 arg6 f5 f6) B = fun j => dr (B.idx j 0))
    (y : S1024x512.Idx) : View.canon (bodyRun.sl.H17_16 c i arg2 arg3 arg4 arg5 arg6 arg7 arg14 arg15 arg18 arg19 arg20 f2 f3 f4 f5 f6 f7) y
      = DT (msk (1024 * (i 1 : ℕ)) (512 * (2 * (i 1 : ℕ) + 0)) S) DP lr dr y := by
  have hi : (i 1 : ℕ) < 8 := (i 1).isLt
  simp only [bodyRun.sl.H16_1, bodyRun.sl.H16_10, bodyRun.sl.H16_11, bodyRun.sl.H16_12, bodyRun.sl.H16_13, bodyRun.sl.H16_14, bodyRun.sl.H16_17, bodyRun.sl.H16_18, bodyRun.sl.H16_19, bodyRun.sl.H16_2, bodyRun.sl.H16_20, bodyRun.sl.H16_21, bodyRun.sl.H16_22, bodyRun.sl.H16_23, bodyRun.sl.H16_24, bodyRun.sl.H16_25, bodyRun.sl.H16_26, bodyRun.sl.H16_27, bodyRun.sl.H16_28, bodyRun.sl.H16_29, bodyRun.sl.H16_3, bodyRun.sl.H16_30, bodyRun.sl.H16_31, bodyRun.sl.H16_32, bodyRun.sl.H16_4, bodyRun.sl.H16_5, bodyRun.sl.H16_6, bodyRun.sl.H16_7, bodyRun.sl.H16_8, bodyRun.sl.H16_9, bodyRun.sl.cst_318, bodyRun.sl.cst_326, bodyRun.sl.cst_336, bodyRun.sl.cst_348, bodyRun.sl.r, bodyRun.sl.r_1, bodyRun.sl.r_10, bodyRun.sl.r_11, bodyRun.sl.r_12, bodyRun.sl.r_13, bodyRun.sl.r_14, bodyRun.sl.r_15, bodyRun.sl.r_16, bodyRun.sl.r_17, bodyRun.sl.r_18, bodyRun.sl.r_19, bodyRun.sl.r_2, bodyRun.sl.r_20, bodyRun.sl.r_21, bodyRun.sl.r_22, bodyRun.sl.r_23, bodyRun.sl.r_24, bodyRun.sl.r_25, bodyRun.sl.r_26, bodyRun.sl.r_27, bodyRun.sl.r_28, bodyRun.sl.r_29, bodyRun.sl.r_3, bodyRun.sl.r_30, bodyRun.sl.r_31, bodyRun.sl.r_32, bodyRun.sl.r_33, bodyRun.sl.r_34, bodyRun.sl.r_4, bodyRun.sl.r_5, bodyRun.sl.r_6, bodyRun.sl.r_7, bodyRun.sl.r_8, bodyRun.sl.r_9, bodyRun.sl.v, bodyRun.sl.v0, bodyRun.sl.v1, bodyRun.sl.v100, bodyRun.sl.v1019, bodyRun.sl.v1028, bodyRun.sl.v1055, bodyRun.sl.v1064, bodyRun.sl.v1091, bodyRun.sl.v1100, bodyRun.sl.v1127, bodyRun.sl.v1136, bodyRun.sl.v1163, bodyRun.sl.v1172, bodyRun.sl.v119, bodyRun.sl.v1199, bodyRun.sl.v1208, bodyRun.sl.v1235, bodyRun.sl.v1244, bodyRun.sl.v127, bodyRun.sl.v1270, bodyRun.sl.v1271, bodyRun.sl.v1274, bodyRun.sl.v1275, bodyRun.sl.v1276, bodyRun.sl.v1277, bodyRun.sl.v1278, bodyRun.sl.v1279, bodyRun.sl.v128, bodyRun.sl.v1281, bodyRun.sl.v1282, bodyRun.sl.v1284, bodyRun.sl.v1285, bodyRun.sl.v1286, bodyRun.sl.v1289, bodyRun.sl.v1290, bodyRun.sl.v1292, bodyRun.sl.v1293, bodyRun.sl.v1296, bodyRun.sl.v1297, bodyRun.sl.v1298, bodyRun.sl.v1301, bodyRun.sl.v1302, bodyRun.sl.v1313, bodyRun.sl.v1314, bodyRun.sl.v1320, bodyRun.sl.v1338, bodyRun.sl.v1341, bodyRun.sl.v1347, bodyRun.sl.v1349, bodyRun.sl.v136, bodyRun.sl.v155, bodyRun.sl.v163, bodyRun.sl.v164, bodyRun.sl.v172, bodyRun.sl.v173, bodyRun.sl.v174, bodyRun.sl.v191, bodyRun.sl.v199, bodyRun.sl.v2, bodyRun.sl.v200, bodyRun.sl.v208, bodyRun.sl.v227, bodyRun.sl.v235, bodyRun.sl.v236, bodyRun.sl.v244, bodyRun.sl.v251, bodyRun.sl.v263, bodyRun.sl.v271, bodyRun.sl.v272, bodyRun.sl.v280, bodyRun.sl.v299, bodyRun.sl.v307, bodyRun.sl.v308, bodyRun.sl.v316, bodyRun.sl.v335, bodyRun.sl.v34, bodyRun.sl.v343, bodyRun.sl.v344, bodyRun.sl.v35, bodyRun.sl.v352, bodyRun.sl.v37, bodyRun.sl.v371, bodyRun.sl.v379, bodyRun.sl.v38, bodyRun.sl.v380, bodyRun.sl.v388, bodyRun.sl.v39, bodyRun.sl.v40, bodyRun.sl.v407, bodyRun.sl.v41, bodyRun.sl.v415, bodyRun.sl.v416, bodyRun.sl.v42, bodyRun.sl.v424, bodyRun.sl.v443, bodyRun.sl.v451, bodyRun.sl.v452, bodyRun.sl.v460, bodyRun.sl.v479, bodyRun.sl.v487, bodyRun.sl.v488, bodyRun.sl.v496, bodyRun.sl.v515, bodyRun.sl.v523, bodyRun.sl.v524, bodyRun.sl.v532, bodyRun.sl.v551, bodyRun.sl.v559, bodyRun.sl.v560, bodyRun.sl.v568, bodyRun.sl.v587, bodyRun.sl.v59, bodyRun.sl.v595, bodyRun.sl.v596, bodyRun.sl.v604, bodyRun.sl.v623, bodyRun.sl.v631, bodyRun.sl.v632, bodyRun.sl.v633, bodyRun.sl.v634, bodyRun.sl.v635, bodyRun.sl.v636, bodyRun.sl.v637, bodyRun.sl.v638, bodyRun.sl.v639, bodyRun.sl.v64, bodyRun.sl.v640, bodyRun.sl.v641, bodyRun.sl.v642, bodyRun.sl.v643, bodyRun.sl.v644, bodyRun.sl.v645, bodyRun.sl.v646, bodyRun.sl.v649, bodyRun.sl.v650, bodyRun.sl.v652, bodyRun.sl.v653, bodyRun.sl.v655, bodyRun.sl.v656, bodyRun.sl.v657, bodyRun.sl.v658, bodyRun.sl.v661, bodyRun.sl.v662, bodyRun.sl.v667, bodyRun.sl.v668, bodyRun.sl.v671, bodyRun.sl.v672, bodyRun.sl.v673, bodyRun.sl.v675, bodyRun.sl.v676, bodyRun.sl.v678, bodyRun.sl.v679, bodyRun.sl.v681, bodyRun.sl.v682, bodyRun.sl.v684, bodyRun.sl.v686, bodyRun.sl.v687, bodyRun.sl.v690, bodyRun.sl.v691, bodyRun.sl.v692, bodyRun.sl.v695, bodyRun.sl.v696, bodyRun.sl.v697, bodyRun.sl.v704, bodyRun.sl.v731, bodyRun.sl.v737, bodyRun.sl.v740, bodyRun.sl.v767, bodyRun.sl.v776, bodyRun.sl.v803, bodyRun.sl.v83, bodyRun.sl.v839, bodyRun.sl.v848, bodyRun.sl.v875, bodyRun.sl.v884, bodyRun.sl.v887, bodyRun.sl.v91, bodyRun.sl.v911, bodyRun.sl.v92, bodyRun.sl.v920, bodyRun.sl.v947, bodyRun.sl.v956, bodyRun.sl.v983, bodyRun.sl.v992, bodyRun.sl.H17_1, bodyRun.sl.H17_10, bodyRun.sl.H17_11, bodyRun.sl.H17_12, bodyRun.sl.H17_13, bodyRun.sl.H17_14, bodyRun.sl.H17_15, bodyRun.sl.H17_18, bodyRun.sl.H17_19, bodyRun.sl.H17_2, bodyRun.sl.H17_20, bodyRun.sl.H17_21, bodyRun.sl.H17_22, bodyRun.sl.H17_23, bodyRun.sl.H17_24, bodyRun.sl.H17_25, bodyRun.sl.H17_26, bodyRun.sl.H17_27, bodyRun.sl.H17_28, bodyRun.sl.H17_29, bodyRun.sl.H17_3, bodyRun.sl.H17_30, bodyRun.sl.H17_31, bodyRun.sl.H17_32, bodyRun.sl.H17_4, bodyRun.sl.H17_5, bodyRun.sl.H17_6, bodyRun.sl.H17_7, bodyRun.sl.H17_8, bodyRun.sl.H17_9, bodyRun.sl.H17_16, hS, hL, hD, hR]
  canon_tiles x h
  all_goals
    pointwise [k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, DT, PT, msk]
    try (set_option backward.isDefEq.respectTransparency false in
      simp only [hL, hR]); pointwise []
    have e0 := fun h => congrArg lr (Fin.ext (a := ⟨_, h⟩) h0.symm)
    have d0 := fun h => congrArg dr (Fin.ext (a := ⟨_, h⟩) h0.symm)
    have eS : ∀ h, S (ix2 ⟨_, h⟩ (x 1)) = S y := fun h => congrArg S (by
      funext a
      fin_cases a
      · exact Fin.ext h0.symm
      · exact Fin.ext h1.symm)
    have eD : ∀ h, DP (ix2 ⟨_, h⟩ (x 1)) = DP y := fun h => congrArg DP (by
      funext a
      fin_cases a
      · exact Fin.ext h0.symm
      · exact Fin.ext h1.symm)
    set_option backward.isDefEq.respectTransparency false in
    simp only [e0, eS, d0, eD, dite_eq_ite, ite_self]

    rw [mask_sel _ _ (512 * (2 * (i 1 : ℕ) + 0) + (y 1 : ℕ)) (1024 * (i 1 : ℕ) + (y 0 : ℕ)) (by
      simp only [IntOp.addi, IntOp.muli, Scalar.muli, Scalar.addi, BitVec.toNat_add, BitVec.toNat_mul, BitVec.toNat_ofNat]; omega) (by
      simp only [IntOp.addi, IntOp.muli, Scalar.muli, Scalar.addi, BitVec.toNat_add, BitVec.toNat_mul, BitVec.toNat_ofNat]; omega) (by omega) (by omega)]
    try simp only [neg_top]
    try rfl

set_option maxHeartbeats 4000000 in
theorem body_p2 (S : S1024x512.Idx → EReal) (lr : Fin 1024 → EReal)
    (hS : ∀ B, arg14.view.readCov (bodyRun.sl.H14_2 c i arg2 arg3 arg4 f2 f3 f4) B = fun j => S (B.idx j))
    (hL : ∀ B, arg18.view.readCov (bodyRun.sl.H18_1 c arg7 f7) B = fun j => lr (B.idx j 0))
    (y : S1024x512.Idx) : View.canon (bodyRun.sl.H16_32 c i arg2 arg3 arg4 arg7 arg14 arg18 f2 f3 f4 f7) y
      = PT (msk (1024 * (i 1 : ℕ)) (512 * (2 * (i 1 : ℕ) + 1)) S) lr y := by
  have hi : (i 1 : ℕ) < 8 := (i 1).isLt
  simp only [bodyRun.sl.H16_1, bodyRun.sl.H16_10, bodyRun.sl.H16_11, bodyRun.sl.H16_12, bodyRun.sl.H16_13, bodyRun.sl.H16_14, bodyRun.sl.H16_17, bodyRun.sl.H16_18, bodyRun.sl.H16_19, bodyRun.sl.H16_2, bodyRun.sl.H16_20, bodyRun.sl.H16_21, bodyRun.sl.H16_22, bodyRun.sl.H16_23, bodyRun.sl.H16_24, bodyRun.sl.H16_25, bodyRun.sl.H16_26, bodyRun.sl.H16_27, bodyRun.sl.H16_28, bodyRun.sl.H16_29, bodyRun.sl.H16_3, bodyRun.sl.H16_30, bodyRun.sl.H16_31, bodyRun.sl.H16_32, bodyRun.sl.H16_4, bodyRun.sl.H16_5, bodyRun.sl.H16_6, bodyRun.sl.H16_7, bodyRun.sl.H16_8, bodyRun.sl.H16_9, bodyRun.sl.cst_318, bodyRun.sl.cst_326, bodyRun.sl.cst_336, bodyRun.sl.cst_348, bodyRun.sl.r, bodyRun.sl.r_1, bodyRun.sl.r_10, bodyRun.sl.r_11, bodyRun.sl.r_12, bodyRun.sl.r_13, bodyRun.sl.r_14, bodyRun.sl.r_15, bodyRun.sl.r_16, bodyRun.sl.r_17, bodyRun.sl.r_18, bodyRun.sl.r_19, bodyRun.sl.r_2, bodyRun.sl.r_20, bodyRun.sl.r_21, bodyRun.sl.r_22, bodyRun.sl.r_23, bodyRun.sl.r_24, bodyRun.sl.r_25, bodyRun.sl.r_26, bodyRun.sl.r_27, bodyRun.sl.r_28, bodyRun.sl.r_29, bodyRun.sl.r_3, bodyRun.sl.r_30, bodyRun.sl.r_31, bodyRun.sl.r_32, bodyRun.sl.r_33, bodyRun.sl.r_34, bodyRun.sl.r_4, bodyRun.sl.r_5, bodyRun.sl.r_6, bodyRun.sl.r_7, bodyRun.sl.r_8, bodyRun.sl.r_9, bodyRun.sl.v, bodyRun.sl.v0, bodyRun.sl.v1, bodyRun.sl.v100, bodyRun.sl.v1019, bodyRun.sl.v1028, bodyRun.sl.v1055, bodyRun.sl.v1064, bodyRun.sl.v1091, bodyRun.sl.v1100, bodyRun.sl.v1127, bodyRun.sl.v1136, bodyRun.sl.v1163, bodyRun.sl.v1172, bodyRun.sl.v119, bodyRun.sl.v1199, bodyRun.sl.v1208, bodyRun.sl.v1235, bodyRun.sl.v1244, bodyRun.sl.v127, bodyRun.sl.v1270, bodyRun.sl.v1271, bodyRun.sl.v1274, bodyRun.sl.v1275, bodyRun.sl.v1276, bodyRun.sl.v1277, bodyRun.sl.v1278, bodyRun.sl.v1279, bodyRun.sl.v128, bodyRun.sl.v1281, bodyRun.sl.v1282, bodyRun.sl.v1284, bodyRun.sl.v1285, bodyRun.sl.v1286, bodyRun.sl.v1289, bodyRun.sl.v1290, bodyRun.sl.v1292, bodyRun.sl.v1293, bodyRun.sl.v1296, bodyRun.sl.v1297, bodyRun.sl.v1298, bodyRun.sl.v1301, bodyRun.sl.v1302, bodyRun.sl.v1313, bodyRun.sl.v1314, bodyRun.sl.v1320, bodyRun.sl.v1338, bodyRun.sl.v1341, bodyRun.sl.v1347, bodyRun.sl.v1349, bodyRun.sl.v136, bodyRun.sl.v155, bodyRun.sl.v163, bodyRun.sl.v164, bodyRun.sl.v172, bodyRun.sl.v173, bodyRun.sl.v174, bodyRun.sl.v191, bodyRun.sl.v199, bodyRun.sl.v2, bodyRun.sl.v200, bodyRun.sl.v208, bodyRun.sl.v227, bodyRun.sl.v235, bodyRun.sl.v236, bodyRun.sl.v244, bodyRun.sl.v251, bodyRun.sl.v263, bodyRun.sl.v271, bodyRun.sl.v272, bodyRun.sl.v280, bodyRun.sl.v299, bodyRun.sl.v307, bodyRun.sl.v308, bodyRun.sl.v316, bodyRun.sl.v335, bodyRun.sl.v34, bodyRun.sl.v343, bodyRun.sl.v344, bodyRun.sl.v35, bodyRun.sl.v352, bodyRun.sl.v37, bodyRun.sl.v371, bodyRun.sl.v379, bodyRun.sl.v38, bodyRun.sl.v380, bodyRun.sl.v388, bodyRun.sl.v39, bodyRun.sl.v40, bodyRun.sl.v407, bodyRun.sl.v41, bodyRun.sl.v415, bodyRun.sl.v416, bodyRun.sl.v42, bodyRun.sl.v424, bodyRun.sl.v443, bodyRun.sl.v451, bodyRun.sl.v452, bodyRun.sl.v460, bodyRun.sl.v479, bodyRun.sl.v487, bodyRun.sl.v488, bodyRun.sl.v496, bodyRun.sl.v515, bodyRun.sl.v523, bodyRun.sl.v524, bodyRun.sl.v532, bodyRun.sl.v551, bodyRun.sl.v559, bodyRun.sl.v560, bodyRun.sl.v568, bodyRun.sl.v587, bodyRun.sl.v59, bodyRun.sl.v595, bodyRun.sl.v596, bodyRun.sl.v604, bodyRun.sl.v623, bodyRun.sl.v631, bodyRun.sl.v632, bodyRun.sl.v633, bodyRun.sl.v634, bodyRun.sl.v635, bodyRun.sl.v636, bodyRun.sl.v637, bodyRun.sl.v638, bodyRun.sl.v639, bodyRun.sl.v64, bodyRun.sl.v640, bodyRun.sl.v641, bodyRun.sl.v642, bodyRun.sl.v643, bodyRun.sl.v644, bodyRun.sl.v645, bodyRun.sl.v646, bodyRun.sl.v649, bodyRun.sl.v650, bodyRun.sl.v652, bodyRun.sl.v653, bodyRun.sl.v655, bodyRun.sl.v656, bodyRun.sl.v657, bodyRun.sl.v658, bodyRun.sl.v661, bodyRun.sl.v662, bodyRun.sl.v667, bodyRun.sl.v668, bodyRun.sl.v671, bodyRun.sl.v672, bodyRun.sl.v673, bodyRun.sl.v675, bodyRun.sl.v676, bodyRun.sl.v678, bodyRun.sl.v679, bodyRun.sl.v681, bodyRun.sl.v682, bodyRun.sl.v684, bodyRun.sl.v686, bodyRun.sl.v687, bodyRun.sl.v690, bodyRun.sl.v691, bodyRun.sl.v692, bodyRun.sl.v695, bodyRun.sl.v696, bodyRun.sl.v697, bodyRun.sl.v704, bodyRun.sl.v731, bodyRun.sl.v737, bodyRun.sl.v740, bodyRun.sl.v767, bodyRun.sl.v776, bodyRun.sl.v803, bodyRun.sl.v83, bodyRun.sl.v839, bodyRun.sl.v848, bodyRun.sl.v875, bodyRun.sl.v884, bodyRun.sl.v887, bodyRun.sl.v91, bodyRun.sl.v911, bodyRun.sl.v92, bodyRun.sl.v920, bodyRun.sl.v947, bodyRun.sl.v956, bodyRun.sl.v983, bodyRun.sl.v992, hS, hL]
  rw [canon_app16 (h := by
    have y0_lt : (y 0 : ℕ) < 1024 := (y 0).isLt
    have y1_lt : (y 1 : ℕ) < 512 := (y 1).isLt
    simp only [List.mem_cons, List.not_mem_nil, or_false, exists_eq_or_imp, exists_eq_left, Rect.mem_set_unit, Fin.forall_fin_two]
    simp
    omega)]
  canon_tiles x h
  all_goals
    pointwise [k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, PT, msk]
    try (set_option backward.isDefEq.respectTransparency false in
      simp only [hL]); pointwise []
    have e0 := fun h => congrArg lr (Fin.ext (a := ⟨_, h⟩) h0.symm)
    have eS : ∀ h, S (ix2 ⟨_, h⟩ (x 1)) = S y := fun h => congrArg S (by
      funext a
      fin_cases a
      · exact Fin.ext h0.symm
      · exact Fin.ext h1.symm)
    set_option backward.isDefEq.respectTransparency false in
    simp only [e0, eS, dite_eq_ite, ite_self]

    rw [mask_sel _ _ (512 * (2 * (i 1 : ℕ) + 1) + (y 1 : ℕ)) (1024 * (i 1 : ℕ) + (y 0 : ℕ)) (by
      simp only [IntOp.addi, IntOp.muli, Scalar.muli, Scalar.addi, BitVec.toNat_add, BitVec.toNat_mul, BitVec.toNat_ofNat]; omega) (by
      simp only [IntOp.addi, IntOp.muli, Scalar.muli, Scalar.addi, BitVec.toNat_add, BitVec.toNat_mul, BitVec.toNat_ofNat]; omega) (by omega) (by omega)]
    try simp only [neg_top]
    try rfl

set_option maxHeartbeats 4000000 in
theorem body_ds2 (S DP : S1024x512.Idx → EReal) (lr dr : Fin 1024 → EReal)
    (hS : ∀ B, arg14.view.readCov (bodyRun.sl.H14_2 c i arg2 arg3 arg4 f2 f3 f4) B = fun j => S (B.idx j))
    (hD : ∀ B, arg15.view.readCov (bodyRun.sl.H15_2 c i arg3 arg6 arg20 f3 f6) B = fun j => DP (B.idx j))
    (hL : ∀ B, arg18.view.readCov (bodyRun.sl.H18_1 c arg7 f7) B = fun j => lr (B.idx j 0))
    (hR : ∀ B, arg19.view.readCov (bodyRun.sl.H19_1 c arg5 arg6 f5 f6) B = fun j => dr (B.idx j 0))
    (y : S1024x512.Idx) : View.canon (bodyRun.sl.H17_32 c i arg2 arg3 arg4 arg5 arg6 arg7 arg14 arg15 arg18 arg19 arg20 f2 f3 f4 f5 f6 f7) y
      = DT (msk (1024 * (i 1 : ℕ)) (512 * (2 * (i 1 : ℕ) + 1)) S) DP lr dr y := by
  have hi : (i 1 : ℕ) < 8 := (i 1).isLt
  simp only [bodyRun.sl.H16_1, bodyRun.sl.H16_10, bodyRun.sl.H16_11, bodyRun.sl.H16_12, bodyRun.sl.H16_13, bodyRun.sl.H16_14, bodyRun.sl.H16_17, bodyRun.sl.H16_18, bodyRun.sl.H16_19, bodyRun.sl.H16_2, bodyRun.sl.H16_20, bodyRun.sl.H16_21, bodyRun.sl.H16_22, bodyRun.sl.H16_23, bodyRun.sl.H16_24, bodyRun.sl.H16_25, bodyRun.sl.H16_26, bodyRun.sl.H16_27, bodyRun.sl.H16_28, bodyRun.sl.H16_29, bodyRun.sl.H16_3, bodyRun.sl.H16_30, bodyRun.sl.H16_31, bodyRun.sl.H16_32, bodyRun.sl.H16_4, bodyRun.sl.H16_5, bodyRun.sl.H16_6, bodyRun.sl.H16_7, bodyRun.sl.H16_8, bodyRun.sl.H16_9, bodyRun.sl.cst_318, bodyRun.sl.cst_326, bodyRun.sl.cst_336, bodyRun.sl.cst_348, bodyRun.sl.r, bodyRun.sl.r_1, bodyRun.sl.r_10, bodyRun.sl.r_11, bodyRun.sl.r_12, bodyRun.sl.r_13, bodyRun.sl.r_14, bodyRun.sl.r_15, bodyRun.sl.r_16, bodyRun.sl.r_17, bodyRun.sl.r_18, bodyRun.sl.r_19, bodyRun.sl.r_2, bodyRun.sl.r_20, bodyRun.sl.r_21, bodyRun.sl.r_22, bodyRun.sl.r_23, bodyRun.sl.r_24, bodyRun.sl.r_25, bodyRun.sl.r_26, bodyRun.sl.r_27, bodyRun.sl.r_28, bodyRun.sl.r_29, bodyRun.sl.r_3, bodyRun.sl.r_30, bodyRun.sl.r_31, bodyRun.sl.r_32, bodyRun.sl.r_33, bodyRun.sl.r_34, bodyRun.sl.r_4, bodyRun.sl.r_5, bodyRun.sl.r_6, bodyRun.sl.r_7, bodyRun.sl.r_8, bodyRun.sl.r_9, bodyRun.sl.v, bodyRun.sl.v0, bodyRun.sl.v1, bodyRun.sl.v100, bodyRun.sl.v1019, bodyRun.sl.v1028, bodyRun.sl.v1055, bodyRun.sl.v1064, bodyRun.sl.v1091, bodyRun.sl.v1100, bodyRun.sl.v1127, bodyRun.sl.v1136, bodyRun.sl.v1163, bodyRun.sl.v1172, bodyRun.sl.v119, bodyRun.sl.v1199, bodyRun.sl.v1208, bodyRun.sl.v1235, bodyRun.sl.v1244, bodyRun.sl.v127, bodyRun.sl.v1270, bodyRun.sl.v1271, bodyRun.sl.v1274, bodyRun.sl.v1275, bodyRun.sl.v1276, bodyRun.sl.v1277, bodyRun.sl.v1278, bodyRun.sl.v1279, bodyRun.sl.v128, bodyRun.sl.v1281, bodyRun.sl.v1282, bodyRun.sl.v1284, bodyRun.sl.v1285, bodyRun.sl.v1286, bodyRun.sl.v1289, bodyRun.sl.v1290, bodyRun.sl.v1292, bodyRun.sl.v1293, bodyRun.sl.v1296, bodyRun.sl.v1297, bodyRun.sl.v1298, bodyRun.sl.v1301, bodyRun.sl.v1302, bodyRun.sl.v1313, bodyRun.sl.v1314, bodyRun.sl.v1320, bodyRun.sl.v1338, bodyRun.sl.v1341, bodyRun.sl.v1347, bodyRun.sl.v1349, bodyRun.sl.v136, bodyRun.sl.v155, bodyRun.sl.v163, bodyRun.sl.v164, bodyRun.sl.v172, bodyRun.sl.v173, bodyRun.sl.v174, bodyRun.sl.v191, bodyRun.sl.v199, bodyRun.sl.v2, bodyRun.sl.v200, bodyRun.sl.v208, bodyRun.sl.v227, bodyRun.sl.v235, bodyRun.sl.v236, bodyRun.sl.v244, bodyRun.sl.v251, bodyRun.sl.v263, bodyRun.sl.v271, bodyRun.sl.v272, bodyRun.sl.v280, bodyRun.sl.v299, bodyRun.sl.v307, bodyRun.sl.v308, bodyRun.sl.v316, bodyRun.sl.v335, bodyRun.sl.v34, bodyRun.sl.v343, bodyRun.sl.v344, bodyRun.sl.v35, bodyRun.sl.v352, bodyRun.sl.v37, bodyRun.sl.v371, bodyRun.sl.v379, bodyRun.sl.v38, bodyRun.sl.v380, bodyRun.sl.v388, bodyRun.sl.v39, bodyRun.sl.v40, bodyRun.sl.v407, bodyRun.sl.v41, bodyRun.sl.v415, bodyRun.sl.v416, bodyRun.sl.v42, bodyRun.sl.v424, bodyRun.sl.v443, bodyRun.sl.v451, bodyRun.sl.v452, bodyRun.sl.v460, bodyRun.sl.v479, bodyRun.sl.v487, bodyRun.sl.v488, bodyRun.sl.v496, bodyRun.sl.v515, bodyRun.sl.v523, bodyRun.sl.v524, bodyRun.sl.v532, bodyRun.sl.v551, bodyRun.sl.v559, bodyRun.sl.v560, bodyRun.sl.v568, bodyRun.sl.v587, bodyRun.sl.v59, bodyRun.sl.v595, bodyRun.sl.v596, bodyRun.sl.v604, bodyRun.sl.v623, bodyRun.sl.v631, bodyRun.sl.v632, bodyRun.sl.v633, bodyRun.sl.v634, bodyRun.sl.v635, bodyRun.sl.v636, bodyRun.sl.v637, bodyRun.sl.v638, bodyRun.sl.v639, bodyRun.sl.v64, bodyRun.sl.v640, bodyRun.sl.v641, bodyRun.sl.v642, bodyRun.sl.v643, bodyRun.sl.v644, bodyRun.sl.v645, bodyRun.sl.v646, bodyRun.sl.v649, bodyRun.sl.v650, bodyRun.sl.v652, bodyRun.sl.v653, bodyRun.sl.v655, bodyRun.sl.v656, bodyRun.sl.v657, bodyRun.sl.v658, bodyRun.sl.v661, bodyRun.sl.v662, bodyRun.sl.v667, bodyRun.sl.v668, bodyRun.sl.v671, bodyRun.sl.v672, bodyRun.sl.v673, bodyRun.sl.v675, bodyRun.sl.v676, bodyRun.sl.v678, bodyRun.sl.v679, bodyRun.sl.v681, bodyRun.sl.v682, bodyRun.sl.v684, bodyRun.sl.v686, bodyRun.sl.v687, bodyRun.sl.v690, bodyRun.sl.v691, bodyRun.sl.v692, bodyRun.sl.v695, bodyRun.sl.v696, bodyRun.sl.v697, bodyRun.sl.v704, bodyRun.sl.v731, bodyRun.sl.v737, bodyRun.sl.v740, bodyRun.sl.v767, bodyRun.sl.v776, bodyRun.sl.v803, bodyRun.sl.v83, bodyRun.sl.v839, bodyRun.sl.v848, bodyRun.sl.v875, bodyRun.sl.v884, bodyRun.sl.v887, bodyRun.sl.v91, bodyRun.sl.v911, bodyRun.sl.v92, bodyRun.sl.v920, bodyRun.sl.v947, bodyRun.sl.v956, bodyRun.sl.v983, bodyRun.sl.v992, bodyRun.sl.H17_1, bodyRun.sl.H17_10, bodyRun.sl.H17_11, bodyRun.sl.H17_12, bodyRun.sl.H17_13, bodyRun.sl.H17_14, bodyRun.sl.H17_15, bodyRun.sl.H17_18, bodyRun.sl.H17_19, bodyRun.sl.H17_2, bodyRun.sl.H17_20, bodyRun.sl.H17_21, bodyRun.sl.H17_22, bodyRun.sl.H17_23, bodyRun.sl.H17_24, bodyRun.sl.H17_25, bodyRun.sl.H17_26, bodyRun.sl.H17_27, bodyRun.sl.H17_28, bodyRun.sl.H17_29, bodyRun.sl.H17_3, bodyRun.sl.H17_30, bodyRun.sl.H17_31, bodyRun.sl.H17_32, bodyRun.sl.H17_4, bodyRun.sl.H17_5, bodyRun.sl.H17_6, bodyRun.sl.H17_7, bodyRun.sl.H17_8, bodyRun.sl.H17_9, hS, hL, hD, hR]
  rw [canon_app16 (h := by
    have y0_lt : (y 0 : ℕ) < 1024 := (y 0).isLt
    have y1_lt : (y 1 : ℕ) < 512 := (y 1).isLt
    simp only [List.mem_cons, List.not_mem_nil, or_false, exists_eq_or_imp, exists_eq_left, Rect.mem_set_unit, Fin.forall_fin_two]
    simp
    omega)]
  canon_tiles x h
  all_goals
    pointwise [k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, DT, PT, msk]
    try (set_option backward.isDefEq.respectTransparency false in
      simp only [hL, hR]); pointwise []
    have e0 := fun h => congrArg lr (Fin.ext (a := ⟨_, h⟩) h0.symm)
    have d0 := fun h => congrArg dr (Fin.ext (a := ⟨_, h⟩) h0.symm)
    have eS : ∀ h, S (ix2 ⟨_, h⟩ (x 1)) = S y := fun h => congrArg S (by
      funext a
      fin_cases a
      · exact Fin.ext h0.symm
      · exact Fin.ext h1.symm)
    have eD : ∀ h, DP (ix2 ⟨_, h⟩ (x 1)) = DP y := fun h => congrArg DP (by
      funext a
      fin_cases a
      · exact Fin.ext h0.symm
      · exact Fin.ext h1.symm)
    set_option backward.isDefEq.respectTransparency false in
    simp only [e0, eS, d0, eD, dite_eq_ite, ite_self]

    rw [mask_sel _ _ (512 * (2 * (i 1 : ℕ) + 1) + (y 1 : ℕ)) (1024 * (i 1 : ℕ) + (y 0 : ℕ)) (by
      simp only [IntOp.addi, IntOp.muli, Scalar.muli, Scalar.addi, BitVec.toNat_add, BitVec.toNat_mul, BitVec.toNat_ofNat]; omega) (by
      simp only [IntOp.addi, IntOp.muli, Scalar.muli, Scalar.addi, BitVec.toNat_add, BitVec.toNat_mul, BitVec.toNat_ofNat]; omega) (by omega) (by omega)]
    try simp only [neg_top]
    try rfl

end
-- ==== Proof.Sums.lean ====
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import proofs.«01_k».proof.Proof.Tiles
import all proofs.«01_k».proof.Proof.Trip
import all proofs.«01_k».proof.Proof.Body
import all proofs.«01_k».proof.Proof.Tiles
public import Idealize.ShloMosaic.Lib.Tactic
public import Idealize.ShloMosaic.Lib.WritesUnit
public import Idealize.ShloMosaic.Lib.VecWindow
public import Idealize.ShloMosaic.Lib.WordCmp
public import Idealize.ShloMosaic.Lib.Pipeline.ValueKit
public import Idealize.ShloMosaic.Lib.Pipeline.ReadBack

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- A key's position. -/
def key (n : ℕ) : Fin 8192 := Fin.ofNat 8192 n
/-- The score of a row and a key: their shared lanes and the rotary lanes. -/
def sc (Q : S1x1024x256.Idx → EReal) (KV : S1x8192x256.Idx → EReal) (KR : S8192x128.Idx → EReal) (r : Fin 1024) (j : Fin 8192) : EReal :=
  (∑ x : Fin 128, Q (ix3 0 r ⟨x, by omega⟩) * KV (ix3 0 j ⟨x, by omega⟩)) + ∑ x : Fin 128, Q (ix3 0 r ⟨128 + x, by omega⟩) * KR (ix2 j x)
/-- The gradient of a probability. -/
def dpr (KV : S1x8192x256.Idx → EReal) (dO : S1024x128.Idx → EReal) (r : Fin 1024) (j : Fin 8192) : EReal :=
  ∑ x : Fin 128, dO (ix2 r x) * KV (ix3 0 j ⟨128 + x, by omega⟩)
/-- A tile of the scores at the keys from `j0`. -/
def scT (Q : S1x1024x256.Idx → EReal) (KV : S1x8192x256.Idx → EReal) (KR : S8192x128.Idx → EReal) (j0 : ℕ) (y : S1024x512.Idx) : EReal :=
  sc Q KV KR (y 0) (key (j0 + (y 1 : ℕ)))
/-- A tile of the probabilities' gradients at the keys from `j0`. -/
def dpT (KV : S1x8192x256.Idx → EReal) (dO : S1024x128.Idx → EReal) (j0 : ℕ) (y : S1024x512.Idx) : EReal :=
  dpr KV dO (y 0) (key (j0 + (y 1 : ℕ)))
/-- The keys' lanes the scores' gradients multiply. -/
def kl (KV : S1x8192x256.Idx → EReal) (KR : S8192x128.Idx → EReal) (j : Fin 8192) (d : Fin 256) : EReal :=
  if h : (d : ℕ) < 128 then KV (ix3 0 j d) else KR (ix2 j ⟨d - 128, by omega⟩)

theorem key_val (j : Fin 8192) : key (j : ℕ) = j := Fin.ext (Nat.mod_eq_of_lt j.isLt)
theorem key_eq {n : ℕ} {j : Fin 8192} (h : n = j) : key n = j := by rw [h, key_val]
section
variable (i : grid0.Coords)

theorem trips_eq : (k0_t1_loop i).trips = 2 * (i 1 : ℕ) := by
  revert i
  have h : ∀ j : Fin 8, ∀ i : grid0.Coords, i 1 = j → (k0_t1_loop i).trips = 2 * (j : ℕ) := by
    intro j i hi
    have h' : ∀ j : Fin 8, Scf.Loop.trips (w := 32) { lb := 0#32, ub := Scalar.addi 0#32 (Scalar.muli (Scalar.divsi (Scalar.subi (Scalar.muli (BitVec.ofNat 32 j.val) 2#32) 0#32) 1#32) 1#32), st := 1#32 } = 2 * (j : ℕ) := by
      decide
    unfold k0_t1_loop
    rw [hi]
    exact h' j
  exact fun i => h (i 1) i rfl

end

section
variable {sg : RefSig} {kd : Kind} {sp : Space} {s : Shape} {e : EltTy} {Val : EltTy → Type}

/-- A load through a unit-stride rectangle, at an index: the element at the rectangle's offsets plus the index. -/
theorem rd {v : View sg kd sp s e} {f : v.ty.Contents Val} {off off' size : Fin s.rank → ℕ} {inb : ∀ a, off a + size a ≤ s.size a}
    {x : (Rect.unit off size inb).toLoadRect.shape.Idx} (y : s.Idx) (heq : off = off') (h : ∀ a, (y a).val = off' a + (x a).val) :
    v.readAt Val (Rect.unit off size inb).toLoadRect f x = v.read Val f y := by
  subst heq
  rw [View.readAt_apply]
  congr 1
  funext a
  apply Fin.ext
  rw [h a]
  show off a + 1 * (x a).val = _
  rw [Nat.one_mul]

end

section
variable {s : Shape} {off : Fin s.rank → ℕ}
theorem idx_whole {inb : ∀ a, off a + s.size a ≤ s.size a} (x : s.Idx) (h : ∀ a, off a = 0) : (Rect.unit off s.size inb).toLoadRect.idx x = x := by
  funext a
  apply Fin.ext
  show off a + 1 * (x a).val = _
  rw [h a]; omega
end

section

variable (c : Dev nD) (i : grid0.Coords)
  (arg2 : Memref sig .tc .vmem S1x1024x256 .bf16) (harg2 : arg2.IsWhole)
  (arg3 : Memref sig .tc .vmem S1x8192x256 .bf16) (harg3 : arg3.IsWhole)
  (arg4 : Memref sig .tc .vmem S8192x128 .bf16) (harg4 : arg4.IsWhole)
  (arg5 : Memref sig .tc .vmem S1024x128 .f32) (harg5 : arg5.IsWhole)
  (arg6 : Memref sig .tc .vmem S1024x128 .f32) (harg6 : arg6.IsWhole)
  (arg7 : Memref sig .tc .vmem S1x1024x128 .f32) (harg7 : arg7.IsWhole)
  (arg8 : Memref sig .tc .vmem S1024x128 .f32) (harg8 : arg8.IsWhole)
  (arg9 : Memref sig .tc .vmem S1x1024x256 .bf16) (harg9 : arg9.IsWhole)
  (arg10 : Memref sig .tc .vmem S1x8192x256 .bf16) (harg10 : arg10.IsWhole)
  (arg11 : Memref sig .tc .vmem S8192x128 .f32) (harg11 : arg11.IsWhole)
  (arg12 : Memref sig .tc .vmem S8192x256 .f32) (harg12 : arg12.IsWhole)
  (arg13 : Memref sig .tc .vmem S8192x128 .f32) (harg13 : arg13.IsWhole)
  (arg14 : Memref sig .tc .vmem S1024x512 .f32) (harg14 : arg14.IsWhole)
  (arg15 : Memref sig .tc .vmem S1024x512 .f32) (harg15 : arg15.IsWhole)
  (arg16 : Memref sig .tc .vmem S1024x512 .bf16) (harg16 : arg16.IsWhole)
  (arg17 : Memref sig .tc .vmem S1024x512 .bf16) (harg17 : arg17.IsWhole)
  (arg18 : Memref sig .tc .vmem S1024x128 .f32) (harg18 : arg18.IsWhole)
  (arg19 : Memref sig .tc .vmem S1024x128 .f32) (harg19 : arg19.IsWhole)
  (arg20 : Memref sig .tc .vmem S1024x128 .bf16) (harg20 : arg20.IsWhole)
  (arg21 : Memref sig .tc .vmem S1024x256 .f32) (harg21 : arg21.IsWhole)
variable (arg1 : BitVec 32) (v30 : FVec Ideal S1024x256 .f32)
variable (k : Fin (k0_t1_loop i).trips)
  (f2 : Buf (Elt Ideal) (arg2.view.loc (c : Thread nD τ))) (f3 : Buf (Elt Ideal) (arg3.view.loc (c : Thread nD τ))) (f4 : Buf (Elt Ideal) (arg4.view.loc (c : Thread nD τ))) (f18 : Buf (Elt Ideal) (arg18.view.loc (c : Thread nD τ))) (f19 : Buf (Elt Ideal) (arg19.view.loc (c : Thread nD τ))) (f20 : Buf (Elt Ideal) (arg20.view.loc (c : Thread nD τ))) (f12 : Buf (Elt Ideal) (arg12.view.loc (c : Thread nD τ))) (f13 : Buf (Elt Ideal) (arg13.view.loc (c : Thread nD τ))) (f21 : Buf (Elt Ideal) (arg21.view.loc (c : Thread nD τ)))

include k in
theorem k_lt : (k : ℕ) < 14 := by
  have h1 := k.isLt
  have h2 := trips_eq i
  have h4 : (i 1 : ℕ) < 8 := (i 1).isLt
  omega

theorem trip_S (B : LoadRect S1024x512) : arg14.view.readCov (tripRun.sl.H14_1 (F := Ideal) c i arg2 arg3 arg4 k f2 f3 f4) B
    = fun j => scT (arg2.view.read (Elt Ideal) f2) (arg3.view.read (Elt Ideal) f3) (arg4.view.read (Elt Ideal) f4) (512 * k) (B.idx j) := by
  have hk := k_lt i k
  rw [View.readCov_eq_canon', tripRun.sl.H14_1, View.canon_cons_unit_lit _ _ _ (by decide)]
  funext x
  generalize B.idx x = y
  have hy : (y 1 : ℕ) < 512 := (y 1).isLt
  have e : (key (512 * (k : ℕ) + (y 1 : ℕ)) : ℕ) = 512 * (k : ℕ) + (y 1 : ℕ) := Nat.mod_eq_of_lt (by omega)
  pointwise [k0_pay6, k0_pay5]
  unfold scT sc
  refine congrArg₂ (· + ·) (Finset.sum_congr rfl fun x _ => congrArg₂ (· * ·) ?_ ?_) (Finset.sum_congr rfl fun x _ => congrArg₂ (· * ·) ?_ ?_)
  · exact rd _ rfl (by intro a; fin_cases a <;> simp)
  · exact rd _ (k0_off1_eq i k) (by intro a; fin_cases a <;> simp [e])
  · exact rd _ rfl (by intro a; fin_cases a <;> simp)
  · exact rd _ (k0_off2_eq i k) (by intro a; fin_cases a <;> simp [e])

theorem trip_D (B : LoadRect S1024x512) : arg15.view.readCov (tripRun.sl.H15_1 (F := Ideal) c i arg3 arg20 k f3 f20) B
    = fun j => dpT (arg3.view.read (Elt Ideal) f3) (arg20.view.read (Elt Ideal) f20) (512 * k) (B.idx j) := by
  have hk := k_lt i k
  rw [View.readCov_eq_canon', tripRun.sl.H15_1, View.canon_cons_unit_lit _ _ _ (by decide)]
  funext x
  generalize B.idx x = y
  have hy : (y 1 : ℕ) < 512 := (y 1).isLt
  have e : (key (512 * (k : ℕ) + (y 1 : ℕ)) : ℕ) = 512 * (k : ℕ) + (y 1 : ℕ) := Nat.mod_eq_of_lt (by omega)
  pointwise [k0_pay7, k0_pay5]
  unfold dpT dpr
  refine Finset.sum_congr rfl fun x _ => congrArg₂ (· * ·) ?_ ?_
  · exact rd _ rfl (by intro a; fin_cases a <;> simp)
  · exact rd _ (k0_off1_eq i k) (by intro a; fin_cases a <;> simp [e])

theorem trip12 (T : S1024x512.Idx → EReal)
    (hT : ∀ y, View.canon (tripRun.sl.H17_16 (F := Ideal) c i arg2 arg3 arg4 arg14 arg15 arg18 arg19 arg20 k f2 f3 f4 f18 f19 f20) y = T y) (j : Fin 8192) (d : Fin 256) :
    arg12.view.read (Elt Ideal) (arg12.view.writes (Elt Ideal) f12 (tripRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v30 k f2 f3 f4 f18 f19 f20 f12 f13 f21).1.1) (ix2 j d)
      = arg12.view.read (Elt Ideal) f12 (ix2 j d) + if h : 512 * (k : ℕ) ≤ (j : ℕ) ∧ (j : ℕ) < 512 * k + 512 then
          ∑ r : Fin 1024, T (ix2 r ⟨(j : ℕ) - 512 * k, by omega⟩) * arg2.view.read (Elt Ideal) f2 (ix3 0 r d) else 0 := by
  unfold tripRun
  dsimp only
  by_cases h : 512 * (k : ℕ) ≤ (j : ℕ) ∧ (j : ℕ) < 512 * k + 512
  · rw [dif_pos h]
    refine (View.read_writes_cons_unit_of_mem arg12.view f12 _ _ _ _ (ix2 ⟨(j : ℕ) - 512 * k, by omega⟩ d) (k0_off3_eq i k)
      (by intro a; fin_cases a <;> simp; omega)).trans ?_
    pointwise [tripRun.sl.v1702, tripRun.sl.v1698, tripRun.sl.v1697, tripRun.sl.v1696, tripRun.sl.v1695, tripRun.sl.v1693, tripRun.sl.cst_932]
    refine congrArg₂ (· + ·) ?_ ?_
    · exact rd _ (k0_off3_eq i k) (by intro a; fin_cases a <;> simp; omega)
    · refine Finset.sum_congr rfl fun x _ => congrArg₂ (fun a b : EReal => a * b) ?_ ?_
      · rw [View.readCov_eq_canon']
        refine (hT _).trans (congrArg T ?_)
        exact idx_whole _ (by decide)
      · exact rd _ rfl (by intro a; fin_cases a <;> simp)
  · rw [dif_neg h, add_zero]
    refine (View.read_writes_cons_unit_of_not_mem arg12.view f12 _ _ _ _ (k0_off3_eq i k) 0 ?_).trans ?_
    · simp; omega
    · rfl

theorem trip13 (T : S1024x512.Idx → EReal)
    (hT : ∀ y, View.canon (tripRun.sl.H16_16 (F := Ideal) c i arg2 arg3 arg4 arg14 arg18 k f2 f3 f4 f18) y = T y) (j : Fin 8192) (d : Fin 128) :
    arg13.view.read (Elt Ideal) (arg13.view.writes (Elt Ideal) f13 (tripRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v30 k f2 f3 f4 f18 f19 f20 f12 f13 f21).1.2.1) (ix2 j d)
      = arg13.view.read (Elt Ideal) f13 (ix2 j d) + if h : 512 * (k : ℕ) ≤ (j : ℕ) ∧ (j : ℕ) < 512 * k + 512 then
          ∑ r : Fin 1024, T (ix2 r ⟨(j : ℕ) - 512 * k, by omega⟩) * arg20.view.read (Elt Ideal) f20 (ix2 r d) else 0 := by
  unfold tripRun
  dsimp only
  by_cases h : 512 * (k : ℕ) ≤ (j : ℕ) ∧ (j : ℕ) < 512 * k + 512
  · rw [dif_pos h]
    refine (View.read_writes_cons_unit_of_mem arg13.view f13 _ _ _ _ (ix2 ⟨(j : ℕ) - 512 * k, by omega⟩ d) (k0_off2_eq i k)
      (by intro a; fin_cases a <;> simp; omega)).trans ?_
    pointwise [tripRun.sl.v1690, tripRun.sl.v1686, tripRun.sl.v1685, tripRun.sl.v1684, tripRun.sl.v1682, tripRun.sl.cst_924]
    refine congrArg₂ (· + ·) ?_ ?_
    · exact rd _ (k0_off2_eq i k) (by intro a; fin_cases a <;> simp; omega)
    · refine Finset.sum_congr rfl fun x _ => congrArg₂ (fun a b : EReal => a * b) ?_ ?_
      · rw [View.readCov_eq_canon']
        refine (hT _).trans (congrArg T ?_)
        exact idx_whole _ (by decide)
      · exact rd _ rfl (by intro a; fin_cases a <;> simp)
  · rw [dif_neg h, add_zero]
    refine (View.read_writes_cons_unit_of_not_mem arg13.view f13 _ _ _ _ (k0_off2_eq i k) 0 ?_).trans ?_
    · simp; omega
    · rfl

theorem trip21 (T : S1024x512.Idx → EReal)
    (hT : ∀ y, View.canon (tripRun.sl.H17_16 (F := Ideal) c i arg2 arg3 arg4 arg14 arg15 arg18 arg19 arg20 k f2 f3 f4 f18 f19 f20) y = T y) (r : Fin 1024) (d : Fin 256) :
    arg21.view.read (Elt Ideal) (arg21.view.writes (Elt Ideal) f21 (tripRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v30 k f2 f3 f4 f18 f19 f20 f12 f13 f21).1.2.2) (ix2 r d)
      = arg21.view.read (Elt Ideal) f21 (ix2 r d)
        + ∑ x : Fin 512, T (ix2 r x) * kl (arg3.view.read (Elt Ideal) f3) (arg4.view.read (Elt Ideal) f4) (key (512 * k + (x : ℕ))) d := by
  have hk := k_lt i k
  unfold tripRun
  dsimp only
  refine (View.read_writes_cons_unit_of_mem arg21.view f21 _ _ _ _ (ix2 r d) rfl (by intro a; fin_cases a <;> simp)).trans ?_
  pointwise [k0_pay135, tripRun.sl.v1712, tripRun.sl.v1708, tripRun.sl.v1711, tripRun.sl.v1707, tripRun.sl.v1715]
  refine congrArg₂ (· + ·) ?_ ?_
  · exact rd _ rfl (by intro a; fin_cases a <;> simp)
  · refine Finset.sum_congr rfl fun x _ => congrArg₂ (fun a b : EReal => a * b) ?_ ?_
    · rw [View.readCov_eq_canon']
      refine (hT _).trans (congrArg T ?_)
      exact idx_whole _ (by decide)
    · have e : (key (512 * (k : ℕ) + (x : ℕ)) : ℕ) = 512 * (k : ℕ) + (x : ℕ) := Nat.mod_eq_of_lt (by omega)
      unfold kl
      split
      · exact rd _ (k0_off1_eq i k) (by intro a; fin_cases a <;> simp [e])
      · exact rd _ (k0_off2_eq i k) (by intro a; fin_cases a <;> simp [e])

end

section

variable (c : Dev nD) (i : grid0.Coords)
  (arg2 : Memref sig .tc .vmem S1x1024x256 .bf16) (harg2 : arg2.IsWhole)
  (arg3 : Memref sig .tc .vmem S1x8192x256 .bf16) (harg3 : arg3.IsWhole)
  (arg4 : Memref sig .tc .vmem S8192x128 .bf16) (harg4 : arg4.IsWhole)
  (arg5 : Memref sig .tc .vmem S1024x128 .f32) (harg5 : arg5.IsWhole)
  (arg6 : Memref sig .tc .vmem S1024x128 .f32) (harg6 : arg6.IsWhole)
  (arg7 : Memref sig .tc .vmem S1x1024x128 .f32) (harg7 : arg7.IsWhole)
  (arg8 : Memref sig .tc .vmem S1024x128 .f32) (harg8 : arg8.IsWhole)
  (arg9 : Memref sig .tc .vmem S1x1024x256 .bf16) (harg9 : arg9.IsWhole)
  (arg10 : Memref sig .tc .vmem S1x8192x256 .bf16) (harg10 : arg10.IsWhole)
  (arg11 : Memref sig .tc .vmem S8192x128 .f32) (harg11 : arg11.IsWhole)
  (arg12 : Memref sig .tc .vmem S8192x256 .f32) (harg12 : arg12.IsWhole)
  (arg13 : Memref sig .tc .vmem S8192x128 .f32) (harg13 : arg13.IsWhole)
  (arg14 : Memref sig .tc .vmem S1024x512 .f32) (harg14 : arg14.IsWhole)
  (arg15 : Memref sig .tc .vmem S1024x512 .f32) (harg15 : arg15.IsWhole)
  (arg16 : Memref sig .tc .vmem S1024x512 .bf16) (harg16 : arg16.IsWhole)
  (arg17 : Memref sig .tc .vmem S1024x512 .bf16) (harg17 : arg17.IsWhole)
  (arg18 : Memref sig .tc .vmem S1024x128 .f32) (harg18 : arg18.IsWhole)
  (arg19 : Memref sig .tc .vmem S1024x128 .f32) (harg19 : arg19.IsWhole)
  (arg20 : Memref sig .tc .vmem S1024x128 .bf16) (harg20 : arg20.IsWhole)
  (arg21 : Memref sig .tc .vmem S1024x256 .f32) (harg21 : arg21.IsWhole)
variable (arg1 : BitVec 32) (v30 : FVec Ideal S1024x256 .f32)
variable   (f2 : Buf (Elt Ideal) (arg2.view.loc (c : Thread nD τ))) (f3 : Buf (Elt Ideal) (arg3.view.loc (c : Thread nD τ))) (f4 : Buf (Elt Ideal) (arg4.view.loc (c : Thread nD τ))) (f18 : Buf (Elt Ideal) (arg18.view.loc (c : Thread nD τ))) (f19 : Buf (Elt Ideal) (arg19.view.loc (c : Thread nD τ))) (f20 : Buf (Elt Ideal) (arg20.view.loc (c : Thread nD τ))) (f12 : Buf (Elt Ideal) (arg12.view.loc (c : Thread nD τ))) (f13 : Buf (Elt Ideal) (arg13.view.loc (c : Thread nD τ))) (f21 : Buf (Elt Ideal) (arg21.view.loc (c : Thread nD τ)))

theorem sums12 (G : Fin 1024 → Fin 8192 → EReal)
    (hG : ∀ k y, View.canon (tripRun.sl.H17_16 (F := Ideal) c i arg2 arg3 arg4 arg14 arg15 arg18 arg19 arg20 k f2 f3 f4 f18 f19 f20) y = G (y 0) (key (512 * k + (y 1 : ℕ)))) (n : ℕ) (hn : n ≤ (k0_t1_loop i).trips) (j : Fin 8192) (d : Fin 256) :
    arg12.view.read (Elt Ideal) (sums (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v30 f2 f3 f4 f18 f19 f20 f12 f13 f21 n).1 (ix2 j d) = arg12.view.read (Elt Ideal) f12 (ix2 j d)
      + if (j : ℕ) < 512 * n then ∑ r : Fin 1024, G r j * arg2.view.read (Elt Ideal) f2 (ix3 0 r d) else 0 := by
  induction n with
  | zero => simp [sums]
  | succ n ih =>
    have ih := ih (by omega)
    rw [sums_succ c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v30 f2 f3 f4 f18 f19 f20 f12 f13 f21 ⟨n, hn⟩]
    dsimp only
    rw [trip12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v30 ⟨n, hn⟩ f2 f3 f4 f18 f19 f20 _ _ _ (fun y => G (y 0) (key (512 * n + (y 1 : ℕ)))) (hG _), ih]
    dsimp only
    by_cases h1 : (j : ℕ) < 512 * n
    · rw [if_pos h1, dif_neg (by omega), if_pos (by omega), add_zero]
    · rw [if_neg h1, add_zero]
      by_cases h2 : (j : ℕ) < 512 * n + 512
      · rw [dif_pos ⟨by omega, h2⟩, if_pos (by omega)]
        refine congrArg (_ + ·) (Finset.sum_congr rfl fun r _ => congrArg (· * _) (congrArg (G r) (key_eq ?_)))
        show 512 * n + ((j : ℕ) - 512 * n) = j
        omega
      · rw [dif_neg (by omega), if_neg (by omega)]

theorem sums13 (G : Fin 1024 → Fin 8192 → EReal)
    (hG : ∀ k y, View.canon (tripRun.sl.H16_16 (F := Ideal) c i arg2 arg3 arg4 arg14 arg18 k f2 f3 f4 f18) y = G (y 0) (key (512 * k + (y 1 : ℕ)))) (n : ℕ) (hn : n ≤ (k0_t1_loop i).trips) (j : Fin 8192) (d : Fin 128) :
    arg13.view.read (Elt Ideal) (sums (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v30 f2 f3 f4 f18 f19 f20 f12 f13 f21 n).2.1 (ix2 j d) = arg13.view.read (Elt Ideal) f13 (ix2 j d)
      + if (j : ℕ) < 512 * n then ∑ r : Fin 1024, G r j * arg20.view.read (Elt Ideal) f20 (ix2 r d) else 0 := by
  induction n with
  | zero => simp [sums]
  | succ n ih =>
    have ih := ih (by omega)
    rw [sums_succ c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v30 f2 f3 f4 f18 f19 f20 f12 f13 f21 ⟨n, hn⟩]
    dsimp only
    rw [trip13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v30 ⟨n, hn⟩ f2 f3 f4 f18 f19 f20 _ _ _ (fun y => G (y 0) (key (512 * n + (y 1 : ℕ)))) (hG _), ih]
    dsimp only
    by_cases h1 : (j : ℕ) < 512 * n
    · rw [if_pos h1, dif_neg (by omega), if_pos (by omega), add_zero]
    · rw [if_neg h1, add_zero]
      by_cases h2 : (j : ℕ) < 512 * n + 512
      · rw [dif_pos ⟨by omega, h2⟩, if_pos (by omega)]
        refine congrArg (_ + ·) (Finset.sum_congr rfl fun r _ => congrArg (· * _) (congrArg (G r) (key_eq ?_)))
        show 512 * n + ((j : ℕ) - 512 * n) = j
        omega
      · rw [dif_neg (by omega), if_neg (by omega)]

theorem sums21 (G : Fin 1024 → Fin 8192 → EReal)
    (hG : ∀ k y, View.canon (tripRun.sl.H17_16 (F := Ideal) c i arg2 arg3 arg4 arg14 arg15 arg18 arg19 arg20 k f2 f3 f4 f18 f19 f20) y = G (y 0) (key (512 * k + (y 1 : ℕ)))) (n : ℕ) (hn : n ≤ (k0_t1_loop i).trips) (r : Fin 1024) (d : Fin 256) :
    arg21.view.read (Elt Ideal) (sums (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v30 f2 f3 f4 f18 f19 f20 f12 f13 f21 n).2.2 (ix2 r d) = arg21.view.read (Elt Ideal) f21 (ix2 r d)
      + ∑ x ∈ Finset.range (512 * n), G r (key x) * kl (arg3.view.read (Elt Ideal) f3) (arg4.view.read (Elt Ideal) f4) (key x) d := by
  induction n with
  | zero => simp [sums]
  | succ n ih =>
    have ih := ih (by omega)
    rw [sums_succ c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v30 f2 f3 f4 f18 f19 f20 f12 f13 f21 ⟨n, hn⟩]
    dsimp only
    rw [trip21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v30 ⟨n, hn⟩ f2 f3 f4 f18 f19 f20 _ _ _ (fun y => G (y 0) (key (512 * n + (y 1 : ℕ)))) (hG _), ih, add_assoc,
      Nat.mul_succ, Finset.sum_range_add, Finset.sum_range (n := 512)]
    rfl

end

end Cert.Proof.KernelIdeal
-- ==== Proof.Point.lean ====
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import proofs.«01_k».proof.Proof.Sums
import all proofs.«01_k».proof.Proof.Trip
import all proofs.«01_k».proof.Proof.Body
import all proofs.«01_k».proof.Proof.Tiles
import all proofs.«01_k».proof.Proof.Sums
public import Idealize.ShloMosaic.Lib.Tactic
public import Idealize.ShloMosaic.Lib.WritesUnit
public import Idealize.ShloMosaic.Lib.VecWindow
public import Idealize.ShloMosaic.Lib.WordCmp
public import Idealize.ShloMosaic.Lib.Pipeline.ValueKit
public import Idealize.ShloMosaic.Lib.Pipeline.ReadBack

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- A row's statistic in the exponent of two. -/
def LR (L : Fin 1024 → EReal) (r : Fin 1024) : EReal := L r * Named.named (F := Ideal) (φ := .f32) κ "log2e" 1069066811#32
/-- A row's sum of the output's gradient times the output. -/
def DD (O dO : S1024x128.Idx → EReal) (r : Fin 1024) : EReal := ∑ x : Fin 128, dO (ix2 r x) * O (ix2 r x)
/-- The probability of a row of the block at `q0` and a key; zero score where the row's chunk does not see it. -/
def PP (q0 : ℕ) (Q : S1x1024x256.Idx → EReal) (KV : S1x8192x256.Idx → EReal) (KR : S8192x128.Idx → EReal) (L : Fin 1024 → EReal)
    (r : Fin 1024) (j : Fin 8192) : EReal :=
  FloatOps.exp2 (F := Ideal) (φ := .f32) ((if (j : ℕ) / 64 ≤ (q0 + (r : ℕ)) / 64 then sc Q KV KR r j else ⊥) * κe - LR L r)
/-- The gradient of a score. -/
def GG (q0 : ℕ) (Q : S1x1024x256.Idx → EReal) (KV : S1x8192x256.Idx → EReal) (KR : S8192x128.Idx → EReal) (O dO : S1024x128.Idx → EReal)
    (L : Fin 1024 → EReal) (r : Fin 1024) (j : Fin 8192) : EReal :=
  PP q0 Q KV KR L r j * (dpr KV dO r j - DD O dO r)

section

variable (c : Dev nD) (i : grid0.Coords)
  (arg2 : Memref sig .tc .vmem S1x1024x256 .bf16) (harg2 : arg2.IsWhole)
  (arg3 : Memref sig .tc .vmem S1x8192x256 .bf16) (harg3 : arg3.IsWhole)
  (arg4 : Memref sig .tc .vmem S8192x128 .bf16) (harg4 : arg4.IsWhole)
  (arg5 : Memref sig .tc .vmem S1024x128 .f32) (harg5 : arg5.IsWhole)
  (arg6 : Memref sig .tc .vmem S1024x128 .f32) (harg6 : arg6.IsWhole)
  (arg7 : Memref sig .tc .vmem S1x1024x128 .f32) (harg7 : arg7.IsWhole)
  (arg8 : Memref sig .tc .vmem S1024x128 .f32) (harg8 : arg8.IsWhole)
  (arg9 : Memref sig .tc .vmem S1x1024x256 .bf16) (harg9 : arg9.IsWhole)
  (arg10 : Memref sig .tc .vmem S1x8192x256 .bf16) (harg10 : arg10.IsWhole)
  (arg11 : Memref sig .tc .vmem S8192x128 .f32) (harg11 : arg11.IsWhole)
  (arg12 : Memref sig .tc .vmem S8192x256 .f32) (harg12 : arg12.IsWhole)
  (arg13 : Memref sig .tc .vmem S8192x128 .f32) (harg13 : arg13.IsWhole)
  (arg14 : Memref sig .tc .vmem S1024x512 .f32) (harg14 : arg14.IsWhole)
  (arg15 : Memref sig .tc .vmem S1024x512 .f32) (harg15 : arg15.IsWhole)
  (arg16 : Memref sig .tc .vmem S1024x512 .bf16) (harg16 : arg16.IsWhole)
  (arg17 : Memref sig .tc .vmem S1024x512 .bf16) (harg17 : arg17.IsWhole)
  (arg18 : Memref sig .tc .vmem S1024x128 .f32) (harg18 : arg18.IsWhole)
  (arg19 : Memref sig .tc .vmem S1024x128 .f32) (harg19 : arg19.IsWhole)
  (arg20 : Memref sig .tc .vmem S1024x128 .bf16) (harg20 : arg20.IsWhole)
  (arg21 : Memref sig .tc .vmem S1024x256 .f32) (harg21 : arg21.IsWhole)
variable  (f2 : Buf (Elt Ideal) (arg2.view.loc (c : Thread nD τ))) (f3 : Buf (Elt Ideal) (arg3.view.loc (c : Thread nD τ))) (f4 : Buf (Elt Ideal) (arg4.view.loc (c : Thread nD τ))) (f5 : Buf (Elt Ideal) (arg5.view.loc (c : Thread nD τ))) (f6 : Buf (Elt Ideal) (arg6.view.loc (c : Thread nD τ))) (f7 : Buf (Elt Ideal) (arg7.view.loc (c : Thread nD τ))) (f8 : Buf (Elt Ideal) (arg8.view.loc (c : Thread nD τ))) (f9 : Buf (Elt Ideal) (arg9.view.loc (c : Thread nD τ))) (f10 : Buf (Elt Ideal) (arg10.view.loc (c : Thread nD τ))) (f11 : Buf (Elt Ideal) (arg11.view.loc (c : Thread nD τ))) (f12 : Buf (Elt Ideal) (arg12.view.loc (c : Thread nD τ))) (f13 : Buf (Elt Ideal) (arg13.view.loc (c : Thread nD τ)))
variable (Q : S1x1024x256.Idx → EReal) (KV : S1x8192x256.Idx → EReal) (KR : S8192x128.Idx → EReal) (O dO : S1024x128.Idx → EReal) (L : Fin 1024 → EReal)
  (hQ : arg2.view.read (Elt Ideal) f2 = Q) (hKV : arg3.view.read (Elt Ideal) f3 = KV) (hKR : arg4.view.read (Elt Ideal) f4 = KR)
  (hO : arg5.view.read (Elt Ideal) f5 = O) (hdO : arg6.view.read (Elt Ideal) f6 = dO) (hL : ∀ r l, arg7.view.read (Elt Ideal) f7 (ix3 0 r l) = L r)

include hL in
theorem rd18 (B : LoadRect S1024x128) : arg18.view.readCov (bodyRun.sl.H18_1 (F := Ideal) c arg7 f7) B = fun j => LR L (B.idx j 0) := by
  rw [View.readCov_eq_canon', bodyRun.sl.H18_1, View.canon_cons_unit_lit _ _ _ (by decide)]
  funext x
  generalize B.idx x = y
  pointwise [k0_pay131]
  unfold LR
  refine congrArg (fun a : EReal => a * _) ?_
  rw [← hL (y 0) (y 1)]
  exact rd _ rfl (by intro a; fin_cases a <;> simp)

include hO hdO in
theorem rd19 (B : LoadRect S1024x128) : arg19.view.readCov (bodyRun.sl.H19_1 (F := Ideal) c arg5 arg6 f5 f6) B = fun j => DD O dO (B.idx j 0) := by
  subst hO hdO
  rw [View.readCov_eq_canon', bodyRun.sl.H19_1, View.canon_cons_unit_lit _ _ _ (by decide)]
  funext x
  generalize B.idx x = y
  pointwise [k0_pay130]
  unfold DD
  refine Finset.sum_congr rfl fun x _ => congrArg₂ (fun a b : EReal => a * b) ?_ ?_
  · exact rd _ rfl (by intro a; fin_cases a <;> simp)
  · exact rd _ rfl (by intro a; fin_cases a <;> simp)

include hdO in
theorem rd20 (B : LoadRect S1024x128) : arg20.view.readCov (bodyRun.sl.H20_1 (F := Ideal) c arg6 f6) B = fun j => dO (B.idx j) := by
  subst hdO
  rw [View.readCov_eq_canon', bodyRun.sl.H20_1, View.canon_cons_unit_lit _ _ _ (by decide)]
  funext x
  generalize B.idx x = y
  pointwise [k0_pay132]
  exact rd _ rfl (by intro a; fin_cases a <;> simp)

include hQ hKV hKR in
theorem body_S1 (B : LoadRect S1024x512) : arg14.view.readCov (bodyRun.sl.H14_1 (F := Ideal) c i arg2 arg3 arg4 f2 f3 f4) B
    = fun j => scT Q KV KR (512 * (2 * (i 1 : ℕ) + 0)) (B.idx j) := by
  subst hQ hKV hKR
  have hk : (i 1 : ℕ) < 8 := (i 1).isLt
  rw [View.readCov_eq_canon', bodyRun.sl.H14_1, View.canon_cons_unit_lit _ _ _ (by decide)]
  funext x
  generalize B.idx x = y
  have hy : (y 1 : ℕ) < 512 := (y 1).isLt
  have e : (key (512 * (2 * (i 1 : ℕ) + 0) + (y 1 : ℕ)) : ℕ) = 1024 * (i 1 : ℕ) + (y 1 : ℕ) := (Nat.mod_eq_of_lt (by omega)).trans (by omega)
  pointwise [k0_pay138, k0_pay137]
  unfold scT sc
  refine congrArg₂ (· + ·) (Finset.sum_congr rfl fun x _ => congrArg₂ (· * ·) ?_ ?_) (Finset.sum_congr rfl fun x _ => congrArg₂ (· * ·) ?_ ?_)
  · exact rd _ rfl (by intro a; fin_cases a <;> simp)
  · exact rd _ (k0_off7_eq i 0) (by intro a; fin_cases a <;> first | (simp [e]; done) | (simp; exact e))
  · exact rd _ rfl (by intro a; fin_cases a <;> simp)
  · exact rd _ (k0_off8_eq i 0) (by intro a; fin_cases a <;> first | (simp [e]; done) | (simp; exact e))

include hQ hKV hKR in
theorem body_S2 (B : LoadRect S1024x512) : arg14.view.readCov (bodyRun.sl.H14_2 (F := Ideal) c i arg2 arg3 arg4 f2 f3 f4) B
    = fun j => scT Q KV KR (512 * (2 * (i 1 : ℕ) + 1)) (B.idx j) := by
  subst hQ hKV hKR
  have hk : (i 1 : ℕ) < 8 := (i 1).isLt
  rw [View.readCov_eq_canon', bodyRun.sl.H14_2, View.canon_cons_unit_lit _ _ _ (by decide)]
  funext x
  generalize B.idx x = y
  have hy : (y 1 : ℕ) < 512 := (y 1).isLt
  have e : (key (512 * (2 * (i 1 : ℕ) + 1) + (y 1 : ℕ)) : ℕ) = 1024 * (i 1 : ℕ) + 512 + (y 1 : ℕ) := (Nat.mod_eq_of_lt (by omega)).trans (by omega)
  pointwise [bodyRun.sl.v698, bodyRun.sl.v695, bodyRun.sl.v655, bodyRun.sl.v691, bodyRun.sl.v687, bodyRun.sl.v690, bodyRun.sl.v686, bodyRun.sl.cst_348]
  unfold scT sc
  refine congrArg₂ (· + ·) (Finset.sum_congr rfl fun x _ => congrArg₂ (· * ·) ?_ ?_) (Finset.sum_congr rfl fun x _ => congrArg₂ (· * ·) ?_ ?_)
  · exact rd _ rfl (by intro a; fin_cases a <;> simp)
  · exact rd _ (k0_off7_eq i 1) (by intro a; fin_cases a <;> simp [e])
  · exact rd _ rfl (by intro a; fin_cases a <;> simp)
  · exact rd _ (k0_off8_eq i 1) (by intro a; fin_cases a <;> simp [e])

include hKV hdO in
theorem body_D1 (B : LoadRect S1024x512) : arg15.view.readCov (bodyRun.sl.H15_1 (F := Ideal) c i arg3 arg6 arg20 f3 f6) B
    = fun j => dpT KV dO (512 * (2 * (i 1 : ℕ) + 0)) (B.idx j) := by
  subst hKV
  have hk : (i 1 : ℕ) < 8 := (i 1).isLt
  rw [View.readCov_eq_canon', bodyRun.sl.H15_1, View.canon_cons_unit_lit _ _ _ (by decide)]
  funext x
  generalize B.idx x = y
  have hy : (y 1 : ℕ) < 512 := (y 1).isLt
  have e : (key (512 * (2 * (i 1 : ℕ) + 0) + (y 1 : ℕ)) : ℕ) = 1024 * (i 1 : ℕ) + (y 1 : ℕ) := (Nat.mod_eq_of_lt (by omega)).trans (by omega)
  pointwise [k0_pay140, bodyRun.sl.r, k0_pay139, k0_pay137, bodyRun.sl.v59]
  unfold dpT dpr
  refine Finset.sum_congr rfl fun x _ => congrArg₂ (fun a b : EReal => a * b) ?_ ?_
  · rw [rd20 c arg6 arg20 f6 dO hdO]
    exact congrArg dO (idx_whole _ (by decide))
  · exact rd _ (k0_off7_eq i 0) (by intro a; fin_cases a <;> first | (simp [e]; done) | (simp; exact e))

include hKV hdO in
theorem body_D2 (B : LoadRect S1024x512) : arg15.view.readCov (bodyRun.sl.H15_2 (F := Ideal) c i arg3 arg6 arg20 f3 f6) B
    = fun j => dpT KV dO (512 * (2 * (i 1 : ℕ) + 1)) (B.idx j) := by
  subst hKV
  have hk : (i 1 : ℕ) < 8 := (i 1).isLt
  rw [View.readCov_eq_canon', bodyRun.sl.H15_2, View.canon_cons_unit_lit _ _ _ (by decide)]
  funext x
  generalize B.idx x = y
  have hy : (y 1 : ℕ) < 512 := (y 1).isLt
  have e : (key (512 * (2 * (i 1 : ℕ) + 1) + (y 1 : ℕ)) : ℕ) = 1024 * (i 1 : ℕ) + 512 + (y 1 : ℕ) := (Nat.mod_eq_of_lt (by omega)).trans (by omega)
  pointwise [k0_pay206, bodyRun.sl.v700, bodyRun.sl.v643, bodyRun.sl.v692, bodyRun.sl.v686, bodyRun.sl.cst_348]
  unfold dpT dpr
  refine Finset.sum_congr rfl fun x _ => congrArg₂ (fun a b : EReal => a * b) ?_ ?_
  · rw [rd20 c arg6 arg20 f6 dO hdO]
    exact congrArg dO (idx_whole _ (by decide))
  · exact rd _ (k0_off7_eq i 1) (by intro a; fin_cases a <;> simp [e])

theorem msk_PT (q0 j0 : ℕ) (y : S1024x512.Idx) (h : j0 + (y 1 : ℕ) < 8192) :
    PT (msk q0 j0 (scT Q KV KR j0)) (LR L) y = PP q0 Q KV KR L (y 0) (key (j0 + (y 1 : ℕ))) := by
  have e : (key (j0 + (y 1 : ℕ)) : ℕ) = j0 + (y 1 : ℕ) := Nat.mod_eq_of_lt h
  unfold PT msk scT PP
  rw [e]

theorem msk_full (q0 j0 : ℕ) (s : S1024x512.Idx → EReal) (y : S1024x512.Idx) (h : j0 + 512 ≤ q0) : msk q0 j0 s y = s y := by
  have hy : (y 1 : ℕ) < 512 := (y 1).isLt
  unfold msk
  exact if_pos (Nat.div_le_div_right (by omega))

include hQ hKV hKR hL in
theorem body_P1 (y : S1024x512.Idx) : View.canon (bodyRun.sl.H16_16 (F := Ideal) c i arg2 arg3 arg4 arg7 arg14 arg18 f2 f3 f4 f7) y
    = PP (1024 * (i 1 : ℕ)) Q KV KR L (y 0) (key (512 * (2 * (i 1 : ℕ) + 0) + (y 1 : ℕ))) := by
  have hy : (y 1 : ℕ) < 512 := (y 1).isLt
  have hk : (i 1 : ℕ) < 8 := (i 1).isLt
  exact (body_p1 c i arg2 arg3 arg4 arg7 arg14 arg18 f2 f3 f4 f7 _ (LR L) (body_S1 c i arg2 arg3 arg4 arg14 f2 f3 f4 Q KV KR hQ hKV hKR)
    (rd18 c arg7 arg18 f7 L hL) y).trans (msk_PT Q KV KR L _ _ y (by omega))

include hQ hKV hKR hL in
theorem body_P2 (y : S1024x512.Idx) : View.canon (bodyRun.sl.H16_32 (F := Ideal) c i arg2 arg3 arg4 arg7 arg14 arg18 f2 f3 f4 f7) y
    = PP (1024 * (i 1 : ℕ)) Q KV KR L (y 0) (key (512 * (2 * (i 1 : ℕ) + 1) + (y 1 : ℕ))) := by
  have hy : (y 1 : ℕ) < 512 := (y 1).isLt
  have hk : (i 1 : ℕ) < 8 := (i 1).isLt
  exact (body_p2 c i arg2 arg3 arg4 arg7 arg14 arg18 f2 f3 f4 f7 _ (LR L) (body_S2 c i arg2 arg3 arg4 arg14 f2 f3 f4 Q KV KR hQ hKV hKR)
    (rd18 c arg7 arg18 f7 L hL) y).trans (msk_PT Q KV KR L _ _ y (by omega))

include hQ hKV hKR hL hO hdO in
theorem body_G1 (y : S1024x512.Idx) : View.canon (bodyRun.sl.H17_16 (F := Ideal) c i arg2 arg3 arg4 arg5 arg6 arg7 arg14 arg15 arg18 arg19 arg20 f2 f3 f4 f5 f6 f7) y
    = GG (1024 * (i 1 : ℕ)) Q KV KR O dO L (y 0) (key (512 * (2 * (i 1 : ℕ) + 0) + (y 1 : ℕ))) := by
  have hy : (y 1 : ℕ) < 512 := (y 1).isLt
  have hk : (i 1 : ℕ) < 8 := (i 1).isLt
  refine (body_ds1 c i arg2 arg3 arg4 arg5 arg6 arg7 arg14 arg15 arg18 arg19 arg20 f2 f3 f4 f5 f6 f7 _ _ (LR L) (DD O dO) (body_S1 c i arg2 arg3 arg4 arg14 f2 f3 f4 Q KV KR hQ hKV hKR)
    (body_D1 c i arg3 arg6 arg15 arg20 f3 f6 KV dO hKV hdO) (rd18 c arg7 arg18 f7 L hL) (rd19 c arg5 arg6 arg19 f5 f6 O dO hO hdO) y).trans ?_
  unfold DT GG
  rw [msk_PT Q KV KR L _ _ y (by omega)]
  rfl

include hQ hKV hKR hL hO hdO in
theorem body_G2 (y : S1024x512.Idx) : View.canon (bodyRun.sl.H17_32 (F := Ideal) c i arg2 arg3 arg4 arg5 arg6 arg7 arg14 arg15 arg18 arg19 arg20 f2 f3 f4 f5 f6 f7) y
    = GG (1024 * (i 1 : ℕ)) Q KV KR O dO L (y 0) (key (512 * (2 * (i 1 : ℕ) + 1) + (y 1 : ℕ))) := by
  have hy : (y 1 : ℕ) < 512 := (y 1).isLt
  have hk : (i 1 : ℕ) < 8 := (i 1).isLt
  refine (body_ds2 c i arg2 arg3 arg4 arg5 arg6 arg7 arg14 arg15 arg18 arg19 arg20 f2 f3 f4 f5 f6 f7 _ _ (LR L) (DD O dO) (body_S2 c i arg2 arg3 arg4 arg14 f2 f3 f4 Q KV KR hQ hKV hKR)
    (body_D2 c i arg3 arg6 arg15 arg20 f3 f6 KV dO hKV hdO) (rd18 c arg7 arg18 f7 L hL) (rd19 c arg5 arg6 arg19 f5 f6 O dO hO hdO) y).trans ?_
  unfold DT GG
  rw [msk_PT Q KV KR L _ _ y (by omega)]
  rfl

section
variable (k : Fin (k0_t1_loop i).trips)

include hL in
theorem rd18' (B : LoadRect S1024x128) : arg18.view.readAt (Elt Ideal) B (arg18.view.writes (Elt Ideal) arg18.view.junk (bodyRun.sl.H18_1 (F := Ideal) c arg7 f7))
    = fun j => LR L (B.idx j 0) := rd18 c arg7 arg18 f7 L hL B
include hO hdO in
theorem rd19' (B : LoadRect S1024x128) : arg19.view.readAt (Elt Ideal) B (arg19.view.writes (Elt Ideal) arg19.view.junk (bodyRun.sl.H19_1 (F := Ideal) c arg5 arg6 f5 f6))
    = fun j => DD O dO (B.idx j 0) := rd19 c arg5 arg6 arg19 f5 f6 O dO hO hdO B
include hdO in
theorem rd20' : arg20.view.read (Elt Ideal) (arg20.view.writes (Elt Ideal) arg20.view.junk (bodyRun.sl.H20_1 (F := Ideal) c arg6 f6)) = dO := by
  have h := rd20 c arg6 arg20 f6 dO hdO (Rect.unit ![0, 0] S1024x128.size inb_S1024x128_S1024x128_0_0).toLoadRect
  funext y
  have h' := congrFun h y
  rw [View.readCov, View.readAt_apply, idx_whole _ (by decide)] at h'
  exact h'

include hQ hKV hKR hL in
theorem loop_P (y : S1024x512.Idx) : View.canon (tripRun.sl.H16_16 (F := Ideal) c i arg2 arg3 arg4 arg14 arg18 k f2 f3 f4
      (arg18.view.writes (Elt Ideal) arg18.view.junk (bodyRun.sl.H18_1 (F := Ideal) c arg7 f7))) y
    = PP (1024 * (i 1 : ℕ)) Q KV KR L (y 0) (key (512 * k + (y 1 : ℕ))) := by
  have hy : (y 1 : ℕ) < 512 := (y 1).isLt
  have hk := k_lt i k
  have hk' : (k : ℕ) < 2 * (i 1 : ℕ) := trips_eq i ▸ k.isLt
  rw [trip_p c i arg2 arg3 arg4 arg14 arg18 f2 f3 f4 _ k _ (LR L) (trip_S c i arg2 arg3 arg4 arg14 k f2 f3 f4) (rd18' c arg7 arg18 f7 L hL) y,
    ← msk_PT Q KV KR L _ _ y (by omega), hQ, hKV, hKR]
  unfold PT
  rw [msk_full _ _ _ y (by omega)]

include hQ hKV hKR hL hO hdO in
theorem loop_G (y : S1024x512.Idx) : View.canon (tripRun.sl.H17_16 (F := Ideal) c i arg2 arg3 arg4 arg14 arg15 arg18 arg19 arg20 k f2 f3 f4
      (arg18.view.writes (Elt Ideal) arg18.view.junk (bodyRun.sl.H18_1 (F := Ideal) c arg7 f7)) (arg19.view.writes (Elt Ideal) arg19.view.junk (bodyRun.sl.H19_1 (F := Ideal) c arg5 arg6 f5 f6))
      (arg20.view.writes (Elt Ideal) arg20.view.junk (bodyRun.sl.H20_1 (F := Ideal) c arg6 f6))) y
    = GG (1024 * (i 1 : ℕ)) Q KV KR O dO L (y 0) (key (512 * k + (y 1 : ℕ))) := by
  have hy : (y 1 : ℕ) < 512 := (y 1).isLt
  have hk := k_lt i k
  have hk' : (k : ℕ) < 2 * (i 1 : ℕ) := trips_eq i ▸ k.isLt
  rw [trip_ds c i arg2 arg3 arg4 arg14 arg15 arg18 arg19 arg20 f2 f3 f4 _ _ _ k _ _ (LR L) (DD O dO) (trip_S c i arg2 arg3 arg4 arg14 k f2 f3 f4)
    (trip_D c i arg3 arg15 arg20 k f3 _) (rd18' c arg7 arg18 f7 L hL) (rd19' c arg5 arg6 arg19 f5 f6 O dO hO hdO) y]
  unfold DT GG
  rw [← msk_PT Q KV KR L _ _ y (by omega), rd20' c arg6 arg20 f6 dO hdO, hQ, hKV, hKR]
  unfold PT
  rw [msk_full _ _ _ y (by omega)]
  rfl

end

end

end Cert.Proof.KernelIdeal
-- ==== Proof.Blocks.lean ====
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import proofs.«01_k».proof.Proof.Point
import all proofs.«01_k».proof.Proof.Trip
import all proofs.«01_k».proof.Proof.Body
import all proofs.«01_k».proof.Proof.Tiles
import all proofs.«01_k».proof.Proof.Sums
import all proofs.«01_k».proof.Proof.Point
public import Idealize.ShloMosaic.Lib.Tactic
public import Idealize.ShloMosaic.Lib.WritesUnit
public import Idealize.ShloMosaic.Lib.VecWindow
public import Idealize.ShloMosaic.Lib.WordCmp
public import Idealize.ShloMosaic.Lib.Pipeline.ValueKit
public import Idealize.ShloMosaic.Lib.Pipeline.ReadBack

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The factor of the scores. -/
abbrev κs : EReal := Named.named (F := Ideal) (φ := .f32) κ "scale" 1033096506#32
/-- A row's sum over the keys of the blocks up to its own: the scores' gradients times the keys. -/
def DQ (q : ℕ) (Q : S1x1024x256.Idx → EReal) (KV : S1x8192x256.Idx → EReal) (KR : S8192x128.Idx → EReal) (O dO : S1024x128.Idx → EReal)
    (L : Fin 1024 → EReal) (r : Fin 1024) (d : Fin 256) : EReal :=
  ∑ x ∈ Finset.range (1024 * q + 1024), GG (1024 * q) Q KV KR O dO L r (key x) * kl KV KR (key x) d
/-- A row's gradient: the shared lanes scaled, the rotary lanes added to their other half and turned. -/
def dqV (q : ℕ) (Q : S1x1024x256.Idx → EReal) (KV : S1x8192x256.Idx → EReal) (KR : S8192x128.Idx → EReal) (O dO : S1024x128.Idx → EReal)
    (L : Fin 1024 → EReal) (CS : S1024x128.Idx → EReal) (r : Fin 1024) (d : Fin 256) : EReal :=
  if h : (d : ℕ) < 128 then DQ q Q KV KR O dO L r d * κs else
    (DQ q Q KV KR O dO L r ⟨128 + (d - 128), by omega⟩ * κs + DQ q Q KV KR O dO L r ⟨128 + (d - 128 + 128 - 64) % 128, by omega⟩ * κs)
      * CS (ix2 r ⟨d - 128, by omega⟩)

theorem pay3_at (A B : Vec Ideal S8192x128 .f32) (j : Fin 8192) (d : Fin 256) : k0_pay3 A B (ix3 0 j d)
    = if h : (d : ℕ) < 128 then A (ix2 j ⟨d, h⟩) * κs else B (ix2 j ⟨d - 128, by omega⟩) := by
  pointwise [k0_pay3]
theorem pay4_at (A B : Vec Ideal S8192x128 .f32) (j : Fin 8192) (d : Fin 128) : k0_pay4 A B (ix2 j d) = A (ix2 j d) + B (ix2 j d) * κs := by
  pointwise [k0_pay4]

section

variable (c : Dev nD) (i : grid0.Coords)
  (arg2 : Memref sig .tc .vmem S1x1024x256 .bf16) (harg2 : arg2.IsWhole)
  (arg3 : Memref sig .tc .vmem S1x8192x256 .bf16) (harg3 : arg3.IsWhole)
  (arg4 : Memref sig .tc .vmem S8192x128 .bf16) (harg4 : arg4.IsWhole)
  (arg5 : Memref sig .tc .vmem S1024x128 .f32) (harg5 : arg5.IsWhole)
  (arg6 : Memref sig .tc .vmem S1024x128 .f32) (harg6 : arg6.IsWhole)
  (arg7 : Memref sig .tc .vmem S1x1024x128 .f32) (harg7 : arg7.IsWhole)
  (arg8 : Memref sig .tc .vmem S1024x128 .f32) (harg8 : arg8.IsWhole)
  (arg9 : Memref sig .tc .vmem S1x1024x256 .bf16) (harg9 : arg9.IsWhole)
  (arg10 : Memref sig .tc .vmem S1x8192x256 .bf16) (harg10 : arg10.IsWhole)
  (arg11 : Memref sig .tc .vmem S8192x128 .f32) (harg11 : arg11.IsWhole)
  (arg12 : Memref sig .tc .vmem S8192x256 .f32) (harg12 : arg12.IsWhole)
  (arg13 : Memref sig .tc .vmem S8192x128 .f32) (harg13 : arg13.IsWhole)
  (arg14 : Memref sig .tc .vmem S1024x512 .f32) (harg14 : arg14.IsWhole)
  (arg15 : Memref sig .tc .vmem S1024x512 .f32) (harg15 : arg15.IsWhole)
  (arg16 : Memref sig .tc .vmem S1024x512 .bf16) (harg16 : arg16.IsWhole)
  (arg17 : Memref sig .tc .vmem S1024x512 .bf16) (harg17 : arg17.IsWhole)
  (arg18 : Memref sig .tc .vmem S1024x128 .f32) (harg18 : arg18.IsWhole)
  (arg19 : Memref sig .tc .vmem S1024x128 .f32) (harg19 : arg19.IsWhole)
  (arg20 : Memref sig .tc .vmem S1024x128 .bf16) (harg20 : arg20.IsWhole)
  (arg21 : Memref sig .tc .vmem S1024x256 .f32) (harg21 : arg21.IsWhole)
variable  (f2 : Buf (Elt Ideal) (arg2.view.loc (c : Thread nD τ))) (f3 : Buf (Elt Ideal) (arg3.view.loc (c : Thread nD τ))) (f4 : Buf (Elt Ideal) (arg4.view.loc (c : Thread nD τ))) (f5 : Buf (Elt Ideal) (arg5.view.loc (c : Thread nD τ))) (f6 : Buf (Elt Ideal) (arg6.view.loc (c : Thread nD τ))) (f7 : Buf (Elt Ideal) (arg7.view.loc (c : Thread nD τ))) (f8 : Buf (Elt Ideal) (arg8.view.loc (c : Thread nD τ))) (f9 : Buf (Elt Ideal) (arg9.view.loc (c : Thread nD τ))) (f10 : Buf (Elt Ideal) (arg10.view.loc (c : Thread nD τ))) (f11 : Buf (Elt Ideal) (arg11.view.loc (c : Thread nD τ))) (f12 : Buf (Elt Ideal) (arg12.view.loc (c : Thread nD τ))) (f13 : Buf (Elt Ideal) (arg13.view.loc (c : Thread nD τ)))

/-- The running sums a head starts from: zero at its first block, else what the block before left. -/
def base12 : Buf (Elt Ideal) (arg12.view.loc (c : Thread nD τ)) :=
  if hc : bodyRun.sl.v2 i = 1#1 then arg12.view.writes (Elt Ideal) f12 [⟨Rect.unit ![0, 0] S8192x256.size inb_S8192x256_S8192x256_0_0, k0_pay127 (F := Ideal)⟩] else f12
def base13 : Buf (Elt Ideal) (arg13.view.loc (c : Thread nD τ)) :=
  if hc : bodyRun.sl.v2 i = 1#1 then arg13.view.writes (Elt Ideal) f13 [⟨Rect.unit ![0, 0] S8192x128.size inb_S8192x128_S8192x128_0_0, k0_pay128 (F := Ideal)⟩] else f13
def acc12 : Buf (Elt Ideal) (arg12.view.loc (c : Thread nD τ)) := from0 (base12 c i arg12 f12) (fun k => (sums (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (BitVec.ofNat 32 (i 1).val) k0_pay133 f2 f3 f4 (arg18.view.writes (Elt Ideal) arg18.view.junk (bodyRun.sl.H18_1 (F := Ideal) c arg7 f7)) (arg19.view.writes (Elt Ideal) arg19.view.junk (bodyRun.sl.H19_1 (F := Ideal) c arg5 arg6 f5 f6)) (arg20.view.writes (Elt Ideal) arg20.view.junk (bodyRun.sl.H20_1 (F := Ideal) c arg6 f6)) (base12 c i arg12 f12) (base13 c i arg13 f13) (arg21.view.writes (Elt Ideal) arg21.view.junk bodyRun.sl.H21_1) k).1) (k0_t1_loop i).trips
def acc13 : Buf (Elt Ideal) (arg13.view.loc (c : Thread nD τ)) := from0 (base13 c i arg13 f13) (fun k => (sums (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (BitVec.ofNat 32 (i 1).val) k0_pay133 f2 f3 f4 (arg18.view.writes (Elt Ideal) arg18.view.junk (bodyRun.sl.H18_1 (F := Ideal) c arg7 f7)) (arg19.view.writes (Elt Ideal) arg19.view.junk (bodyRun.sl.H19_1 (F := Ideal) c arg5 arg6 f5 f6)) (arg20.view.writes (Elt Ideal) arg20.view.junk (bodyRun.sl.H20_1 (F := Ideal) c arg6 f6)) (base12 c i arg12 f12) (base13 c i arg13 f13) (arg21.view.writes (Elt Ideal) arg21.view.junk bodyRun.sl.H21_1) k).2.1) (k0_t1_loop i).trips
def acc21 : Buf (Elt Ideal) (arg21.view.loc (c : Thread nD τ)) := from0 (arg21.view.writes (Elt Ideal) arg21.view.junk bodyRun.sl.H21_1) (fun k => (sums (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (BitVec.ofNat 32 (i 1).val) k0_pay133 f2 f3 f4 (arg18.view.writes (Elt Ideal) arg18.view.junk (bodyRun.sl.H18_1 (F := Ideal) c arg7 f7)) (arg19.view.writes (Elt Ideal) arg19.view.junk (bodyRun.sl.H19_1 (F := Ideal) c arg5 arg6 f5 f6)) (arg20.view.writes (Elt Ideal) arg20.view.junk (bodyRun.sl.H20_1 (F := Ideal) c arg6 f6)) (base12 c i arg12 f12) (base13 c i arg13 f13) (arg21.view.writes (Elt Ideal) arg21.view.junk bodyRun.sl.H21_1) k).2.2) (k0_t1_loop i).trips

theorem first_iff : bodyRun.sl.v2 i = 1#1 ↔ (i 1 : ℕ) = 0 := by
  have h : ∀ j : Fin 8, (Scalar.cmpi .ne (Scalar.extui (Scalar.cmpi .eq (BitVec.ofNat 32 (j : ℕ)) 0#32) : BitVec 32) 0#32 : BitVec 1) = 1#1 ↔ (j : ℕ) = 0 := by decide
  exact h (i 1)

theorem last_iff : k0_cond3 i = 1#1 ↔ (i 1 : ℕ) = 7 := by
  have h : ∀ j : Fin 8, (Scalar.cmpi .ne (Scalar.extui (Scalar.cmpi .eq (BitVec.ofNat 32 (j : ℕ)) 7#32) : BitVec 32) 0#32 : BitVec 1) = 1#1 ↔ (j : ℕ) = 7 := by decide
  exact h (i 1)

theorem start_iff : k0_cond2 i = 1#1 ↔ (i 0 : ℕ) = 0 ∧ (i 1 : ℕ) = 0 := by
  have h : ∀ (a : Fin 16) (j : Fin 8), (Scalar.cmpi .ne (Scalar.extui (Scalar.andi (Scalar.cmpi .eq (BitVec.ofNat 32 (a : ℕ)) 0#32) (Scalar.cmpi .eq (BitVec.ofNat 32 (j : ℕ)) 0#32)) : BitVec 32) 0#32 : BitVec 1) = 1#1
      ↔ (a : ℕ) = 0 ∧ (j : ℕ) = 0 := by decide
  exact h (i 0) (i 1)

theorem base12_eq (y : S8192x256.Idx) : arg12.view.read (Elt Ideal) (base12 c i arg12 f12) y = if (i 1 : ℕ) = 0 then 0 else arg12.view.read (Elt Ideal) f12 y := by
  unfold base12
  by_cases h : (i 1 : ℕ) = 0
  · rw [if_pos h, dif_pos ((first_iff i).2 h)]
    refine (View.read_writes_cons_unit_of_mem arg12.view f12 _ _ _ _ y rfl (by intro a; fin_cases a <;> simp)).trans ?_
    pointwise [k0_pay127]
  · rw [if_neg h, dif_neg (fun h' => h ((first_iff i).1 h'))]
theorem base13_eq (y : S8192x128.Idx) : arg13.view.read (Elt Ideal) (base13 c i arg13 f13) y = if (i 1 : ℕ) = 0 then 0 else arg13.view.read (Elt Ideal) f13 y := by
  unfold base13
  by_cases h : (i 1 : ℕ) = 0
  · rw [if_pos h, dif_pos ((first_iff i).2 h)]
    refine (View.read_writes_cons_unit_of_mem arg13.view f13 _ _ _ _ y rfl (by intro a; fin_cases a <;> simp)).trans ?_
    pointwise [k0_pay128]
  · rw [if_neg h, dif_neg (fun h' => h ((first_iff i).1 h'))]
theorem base21_eq (y : S1024x256.Idx) : arg21.view.read (Elt Ideal) (arg21.view.writes (Elt Ideal) (arg21.view.junk) (bodyRun.sl.H21_1 (F := Ideal))) y = 0 := by
  refine (View.read_writes_cons_unit_of_mem arg21.view _ _ _ _ _ y rfl (by intro a; fin_cases a <;> simp)).trans ?_
  pointwise [k0_pay134, k0_pay133]

section
variable (Q : S1x1024x256.Idx → EReal) (KV : S1x8192x256.Idx → EReal) (KR : S8192x128.Idx → EReal) (O dO : S1024x128.Idx → EReal) (L : Fin 1024 → EReal)
  (hQ : arg2.view.read (Elt Ideal) f2 = Q) (hKV : arg3.view.read (Elt Ideal) f3 = KV) (hKR : arg4.view.read (Elt Ideal) f4 = KR)
  (hO : arg5.view.read (Elt Ideal) f5 = O) (hdO : arg6.view.read (Elt Ideal) f6 = dO) (hL : ∀ r l, arg7.view.read (Elt Ideal) f7 (ix3 0 r l) = L r)

include hQ hKV hKR hL hO hdO in
theorem acc12_eq (j : Fin 8192) (d : Fin 256) : arg12.view.read (Elt Ideal) (acc12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f2 f3 f4 f5 f6 f7 f12 f13) (ix2 j d)
    = arg12.view.read (Elt Ideal) (base12 c i arg12 f12) (ix2 j d)
      + if (j : ℕ) < 1024 * (i 1 : ℕ) then ∑ r : Fin 1024, GG (1024 * (i 1 : ℕ)) Q KV KR O dO L r j * Q (ix3 0 r d) else 0 := by
  unfold acc12
  rw [from0_eq (base12 c i arg12 f12) (fun k => (sums (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (BitVec.ofNat 32 (i 1).val) k0_pay133 f2 f3 f4 (arg18.view.writes (Elt Ideal) arg18.view.junk (bodyRun.sl.H18_1 (F := Ideal) c arg7 f7)) (arg19.view.writes (Elt Ideal) arg19.view.junk (bodyRun.sl.H19_1 (F := Ideal) c arg5 arg6 f5 f6)) (arg20.view.writes (Elt Ideal) arg20.view.junk (bodyRun.sl.H20_1 (F := Ideal) c arg6 f6)) (base12 c i arg12 f12) (base13 c i arg13 f13) (arg21.view.writes (Elt Ideal) arg21.view.junk bodyRun.sl.H21_1) k).1) rfl]
  rw [sums12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ f2 f3 f4 _ _ _ _ _ _ (GG (1024 * (i 1 : ℕ)) Q KV KR O dO L)
    (fun k => loop_G c i arg2 arg3 arg4 arg5 arg6 arg7 arg14 arg15 arg18 arg19 arg20 f2 f3 f4 f5 f6 f7 Q KV KR O dO L hQ hKV hKR hO hdO hL k) _ le_rfl, trips_eq, hQ,
    show 512 * (2 * (i 1 : ℕ)) = 1024 * (i 1 : ℕ) by omega]

include hQ hKV hKR hL hO hdO in
theorem acc13_eq (j : Fin 8192) (d : Fin 128) : arg13.view.read (Elt Ideal) (acc13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f2 f3 f4 f5 f6 f7 f12 f13) (ix2 j d)
    = arg13.view.read (Elt Ideal) (base13 c i arg13 f13) (ix2 j d)
      + if (j : ℕ) < 1024 * (i 1 : ℕ) then ∑ r : Fin 1024, PP (1024 * (i 1 : ℕ)) Q KV KR L r j * dO (ix2 r d) else 0 := by
  unfold acc13
  rw [from0_eq (base13 c i arg13 f13) (fun k => (sums (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (BitVec.ofNat 32 (i 1).val) k0_pay133 f2 f3 f4 (arg18.view.writes (Elt Ideal) arg18.view.junk (bodyRun.sl.H18_1 (F := Ideal) c arg7 f7)) (arg19.view.writes (Elt Ideal) arg19.view.junk (bodyRun.sl.H19_1 (F := Ideal) c arg5 arg6 f5 f6)) (arg20.view.writes (Elt Ideal) arg20.view.junk (bodyRun.sl.H20_1 (F := Ideal) c arg6 f6)) (base12 c i arg12 f12) (base13 c i arg13 f13) (arg21.view.writes (Elt Ideal) arg21.view.junk bodyRun.sl.H21_1) k).2.1) rfl]
  rw [sums13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ f2 f3 f4 _ _ _ _ _ _ (PP (1024 * (i 1 : ℕ)) Q KV KR L)
    (fun k => loop_P c i arg2 arg3 arg4 arg7 arg14 arg18 f2 f3 f4 f7 Q KV KR L hQ hKV hKR hL k) _ le_rfl, trips_eq, rd20' c arg6 arg20 f6 dO hdO,
    show 512 * (2 * (i 1 : ℕ)) = 1024 * (i 1 : ℕ) by omega]

include hQ hKV hKR hL hO hdO in
theorem acc21_eq (r : Fin 1024) (d : Fin 256) : arg21.view.read (Elt Ideal) (acc21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f2 f3 f4 f5 f6 f7 f12 f13) (ix2 r d)
    = ∑ x ∈ Finset.range (1024 * (i 1 : ℕ)), GG (1024 * (i 1 : ℕ)) Q KV KR O dO L r (key x) * kl KV KR (key x) d := by
  unfold acc21
  rw [from0_eq (arg21.view.writes (Elt Ideal) arg21.view.junk (bodyRun.sl.H21_1 (F := Ideal))) (fun k => (sums (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (BitVec.ofNat 32 (i 1).val) k0_pay133 f2 f3 f4 (arg18.view.writes (Elt Ideal) arg18.view.junk (bodyRun.sl.H18_1 (F := Ideal) c arg7 f7)) (arg19.view.writes (Elt Ideal) arg19.view.junk (bodyRun.sl.H19_1 (F := Ideal) c arg5 arg6 f5 f6)) (arg20.view.writes (Elt Ideal) arg20.view.junk (bodyRun.sl.H20_1 (F := Ideal) c arg6 f6)) (base12 c i arg12 f12) (base13 c i arg13 f13) (arg21.view.writes (Elt Ideal) arg21.view.junk bodyRun.sl.H21_1) k).2.2) rfl]
  rw [sums21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ f2 f3 f4 _ _ _ _ _ _ (GG (1024 * (i 1 : ℕ)) Q KV KR O dO L)
    (fun k => loop_G c i arg2 arg3 arg4 arg5 arg6 arg7 arg14 arg15 arg18 arg19 arg20 f2 f3 f4 f5 f6 f7 Q KV KR O dO L hQ hKV hKR hO hdO hL k) _ le_rfl, trips_eq, hKV, hKR,
    base21_eq, zero_add, show 512 * (2 * (i 1 : ℕ)) = 1024 * (i 1 : ℕ) by omega]

set_option maxHeartbeats 2000000 in
include hQ hKV hKR hL hO hdO in
/-- The keys' running sum after a block. -/
theorem body12 (j : Fin 8192) (d : Fin 256) : arg12.view.read (Elt Ideal) (bodyRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f2 f3 f4 f5 f6 f7 f8 f9 f10 f11 f12 f13).1.2.2.2.1 (ix2 j d)
    = (if (i 1 : ℕ) = 0 then 0 else arg12.view.read (Elt Ideal) f12 (ix2 j d))
      + if (j : ℕ) < 1024 * (i 1 : ℕ) + 1024 then ∑ r : Fin 1024, GG (1024 * (i 1 : ℕ)) Q KV KR O dO L r j * Q (ix3 0 r d) else 0 := by
  have hi : (i 1 : ℕ) < 8 := (i 1).isLt
  have A := acc12_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f2 f3 f4 f5 f6 f7 f12 f13 Q KV KR O dO L hQ hKV hKR hO hdO hL j d
  rw [← base12_eq c i arg12 f12 (ix2 j d)]
  have e : (bodyRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f2 f3 f4 f5 f6 f7 f8 f9 f10 f11 f12 f13).1.2.2.2.1 = arg12.view.writes (Elt Ideal) (acc12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f2 f3 f4 f5 f6 f7 f12 f13) (bodyRun.sl.H12_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f2 f3 f4 f5 f6 f7 f12 f13) := by unfold bodyRun; rfl
  rw [e, bodyRun.sl.H12_2, bodyRun.sl.H12_1]
  by_cases h2 : 1024 * (i 1 : ℕ) + 512 ≤ (j : ℕ) ∧ (j : ℕ) < 1024 * (i 1 : ℕ) + 1024
  · rw [if_neg (by omega), add_zero] at A
    rw [if_pos (by omega)]
    refine (View.read_writes_cons_unit_of_mem arg12.view _ _ _ _ _ (ix2 ⟨(j : ℕ) - (1024 * (i 1 : ℕ) + 512), by omega⟩ d) (k0_off9_eq i 1)
      (by intro a; fin_cases a <;> simp; omega)).trans ?_
    pointwise [bodyRun.sl.v1302, bodyRun.sl.v1298, bodyRun.sl.v1297, bodyRun.sl.v1296, bodyRun.sl.v1293, bodyRun.sl.v655, bodyRun.sl.cst_326]
    refine congrArg₂ (· + ·) ?_ ?_
    · refine (rd (ix2 j d) (k0_off9_eq i 1) (by intro a; fin_cases a <;> simp; omega)).trans A
    · subst hQ
      refine Finset.sum_congr rfl fun x _ => congrArg₂ (fun a b : EReal => a * b) ?_ ?_
      · rw [View.readCov_eq_canon']
        refine (body_G2 c i arg2 arg3 arg4 arg5 arg6 arg7 arg14 arg15 arg18 arg19 arg20 f2 f3 f4 f5 f6 f7 _ KV KR O dO L rfl hKV hKR hO hdO hL _).trans ?_
        rw [idx_whole _ (by decide)]
        refine congrArg (GG _ _ KV KR O dO L x) (key_eq ?_)
        show 512 * (2 * (i 1 : ℕ) + 1) + ((j : ℕ) - (1024 * (i 1 : ℕ) + 512)) = j
        omega
      · exact rd _ rfl (by intro a; fin_cases a <;> simp)
  · refine (View.read_writes_cons_unit_of_not_mem arg12.view _ _ _ _ _ (k0_off9_eq i 1) 0 (by simp; omega)).trans ?_
    by_cases h1 : 1024 * (i 1 : ℕ) ≤ (j : ℕ) ∧ (j : ℕ) < 1024 * (i 1 : ℕ) + 512
    · rw [if_neg (by omega), add_zero] at A
      rw [if_pos (by omega)]
      refine (View.read_writes_cons_unit_of_mem arg12.view _ _ _ _ _ (ix2 ⟨(j : ℕ) - (1024 * (i 1 : ℕ)), by omega⟩ d) (k0_off9_eq i 0)
        (by intro a; fin_cases a <;> simp; omega)).trans ?_
      pointwise [bodyRun.sl.v662, bodyRun.sl.v658, bodyRun.sl.v657, bodyRun.sl.v656, bodyRun.sl.v653, bodyRun.sl.v655, bodyRun.sl.cst_326]
      refine congrArg₂ (· + ·) ?_ ?_
      · refine (rd (ix2 j d) (k0_off9_eq i 0) (by intro a; fin_cases a <;> simp; omega)).trans A
      · subst hQ
        refine Finset.sum_congr rfl fun x _ => congrArg₂ (fun a b : EReal => a * b) ?_ ?_
        · rw [View.readCov_eq_canon']
          refine (body_G1 c i arg2 arg3 arg4 arg5 arg6 arg7 arg14 arg15 arg18 arg19 arg20 f2 f3 f4 f5 f6 f7 _ KV KR O dO L rfl hKV hKR hO hdO hL _).trans ?_
          rw [idx_whole _ (by decide)]
          refine congrArg (GG _ _ KV KR O dO L x) (key_eq ?_)
          show 512 * (2 * (i 1 : ℕ) + 0) + ((j : ℕ) - (1024 * (i 1 : ℕ))) = j
          omega
        · exact rd _ rfl (by intro a; fin_cases a <;> simp)
    · refine (View.read_writes_cons_unit_of_not_mem arg12.view _ _ _ _ _ (k0_off9_eq i 0) 0 (by simp; omega)).trans (A.trans ?_)
      by_cases h0 : (j : ℕ) < 1024 * (i 1 : ℕ)
      · rw [if_pos h0, if_pos (by omega)]
      · rw [if_neg h0, if_neg (by omega)]

set_option maxHeartbeats 2000000 in
include hQ hKV hKR hL hO hdO in
/-- The values' running sum after a block. -/
theorem body13 (j : Fin 8192) (d : Fin 128) : arg13.view.read (Elt Ideal) (bodyRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f2 f3 f4 f5 f6 f7 f8 f9 f10 f11 f12 f13).1.2.2.2.2 (ix2 j d)
    = (if (i 1 : ℕ) = 0 then 0 else arg13.view.read (Elt Ideal) f13 (ix2 j d))
      + if (j : ℕ) < 1024 * (i 1 : ℕ) + 1024 then ∑ r : Fin 1024, PP (1024 * (i 1 : ℕ)) Q KV KR L r j * dO (ix2 r d) else 0 := by
  have hi : (i 1 : ℕ) < 8 := (i 1).isLt
  have A := acc13_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f2 f3 f4 f5 f6 f7 f12 f13 Q KV KR O dO L hQ hKV hKR hO hdO hL j d
  rw [← base13_eq c i arg13 f13 (ix2 j d)]
  have e : (bodyRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f2 f3 f4 f5 f6 f7 f8 f9 f10 f11 f12 f13).1.2.2.2.2 = arg13.view.writes (Elt Ideal) (acc13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f2 f3 f4 f5 f6 f7 f12 f13) (bodyRun.sl.H13_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f2 f3 f4 f5 f6 f7 f12 f13) := by unfold bodyRun; rfl
  rw [e, bodyRun.sl.H13_2, bodyRun.sl.H13_1]
  by_cases h2 : 1024 * (i 1 : ℕ) + 512 ≤ (j : ℕ) ∧ (j : ℕ) < 1024 * (i 1 : ℕ) + 1024
  · rw [if_neg (by omega), add_zero] at A
    rw [if_pos (by omega)]
    refine (View.read_writes_cons_unit_of_mem arg13.view _ _ _ _ _ (ix2 ⟨(j : ℕ) - (1024 * (i 1 : ℕ) + 512), by omega⟩ d) (k0_off8_eq i 1)
      (by intro a; fin_cases a <;> simp; omega)).trans ?_
    pointwise [bodyRun.sl.v1290, bodyRun.sl.v1286, bodyRun.sl.v1281, bodyRun.sl.v1285, bodyRun.sl.v1284, bodyRun.sl.v1282, bodyRun.sl.v643, bodyRun.sl.cst_318]
    refine congrArg₂ (· + ·) ?_ ?_
    · refine (rd (ix2 j d) (k0_off8_eq i 1) (by intro a; fin_cases a <;> simp; omega)).trans A
    · skip
      refine Finset.sum_congr rfl fun x _ => congrArg₂ (fun a b : EReal => a * b) ?_ ?_
      · rw [View.readCov_eq_canon']
        refine (body_P2 c i arg2 arg3 arg4 arg7 arg14 arg18 f2 f3 f4 f7 Q KV KR L hQ hKV hKR hL _).trans ?_
        rw [idx_whole _ (by decide)]
        refine congrArg (PP _ _ KV KR L x) (key_eq ?_)
        show 512 * (2 * (i 1 : ℕ) + 1) + ((j : ℕ) - (1024 * (i 1 : ℕ) + 512)) = j
        omega
      · rw [rd20 c arg6 arg20 f6 dO hdO]
        exact congrArg dO (idx_whole _ (by decide))
  · refine (View.read_writes_cons_unit_of_not_mem arg13.view _ _ _ _ _ (k0_off8_eq i 1) 0 (by simp; omega)).trans ?_
    by_cases h1 : 1024 * (i 1 : ℕ) ≤ (j : ℕ) ∧ (j : ℕ) < 1024 * (i 1 : ℕ) + 512
    · rw [if_neg (by omega), add_zero] at A
      rw [if_pos (by omega)]
      refine (View.read_writes_cons_unit_of_mem arg13.view _ _ _ _ _ (ix2 ⟨(j : ℕ) - (1024 * (i 1 : ℕ)), by omega⟩ d) (k0_off8_eq i 0)
        (by intro a; fin_cases a <;> simp; omega)).trans ?_
      pointwise [bodyRun.sl.v650, bodyRun.sl.v646, bodyRun.sl.v641, bodyRun.sl.v645, bodyRun.sl.v644, bodyRun.sl.v642, bodyRun.sl.v643, bodyRun.sl.cst_318]
      refine congrArg₂ (· + ·) ?_ ?_
      · refine (rd (ix2 j d) (k0_off8_eq i 0) (by intro a; fin_cases a <;> simp; omega)).trans A
      · skip
        refine Finset.sum_congr rfl fun x _ => congrArg₂ (fun a b : EReal => a * b) ?_ ?_
        · rw [View.readCov_eq_canon']
          refine (body_P1 c i arg2 arg3 arg4 arg7 arg14 arg18 f2 f3 f4 f7 Q KV KR L hQ hKV hKR hL _).trans ?_
          rw [idx_whole _ (by decide)]
          refine congrArg (PP _ _ KV KR L x) (key_eq ?_)
          show 512 * (2 * (i 1 : ℕ) + 0) + ((j : ℕ) - (1024 * (i 1 : ℕ))) = j
          omega
        · rw [rd20 c arg6 arg20 f6 dO hdO]
          exact congrArg dO (idx_whole _ (by decide))
    · refine (View.read_writes_cons_unit_of_not_mem arg13.view _ _ _ _ _ (k0_off8_eq i 0) 0 (by simp; omega)).trans (A.trans ?_)
      by_cases h0 : (j : ℕ) < 1024 * (i 1 : ℕ)
      · rw [if_pos h0, if_pos (by omega)]
      · rw [if_neg h0, if_neg (by omega)]

include hQ hKV hKR hL hO hdO in
theorem dq1 (r : Fin 1024) (d : Fin 256) : bodyRun.sl.v679 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f2 f3 f4 f5 f6 f7 f12 f13 (ix2 r d)
    = ∑ x ∈ Finset.range (1024 * (i 1 : ℕ) + 512), GG (1024 * (i 1 : ℕ)) Q KV KR O dO L r (key x) * kl KV KR (key x) d := by
  have hi : (i 1 : ℕ) < 8 := (i 1).isLt
  have A := acc21_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f2 f3 f4 f5 f6 f7 f12 f13 Q KV KR O dO L hQ hKV hKR hO hdO hL r d
  pointwise [bodyRun.sl.v679, bodyRun.sl.v676, bodyRun.sl.v675, bodyRun.sl.v672, bodyRun.sl.v668, bodyRun.sl.v667, bodyRun.sl.v671, bodyRun.sl.v653, bodyRun.sl.cst_336]
  rw [Finset.sum_range_add, Finset.sum_range (n := 512)]
  refine congrArg₂ (· + ·) ?_ (Finset.sum_congr rfl fun x _ => congrArg₂ (fun a b : EReal => a * b) ?_ ?_)
  · exact (rd (ix2 r d) rfl (by intro a; fin_cases a <;> simp)).trans A
  · rw [View.readCov_eq_canon']
    refine (body_G1 c i arg2 arg3 arg4 arg5 arg6 arg7 arg14 arg15 arg18 arg19 arg20 f2 f3 f4 f5 f6 f7 _ KV KR O dO L hQ hKV hKR hO hdO hL _).trans ?_
    rw [idx_whole _ (by decide)]
    refine congrArg (GG _ _ KV KR O dO L r) (congrArg key ?_)
    show 512 * (2 * (i 1 : ℕ) + 0) + (x : ℕ) = 1024 * (i 1 : ℕ) + x
    omega
  · have e : (key (1024 * (i 1 : ℕ) + (x : ℕ)) : ℕ) = 1024 * (i 1 : ℕ) + (x : ℕ) := Nat.mod_eq_of_lt (by omega)
    subst hKV hKR
    unfold kl
    split
    · exact rd _ (k0_off7_eq i 0) (by intro a; fin_cases a <;> simp [e])
    · exact rd _ (k0_off8_eq i 0) (by intro a; fin_cases a <;> simp [e])

include hQ hKV hKR hL hO hdO in
/-- A block's sum over all the keys its rows see. -/
theorem dq2 (r : Fin 1024) (d : Fin 256) : bodyRun.sl.v1320 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f2 f3 f4 f5 f6 f7 f12 f13 (ix2 r d)
    = ∑ x ∈ Finset.range (1024 * (i 1 : ℕ) + 1024), GG (1024 * (i 1 : ℕ)) Q KV KR O dO L r (key x) * kl KV KR (key x) d := by
  have hi : (i 1 : ℕ) < 8 := (i 1).isLt
  have A := dq1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f2 f3 f4 f5 f6 f7 f12 f13 Q KV KR O dO L hQ hKV hKR hO hdO hL r d
  rw [bodyRun.sl.v1320, View.readCov_eq_canon', bodyRun.sl.H21_2, View.canon_cons_unit_lit _ _ _ (by decide)]
  dsimp only
  rw [idx_whole _ (by decide)]
  pointwise [k0_pay1, bodyRun.sl.r_34, k0_pay274, bodyRun.sl.v1313, bodyRun.sl.v1314]
  rw [show 1024 * (i 1 : ℕ) + 1024 = 1024 * (i 1 : ℕ) + 512 + 512 by omega, Finset.sum_range_add (n := 1024 * (i 1 : ℕ) + 512), Finset.sum_range (n := 512)]
  refine congrArg₂ (· + ·) ?_ (Finset.sum_congr rfl fun x _ => congrArg₂ (fun a b : EReal => a * b) ?_ ?_)
  · rw [View.readCov_eq_canon', bodyRun.sl.H21_1_1, View.canon_cons_unit_lit _ _ _ (by decide)]
    dsimp only
    rw [idx_whole _ (by decide)]
    exact A
  · rw [View.readCov_eq_canon']
    refine (body_G2 c i arg2 arg3 arg4 arg5 arg6 arg7 arg14 arg15 arg18 arg19 arg20 f2 f3 f4 f5 f6 f7 _ KV KR O dO L hQ hKV hKR hO hdO hL _).trans ?_
    rw [idx_whole _ (by decide)]
    refine congrArg (GG _ _ KV KR O dO L r) (congrArg key ?_)
    show 512 * (2 * (i 1 : ℕ) + 1) + (x : ℕ) = 1024 * (i 1 : ℕ) + 512 + x
    omega
  · have e : (key (1024 * (i 1 : ℕ) + 512 + (x : ℕ)) : ℕ) = 1024 * (i 1 : ℕ) + 512 + (x : ℕ) := Nat.mod_eq_of_lt (by omega)
    subst hKV hKR
    unfold kl
    split
    · exact rd _ (k0_off7_eq i 1) (by intro a; fin_cases a <;> simp [e])
    · exact rd _ (k0_off8_eq i 1) (by intro a; fin_cases a <;> simp [e])

include hQ hKV hKR hL hO hdO in
set_option maxHeartbeats 2000000 in
/-- The block of the queries' gradients. -/
theorem body9 (CS : S1024x128.Idx → EReal) (hCS : arg8.view.read (Elt Ideal) f8 = CS) (r : Fin 1024) (d : Fin 256) :
    arg9.view.read (Elt Ideal) (bodyRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f2 f3 f4 f5 f6 f7 f8 f9 f10 f11 f12 f13).1.1 (ix3 0 r d) = dqV (i 1 : ℕ) Q KV KR O dO L CS r d := by
  have A := dq2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f2 f3 f4 f5 f6 f7 f12 f13 Q KV KR O dO L hQ hKV hKR hO hdO hL r
  have e : (bodyRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f2 f3 f4 f5 f6 f7 f8 f9 f10 f11 f12 f13).1.1 = arg9.view.writes (Elt Ideal) f9 (bodyRun.sl.H9_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f2 f3 f4 f5 f6 f7 f8 f12 f13) := by unfold bodyRun; rfl
  rw [e, bodyRun.sl.H9_1]
  refine (View.read_writes_cons_unit_of_mem arg9.view f9 _ _ _ _ (ix3 0 r d) rfl (by intro a; fin_cases a <;> simp)).trans ?_
  pointwise [k0_pay2]
  unfold dqV DQ
  split
  · exact congrArg (fun a : EReal => a * κs) (A _)
  · refine congrArg₂ (fun a b : EReal => a * b) (congrArg₂ (fun a b : EReal => a * κs + b * κs) (A _) (A _)) ?_
    subst hCS
    exact rd _ rfl (by intro a; fin_cases a <;> simp)

set_option maxHeartbeats 2000000 in
/-- The head's block of the keys' and values' gradients, stored at its last block of queries. -/
theorem body10 (j : Fin 8192) (d : Fin 256) : arg10.view.read (Elt Ideal) (bodyRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f2 f3 f4 f5 f6 f7 f8 f9 f10 f11 f12 f13).1.2.1 (ix3 0 j d)
    = if (i 1 : ℕ) = 7 then
        (if h : (d : ℕ) < 128 then arg12.view.read (Elt Ideal) (bodyRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f2 f3 f4 f5 f6 f7 f8 f9 f10 f11 f12 f13).1.2.2.2.1 (ix2 j d) * κs else arg13.view.read (Elt Ideal) (bodyRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f2 f3 f4 f5 f6 f7 f8 f9 f10 f11 f12 f13).1.2.2.2.2 (ix2 j ⟨d - 128, by omega⟩))
      else arg10.view.read (Elt Ideal) f10 (ix3 0 j d) := by
  unfold bodyRun
  dsimp only
  by_cases h : (i 1 : ℕ) = 7
  · rw [if_pos h, dif_pos ((last_iff i).2 h)]
    refine (View.read_writes_cons_unit_of_mem arg10.view f10 _ _ _ _ (ix3 0 j d) rfl (by intro a; fin_cases a <;> simp)).trans ?_
    refine (pay3_at _ _ j d).trans ?_
    split
    · refine congrArg (fun a : EReal => a * _) ?_
      exact rd _ rfl (by intro a; fin_cases a <;> simp)
    · exact rd _ rfl (by intro a; fin_cases a <;> simp)
  · rw [if_neg h, dif_neg (fun h' => h ((last_iff i).1 h'))]

set_option maxHeartbeats 2000000 in
/-- The rotary keys' gradient, summed over the heads. -/
theorem body11 (j : Fin 8192) (d : Fin 128) : arg11.view.read (Elt Ideal) (bodyRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f2 f3 f4 f5 f6 f7 f8 f9 f10 f11 f12 f13).1.2.2.1 (ix2 j d)
    = (if (i 0 : ℕ) = 0 ∧ (i 1 : ℕ) = 0 then 0 else arg11.view.read (Elt Ideal) f11 (ix2 j d))
      + if (i 1 : ℕ) = 7 then arg12.view.read (Elt Ideal) (bodyRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 f2 f3 f4 f5 f6 f7 f8 f9 f10 f11 f12 f13).1.2.2.2.1 (ix2 j ⟨128 + d, by omega⟩) * κs else 0 := by
  have b : arg11.view.read (Elt Ideal) (if hc : k0_cond2 i = 1#1 then
            arg11.view.writes (Elt Ideal) f11 [⟨Rect.unit ![0, 0] S8192x128.size inb_S8192x128_S8192x128_0_0, k0_pay129 (F := Ideal)⟩]
          else f11) (ix2 j d) = if (i 0 : ℕ) = 0 ∧ (i 1 : ℕ) = 0 then 0 else arg11.view.read (Elt Ideal) f11 (ix2 j d) := by
    by_cases h : (i 0 : ℕ) = 0 ∧ (i 1 : ℕ) = 0
    · rw [if_pos h, dif_pos ((start_iff i).2 h)]
      refine (View.read_writes_cons_unit_of_mem arg11.view f11 _ _ _ _ (ix2 j d) rfl (by intro a; fin_cases a <;> simp)).trans ?_
      pointwise [k0_pay129]
    · rw [if_neg h, dif_neg (fun h' => h ((start_iff i).1 h'))]
  rw [← b]
  unfold bodyRun
  dsimp only
  by_cases h : (i 1 : ℕ) = 7
  · rw [if_pos h, dif_pos ((last_iff i).2 h)]
    refine (View.read_writes_cons_unit_of_mem arg11.view _ _ _ _ _ (ix2 j d) rfl (by intro a; fin_cases a <;> simp)).trans ?_
    refine (pay4_at _ _ j d).trans ?_
    refine congrArg₂ (· + ·) ?_ (congrArg (fun a : EReal => a * _) ?_)
    · exact rd _ rfl (by intro a; fin_cases a <;> simp)
    · exact rd _ rfl (by intro a; fin_cases a <;> simp)
  · rw [if_neg h, dif_neg (fun h' => h ((last_iff i).1 h')), add_zero]

end
end

end Cert.Proof.KernelIdeal
-- ==== Proof.Run.lean ====
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import proofs.«01_k».proof.Proof.Launch
public import proofs.«01_k».proof.Proof.Blocks
public import Idealize.ShloMosaic.Lib.Tactic
public import Idealize.ShloMosaic.Lib.Pipeline.ValueKit
public import Idealize.ShloMosaic.Lib.Pipeline.TableIdle

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UU nD τ) ℕ

variable (m : (ℓ : Loc nD τ sig) → Buf (Elt Ideal) ℓ) (ρ : Dev nD → PrngReg) (c : Dev nD)

/-- The `n`-th point of the grid: head `n / 8`, block of queries `n % 8`. -/
def pt (n : ℕ) : Fin cfg0.N := ⟨n % 128, Nat.mod_lt _ (by decide)⟩
theorem pt_val (t : Fin cfg0.N) : pt t.val = t := Fin.ext (Nat.mod_eq_of_lt t.isLt)
theorem head_at (t : Fin cfg0.N) : ((grid0.coords t) 0 : ℕ) = t.val / 8 :=
  (Pipeline.Grid.coords_val t 0 (by decide) rfl).trans (Nat.mod_eq_of_lt (by have h : t.val < 128 := t.isLt; show t.val / 8 < 16; omega))
theorem rows_at (t : Fin cfg0.N) : ((grid0.coords t) 1 : ℕ) = t.val % 8 :=
  (Pipeline.Grid.coords_val t 1 (S := 1) (B := 8) (by decide) rfl).trans (by rw [Nat.div_one])

/-! The blocks a point reads. -/
def bQ (n : ℕ) : S1x1024x256.Idx → EReal := iblk m c 0 (pt n)
def bKV (n : ℕ) : S1x8192x256.Idx → EReal := iblk m c 1 (pt n)
def bKR (n : ℕ) : S8192x128.Idx → EReal := iblk m c 2 (pt n)
def bO (n : ℕ) : S1024x128.Idx → EReal := iblk m c 3 (pt n)
def bdO (n : ℕ) : S1024x128.Idx → EReal := iblk m c 4 (pt n)
def bL (n : ℕ) : S1x1024x128.Idx → EReal := iblk m c 5 (pt n)
def bCS (n : ℕ) : S1024x128.Idx → EReal := iblk m c 6 (pt n)
def Lr (n : ℕ) (r : Fin 1024) : EReal := bL m c n (ix3 0 r 0)

/-- What the point adds to the keys' running sum. -/
def term12 (n : ℕ) (j : Fin 8192) (d : Fin 256) : EReal :=
  if (j : ℕ) < 1024 * (n % 8) + 1024 then
    ∑ r : Fin 1024, GG (1024 * (n % 8)) (bQ m c n) (bKV m c n) (bKR m c n) (bO m c n) (bdO m c n) (Lr m c n) r j * bQ m c n (ix3 0 r d) else 0
/-- What the point adds to the values' running sum. -/
def term13 (n : ℕ) (j : Fin 8192) (d : Fin 128) : EReal :=
  if (j : ℕ) < 1024 * (n % 8) + 1024 then
    ∑ r : Fin 1024, PP (1024 * (n % 8)) (bQ m c n) (bKV m c n) (bKR m c n) (Lr m c n) r j * bdO m c n (ix2 r d) else 0
/-- The keys' running sum of a head after `q` blocks of queries. -/
def s12 (h q : ℕ) (j : Fin 8192) (d : Fin 256) : EReal := ∑ x ∈ Finset.range q, term12 m c (8 * h + x) j d
/-- The values' running sum of a head after `q` blocks of queries. -/
def s13 (h q : ℕ) (j : Fin 8192) (d : Fin 128) : EReal := ∑ x ∈ Finset.range q, term13 m c (8 * h + x) j d

/-- The three outputs' blocks as a point leaves them. -/
def out7 (n : ℕ) : S1x1024x256.Idx → EReal := fun x =>
  dqV (n % 8) (bQ m c n) (bKV m c n) (bKR m c n) (bO m c n) (bdO m c n) (Lr m c n) (bCS m c n) (x 1) (x 2)
def dkvAt (h q : ℕ) (j : Fin 8192) (d : Fin 256) : EReal :=
  if e : (d : ℕ) < 128 then s12 m c h q j d * κs else s13 m c h q j ⟨d - 128, by omega⟩
def out8 (n : ℕ) : S1x8192x256.Idx → EReal := fun x => dkvAt m c (n / 8) (n % 8 + 1) (x 1) (x 2)
def dkrAt (h : ℕ) (j : Fin 8192) (d : Fin 128) : EReal :=
  ∑ x ∈ Finset.range h, s12 m c x 8 j ⟨128 + d, by omega⟩ * κs
def out9 (n : ℕ) : S8192x128.Idx → EReal := fun x => dkrAt m c ((n + 1) / 8) (x 0) (x 1)

/-- What the two running sums hold before point `n`: inside a head, the sums over its blocks so far. -/
def Held (n : ℕ) (a : S8192x256.Idx → EReal) (b : S8192x128.Idx → EReal) : Prop :=
  n % 8 ≠ 0 → (∀ j d, a (ix2 j d) = s12 m c (n / 8) (n % 8) j d) ∧ (∀ j d, b (ix2 j d) = s13 m c (n / 8) (n % 8) j d)

/-- What a point leaves, at an index, from what it finds. -/
structure Vals (n : ℕ) (w9 : S1x1024x256.Idx → EReal) (f10 w10 : S1x8192x256.Idx → EReal) (f11 w11 : S8192x128.Idx → EReal)
    (f12 w12 : S8192x256.Idx → EReal) (f13 w13 : S8192x128.Idx → EReal) : Prop where
  v12 : ∀ j d, w12 (ix2 j d) = (if n % 8 = 0 then 0 else f12 (ix2 j d)) + term12 m c n j d
  v13 : ∀ j d, w13 (ix2 j d) = (if n % 8 = 0 then 0 else f13 (ix2 j d)) + term13 m c n j d
  v9 : ∀ r d, w9 (ix3 0 r d) = dqV (n % 8) (bQ m c n) (bKV m c n) (bKR m c n) (bO m c n) (bdO m c n) (Lr m c n) (bCS m c n) r d
  v10 : ∀ (j : Fin 8192) (d : Fin 256), w10 (ix3 0 j d) = if n % 8 = 7 then
    (if h : (d : ℕ) < 128 then w12 (ix2 j d) * κs else w13 (ix2 j ⟨d - 128, by omega⟩)) else f10 (ix3 0 j d)
  v11 : ∀ (j : Fin 8192) (d : Fin 128), w11 (ix2 j d) = (if n / 8 = 0 ∧ n % 8 = 0 then 0 else f11 (ix2 j d))
    + if n % 8 = 7 then w12 (ix2 j ⟨128 + d, by omega⟩) * κs else 0

section
variable {n : ℕ} {w9 : S1x1024x256.Idx → EReal} {f10 w10 : S1x8192x256.Idx → EReal} {f11 w11 : S8192x128.Idx → EReal}
    {f12 w12 : S8192x256.Idx → EReal} {f13 w13 : S8192x128.Idx → EReal} (v : Vals m c n w9 f10 w10 f11 w11 f12 w12 f13 w13) (h : Held m c n f12 f13)
include v

theorem Vals.eq9 : w9 = out7 m c n := by
  funext x
  rw [eq_ix3 x, show x 0 = (0 : Fin 1) from Subsingleton.elim (α := Fin 1) _ _]
  exact v.v9 (x 1) (x 2)

include h
theorem Vals.sum12 (j : Fin 8192) (d : Fin 256) : w12 (ix2 j d) = s12 m c (n / 8) (n % 8 + 1) j d := by
  rw [v.v12, s12, Finset.sum_range_succ, Nat.div_add_mod]
  refine congrArg (fun a : EReal => a + _) ?_
  by_cases h0 : n % 8 = 0
  · rw [if_pos h0, h0, Finset.sum_range_zero]
  · rw [if_neg h0, (h h0).1]; rfl
theorem Vals.sum13 (j : Fin 8192) (d : Fin 128) : w13 (ix2 j d) = s13 m c (n / 8) (n % 8 + 1) j d := by
  rw [v.v13, s13, Finset.sum_range_succ, Nat.div_add_mod]
  refine congrArg (fun a : EReal => a + _) ?_
  by_cases h0 : n % 8 = 0
  · rw [if_pos h0, h0, Finset.sum_range_zero]
  · rw [if_neg h0, (h h0).2]; rfl
theorem Vals.held : Held m c (n + 1) w12 w13 := fun h1 => by
  have e : (n + 1) / 8 = n / 8 := by omega
  have e' : (n + 1) % 8 = n % 8 + 1 := by omega
  rw [e, e']
  exact ⟨v.sum12 m c h, v.sum13 m c h⟩
theorem Vals.eq10 (h7 : n % 8 = 7) : w10 = out8 m c n := by
  funext x
  rw [eq_ix3 x, show x 0 = (0 : Fin 1) from Subsingleton.elim (α := Fin 1) _ _]
  refine (v.v10 (x 1) (x 2)).trans ?_
  rw [if_pos h7]
  show _ = dkvAt m c (n / 8) (n % 8 + 1) (x 1) (x 2)
  unfold dkvAt
  split
  · exact congrArg (fun a : EReal => a * κs) (v.sum12 m c h _ _)
  · exact v.sum13 m c h _ _
theorem Vals.eq11 (h7 : n % 8 = 7) (hf : f11 = out9 m c (n - 1)) : w11 = out9 m c n := by
  funext x
  rw [eq_ix2 x]
  refine (v.v11 (x 0) (x 1)).trans ?_
  rw [if_pos h7, if_neg (by omega), hf]
  show dkrAt m c ((n - 1 + 1) / 8) (x 0) (x 1) + _ = dkrAt m c ((n + 1) / 8) (x 0) (x 1)
  rw [show (n - 1 + 1) / 8 = n / 8 by omega, show (n + 1) / 8 = n / 8 + 1 by omega]
  unfold dkrAt
  rw [Finset.sum_range_succ]
  refine congrArg (fun a : EReal => _ + a * κs) ((v.sum12 m c h _ _).trans ?_)
  rw [h7]
omit h
theorem Vals.keep10 (h7 : n % 8 ≠ 7) : w10 = f10 := by
  funext x
  rw [eq_ix3 x, show x 0 = (0 : Fin 1) from Subsingleton.elim (α := Fin 1) _ _]
  exact (v.v10 (x 1) (x 2)).trans (if_neg h7)
theorem Vals.keep11 (h7 : n % 8 ≠ 7) (h0 : n ≠ 0) : w11 = f11 := by
  funext x
  rw [eq_ix2 x]
  refine (v.v11 (x 0) (x 1)).trans ?_
  rw [if_neg h7, if_neg (by omega)]
  exact add_zero (f11 (ix2 (x 0) (x 1)))
theorem Vals.zero11 (h0 : n = 0) : w11 = out9 m c n := by
  funext x
  rw [eq_ix2 x]
  refine (v.v11 (x 0) (x 1)).trans ?_
  subst h0
  rw [if_pos (⟨rfl, rfl⟩ : 0 / 8 = 0 ∧ 0 % 8 = 0), if_neg (by decide : ¬ 0 % 8 = 7)]
  show (0 : EReal) + 0 = dkrAt m c ((0 + 1) / 8) (x 0) (x 1)
  rw [show (0 + 1) / 8 = 0 by omega]
  unfold dkrAt
  rw [Finset.sum_range_zero, add_zero]
end

section
variable (t : Fin cfg0.N) (f2 : Buf (Elt Ideal) ((st0_0 t).view.loc (c : Thread nD τ))) (f3 : Buf (Elt Ideal) ((st0_1 t).view.loc (c : Thread nD τ))) (f4 : Buf (Elt Ideal) ((st0_2 t).view.loc (c : Thread nD τ))) (f5 : Buf (Elt Ideal) ((st0_3 t).view.loc (c : Thread nD τ))) (f6 : Buf (Elt Ideal) ((st0_4 t).view.loc (c : Thread nD τ))) (f7 : Buf (Elt Ideal) ((st0_5 t).view.loc (c : Thread nD τ))) (f8 : Buf (Elt Ideal) ((st0_6 t).view.loc (c : Thread nD τ))) (f9 : Buf (Elt Ideal) ((st0_7 t).view.loc (c : Thread nD τ))) (f10 : Buf (Elt Ideal) ((st0_8 t).view.loc (c : Thread nD τ))) (f11 : Buf (Elt Ideal) ((st0_9 t).view.loc (c : Thread nD τ))) (f12 : Buf (Elt Ideal) ((Memref.whole cc0_scratch0).view.loc (c : Thread nD τ))) (f13 : Buf (Elt Ideal) ((Memref.whole cc0_scratch1).view.loc (c : Thread nD τ)))
variable (hl : ∀ n r l, bL m c n (ix3 0 r l) = Lr m c n r)
include hl

set_option maxHeartbeats 2000000 in
theorem pointVals (e2 : (st0_0 t).view.read (Elt Ideal) f2 = iblk m c 0 t) (e3 : (st0_1 t).view.read (Elt Ideal) f3 = iblk m c 1 t) (e4 : (st0_2 t).view.read (Elt Ideal) f4 = iblk m c 2 t) (e5 : (st0_3 t).view.read (Elt Ideal) f5 = iblk m c 3 t) (e6 : (st0_4 t).view.read (Elt Ideal) f6 = iblk m c 4 t) (e7 : (st0_5 t).view.read (Elt Ideal) f7 = iblk m c 5 t) (e8 : (st0_6 t).view.read (Elt Ideal) f8 = iblk m c 6 t) : Vals m c t.val ((st0_7 t).view.read (Elt Ideal) (pointRun (F := Ideal) c t f2 f3 f4 f5 f6 f7 f8 f9 f10 f11 f12 f13).1.1) ((st0_8 t).view.read (Elt Ideal) f10) ((st0_8 t).view.read (Elt Ideal) (pointRun (F := Ideal) c t f2 f3 f4 f5 f6 f7 f8 f9 f10 f11 f12 f13).1.2.1) ((st0_9 t).view.read (Elt Ideal) f11) ((st0_9 t).view.read (Elt Ideal) (pointRun (F := Ideal) c t f2 f3 f4 f5 f6 f7 f8 f9 f10 f11 f12 f13).1.2.2.1) ((Memref.whole cc0_scratch0).view.read (Elt Ideal) f12) ((Memref.whole cc0_scratch0).view.read (Elt Ideal) (pointRun (F := Ideal) c t f2 f3 f4 f5 f6 f7 f8 f9 f10 f11 f12 f13).1.2.2.2.1) ((Memref.whole cc0_scratch1).view.read (Elt Ideal) f13) ((Memref.whole cc0_scratch1).view.read (Elt Ideal) (pointRun (F := Ideal) c t f2 f3 f4 f5 f6 f7 f8 f9 f10 f11 f12 f13).1.2.2.2.2) := by
  have h2 : (st0_0 t).view.read (Elt Ideal) f2 = bQ m c t.val := by unfold bQ; rw [pt_val]; exact e2
  have h3 : (st0_1 t).view.read (Elt Ideal) f3 = bKV m c t.val := by unfold bKV; rw [pt_val]; exact e3
  have h4 : (st0_2 t).view.read (Elt Ideal) f4 = bKR m c t.val := by unfold bKR; rw [pt_val]; exact e4
  have h5 : (st0_3 t).view.read (Elt Ideal) f5 = bO m c t.val := by unfold bO; rw [pt_val]; exact e5
  have h6 : (st0_4 t).view.read (Elt Ideal) f6 = bdO m c t.val := by unfold bdO; rw [pt_val]; exact e6
  have h7' : (st0_5 t).view.read (Elt Ideal) f7 = bL m c t.val := by unfold bL; rw [pt_val]; exact e7
  have h8 : (st0_6 t).view.read (Elt Ideal) f8 = bCS m c t.val := by unfold bCS; rw [pt_val]; exact e8
  have h7 : ∀ r l, (st0_5 t).view.read (Elt Ideal) f7 (ix3 0 r l) = Lr m c t.val r := fun r l => (congrFun h7' _).trans (hl _ r l)
  have hi := head_at t
  have hq := rows_at t
  constructor
  · intro j d
    have A := body12 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) f2 f3 f4 f5 f6 f7 f8 f9 f10 f11 f12 f13 (bQ m c t.val) (bKV m c t.val) (bKR m c t.val) (bO m c t.val) (bdO m c t.val) (Lr m c t.val) h2 h3 h4 h5 h6 h7 j d
    rw [hq] at A
    exact A
  · intro j d
    have A := body13 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) f2 f3 f4 f5 f6 f7 f8 f9 f10 f11 f12 f13 (bQ m c t.val) (bKV m c t.val) (bKR m c t.val) (bO m c t.val) (bdO m c t.val) (Lr m c t.val) h2 h3 h4 h5 h6 h7 j d
    rw [hq] at A
    exact A
  · intro r d
    have A := body9 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) f2 f3 f4 f5 f6 f7 f8 f9 f10 f11 f12 f13 (bQ m c t.val) (bKV m c t.val) (bKR m c t.val) (bO m c t.val) (bdO m c t.val) (Lr m c t.val) h2 h3 h4 h5 h6 h7 (bCS m c t.val) h8 r d
    rw [hq] at A
    exact A
  · intro j d
    have A := body10 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) f2 f3 f4 f5 f6 f7 f8 f9 f10 f11 f12 f13 j d
    rw [hq] at A
    exact A
  · intro j d
    have A := body11 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) f2 f3 f4 f5 f6 f7 f8 f9 f10 f11 f12 f13 j d
    rw [hq, hi] at A
    exact A
end

end Cert.Proof.KernelIdeal
-- ==== Proof.Exact.lean ====
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import proofs.«01_k».proof.Proof.Launch
public import proofs.«01_k».proof.Proof.Run
public import Idealize.ShloMosaic.Lib.Tactic
public import Idealize.ShloMosaic.Lib.Pipeline.ValueKit
public import Idealize.ShloMosaic.Lib.Pipeline.TableIdle

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UU nD τ) ℕ

variable (m : (ℓ : Loc nD τ sig) → Buf (Elt Ideal) ℓ) (ρ : Dev nD → PrngReg) (c : Dev nD)

/-- Before point `n`: the two running sums at what the head's blocks so far have made them, the other scratch at anything. -/
def Phi (n : ℕ) : sProp 𝕄 :=
  iprop(∃ f12 f13, ⌜Held m c n ((Memref.whole cc0_scratch0).view.read (Elt Ideal) f12) ((Memref.whole cc0_scratch1).view.read (Elt Ideal) f13)⌝
    ∗ ((((Memref.whole cc0_scratch0).view.loc (c : Thread nD τ) ↦[(Memref.whole cc0_scratch0).view.set]{fullShare} f12) ∗ ((Memref.whole cc0_scratch1).view.loc (c : Thread nD τ) ↦[(Memref.whole cc0_scratch1).view.set]{fullShare} f13)
      ∗ (∃ f, (Memref.whole cc0_scratch2).view.loc (c : Thread nD τ) ↦[(Memref.whole cc0_scratch2).view.set]{fullShare} f) ∗ (∃ f, (Memref.whole cc0_scratch3).view.loc (c : Thread nD τ) ↦[(Memref.whole cc0_scratch3).view.set]{fullShare} f) ∗ (∃ f, (Memref.whole cc0_scratch4).view.loc (c : Thread nD τ) ↦[(Memref.whole cc0_scratch4).view.set]{fullShare} f) ∗ (∃ f, (Memref.whole cc0_scratch5).view.loc (c : Thread nD τ) ↦[(Memref.whole cc0_scratch5).view.set]{fullShare} f) ∗ (∃ f, (Memref.whole cc0_scratch6).view.loc (c : Thread nD τ) ↦[(Memref.whole cc0_scratch6).view.set]{fullShare} f) ∗ (∃ f, (Memref.whole cc0_scratch7).view.loc (c : Thread nD τ) ↦[(Memref.whole cc0_scratch7).view.set]{fullShare} f) ∗ (∃ f, (Memref.whole cc0_scratch8).view.loc (c : Thread nD τ) ↦[(Memref.whole cc0_scratch8).view.set]{fullShare} f) ∗ (∃ f, (Memref.whole cc0_scratch9).view.loc (c : Thread nD τ) ↦[(Memref.whole cc0_scratch9).view.set]{fullShare} f)) ∗ ∃ r, prngReg c r))
def PhiS (n : ℕ) (_ : n ≤ cfg0.N) : sProp 𝕄 := Phi m c n

/-- Proof data that names everything a point leaves in the three outputs. -/
def exactDats (_ : Fin 1) (c : Dev nD) : Pipeline.Dat τ (Elt Ideal) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 m c t.val
    | ⟨8, _⟩ => out8 m c t.val
    | ⟨9, _⟩ => out9 m c t.val
  Φ t := PhiS m c t.val (Nat.le_of_lt_succ t.isLt)
  q _ := fullShare
  owed _ := 0

theorem exact_A (w : Fin cfg0.W) : (exactDats m 0 c).A w = V m c (Pipeline.arrRef spec0 w) := rfl
theorem exact_in0 (t : Fin cfg0.N) : (exactDats m 0 c).after 0 t = iblk m c 0 t := by dsimp only [exactDats]
theorem exact_in1 (t : Fin cfg0.N) : (exactDats m 0 c).after 1 t = iblk m c 1 t := by dsimp only [exactDats]
theorem exact_in2 (t : Fin cfg0.N) : (exactDats m 0 c).after 2 t = iblk m c 2 t := by dsimp only [exactDats]
theorem exact_in3 (t : Fin cfg0.N) : (exactDats m 0 c).after 3 t = iblk m c 3 t := by dsimp only [exactDats]
theorem exact_in4 (t : Fin cfg0.N) : (exactDats m 0 c).after 4 t = iblk m c 4 t := by dsimp only [exactDats]
theorem exact_in5 (t : Fin cfg0.N) : (exactDats m 0 c).after 5 t = iblk m c 5 t := by dsimp only [exactDats]
theorem exact_in6 (t : Fin cfg0.N) : (exactDats m 0 c).after 6 t = iblk m c 6 t := by dsimp only [exactDats]
theorem Phi_castSucc (t : Fin cfg0.N) : (exactDats m 0 c).Φ t.castSucc = Phi m c t.val := by
  dsimp only [exactDats]; exact Pipeline.Dat.Φ_castSucc (PhiS m c) t
theorem succ_at {α : Sort _} {N : Nat} (S : (n : Nat) → n ≤ N → α) (t : Fin N) :
    S (Fin.succ t).val (Nat.le_of_lt_succ (Fin.succ t).isLt) = S (t.val + 1) t.isLt := rfl
theorem Phi_succ (t : Fin cfg0.N) : (exactDats m 0 c).Φ t.succ = Phi m c (t.val + 1) := by
  dsimp only [exactDats]; exact succ_at (PhiS m c) t

theorem last_at (t : Fin cfg0.N) : cfg0.idle 8 (cfg0.grid.coords t) = !decide (t.val % 8 = 7) := by
  have h := last_iff (grid0.coords t)
  rw [rows_at t] at h
  show (!(k0_cond3 (grid0.coords t) == 1#1)) = _
  by_cases h7 : t.val % 8 = 7
  · rw [h.2 h7, decide_eq_true h7]; rfl
  · rw [decide_eq_false h7, beq_eq_false_iff_ne.2 (fun e => h7 (h.1 e))]
theorem idle9_at (t : Fin cfg0.N) : cfg0.idle 9 (cfg0.grid.coords t) = (!decide (t.val = 0) && !decide (t.val % 8 = 7)) := by
  have h := last_iff (grid0.coords t)
  have h' := start_iff (grid0.coords t)
  rw [rows_at t] at h h'
  rw [head_at t] at h'
  show (!(k0_cond2 (grid0.coords t) == 1#1) && !(k0_cond3 (grid0.coords t) == 1#1)) = _
  refine congrArg₂ (fun a b => !a && !b) ?_ ?_
  · by_cases h0 : t.val = 0
    · rw [h'.2 (by omega), decide_eq_true h0]; rfl
    · rw [decide_eq_false h0, beq_eq_false_iff_ne.2 (fun e => h0 (by have := h'.1 e; omega))]
  · by_cases h7 : t.val % 8 = 7
    · rw [h.2 h7, decide_eq_true h7]; rfl
    · rw [decide_eq_false h7, beq_eq_false_iff_ne.2 (fun e => h7 (h.1 e))]

theorem fresh9 : ∀ n, n < 128 → cfg0.fresh 9 n = decide (n = 0)
  | 0, _ => rfl
  | n + 1, h => by
    rw [Pipeline.Cfg.fresh_succ cfg0 9 n (show n < 128 by omega), fresh9 n (by omega), idle9_at]
    have hf : (cfg0.win 9).flush ⟨n, (show n < 128 by omega)⟩ = false := by
      rw [Bool.eq_false_iff]; intro e; have := (flush0_9 _).1 e; dsimp only at this; omega
    rw [hf]
    by_cases h0 : n = 0 <;> simp [h0]

theorem before9 (t : Fin cfg0.N) (h0 : t.val ≠ 0) (d) : (exactDats m 0 c).before 9 t d = out9 m c (t.val - 1) := by
  rw [(exactDats m 0 c).before_out_traj 9 rfl (fun _ _ => rfl) (fun s hs hi hf => ?_) t.val t rfl d, fresh9 _ t.isLt, if_neg (by simpa using h0)]
  · rfl
  · rw [idle9_at] at hi
    have h7 : ¬ s.val % 8 = 7 := by simpa using (Bool.and_eq_true_iff.1 hi).2
    show out9 m c s.val = out9 m c (s.val - 1)
    unfold out9
    rw [show (s.val - 1 + 1) / 8 = (s.val + 1) / 8 by omega]

/-- What a point leaves of an output, by whether it stores it there. -/
theorem leaves {X A B C : sProp 𝕄} (b f : Bool) (h1 : b = false → X ⊢ C) (h2 : b = true → f = false ∧ (X ⊢ A)) :
    X ⊢ (match b with | true => (match f with | false => A | true => B) | false => C) := by
  cases b
  · exact h1 rfl
  · obtain ⟨rfl, h⟩ := h2 rfl
    exact h

variable (hl : ∀ c n r l, bL m c n (ix3 0 r l) = Lr m c n r)
include hl

set_option maxHeartbeats 4000000 in
/-- A point, from the run of its body. -/
theorem exactBody (c : Dev nD) :
    Pipeline.BodyObligationLoose (exactDats m 0 c) (defs₀ (F := Ideal)) 𝒱₀ () Set.univ := fun t => by
  rw [Gen.bigSep_W0, Gen.bigSep_W0]
  show _ ⊢ wp frame (wpE (defs₀ (F := Ideal)) 𝒱₀ (c : Thread nD τ) none) Set.univ (bodyAt0 t) _
  rw [show (exactDats m 0 c).Φ t.castSucc = Phi m c t.val from Phi_castSucc m c t, show (exactDats m 0 c).Φ t.succ = Phi m c (t.val + 1) from Phi_succ m c t,
    show (exactDats m 0 c).owesAt () t.succ = (exactDats m 0 c).owesAt () t.castSucc from rfl]
  unfold Phi
  dsimp only
  unfold owns
  iintro ⟨⟨%f12, %f13, %hh, ⟨H12, H13, ⟨%f14, H14⟩, ⟨%f15, H15⟩, ⟨%f16, H16⟩, ⟨%f17, H17⟩, ⟨%f18, H18⟩, ⟨%f19, H19⟩, ⟨%f20, H20⟩, ⟨%f21, H21⟩⟩, Hr⟩, Ho,
    ⟨%d0, %f2, %e2, H2⟩, ⟨%d1, %f3, %e3, H3⟩, ⟨%d2, %f4, %e4, H4⟩, ⟨%d3, %f5, %e5, H5⟩, ⟨%d4, %f6, %e6, H6⟩, ⟨%d5, %f7, %e7, H7⟩, ⟨%d6, %f8, %e8, H8⟩,
    ⟨%d7, %f9, %e9, H9⟩, ⟨%d8, %f10, %e10, H10⟩, ⟨%d9, %f11, %e11, H11⟩⟩
  rw [before0_0_of m (exactDats m 0 c) (exact_A m c 0) (exact_in0 m c)] at e2
  rw [before0_1_of m (exactDats m 0 c) (exact_A m c 1) (exact_in1 m c)] at e3
  rw [before0_2_of m (exactDats m 0 c) (exact_A m c 2) (exact_in2 m c)] at e4
  rw [before0_3_of m (exactDats m 0 c) (exact_A m c 3) (exact_in3 m c)] at e5
  rw [before0_4_of m (exactDats m 0 c) (exact_A m c 4) (exact_in4 m c)] at e6
  rw [before0_5_of m (exactDats m 0 c) (exact_A m c 5) (exact_in5 m c)] at e7
  rw [before0_6_of m (exactDats m 0 c) (exact_A m c 6) (exact_in6 m c)] at e8
  have run := (pointRun c t f2 f3 f4 f5 f6 f7 f8 f9 f10 f11 f12 f13).2
  have vals := pointVals m c t f2 f3 f4 f5 f6 f7 f8 f9 f10 f11 f12 f13 (hl c) e2 e3 e4 e5 e6 e7 e8
  generalize (pointRun c t f2 f3 f4 f5 f6 f7 f8 f9 f10 f11 f12 f13).1 = w at run vals
  iapply (wp_wand _ _ _) $$ [H2 H3 H4 H5 H6 H7 H8 H9 H10 H11 H12 H13 H14 H15 H16 H17 H18 H19 H20 H21]
  · iapply run
    unfold bodyRes
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    iexists _; iexact H21
  iintro %u
  unfold bodyRes
  iintro ⟨H2, H3, H4, H5, H6, H7, H8, H9, H10, H11, H12, H13, H14, H15, H16, H17, H18, H19, H20, H21⟩
  isplitl [H12 H13 H14 H15 H16 H17 H18 H19 H20 H21 Hr]
  · iexists _; iexists _
    isplitr; swap
    · isplitr [Hr]; swap
      · iexact Hr
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      iexact H21
    ipureintro
    exact vals.held m c hh
  isplitl [Ho]; · iexact Ho
  isplitl [H2]; · iexists f2; isplitr; swap; (· iexact H2); ipureintro; exact e2
  isplitl [H3]; · iexists f3; isplitr; swap; (· iexact H3); ipureintro; exact e3
  isplitl [H4]; · iexists f4; isplitr; swap; (· iexact H4); ipureintro; exact e4
  isplitl [H5]; · iexists f5; isplitr; swap; (· iexact H5); ipureintro; exact e5
  isplitl [H6]; · iexists f6; isplitr; swap; (· iexact H6); ipureintro; exact e6
  isplitl [H7]; · iexists f7; isplitr; swap; (· iexact H7); ipureintro; exact e7
  isplitl [H8]; · iexists f8; isplitr; swap; (· iexact H8); ipureintro; exact e8
  isplitl [H9]; · iexists _; isplitr; swap; (· iexact H9); ipureintro; exact vals.eq9
  isplitl [H10]
  · by_cases h7 : t.val % 8 = 7
    · rw [show idle0 8 (grid0.coords t) = false from (last_at t).trans (by simp [h7])]
      dsimp only
      iexists _; isplitr; swap; (· iexact H10); ipureintro; exact vals.eq10 m c hh h7
    · rw [show idle0 8 (grid0.coords t) = true from (last_at t).trans (by simp [h7]), show (win0 8).flush t = false from by rw [Bool.eq_false_iff]; exact fun e => h7 ((flush0_8 t).1 e)]
      dsimp only
      iexists d8; iexists _; isplitr; swap; (· iexact H10); ipureintro; exact (vals.keep10 m c h7).trans e10
  by_cases h7 : t.val % 8 = 7
  · rw [show idle0 9 (grid0.coords t) = false from (idle9_at t).trans (by simp [h7])]
    dsimp only
    iexists _; isplitr; swap; (· iexact H11); ipureintro; exact vals.eq11 m c hh h7 (e11.trans (before9 m c t (by omega) d9))
  by_cases h0 : t.val = 0
  · rw [show idle0 9 (grid0.coords t) = false from (idle9_at t).trans (by simp [h0])]
    dsimp only
    iexists _; isplitr; swap; (· iexact H11); ipureintro; exact vals.zero11 m c h0
  · rw [show idle0 9 (grid0.coords t) = true from (idle9_at t).trans (by simp [h7, h0]), show (win0 9).flush t = false from by rw [Bool.eq_false_iff]; intro e; have := (flush0_9 t).1 e; omega]
    dsimp only
    iexists d9; iexists _; isplitr; swap; (· iexact H11); ipureintro; exact (vals.keep11 m c h7 h0).trans e11

omit hl in
theorem exactShare (c : Dev nD) (w : Fin cfg0.W) : (exactDats m 0 c).share w = fullShare := by
  unfold Pipeline.Dat.share; split <;> rfl

omit hl in
theorem Phi_start (c : Dev nD) : Pipeline.ΦA spec0 c ⊢ (exactDats m 0 c).Φ 0 := by
  rw [show (exactDats m 0 c).Φ 0 = Phi m c 0 from rfl]
  unfold Pipeline.ΦA
  rw [rest_eq]
  unfold Phi
  iintro ⟨⟨⟨%f12, H12⟩, ⟨%f13, H13⟩, Hs⟩, Hr⟩
  iexists f12; iexists f13
  isplitr; swap
  · isplitr [Hr]; swap
    · iexact Hr
    isplitl [H12]; · iexact H12
    isplitl [H13]; · iexact H13
    iexact Hs
  ipureintro
  exact fun h => absurd rfl h

omit hl in
theorem Phi_end (c : Dev nD) : (exactDats m 0 c).Φ (Fin.last cfg0.N) ⊢ Pipeline.ΦA spec0 c := by
  rw [show (exactDats m 0 c).Φ (Fin.last cfg0.N) = Phi m c 128 from rfl]
  unfold Pipeline.ΦA
  rw [rest_eq]
  unfold Phi
  iintro ⟨%f12, %f13, %hh, ⟨H12, H13, Hs⟩, Hr⟩
  isplitr [Hr]; swap
  · iexact Hr
  isplitl [H12]; · iexists f12; iexact H12
  isplitl [H13]; · iexists f13; iexact H13
  iexact Hs

/-- THE RUN: the three results at the arrays the points' blocks make, the six arguments as launched and every counter at zero. -/
theorem exact_run : θ_run defs (onTc (τ := τ) (main (F := Ideal))) ⟨m, fun _ => 0, ρ⟩ (fun r => (∀ c : Dev nD,
      r.2.mem ((c.tc : Thread nD τ).loc main_v55_0) = (exactDats m 0 c).arrAt 7 cfg0.N
      ∧ r.2.mem ((c.tc : Thread nD τ).loc main_v55_1) = (exactDats m 0 c).arrAt 8 cfg0.N
      ∧ r.2.mem ((c.tc : Thread nD τ).loc main_v55_2) = (exactDats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  Pipeline.θ_run_frame_track cfgs (exactDats m) 0 Gen.launch0 defs₀ 𝒱₀ m ρ main (exactBody m hl) (exactShare m)
    (fun _ _ => rfl) (V m) (Gen.hmain m 𝒱₀) (fun c w => exact_A m c w) (Phi_start m) (Phi_end m) _
    (fun r h => ⟨fun c => ⟨(h.1 c).1 7, (h.1 c).1 8, (h.1 c).1 9,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      (Pipeline.FramePost.in_eq h.1 c 4 rfl).trans (V_main_arg5 m c)⟩, h.2⟩)

end Cert.Proof.KernelIdeal
-- ==== Proof.Arr.lean ====
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import proofs.«01_k».proof.Proof.Launch
public import proofs.«01_k».proof.Proof.Exact
public import Idealize.ShloMosaic.Lib.Tactic
public import Idealize.ShloMosaic.Lib.Pipeline.ValueKit
public import Idealize.ShloMosaic.Lib.Pipeline.TableIdle

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (m : (ℓ : Loc nD τ sig) → Buf (Elt Ideal) ℓ) (ρ : Dev nD → PrngReg) (c : Dev nD)

/-! The arrays the call is given, at an index. -/
def AQ (h : Fin 16) (i : Fin 8192) (d : Fin 256) : EReal := (V m c main_v52 : S16x8192x256.Idx → EReal) (ix3 h i d)
def AKV (h : Fin 16) (j : Fin 8192) (d : Fin 256) : EReal := (V m c main_v53 : S16x8192x256.Idx → EReal) (ix3 h j d)
def AKR (j : Fin 8192) (d : Fin 128) : EReal := (V m c main_v54 : S8192x128.Idx → EReal) (ix2 j d)
def AO (i : Fin 8192) (d : Fin 2048) : EReal := (V m c main_v48 : S8192x2048.Idx → EReal) (ix2 i d)
def AdO (i : Fin 8192) (d : Fin 2048) : EReal := (V m c main_arg5 : S8192x2048.Idx → EReal) (ix2 i d)
def AL (h : Fin 16) (i : Fin 8192) (l : Fin 128) : EReal := (V m c main_v51 : S16x8192x128.Idx → EReal) (ix3 h i l)
def ACS (i : Fin 8192) (d : Fin 128) : EReal := (V m c main_v0 : S8192x128.Idx → EReal) (ix2 i d)

theorem idx : ∀ t : Fin cfg0.N, win0_0.index t = ![t.val / 8, t.val % 8, 0] ∧ win0_1.index t = ![t.val / 8, 0, 0] ∧ win0_2.index t = ![0, 0]
    ∧ win0_3.index t = ![t.val % 8, t.val / 8] ∧ win0_4.index t = ![t.val % 8, t.val / 8] ∧ win0_5.index t = ![t.val / 8, t.val % 8, 0]
    ∧ win0_6.index t = ![t.val % 8, 0] ∧ win0_7.index t = ![t.val / 8, t.val % 8, 0] ∧ win0_8.index t = ![t.val / 8, 0, 0] ∧ win0_9.index t = ![0, 0] :=
  (by decide +kernel : ∀ t : Fin grid0.N, _)

/-- The head of a number. -/
def hd (n : ℕ) : Fin 16 := Fin.ofNat 16 n
theorem hd_val (h : Fin 16) : hd (h : ℕ) = h := Fin.ext (Nat.mod_eq_of_lt h.isLt)
/-- A head's lane of the heads side by side. -/
def ln (h : Fin 16) (x : Fin 128) : Fin 2048 := ⟨128 * h + x, by omega⟩

/-- A query's row, of a block of 1024. -/
def row (q : Fin 8) (r : Fin 1024) : Fin 8192 := ⟨1024 * q + r, by omega⟩
theorem row_val (q : Fin 8) (r : Fin 1024) : (row q r : ℕ) = 1024 * q + r := rfl

section
variable (Q KV : Fin 16 → Fin 8192 → Fin 256 → EReal) (KR : Fin 8192 → Fin 128 → EReal) (O dO : Fin 8192 → Fin 2048 → EReal)
  (L : Fin 16 → Fin 8192 → EReal) (CS : Fin 8192 → Fin 128 → EReal)

/-! The backward pass over whole arrays: score, probability, its gradient, the row's sum, the score's gradient. -/
def gS (h : Fin 16) (i j : Fin 8192) : EReal :=
  (∑ x : Fin 128, Q h i ⟨x, by omega⟩ * KV h j ⟨x, by omega⟩) + ∑ x : Fin 128, Q h i ⟨128 + x, by omega⟩ * KR j x
def gP (h : Fin 16) (i j : Fin 8192) : EReal :=
  FloatOps.exp2 (F := Ideal) (φ := .f32) ((if (j : ℕ) / 64 ≤ (i : ℕ) / 64 then gS Q KV KR h i j else ⊥) * κe
    - L h i * Named.named (F := Ideal) (φ := .f32) κ "log2e" 1069066811#32)
def gE (h : Fin 16) (i j : Fin 8192) : EReal := ∑ x : Fin 128, dO i (ln h x) * KV h j ⟨128 + x, by omega⟩
def gD (h : Fin 16) (i : Fin 8192) : EReal := ∑ x : Fin 128, dO i (ln h x) * O i (ln h x)
def gG (h : Fin 16) (i j : Fin 8192) : EReal := gP Q KV KR L h i j * (gE KV dO h i j - gD O dO h i)
def gK (h : Fin 16) (j : Fin 8192) (d : Fin 256) : EReal := if e : (d : ℕ) < 128 then KV h j d else KR j ⟨d - 128, by omega⟩
def gDQ (h : Fin 16) (i : Fin 8192) (d : Fin 256) : EReal := ∑ j, gG Q KV KR O dO L h i j * gK KV KR h j d
/-- The three results. -/
def rDQ (h : Fin 16) (i : Fin 8192) (d : Fin 256) : EReal :=
  if e : (d : ℕ) < 128 then gDQ Q KV KR O dO L h i d * κs
  else (gDQ Q KV KR O dO L h i ⟨128 + (d - 128), by omega⟩ * κs + gDQ Q KV KR O dO L h i ⟨128 + (d - 128 + 128 - 64) % 128, by omega⟩ * κs) * CS i ⟨d - 128, by omega⟩
def gDK (h : Fin 16) (j : Fin 8192) (d : Fin 256) : EReal := ∑ i, gG Q KV KR O dO L h i j * Q h i d
def gDV (h : Fin 16) (j : Fin 8192) (d : Fin 128) : EReal := ∑ i, gP Q KV KR L h i j * dO i (ln h d)
def rDKV (h : Fin 16) (j : Fin 8192) (d : Fin 256) : EReal :=
  if e : (d : ℕ) < 128 then gDK Q KV KR O dO L h j d * κs else gDV Q KV KR dO L h j ⟨d - 128, by omega⟩
def rDKR (j : Fin 8192) (d : Fin 128) : EReal := ∑ h : Fin 16, gDK Q KV KR O dO L h j ⟨128 + d, by omega⟩ * κs

theorem κe_val : κe = (((Real.sqrt 192)⁻¹ * (Real.log 2)⁻¹ : ℝ) : EReal) := rfl
theorem κs_val : κs = (((Real.sqrt 192)⁻¹ : ℝ) : EReal) := rfl
theorem log2e_val : Named.named (F := Ideal) (φ := .f32) κ "log2e" 1069066811#32 = (((Real.log 2)⁻¹ : ℝ) : EReal) := rfl

theorem κe_pos : (0 : ℝ) < (Real.sqrt 192)⁻¹ * (Real.log 2)⁻¹ :=
  mul_pos (inv_pos.2 (Real.sqrt_pos.2 (by norm_num))) (inv_pos.2 (Real.log_pos (by norm_num)))

/-- A key the row's chunk does not see has probability zero. -/
theorem gP_zero (h : Fin 16) (i j : Fin 8192) (hj : ¬ (j : ℕ) / 64 ≤ (i : ℕ) / 64) : gP Q KV KR L h i j = 0 := by
  unfold gP
  rw [if_neg hj, κe_val, EReal.bot_mul_coe_of_pos κe_pos, sub_eq_add_neg, EReal.bot_add]
  rfl
theorem gG_zero (h : Fin 16) (i j : Fin 8192) (hj : ¬ (j : ℕ) / 64 ≤ (i : ℕ) / 64) : gG Q KV KR O dO L h i j = 0 := by
  unfold gG
  rw [gP_zero Q KV KR L h i j hj, zero_mul]
end

theorem sum_rows (f : Fin 8192 → EReal) : ∑ i, f i = ∑ q : Fin 8, ∑ r : Fin 1024, f (row q r) := by
  rw [← Fintype.sum_prod_type' (f := fun q r => f (row q r))]
  refine (Equiv.sum_comp (finProdFinEquiv : Fin 8 × Fin 1024 ≃ Fin (8 * 1024)) f).symm.trans ?_
  refine Finset.sum_congr rfl fun x _ => congrArg f (Fin.ext ?_)
  simp [row, finProdFinEquiv]; omega

section
variable (h : Fin 16) (q : Fin 8)
theorem pt_at : (pt (8 * h + q) : ℕ) = 8 * h + q := Nat.mod_eq_of_lt (by omega)
theorem pt_head : (pt (8 * h + q) : ℕ) / 8 = h := by rw [pt_at]; omega
theorem pt_rows : (pt (8 * h + q) : ℕ) % 8 = q := by rw [pt_at]; omega
theorem num_rows : (8 * (h : ℕ) + q) % 8 = q := by omega

theorem bQ_at (r : Fin 1024) (d : Fin 256) : bQ m c (8 * h + q) (ix3 0 r d) = AQ m c h (row q r) d := by
  have a := pt_head h q; have b := pt_rows h q
  unfold bQ AQ
  blk_ext [iblk, idx (pt (8 * h + q)), a, b, row]
theorem bKV_at (j : Fin 8192) (d : Fin 256) : bKV m c (8 * h + q) (ix3 0 j d) = AKV m c h j d := by
  have a := pt_head h q; have b := pt_rows h q
  unfold bKV AKV
  blk_ext [iblk, idx (pt (8 * h + q)), a, b]
theorem bKR_at (j : Fin 8192) (d : Fin 128) : bKR m c (8 * h + q) (ix2 j d) = AKR m c j d := by
  unfold bKR AKR
  blk_ext [iblk, idx (pt (8 * h + q))]
theorem bO_at (r : Fin 1024) (d : Fin 128) : bO m c (8 * h + q) (ix2 r d) = AO m c (row q r) (ln h d) := by
  have a := pt_head h q; have b := pt_rows h q
  unfold bO AO
  blk_ext [iblk, idx (pt (8 * h + q)), a, b, row, ln]
theorem bdO_at (r : Fin 1024) (d : Fin 128) : bdO m c (8 * h + q) (ix2 r d) = AdO m c (row q r) (ln h d) := by
  have a := pt_head h q; have b := pt_rows h q
  unfold bdO AdO
  blk_ext [iblk, idx (pt (8 * h + q)), a, b, row, ln]
theorem read5 (t : Fin cfg0.N) (x) (X : Buf (Elt Ideal) ((c : Thread nD τ).loc main_v51)) :
    (((cfg0.win 5).blk t).view.read (Elt Ideal) X : S1x1024x128.Idx → EReal) x = X ((win0_5.blk t).view.emb x) := rfl
theorem entry5 : V m c (Pipeline.arrRef spec0 5) = V m c main_v51 := rfl
theorem iblk5 (t : Fin cfg0.N) (x) : (iblk m c 5 t : S1x1024x128.Idx → EReal) x = (V m c main_v51 : S16x8192x128.Idx → EReal) ((win0_5.blk t).view.emb x) := by
  unfold iblk
  rw [entry5]
  exact read5 c t x _
theorem bL_at (r : Fin 1024) (d : Fin 128) : bL m c (8 * h + q) (ix3 0 r d) = AL m c h (row q r) d := by
  have a := pt_head h q; have b := pt_rows h q
  unfold bL AL
  refine (iblk5 m c _ _).trans ?_
  generalize V m c main_v51 = X
  refine congrArg X ?_
  blk_ext [idx (pt (8 * h + q)), a, b, row]
theorem bCS_at (r : Fin 1024) (d : Fin 128) : bCS m c (8 * h + q) (ix2 r d) = ACS m c (row q r) d := by
  have b := pt_rows h q
  unfold bCS ACS
  blk_ext [iblk, idx (pt (8 * h + q)), b, row]
theorem Lr_at (r : Fin 1024) : Lr m c (8 * h + q) r = AL m c h (row q r) 0 := bL_at m c h q r 0

/-- The arrays' functions at this device. -/
abbrev cP := gP (AQ m c) (AKV m c) (AKR m c) (fun h i => AL m c h i 0)
abbrev cG := gG (AQ m c) (AKV m c) (AKR m c) (AO m c) (AdO m c) (fun h i => AL m c h i 0)

theorem PP_at (r : Fin 1024) (j : Fin 8192) : PP (1024 * (q : ℕ)) (bQ m c (8 * h + q)) (bKV m c (8 * h + q)) (bKR m c (8 * h + q)) (Lr m c (8 * h + q)) r j
    = cP m c h (row q r) j := by
  unfold PP cP gP sc gS LR
  simp only [bQ_at, bKV_at, bKR_at, Lr_at, row_val]
  rfl
theorem GG_at (r : Fin 1024) (j : Fin 8192) : GG (1024 * (q : ℕ)) (bQ m c (8 * h + q)) (bKV m c (8 * h + q)) (bKR m c (8 * h + q)) (bO m c (8 * h + q)) (bdO m c (8 * h + q)) (Lr m c (8 * h + q)) r j
    = cG m c h (row q r) j := by
  unfold GG cG gG
  rw [PP_at]
  unfold dpr DD gE gD
  simp only [bdO_at, bKV_at, bO_at]

theorem term12_at (j : Fin 8192) (d : Fin 256) : term12 m c (8 * h + q) j d = ∑ r : Fin 1024, cG m c h (row q r) j * AQ m c h (row q r) d := by
  unfold term12
  rw [num_rows]
  split
  · simp only [GG_at, bQ_at]
  · refine (Finset.sum_eq_zero fun r _ => ?_).symm
    rw [show cG m c h (row q r) j = 0 from gG_zero _ _ _ _ _ _ _ _ _ (by rw [row_val]; omega), zero_mul]
theorem term13_at (j : Fin 8192) (d : Fin 128) : term13 m c (8 * h + q) j d = ∑ r : Fin 1024, cP m c h (row q r) j * AdO m c (row q r) (ln h d) := by
  unfold term13
  rw [num_rows]
  split
  · simp only [PP_at, bdO_at]
  · refine (Finset.sum_eq_zero fun r _ => ?_).symm
    rw [show cP m c h (row q r) j = 0 from gP_zero _ _ _ _ _ _ _ (by rw [row_val]; omega), zero_mul]
theorem s12_at (j : Fin 8192) (d : Fin 256) : s12 m c h 8 j d = gDK (AQ m c) (AKV m c) (AKR m c) (AO m c) (AdO m c) (fun h i => AL m c h i 0) h j d := by
  unfold s12 gDK
  rw [Finset.sum_range, sum_rows]
  exact Finset.sum_congr rfl fun q _ => term12_at m c h q j d
theorem s13_at (j : Fin 8192) (d : Fin 128) : s13 m c h 8 j d = gDV (AQ m c) (AKV m c) (AKR m c) (AdO m c) (fun h i => AL m c h i 0) h j d := by
  unfold s13 gDV
  rw [Finset.sum_range, sum_rows]
  exact Finset.sum_congr rfl fun q _ => term13_at m c h q j d
theorem kl_at (j : Fin 8192) (d : Fin 256) : kl (bKV m c (8 * h + q)) (bKR m c (8 * h + q)) j d = gK (AKV m c) (AKR m c) h j d := by
  unfold kl gK
  split
  · exact bKV_at m c h q j d
  · exact bKR_at m c h q j _
theorem DQ_at (r : Fin 1024) (d : Fin 256) : DQ (q : ℕ) (bQ m c (8 * h + q)) (bKV m c (8 * h + q)) (bKR m c (8 * h + q)) (bO m c (8 * h + q)) (bdO m c (8 * h + q)) (Lr m c (8 * h + q)) r d
    = gDQ (AQ m c) (AKV m c) (AKR m c) (AO m c) (AdO m c) (fun h i => AL m c h i 0) h (row q r) d := by
  unfold DQ gDQ
  refine (Finset.sum_congr rfl fun x _ => show _ = (fun x => cG m c h (row q r) (key x) * gK (AKV m c) (AKR m c) h (key x) d) x from ?_).trans ?_
  · rw [GG_at, kl_at]
  refine (Finset.sum_subset (Finset.range_subset_range.2 (by omega : 1024 * (q : ℕ) + 1024 ≤ 8192)) fun x hx hx' => ?_).trans ?_
  · rw [Finset.mem_range] at hx hx'
    have e : ((key x : Fin 8192) : ℕ) = x := Nat.mod_eq_of_lt hx
    show cG m c h (row q r) (key x) * _ = 0
    rw [show cG m c h (row q r) (key x) = 0 from gG_zero _ _ _ _ _ _ _ _ _ (by rw [e, row_val]; omega), zero_mul]
  · rw [Finset.sum_range]
    exact Finset.sum_congr rfl fun j _ => by rw [key_val]
end

/-- The three results over the arrays at the call. -/
abbrev KDQ := rDQ (AQ m c) (AKV m c) (AKR m c) (AO m c) (AdO m c) (fun h i => AL m c h i 0) (ACS m c)
abbrev KDKV := rDKV (AQ m c) (AKV m c) (AKR m c) (AO m c) (AdO m c) (fun h i => AL m c h i 0)
abbrev KDKR := rDKR (AQ m c) (AKV m c) (AKR m c) (AO m c) (AdO m c) (fun h i => AL m c h i 0)

theorem out7_at (h : Fin 16) (q : Fin 8) (r : Fin 1024) (d : Fin 256) : out7 m c (8 * h + q) (ix3 0 r d) = KDQ m c h (row q r) d := by
  show dqV ((8 * (h : ℕ) + q) % 8) _ _ _ _ _ _ _ r d = _
  rw [num_rows]
  unfold dqV KDQ rDQ
  split
  · rw [DQ_at]
  · rw [DQ_at, DQ_at, bCS_at]
theorem out8_at (h : Fin 16) (j : Fin 8192) (d : Fin 256) : out8 m c (8 * h + 7) (ix3 0 j d) = KDKV m c h j d := by
  show dkvAt m c ((8 * (h : ℕ) + 7) / 8) ((8 * (h : ℕ) + 7) % 8 + 1) j d = _
  rw [show (8 * (h : ℕ) + 7) / 8 = h by omega, show (8 * (h : ℕ) + 7) % 8 + 1 = 8 by omega]
  unfold dkvAt KDKV rDKV
  split
  · rw [s12_at]
  · rw [s13_at]
theorem out9_at (j : Fin 8192) (d : Fin 128) : out9 m c 127 (ix2 j d) = KDKR m c j d := by
  show dkrAt m c ((127 + 1) / 8) j d = _
  rw [show (127 + 1) / 8 = 16 by omega]
  unfold dkrAt KDKR rDKR
  rw [Finset.sum_range]
  exact Finset.sum_congr rfl fun h _ => by rw [s12_at]

theorem pt_cases (t : Fin cfg0.N) : ∃ (h : Fin 16) (q : Fin 8), t = pt (8 * h + q) := by
  have ht : t.val < 128 := t.isLt
  refine ⟨⟨t.val / 8, by omega⟩, ⟨t.val % 8, by omega⟩, Fin.ext ?_⟩
  rw [pt_at]; dsimp only; omega
/-! The three result arrays after the launch. -/
theorem arr7 : (exactDats m 0 c).arrAt 7 cfg0.N = fun x : S16x8192x256.Idx => KDQ m c (x 0) (x 1) (x 2) := by
  refine (exactDats m 0 c).arrAt_eq_of_covers 7 _ (by decide +kernel) fun t hf y => ?_
  blk_simp
  obtain ⟨h, q, rfl⟩ := pt_cases t
  have a := pt_head h q; have b := pt_rows h q
  refine (show (exactDats m 0 c).after 7 (pt (8 * h + q)) y = out7 m c (8 * h + q) y from (show _ = out7 m c (pt (8 * h + q)).val y from rfl).trans (by rw [pt_at])).trans ?_
  rw [show y = ix3 (0 : Fin 1) (y 1) (y 2) from (eq_ix3 y).trans (congrArg (fun z : Fin 1 => ix3 z (y 1) (y 2)) (Subsingleton.elim (α := Fin 1) _ _))]
  refine (out7_at m c h q (y 1) (y 2)).trans ?_
  refine congr (congr (congrArg (KDQ m c) ?_) ?_) ?_
  all_goals (apply Fin.ext; blk_simp [idx (pt (8 * h + q)), a, b, row])
  · rfl
  · dsimp only; omega
theorem arr8 : (exactDats m 0 c).arrAt 8 cfg0.N = fun x : S16x8192x256.Idx => KDKV m c (x 0) (x 1) (x 2) := by
  refine (exactDats m 0 c).arrAt_eq_of_covers 8 _ (by decide +kernel) fun t hf y => ?_
  blk_simp
  obtain ⟨h, q, rfl⟩ := pt_cases t
  have a := pt_head h q; have b := pt_rows h q
  have b7 : (q : ℕ) = 7 := by rw [← b]; exact (flush0_8 _).1 hf
  refine (show (exactDats m 0 c).after 8 (pt (8 * h + q)) y = out8 m c (8 * h + 7) y from (show _ = out8 m c (pt (8 * h + q)).val y from rfl).trans (by rw [pt_at, b7])).trans ?_
  rw [show y = ix3 (0 : Fin 1) (y 1) (y 2) from (eq_ix3 y).trans (congrArg (fun z : Fin 1 => ix3 z (y 1) (y 2)) (Subsingleton.elim (α := Fin 1) _ _))]
  refine (out8_at m c h (y 1) (y 2)).trans ?_
  refine congr (congr (congrArg (KDKV m c) ?_) ?_) ?_
  all_goals (apply Fin.ext; blk_simp [idx (pt (8 * h + q)), a, b])
  all_goals (try rfl)
theorem arr9 : (exactDats m 0 c).arrAt 9 cfg0.N = fun x : S8192x128.Idx => KDKR m c (x 0) (x 1) := by
  refine (exactDats m 0 c).arrAt_eq_of_covers 9 _ (by decide +kernel) fun t hf y => ?_
  blk_simp
  have ht : t.val = 127 := by have := (flush0_9 t).1 hf; have h : t.val < 128 := t.isLt; omega
  refine (show (exactDats m 0 c).after 9 t y = out9 m c 127 y from (show _ = out9 m c t.val y from rfl).trans (by rw [ht])).trans ?_
  rw [show y = ix2 (y 0) (y 1) from eq_ix2 y]
  refine (out9_at m c (y 0) (y 1)).trans ?_
  refine congr (congrArg (KDKR m c) ?_) ?_
  all_goals (apply Fin.ext; blk_simp [idx t])
  all_goals (try rfl)

end Cert.Proof.KernelIdeal
-- ==== Proof.Real.lean ====
module

public import Idealize.ShloMosaic.Lib.Tactic
public import Idealize.ShloMosaic.Lib.Pipeline.ValueKit
public import Idealize.ShloMosaic.Lib.Routing.Words

@[expose] public section

noncomputable section

namespace Cert.Proof.Grad

open Idealize.ShloMosaic

/-! The attention's gradient over real arrays, and the few facts on extended reals that take an array of them there. -/

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum of products of reals. -/
theorem coe_dot {ι : Type} (s : Finset ι) (f g : ι → ℝ) : ∑ i ∈ s, ((f i : ℝ) : EReal) * ((g i : ℝ) : EReal) = ((∑ i ∈ s, f i * g i : ℝ) : EReal) := by
  rw [← coe_sum]
  exact Finset.sum_congr rfl fun i _ => (EReal.coe_mul _ _).symm

/-- A quotient of reals. -/
theorem coe_div (x y : ℝ) (hy : y ≠ 0) : Ideal.div (x : EReal) (y : EReal) = ((x / y : ℝ) : EReal) := by
  rw [Ideal.div_coe hy, ← EReal.coe_mul, mul_one_div]

theorem root_val : Ideal.sqrt (Ideal.ofBits .f32 1128267776#32) = ((Real.sqrt 192 : ℝ) : EReal) := by
  have e : Ideal.ofBits .f32 1128267776#32 = ((192 : ℝ) : EReal) := by
    simp [Ideal.ofBits, Ideal.ieee, -EReal.coe_mul]; norm_num
  rw [e, Ideal.sqrt_coe, if_neg (by norm_num)]

theorem bot_val : Ideal.ofBits .f32 4286578688#32 = (⊥ : EReal) := by
  simp [Ideal.ofBits, Ideal.ieee]

theorem root_pos : (0 : ℝ) < Real.sqrt 192 := Real.sqrt_pos.2 (by norm_num)

/-- The comparison of two rows' blocks of 64 words. -/
theorem sel_block (a b : EReal) (i j : Fin 8192) :
    Scalar.select (IntOp.cmpi CmpIPredicate.sle (IntOp.divsi ArithUnit.host (BitVec.ofNat 32 (j : ℕ)) 64#32) (IntOp.divsi ArithUnit.host (BitVec.ofNat 32 (i : ℕ)) 64#32)) a b
      = if (j : ℕ) / 64 ≤ (i : ℕ) / 64 then a else b := by
  have hi := i.isLt
  have hj := j.isLt
  rw [show (64#32 : BitVec 32) = BitVec.ofNat 32 64 from rfl, Routing.divsi_word _ (by omega) (by norm_num) (by norm_num), Routing.divsi_word _ (by omega) (by norm_num) (by norm_num)]
  have t : ∀ k : ℕ, k < 8192 → (BitVec.ofNat 32 k).toInt = (k : ℤ) := fun k hk => by
    rw [BitVec.toInt_eq_toNat_of_lt] <;> rw [BitVec.toNat_ofNat, Nat.mod_eq_of_lt (by omega)]
    omega
  have hs : (BitVec.ofNat 32 ((j : ℕ) / 64)).sle (BitVec.ofNat 32 ((i : ℕ) / 64)) = decide ((j : ℕ) / 64 ≤ (i : ℕ) / 64) := by
    rw [BitVec.sle_eq_decide, t _ (by omega), t _ (by omega)]
    exact decide_eq_decide.2 (by omega)
  show Scalar.select (BitVec.ofBool ((BitVec.ofNat 32 ((j : ℕ) / 64)).sle (BitVec.ofNat 32 ((i : ℕ) / 64)))) a b = _
  rw [hs]
  by_cases h : (j : ℕ) / 64 ≤ (i : ℕ) / 64
  · rw [if_pos h, decide_eq_true h]; rfl
  · rw [if_neg h, decide_eq_false h]; rfl

/-- The greatest of values, none of them infinite above and one of them real. -/
theorem max_real {n : ℕ} (f : Fin n → EReal) (k : Fin n) (r : ℝ) (hk : f k = (r : EReal)) (hf : ∀ i, f i ≠ ⊤) :
    ∃ μ : ℝ, Finset.fold max (⊥ : EReal) f Finset.univ = (μ : EReal) := by
  have h1 : Finset.fold max (⊥ : EReal) f Finset.univ ≠ ⊥ := fun h => by
    have := (Finset.fold_max_le (⊥ : EReal) (s := Finset.univ) (f := f) (b := ⊥)).1 (le_of_eq h)
    have := this.2 k (Finset.mem_univ k)
    rw [hk, le_bot_iff] at this
    exact EReal.coe_ne_bot r this
  have h2 : Finset.fold max (⊥ : EReal) f Finset.univ ≠ ⊤ := by
    refine ne_of_lt ((Finset.fold_max_lt (⊤ : EReal)).2 ⟨bot_lt_top, fun i _ => lt_of_le_of_ne le_top (hf i)⟩)
  exact ⟨_, (EReal.coe_toReal h2 h1).symm⟩

/-- A head's lane of the heads side by side. -/
def lane (h : Fin 16) (y : Fin 128) : Fin 2048 := ⟨128 * h + y, by omega⟩
def half (x : Fin 64) : Fin 32 := ⟨x % 32, Nat.mod_lt _ (by norm_num)⟩
def lo (y : Fin 128) : Fin 256 := ⟨y, by omega⟩
def hi (y : Fin 128) : Fin 256 := ⟨128 + y, by omega⟩
def rope (x : Fin 64) : Fin 256 := ⟨128 + x, by omega⟩
def turn (x : Fin 64) : Fin 256 := ⟨192 + x, by omega⟩

section
variable (q kv : Fin 16 → Fin 8192 → Fin 256 → ℝ) (kr : Fin 8192 → Fin 64 → ℝ) (cs sn : Fin 8192 → Fin 32 → ℝ) (g : Fin 8192 → Fin 2048 → ℝ)

/-- The rotated half of a query. -/
def qr (h : Fin 16) (i : Fin 8192) (x : Fin 64) : ℝ := q h i (rope x) * cs i (half x) + q h i (turn x) * sn i (half x)
/-- A score. -/
def sc (h : Fin 16) (i j : Fin 8192) : ℝ :=
  ((∑ y : Fin 128, q h i (lo y) * kv h j (lo y)) + ∑ x : Fin 64, qr q cs sn h i x * kr j x) / Real.sqrt 192
/-- Its exponential, zero where the query does not see the key. -/
def wt (h : Fin 16) (i j : Fin 8192) : ℝ := if (j : ℕ) / 64 ≤ (i : ℕ) / 64 then Real.exp (sc q kv kr cs sn h i j) else 0
def tot (h : Fin 16) (i : Fin 8192) : ℝ := ∑ j, wt q kv kr cs sn h i j
/-- A probability. -/
def pr (h : Fin 16) (i j : Fin 8192) : ℝ := wt q kv kr cs sn h i j / tot q kv kr cs sn h i
/-- Its gradient. -/
def dp (h : Fin 16) (i j : Fin 8192) : ℝ := ∑ y : Fin 128, g i (lane h y) * kv h j (hi y)
def dl (h : Fin 16) (i : Fin 8192) : ℝ := ∑ j, pr q kv kr cs sn h i j * dp kv g h i j
/-- A score's gradient, before the root. -/
def gs (h : Fin 16) (i j : Fin 8192) : ℝ := pr q kv kr cs sn h i j * (dp kv g h i j - dl q kv kr cs sn g h i)
def ds (h : Fin 16) (i j : Fin 8192) : ℝ := gs q kv kr cs sn g h i j / Real.sqrt 192
/-- A rotated query's gradient. -/
def dr (h : Fin 16) (i : Fin 8192) (x : Fin 64) : ℝ := ∑ j, ds q kv kr cs sn g h i j * kr j x
/-- The gradients of the queries, of the keys and values, and of the rotated keys. -/
def DQ (h : Fin 16) (i : Fin 8192) (d : Fin 256) : ℝ :=
  if e : (d : ℕ) < 128 then ∑ j, ds q kv kr cs sn g h i j * kv h j d
  else if e' : (d : ℕ) < 192 then dr q kv kr cs sn g h i ⟨d - 128, by omega⟩ * cs i (half ⟨d - 128, by omega⟩)
  else dr q kv kr cs sn g h i ⟨d - 192, by omega⟩ * sn i (half ⟨d - 192, by omega⟩)
def DKV (h : Fin 16) (j : Fin 8192) (d : Fin 256) : ℝ :=
  if e : (d : ℕ) < 128 then ∑ i, ds q kv kr cs sn g h i j * q h i d
  else ∑ i, g i (lane h ⟨d - 128, by omega⟩) * pr q kv kr cs sn h i j
def DKR (j : Fin 8192) (y : Fin 128) : ℝ :=
  if e : (y : ℕ) < 64 then ∑ h : Fin 16, ∑ i, ds q kv kr cs sn g h i j * qr q cs sn h i ⟨y, e⟩ else 0

theorem wt_nonneg (h : Fin 16) (i j : Fin 8192) : 0 ≤ wt q kv kr cs sn h i j := by
  unfold wt
  split
  · exact (Real.exp_pos _).le
  · exact le_refl _
theorem tot_pos (h : Fin 16) (i : Fin 8192) : 0 < tot q kv kr cs sn h i := by
  refine Finset.sum_pos' (fun j _ => wt_nonneg _ _ _ _ _ h i j) ⟨i, Finset.mem_univ i, ?_⟩
  unfold wt
  rw [if_pos (le_refl _)]
  exact Real.exp_pos _
theorem gs_unseen (h : Fin 16) (i j : Fin 8192) (hj : ¬ (j : ℕ) / 64 ≤ (i : ℕ) / 64) : gs q kv kr cs sn g h i j = 0 := by
  unfold gs pr wt
  rw [if_neg hj, zero_div, zero_mul]

/-- The score's gradient as the reference's lines write it, its exponentials scaled by `c`. -/
theorem gs_scaled (h : Fin 16) (i j : Fin 8192) (c : ℝ) (hc : 0 < c) :
    (dp kv g h i j / (tot q kv kr cs sn h i * c)
      + -∑ k, dp kv g h i k * (1 / ((tot q kv kr cs sn h i * c) * (tot q kv kr cs sn h i * c))) * (wt q kv kr cs sn h i k * c)) * (wt q kv kr cs sn h i j * c)
      = gs q kv kr cs sn g h i j := by
  have hZ := (tot_pos q kv kr cs sn h i).ne'
  have hc' := hc.ne'
  have e : ∑ k, dp kv g h i k * (1 / ((tot q kv kr cs sn h i * c) * (tot q kv kr cs sn h i * c))) * (wt q kv kr cs sn h i k * c)
      = dl q kv kr cs sn g h i / (tot q kv kr cs sn h i * c) := by
    unfold dl pr
    rw [Finset.sum_div]
    refine Finset.sum_congr rfl fun k _ => ?_
    field_simp
  rw [e]
  unfold gs pr
  field_simp
  ring
end
end Cert.Proof.Grad
-- ==== Proof.Ref.lean ====
module

public import proofs.«01_k».proof.Defs
public import proofs.«01_k».proof.Proof.Gen.ReferenceIdeal.Run
public import proofs.«01_k».proof.Proof.Real
public import Idealize.ShloMosaic.Lib.Tactic
public import Idealize.ShloMosaic.Lib.Pipeline.ValueKit

@[expose] public section

set_option maxRecDepth 16384

noncomputable section

namespace Cert.Proof.ReferenceIdeal

open Cert.ReferenceIdeal Cert.ReferenceIdeal.Gen
open Idealize.ShloMosaic Idealize.ShloMosaic.TcCoe Idealize.ShloMosaic.Tactic

/-! The reference's lines in groups, over the arrays each group reads. -/
section
variable (A0 A1 : FVec Ideal S16x8192x256 .f32) (A2 : FVec Ideal S8192x64 .f32) (A3 A4 : FVec Ideal S8192x32 .f32) (A5 : FVec Ideal S8192x2048 .f32)
variable (QN KN VV W : FVec Ideal S16x8192x128 .f32) (QR : FVec Ideal S16x8192x64 .f32) (S X E P DP DS : FVec Ideal S16x8192x8192 .f32)
variable (M L : FVec Ideal S16x8192 .f32) (T : FVec Ideal S16x128x8192 .f32) (C : FVec Ideal S8192x32 .f32)

/-- A table of 32 lanes, twice side by side, for each head. -/
def stTwice : FVec Ideal S16x8192x64 .f32 :=
  broadcastInDim S16x8192x64 ![0, 1, 2] bcast_S1x8192x64_S16x8192x64_0_1_2 (broadcastInDim S1x8192x64 ![1, 2] bcast_S8192x64_S1x8192x64_1_2 (concatenate S8192x64 1 [⟨S8192x32, C⟩, ⟨S8192x32, C⟩] concatenates_S8192x32_S8192x32_S8192x64_d1))
def stQN : FVec Ideal S16x8192x128 .f32 := extractStridedSlice S16x8192x128 ![0, 0, 0] A0 slices_S16x8192x256_S16x8192x128_0_0_0
def stVV : FVec Ideal S16x8192x128 .f32 := extractStridedSlice S16x8192x128 ![0, 0, 128] A1 slices_S16x8192x256_S16x8192x128_0_0_128
/-- The rotated half of the queries. -/
def stQR : FVec Ideal S16x8192x64 .f32 :=
  addf (mulf (extractStridedSlice S16x8192x64 ![0, 0, 128] A0 slices_S16x8192x256_S16x8192x64_0_0_128) (stTwice A3)) (mulf (extractStridedSlice S16x8192x64 ![0, 0, 192] A0 slices_S16x8192x256_S16x8192x64_0_0_192) (stTwice A4))
/-- The square root the scores are divided by. -/
def stRoot : FVec Ideal S16x8192x8192 .f32 := broadcastInDim S16x8192x8192 ![] bcast_S_S16x8192x8192 (Host.sqrt (constant (F := Ideal) S_ .f32 0x43400000#32))
/-- The scores. -/
def stS : FVec Ideal S16x8192x8192 .f32 :=
  Host.divf (addf (Host.dotGeneral dot_S16x8192x128_S16x8192x128_S16x8192x8192_2_2_1_1_0_0 none QN KN) (Host.dotGeneral dot_S16x8192x64_S8192x64_S16x8192x8192_2_1_01_0_n_n none QR A2)) stRoot
def stIota : IVec S8192 32 := Host.divsi (iotaInDim S8192 32 0) (broadcastInDim S8192 ![] bcast_S_S8192 (constantI S_ 32 64#32))
/-- Which key blocks a query sees. -/
def stMask : IVec S16x8192x8192 1 :=
  broadcastInDim S16x8192x8192 ![0, 1, 2] bcast_S1x8192x8192_S16x8192x8192_0_1_2 (broadcastInDim S1x8192x8192 ![1, 2] bcast_S8192x8192_S1x8192x8192_1_2 (cmpi .sle (broadcastInDim S8192x8192 ![0, 1] bcast_S1x8192_S8192x8192_0_1 (broadcastInDim S1x8192 ![1] bcast_S8192_S1x8192_1 stIota)) (broadcastInDim S8192x8192 ![0, 1] bcast_S8192x1_S8192x8192_0_1 (broadcastInDim S8192x1 ![0] bcast_S8192_S8192x1_0 stIota))))
/-- The scores seen, minus infinity elsewhere. -/
def stX : FVec Ideal S16x8192x8192 .f32 := select stMask S (broadcastInDim S16x8192x8192 ![] bcast_S_S16x8192x8192 (id (constant (F := Ideal) S_ .f32 0xFF800000#32)))
/-- Each row's greatest. -/
def stMx : FVec Ideal S16x8192 .f32 := Host.reduce FloatOps.maximumf X (constant (F := Ideal) S_ .f32 0xFF800000#32) reducesTo_S16x8192x8192_S16x8192_d2 h_S_
def stMn : FVec Ideal S16x8192 .f32 := maximumf (broadcastInDim S16x8192 ![] bcast_S_S16x8192 (constant (F := Ideal) S_ .f32 0xFF800000#32)) (stMx X)
/-- A row's value along the row. -/
def stAlong : FVec Ideal S16x8192x8192 .f32 := broadcastInDim S16x8192x8192 ![0, 1, 2] bcast_S16x8192x1_S16x8192x8192_0_1_2 (broadcastInDim S16x8192x1 ![0, 1] bcast_S16x8192_S16x8192x1_0_1 M)
def stE : FVec Ideal S16x8192x8192 .f32 := Host.exp (subf X (stAlong M))
def stSum : FVec Ideal S16x8192 .f32 := Host.reduceAdd E (constant (F := Ideal) S_ .f32 0x00000000#32) reducesTo_S16x8192x8192_S16x8192_d2 h_S_
def stP : FVec Ideal S16x8192x8192 .f32 := Host.divf E (stAlong L)
/-- The incoming gradient, heads first. -/
def stT : FVec Ideal S16x128x8192 .f32 := transpose S16x128x8192 [1, 2, 0] (shapeCast _ A5 shapeCasts_S8192x2048_S8192x16x128) transposes_S8192x16x128_S16x128x8192_1_2_0
def stDP : FVec Ideal S16x8192x8192 .f32 := Host.dotGeneral dot_S16x128x8192_S16x8192x128_S16x8192x8192_1_2_2_1_0_0 none T VV
def stDV : FVec Ideal S16x8192x128 .f32 :=
  transpose S16x8192x128 [0, 2, 1] (Host.dotGeneral dot_S16x128x8192_S16x8192x8192_S16x128x8192_2_1_1_2_0_0 none T P) transposes_S16x128x8192_S16x8192x128_0_2_1
/-- The inverse of a row's sum, squared. -/
def stInv : FVec Ideal S16x8192x8192 .f32 :=
  broadcastInDim S16x8192x8192 ![0, 1, 2] bcast_S16x8192x1_S16x8192x8192_0_1_2 (Host.divf (broadcastInDim S16x8192x1 ![] bcast_S_S16x8192x1 (constant (F := Ideal) S_ .f32 0x3F800000#32)) (mulf (broadcastInDim S16x8192x1 ![0, 1] bcast_S16x8192_S16x8192x1_0_1 L) (broadcastInDim S16x8192x1 ![0, 1] bcast_S16x8192_S16x8192x1_0_1 L)))
/-- What the row's sum passes back. -/
def stBack : FVec Ideal S16x8192x8192 .f32 :=
  broadcastInDim S16x8192x8192 ![0, 1] bcast_S16x8192_S16x8192x8192_0_1 (Host.reduceAdd (Host.negf (shapeCast _ (Host.reduceAdd (mulf (mulf DP (stInv L)) E) (constant (F := Ideal) S_ .f32 0x00000000#32) reducesTo_S16x8192x8192_S16x8192_d2 h_S_) shapeCasts_S16x8192_S16x8192x1)) (constant (F := Ideal) S_ .f32 0x00000000#32) reducesTo_S16x8192x1_S16x8192_d2 h_S_)
/-- The gradient of the scores. -/
def stDS : FVec Ideal S16x8192x8192 .f32 :=
  Host.divf (select stMask (mulf (addf (Host.divf DP (stAlong L)) (stBack E DP L)) E) (broadcastInDim S16x8192x8192 ![] bcast_S_S16x8192x8192 (constant (F := Ideal) S_ .f32 0x00000000#32))) stRoot
/-- The rotated keys' gradient. -/
def stDKR : FVec Ideal S8192x128 .f32 :=
  concatenate S8192x128 1 [⟨S8192x64, Host.dotGeneral dot_S16x8192x8192_S16x8192x64_S8192x64_01_01_2_2_n_n none DS QR⟩, ⟨S8192x64, broadcastInDim S8192x64 ![] bcast_S_S8192x64 (constant (F := Ideal) S_ .f32 0x00000000#32)⟩] concatenates_S8192x64_S8192x64_S8192x128_d1
/-- The keys' and values' gradient. -/
def stDKV : FVec Ideal S16x8192x256 .bf16 :=
  truncf .bf16 (addf (pad S16x8192x256 ![0, 0, 128] ![0, 0, 0] ![0, 0, 0] W (constant (F := Ideal) S_ .f32 0x00000000#32) pads_S16x8192x128_S16x8192x256_000_000_12800 h_S_) (pad S16x8192x256 ![0, 0, 0] ![0, 0, 128] ![0, 0, 0] (Host.dotGeneral dot_S16x8192x8192_S16x8192x128_S16x8192x128_1_1_2_2_0_0 none DS QN) (constant (F := Ideal) S_ .f32 0x00000000#32) pads_S16x8192x128_S16x8192x256_000_000_01280 h_S_)) bitsLt_bf16_f32
def stDR : FVec Ideal S16x8192x64 .f32 := Host.dotGeneral dot_S16x8192x8192_S8192x64_S16x8192x64_2_0_01_1_n_n none DS A2
def stDN : FVec Ideal S16x8192x128 .f32 := Host.dotGeneral dot_S16x8192x8192_S16x8192x128_S16x8192x128_2_1_1_2_0_0 none DS KN
/-- The queries' gradient. -/
def stDQ : FVec Ideal S16x8192x256 .bf16 :=
  truncf .bf16 (addf (addf (pad S16x8192x256 ![0, 0, 192] ![0, 0, 0] ![0, 0, 0] (mulf QR (stTwice A4)) (constant (F := Ideal) S_ .f32 0x00000000#32) pads_S16x8192x64_S16x8192x256_000_000_19200 h_S_) (pad S16x8192x256 ![0, 0, 128] ![0, 0, 64] ![0, 0, 0] (mulf QR (stTwice A3)) (constant (F := Ideal) S_ .f32 0x00000000#32) pads_S16x8192x64_S16x8192x256_000_000_128640 h_S_)) (pad S16x8192x256 ![0, 0, 0] ![0, 0, 128] ![0, 0, 0] W (constant (F := Ideal) S_ .f32 0x00000000#32) pads_S16x8192x128_S16x8192x256_000_000_01280 h_S_)) bitsLt_bf16_f32

/-! The results, put together. -/
def arX : FVec Ideal S16x8192x8192 .f32 := stX (stS A2 (stQN A0) (stQN A1) (stQR A0 A3 A4))
def arE : FVec Ideal S16x8192x8192 .f32 := stE (arX A0 A1 A2 A3 A4) (stMn (arX A0 A1 A2 A3 A4))
def arL : FVec Ideal S16x8192 .f32 := stSum (arE A0 A1 A2 A3 A4)
def arDS : FVec Ideal S16x8192x8192 .f32 := stDS (arE A0 A1 A2 A3 A4) (stDP (stVV A1) (stT A5)) (arL A0 A1 A2 A3 A4)
def arDKR : FVec Ideal S8192x128 .f32 := stDKR (stQR A0 A3 A4) (arDS A0 A1 A2 A3 A4 A5)
def arDKV : FVec Ideal S16x8192x256 .bf16 := stDKV (stQN A0) (stDV (stP (arE A0 A1 A2 A3 A4) (arL A0 A1 A2 A3 A4)) (stT A5)) (arDS A0 A1 A2 A3 A4 A5)
def arDQ : FVec Ideal S16x8192x256 .bf16 := stDQ A3 A4 (stDN (stQN A1) (arDS A0 A1 A2 A3 A4 A5)) (stDR A2 (arDS A0 A1 A2 A3 A4 A5))
end

theorem res2_eq (m : (ℓ : Loc nD τ sig) → Buf (Elt Ideal) ℓ) (c : Dev nD) :
    Value.res_main_v100 m c = arDKR (m (c.tc.loc main_arg0)) (m (c.tc.loc main_arg1)) (m (c.tc.loc main_arg2)) (m (c.tc.loc main_arg3)) (m (c.tc.loc main_arg4)) (m (c.tc.loc main_arg5)) := by
  unfold Value.res_main_v100 arDKR arDS arL arE arX stDKR stDS stBack stInv stDP stT stSum stE stAlong stMn stMx stX stMask stIota stS stRoot stQR stVV stQN stTwice
  rfl
theorem res1_eq (m : (ℓ : Loc nD τ sig) → Buf (Elt Ideal) ℓ) (c : Dev nD) :
    Value.res_main_v98 m c = arDKV (m (c.tc.loc main_arg0)) (m (c.tc.loc main_arg1)) (m (c.tc.loc main_arg2)) (m (c.tc.loc main_arg3)) (m (c.tc.loc main_arg4)) (m (c.tc.loc main_arg5)) := by
  unfold Value.res_main_v98 arDKV arDS arL arE arX stDKV stDV stDS stBack stInv stDP stT stP stSum stE stAlong stMn stMx stX stMask stIota stS stRoot stQR stVV stQN stTwice
  rfl
theorem res0_eq (m : (ℓ : Loc nD τ sig) → Buf (Elt Ideal) ℓ) (c : Dev nD) :
    Value.res_main_v97 m c = arDQ (m (c.tc.loc main_arg0)) (m (c.tc.loc main_arg1)) (m (c.tc.loc main_arg2)) (m (c.tc.loc main_arg3)) (m (c.tc.loc main_arg4)) (m (c.tc.loc main_arg5)) := by
  unfold Value.res_main_v97 arDQ arDS arL arE arX stDQ stDN stDR stDS stBack stInv stDP stT stSum stE stAlong stMn stMx stX stMask stIota stS stRoot stQR stVV stQN stTwice
  rfl
section
open Cert.Proof.Grad
variable (A0 A1 : FVec Ideal S16x8192x256 .f32) (A2 : FVec Ideal S8192x64 .f32) (A3 A4 : FVec Ideal S8192x32 .f32) (A5 : FVec Ideal S8192x2048 .f32)
variable (q kv : Fin 16 → Fin 8192 → Fin 256 → ℝ) (kr : Fin 8192 → Fin 64 → ℝ) (cs sn : Fin 8192 → Fin 32 → ℝ) (g : Fin 8192 → Fin 2048 → ℝ)

/-- The six arrays are real. -/
structure Reals : Prop where
  a0 : ∀ h i d, A0 (ix3 h i d) = ((q h i d : ℝ) : EReal)
  a1 : ∀ h j d, A1 (ix3 h j d) = ((kv h j d : ℝ) : EReal)
  a2 : ∀ j x, A2 (ix2 j x) = ((kr j x : ℝ) : EReal)
  a3 : ∀ i x, A3 (ix2 i x) = ((cs i x : ℝ) : EReal)
  a4 : ∀ i x, A4 (ix2 i x) = ((sn i x : ℝ) : EReal)
  a5 : ∀ i x, A5 (ix2 i x) = ((g i x : ℝ) : EReal)

theorem twice_at (C : FVec Ideal S8192x32 .f32) (f : Fin 8192 → Fin 32 → ℝ) (hC : ∀ i x, C (ix2 i x) = ((f i x : ℝ) : EReal))
    (h : Fin 16) (i : Fin 8192) (x : Fin 64) : stTwice C (ix3 h i x) = ((f i (half x) : ℝ) : EReal) := by
  pointwise [stTwice]
  split
  · rw [hC]
    exact congrArg (fun k => ((f i k : ℝ) : EReal)) (Fin.ext (Nat.mod_eq_of_lt ‹_›).symm)
  · rw [hC]
    exact congrArg (fun k => ((f i k : ℝ) : EReal)) (Fin.ext (show (x : ℕ) - 32 = x % 32 by omega))

variable {A0 A1 A2 A3 A4 A5 q kv kr cs sn g} (H : Reals A0 A1 A2 A3 A4 A5 q kv kr cs sn g)
include H

theorem QN_at (h : Fin 16) (i : Fin 8192) (y : Fin 128) : stQN A0 (ix3 h i y) = ((q h i (lo y) : ℝ) : EReal) := by
  pointwise [stQN]
  exact H.a0 ..
theorem KN_at (h : Fin 16) (i : Fin 8192) (y : Fin 128) : stQN A1 (ix3 h i y) = ((kv h i (lo y) : ℝ) : EReal) := by
  pointwise [stQN]
  exact H.a1 ..
theorem VV_at (h : Fin 16) (i : Fin 8192) (y : Fin 128) : stVV A1 (ix3 h i y) = ((kv h i (hi y) : ℝ) : EReal) := by
  pointwise [stVV]
  exact H.a1 ..
theorem QR_at (h : Fin 16) (i : Fin 8192) (x : Fin 64) : stQR A0 A3 A4 (ix3 h i x) = ((qr q cs sn h i x : ℝ) : EReal) := by
  pointwise [stQR]
  rw [twice_at A3 cs H.a3, twice_at A4 sn H.a4, H.a0, H.a0, ← EReal.coe_mul, ← EReal.coe_mul, ← EReal.coe_add]
  rfl
theorem T_at (h : Fin 16) (y : Fin 128) (i : Fin 8192) : stT A5 (ix3 h y i) = ((g i (lane h y) : ℝ) : EReal) := by
  pointwise [stT]
  rw [H.a5]
  exact congrArg (fun k => ((g i k : ℝ) : EReal)) (Fin.ext (show (h : ℕ) * 128 + y = 128 * h + y by omega))
theorem DP_at (h : Fin 16) (i j : Fin 8192) : stDP (stVV A1) (stT A5) (ix3 h i j) = ((dp kv g h i j : ℝ) : EReal) := by
  pointwise [stDP]
  simp only [T_at H, VV_at H]
  exact coe_dot _ _ _

omit H in
theorem S_at (QN KN : FVec Ideal S16x8192x128 .f32) (QR : FVec Ideal S16x8192x64 .f32)
    (hq : ∀ h i y, QN (ix3 h i y) = ((q h i (lo y) : ℝ) : EReal)) (hk : ∀ h i y, KN (ix3 h i y) = ((kv h i (lo y) : ℝ) : EReal))
    (hr : ∀ h i x, QR (ix3 h i x) = ((qr q cs sn h i x : ℝ) : EReal)) (h2 : ∀ j x, A2 (ix2 j x) = ((kr j x : ℝ) : EReal))
    (h : Fin 16) (i j : Fin 8192) : stS A2 QN KN QR (ix3 h i j) = ((sc q kv kr cs sn h i j : ℝ) : EReal) := by
  pointwise [stS, stRoot]
  simp only [hq, hk, hr, h2]
  rw [coe_dot, coe_dot, root_val, ← EReal.coe_add, coe_div _ _ root_pos.ne']
  rfl

omit H in
/-- The scores seen, at an index. -/
theorem X_at (S : FVec Ideal S16x8192x8192 .f32) (hS : ∀ h i j, S (ix3 h i j) = ((sc q kv kr cs sn h i j : ℝ) : EReal))
    (h : Fin 16) (i j : Fin 8192) : stX S (ix3 h i j) = if (j : ℕ) / 64 ≤ (i : ℕ) / 64 then ((sc q kv kr cs sn h i j : ℝ) : EReal) else ⊥ := by
  pointwise [stX, stMask, stIota]
  rw [sel_block, hS]
  rw [show (id (constant (F := Ideal) S_ .f32 4286578688#32) ix0 : EReal) = ⊥ from bot_val]

section
variable (X E : FVec Ideal S16x8192x8192 .f32) (M L : FVec Ideal S16x8192 .f32) (μ : Fin 16 → Fin 8192 → ℝ)
variable (hX : ∀ h i j, X (ix3 h i j) = if (j : ℕ) / 64 ≤ (i : ℕ) / 64 then ((sc q kv kr cs sn h i j : ℝ) : EReal) else ⊥)
variable (hM : ∀ h i, M (ix2 h i) = ((μ h i : ℝ) : EReal))
variable (hE : ∀ h i j, E (ix3 h i j) = ((wt q kv kr cs sn h i j * Real.exp (-μ h i) : ℝ) : EReal))
variable (hL : ∀ h i, L (ix2 h i) = ((tot q kv kr cs sn h i * Real.exp (-μ h i) : ℝ) : EReal))

omit H in
include hX in
/-- A row's greatest is real: the row sees itself. -/
theorem Mx_real (h : Fin 16) (i : Fin 8192) : ∃ r : ℝ, stMx X (ix2 h i) = (r : EReal) := by
  pointwise [stMx]
  rw [bot_val]
  refine max_real _ i (sc q kv kr cs sn h i i) ?_ fun j => ?_
  · rw [hX, if_pos (le_refl _)]
  · rw [hX]
    split
    · exact EReal.coe_ne_top _
    · exact bot_ne_top
omit H in
theorem max_bot (N : FVec Ideal S16x8192 .f32) (h : Fin 16) (i : Fin 8192) :
    maximumf (broadcastInDim S16x8192 ![] bcast_S_S16x8192 (constant (F := Ideal) S_ .f32 0xFF800000#32)) N (ix2 h i) = N (ix2 h i) := by
  have e : ∀ a : EReal, max (Ideal.ofBits .f32 4286578688#32) a = a := fun a => by rw [bot_val]; exact max_eq_right bot_le
  pointwise []
  generalize N (ix2 h i) = a
  exact e a
omit H in
include hX in
theorem Mn_real (h : Fin 16) (i : Fin 8192) : ∃ r : ℝ, stMn X (ix2 h i) = (r : EReal) := by
  obtain ⟨r, hr⟩ := Mx_real X hX h i
  exact ⟨r, (max_bot (stMx X) h i).trans hr⟩
omit H in
include hX hM in
theorem E_at (h : Fin 16) (i j : Fin 8192) : stE X M (ix3 h i j) = ((wt q kv kr cs sn h i j * Real.exp (-μ h i) : ℝ) : EReal) := by
  pointwise [stE, stAlong]
  rw [hX, hM]
  unfold wt
  split
  · rw [← EReal.coe_sub, Ideal.exp_coe, ← Real.exp_add, sub_eq_add_neg]
  · rw [zero_mul, sub_eq_add_neg, EReal.bot_add]
    rfl
omit H in
include hE in
theorem Sum_at (h : Fin 16) (i : Fin 8192) : stSum E (ix2 h i) = ((tot q kv kr cs sn h i * Real.exp (-μ h i) : ℝ) : EReal) := by
  pointwise [stSum]
  simp only [hE]
  rw [coe_sum, ← Finset.sum_mul]
  rfl
omit H in
include hE hL in
theorem P_at (h : Fin 16) (i j : Fin 8192) : stP E L (ix3 h i j) = ((pr q kv kr cs sn h i j : ℝ) : EReal) := by
  have hZ := tot_pos q kv kr cs sn h i
  pointwise [stP, stAlong]
  rw [hE, hL, coe_div _ _ (mul_pos hZ (Real.exp_pos _)).ne', mul_div_mul_right _ _ (Real.exp_pos _).ne']
  rfl
include hE hL in
theorem DS_at (h : Fin 16) (i j : Fin 8192) : stDS E (stDP (stVV A1) (stT A5)) L (ix3 h i j) = ((ds q kv kr cs sn g h i j : ℝ) : EReal) := by
  have hZ := (mul_pos (tot_pos q kv kr cs sn h i) (Real.exp_pos (-μ h i))).ne'
  have hI : ∀ k, stInv L (ix3 h i k) = ((1 / (tot q kv kr cs sn h i * Real.exp (-μ h i) * (tot q kv kr cs sn h i * Real.exp (-μ h i))) : ℝ) : EReal) := fun k => by
    pointwise [stInv]
    rw [hL, ← EReal.coe_mul, ← EReal.coe_one, coe_div _ _ (mul_ne_zero hZ hZ)]
  have hB : stBack E (stDP (stVV A1) (stT A5)) L (ix3 h i j)
      = ((-∑ k, dp kv g h i k * (1 / (tot q kv kr cs sn h i * Real.exp (-μ h i) * (tot q kv kr cs sn h i * Real.exp (-μ h i)))) * (wt q kv kr cs sn h i k * Real.exp (-μ h i)) : ℝ) : EReal) := by
    pointwise [stBack]
    simp only [hI, DP_at H, hE, ← EReal.coe_mul]
    rw [coe_sum, ← EReal.coe_neg, Finset.sum_const, Finset.card_univ, Fintype.card_fin, one_smul]
  pointwise [stDS, stMask, stIota, stAlong, stRoot]
  rw [sel_block, hB, DP_at H, hE, hL, coe_div _ _ hZ, ← EReal.coe_add, ← EReal.coe_mul, gs_scaled _ _ _ _ _ _ _ _ _ _ (Real.exp_pos _), root_val]
  unfold ds
  split
  · exact coe_div _ _ root_pos.ne'
  · rw [gs_unseen _ _ _ _ _ _ _ _ _ ‹_›]
    exact coe_div 0 _ root_pos.ne'
end

theorem arX_at (h : Fin 16) (i j : Fin 8192) :
    arX A0 A1 A2 A3 A4 (ix3 h i j) = if (j : ℕ) / 64 ≤ (i : ℕ) / 64 then ((sc q kv kr cs sn h i j : ℝ) : EReal) else ⊥ :=
  X_at _ (S_at _ _ _ (QN_at H) (KN_at H) (QR_at H) H.a2) h i j

theorem arP_arDS : (∀ h i j, stP (arE A0 A1 A2 A3 A4) (arL A0 A1 A2 A3 A4) (ix3 h i j) = ((pr q kv kr cs sn h i j : ℝ) : EReal))
    ∧ ∀ h i j, arDS A0 A1 A2 A3 A4 A5 (ix3 h i j) = ((ds q kv kr cs sn g h i j : ℝ) : EReal) := by
  choose μ hμ using Mn_real (arX A0 A1 A2 A3 A4) (arX_at H)
  have hE := E_at _ _ μ (arX_at H) hμ
  have hL := Sum_at _ μ hE
  exact ⟨P_at _ _ μ hE hL, DS_at H _ _ μ hE hL⟩

/-- The rotated keys' gradient, at an index. -/
theorem arDKR_at (j : Fin 8192) (y : Fin 128) : arDKR A0 A1 A2 A3 A4 A5 (ix2 j y) = ((DKR q kv kr cs sn g j y : ℝ) : EReal) := by
  unfold arDKR
  have h1 := (arP_arDS H).2
  generalize arDS A0 A1 A2 A3 A4 A5 = G at h1 ⊢
  have h2 := QR_at H
  generalize stQR A0 A3 A4 = R at h2 ⊢
  pointwise [stDKR]
  unfold DKR
  split
  · simp only [h1, h2, coe_dot, coe_sum]
  · rfl
theorem arDKV_at (h : Fin 16) (j : Fin 8192) (d : Fin 256) : arDKV A0 A1 A2 A3 A4 A5 (ix3 h j d) = ((DKV q kv kr cs sn g h j d : ℝ) : EReal) := by
  unfold arDKV
  have h1 := (arP_arDS H).2
  generalize arDS A0 A1 A2 A3 A4 A5 = G at h1 ⊢
  have h2 := QN_at H
  generalize stQN A0 = R at h2 ⊢
  have h3 : ∀ (h : Fin 16) (j : Fin 8192) (y : Fin 128), stDV (stP (arE A0 A1 A2 A3 A4) (arL A0 A1 A2 A3 A4)) (stT A5) (ix3 h j y)
      = ((∑ i, g i (lane h y) * pr q kv kr cs sn h i j : ℝ) : EReal) := fun h j y => by
    have h4 := (arP_arDS H).1
    generalize stP (arE A0 A1 A2 A3 A4) (arL A0 A1 A2 A3 A4) = P at h4 ⊢
    have h5 := T_at H
    generalize stT A5 = T at h5 ⊢
    pointwise [stDV]
    simp only [h4, h5, coe_dot]
  generalize stDV (stP (arE A0 A1 A2 A3 A4) (arL A0 A1 A2 A3 A4)) (stT A5) = W at h3 ⊢
  pointwise [stDKV]
  unfold DKV
  by_cases e : (d : ℕ) < 128
  · rw [dif_neg (by omega), dif_pos e, dif_pos e, zero_add]
    simp only [h1, h2, coe_dot]
    rfl
  · rw [dif_pos (by omega), dif_neg e, dif_neg e, add_zero]
    exact h3 ..
theorem arDQ_at (h : Fin 16) (i : Fin 8192) (d : Fin 256) : arDQ A0 A1 A2 A3 A4 A5 (ix3 h i d) = ((DQ q kv kr cs sn g h i d : ℝ) : EReal) := by
  unfold arDQ
  have h1 := (arP_arDS H).2
  generalize arDS A0 A1 A2 A3 A4 A5 = G at h1 ⊢
  have h2 : ∀ (h : Fin 16) (i : Fin 8192) (y : Fin 128), stDN (stQN A1) G (ix3 h i y) = ((∑ j, ds q kv kr cs sn g h i j * kv h j (lo y) : ℝ) : EReal) := fun h i y => by
    have h3 := KN_at H
    generalize stQN A1 = K at h3 ⊢
    pointwise [stDN]
    simp only [h1, h3, coe_dot]
  have h4 : ∀ (h : Fin 16) (i : Fin 8192) (x : Fin 64), stDR A2 G (ix3 h i x) = ((dr q kv kr cs sn g h i x : ℝ) : EReal) := fun h i x => by
    pointwise [stDR]
    simp only [h1, H.a2, coe_dot]
    rfl
  generalize stDN (stQN A1) G = W at h2 ⊢
  generalize stDR A2 G = R at h4 ⊢
  pointwise [stDQ]
  unfold DQ
  by_cases e : (d : ℕ) < 128
  · rw [dif_neg (by omega), dif_neg (by omega), dif_pos e, dif_pos e, zero_add, zero_add, h2]
    rfl
  · by_cases e' : (d : ℕ) < 192
    · rw [dif_neg (by omega), dif_pos (by omega), dif_neg e, dif_neg e, dif_pos e', zero_add, add_zero, h4, twice_at A3 cs H.a3, ← EReal.coe_mul]
    · rw [dif_pos (by omega), dif_neg (by omega), dif_neg e, dif_neg e, dif_neg e', add_zero, add_zero, h4, twice_at A4 sn H.a4, ← EReal.coe_mul]
end
end Cert.Proof.ReferenceIdeal
-- ==== Proof.Prelude.lean ====
module

public import proofs.«01_k».proof.Defs
public import proofs.«01_k».proof.Proof.Gen.KernelIdeal.Launch
public import proofs.«01_k».proof.Proof.Gen.KernelIdeal.Frame
public import proofs.«01_k».proof.Proof.Arr
public import proofs.«01_k».proof.Proof.Ref
public import Idealize.ShloMosaic.Lib.Claim
public import Idealize.ShloMosaic.Lib.Tactic
public import Idealize.ShloMosaic.Lib.Pipeline.ValueKit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

/-- The concatenations, of named operands. -/
def cat2 (a b : FVec Ideal S8192x64 .f32) : FVec Ideal S8192x128 .f32 := concatenate S8192x128 1 [⟨S8192x64, a⟩, ⟨S8192x64, b⟩] concatenates_S8192x64_S8192x64_S8192x128_d1
def cat3 (a : FVec Ideal S16x8192x128 .f32) (b d : FVec Ideal S16x8192x64 .f32) : FVec Ideal S16x8192x256 .f32 :=
  concatenate S16x8192x256 2 [⟨S16x8192x128, a⟩, ⟨S16x8192x64, b⟩, ⟨S16x8192x64, d⟩] concatenates_S16x8192x128_S16x8192x64_S16x8192x64_S16x8192x256_d2
def cat4 (a b d e : FVec Ideal S8192x32 .f32) : FVec Ideal S8192x128 .f32 :=
  concatenate S8192x128 1 [⟨S8192x32, a⟩, ⟨S8192x32, b⟩, ⟨S8192x32, d⟩, ⟨S8192x32, e⟩] concatenates_S8192x32_S8192x32_S8192x32_S8192x32_S8192x128_d1
theorem cat2_eq (a b : FVec Ideal S8192x64 .f32) : concatenate S8192x128 1 [⟨S8192x64, a⟩, ⟨S8192x64, b⟩] concatenates_S8192x64_S8192x64_S8192x128_d1 = cat2 a b := rfl
theorem cat3_eq (a : FVec Ideal S16x8192x128 .f32) (b d : FVec Ideal S16x8192x64 .f32) :
  concatenate S16x8192x256 2 [⟨S16x8192x128, a⟩, ⟨S16x8192x64, b⟩, ⟨S16x8192x64, d⟩] concatenates_S16x8192x128_S16x8192x64_S16x8192x64_S16x8192x256_d2 = cat3 a b d := rfl
theorem cat4_eq (a b d e : FVec Ideal S8192x32 .f32) : concatenate S8192x128 1 [⟨S8192x32, a⟩, ⟨S8192x32, b⟩, ⟨S8192x32, d⟩, ⟨S8192x32, e⟩] concatenates_S8192x32_S8192x32_S8192x32_S8192x32_S8192x128_d1 = cat4 a b d e := rfl

section
open Cert.Proof.ReferenceIdeal
variable (A0 A1 : FVec Ideal S16x8192x256 .f32) (A2 B : FVec Ideal S8192x64 .f32) (A3 A4 : FVec Ideal S8192x32 .f32)
/-- A table of 64 lanes for each head. -/
def kWide : FVec Ideal S16x8192x64 .f32 := broadcastInDim S16x8192x64 ![0, 1, 2] bcast_S1x8192x64_S16x8192x64_0_1_2 (broadcastInDim S1x8192x64 ![1, 2] bcast_S8192x64_S1x8192x64_1_2 B)
/-- The rotated half of the queries. -/
def kQR : FVec Ideal S16x8192x64 .f32 :=
  addf (mulf (extractStridedSlice S16x8192x64 ![0, 0, 128] A0 slices_S16x8192x256_S16x8192x64_0_0_128) (kWide (extractStridedSlice S8192x64 ![0, 0] (cat4 A3 A3 A4 A4) slices_S8192x128_S8192x64_0_0)))
    (mulf (extractStridedSlice S16x8192x64 ![0, 0, 192] A0 slices_S16x8192x256_S16x8192x64_0_0_192) (kWide (extractStridedSlice S8192x64 ![0, 64] (cat4 A3 A3 A4 A4) slices_S8192x128_S8192x64_0_64)))
/-- The queries the call is given. -/
def kQ : FVec Ideal S16x8192x256 .f32 := cat3 (stQN A0) (kQR A0 A3 A4) (broadcastInDim S16x8192x64 ![] bcast_S_S16x8192x64 (constant (F := Ideal) S_ .f32 0x00000000#32))
def kX : FVec Ideal S16x8192x8192 .f32 :=
  stX (stS A2 (stQN (kQ A0 A3 A4)) (stQN A1) (extractStridedSlice S16x8192x64 ![0, 0, 128] (kQ A0 A3 A4) slices_S16x8192x256_S16x8192x64_0_0_128))
def kE : FVec Ideal S16x8192x8192 .f32 := stE (kX A0 A1 A2 A3 A4) (stMx (kX A0 A1 A2 A3 A4))
def kL : FVec Ideal S16x8192 .f32 := stSum (kE A0 A1 A2 A3 A4)
def stO (VV : FVec Ideal S16x8192x128 .f32) (P : FVec Ideal S16x8192x8192 .f32) : FVec Ideal S8192x2048 .f32 :=
  shapeCast _ (transpose S8192x16x128 [2, 0, 1] (Host.dotGeneral dot_S16x8192x128_S16x8192x8192_S16x128x8192_1_2_2_1_0_0 none VV P) transposes_S16x128x8192_S8192x16x128_2_0_1) shapeCasts_S8192x16x128_S8192x2048
/-- The forward output. -/
def kO : FVec Ideal S8192x2048 .f32 := stO (stVV A1) (stP (kE A0 A1 A2 A3 A4) (kL A0 A1 A2 A3 A4))
def stLse (M L : FVec Ideal S16x8192 .f32) : FVec Ideal S16x8192x128 .f32 :=
  broadcastInDim S16x8192x128 ![0, 1, 2] bcast_S16x8192x1_S16x8192x128_0_1_2 (addf (broadcastInDim S16x8192x1 ![0, 1] bcast_S16x8192_S16x8192x1_0_1 M) (Host.log (broadcastInDim S16x8192x1 ![0, 1] bcast_S16x8192_S16x8192x1_0_1 L)))
/-- The logarithm of each row's sum, along the lanes. -/
def kLse : FVec Ideal S16x8192x128 .f32 := stLse (stMx (kX A0 A1 A2 A3 A4)) (kL A0 A1 A2 A3 A4)
end

section
open Cert.Proof.ReferenceIdeal
variable (m : (ℓ : Loc nD τ sig) → Buf (Elt Ideal) ℓ) (c : Dev nD)
theorem V0_eq : V m c main_v0 = cat4 (m (c.tc.loc main_arg3)) (m (c.tc.loc main_arg3)) (m (c.tc.loc main_arg4)) (m (c.tc.loc main_arg4)) := by
  unfold V
  simp only [hostOps0, hostOps0_1, hostOps0_2, List.flatten_cons, List.flatten_nil, List.cons_append, List.nil_append, List.append_nil, StableHlo.TRef.unary, StableHlo.TRef.ternary, StableHlo.TRef.toBuf, StableHlo.TRef.ofBuf, cast_eq]
  after_results_simp
  rfl
theorem V53_eq : V m c main_v53 = (truncf .bf16 (m (c.tc.loc main_arg1) : FVec Ideal S16x8192x256 .f32) bitsLt_bf16_f32 : FVec Ideal S16x8192x256 .bf16) := by
  unfold V
  simp only [hostOps0, hostOps0_1, hostOps0_2, List.flatten_cons, List.flatten_nil, List.cons_append, List.nil_append, List.append_nil, StableHlo.TRef.unary, StableHlo.TRef.ternary, StableHlo.TRef.toBuf, StableHlo.TRef.ofBuf, cast_eq]
  after_results_simp
theorem V54_eq : V m c main_v54 = (truncf .bf16 (cat2 (m (c.tc.loc main_arg2)) (broadcastInDim S8192x64 ![] bcast_S_S8192x64 (constant S_ .f32 0#32))) bitsLt_bf16_f32 : FVec Ideal S8192x128 .bf16) := by
  unfold V
  simp only [hostOps0, hostOps0_1, hostOps0_2, List.flatten_cons, List.flatten_nil, List.cons_append, List.nil_append, List.append_nil, StableHlo.TRef.unary, StableHlo.TRef.ternary, StableHlo.TRef.toBuf, StableHlo.TRef.ofBuf, cast_eq, cat2_eq]
  after_results_simp
set_option backward.isDefEq.respectTransparency false in
theorem V52_eq : V m c main_v52 = (truncf .bf16 (kQ (m (c.tc.loc main_arg0)) (m (c.tc.loc main_arg3)) (m (c.tc.loc main_arg4))) bitsLt_bf16_f32 : FVec Ideal S16x8192x256 .bf16) := by
  unfold V
  simp only [hostOps0, hostOps0_1, hostOps0_2, List.flatten_cons, List.flatten_nil, List.cons_append, List.nil_append, List.append_nil, StableHlo.TRef.unary, StableHlo.TRef.ternary, StableHlo.TRef.toBuf, StableHlo.TRef.ofBuf, cast_eq, cat2_eq, cat3_eq, cat4_eq]
  after_results_simp
  dsimp only [Matrix.cons_val_zero, Matrix.cons_val_one, Matrix.cons_val]
  after_results_simp
  rfl
set_option backward.isDefEq.respectTransparency false in
theorem V51_eq : V m c main_v51 = kLse (m (c.tc.loc main_arg0)) (m (c.tc.loc main_arg1)) (m (c.tc.loc main_arg2)) (m (c.tc.loc main_arg3)) (m (c.tc.loc main_arg4)) := by
  unfold V
  simp only [hostOps0, hostOps0_1, hostOps0_2, List.flatten_cons, List.flatten_nil, List.cons_append, List.nil_append, List.append_nil, StableHlo.TRef.unary, StableHlo.TRef.ternary, StableHlo.TRef.toBuf, StableHlo.TRef.ofBuf, cast_eq, cat2_eq, cat3_eq, cat4_eq]
  after_results_simp
  dsimp only [Matrix.cons_val_zero, Matrix.cons_val_one, Matrix.cons_val]
  after_results_simp
  rfl
set_option backward.isDefEq.respectTransparency false in
theorem V48_eq : V m c main_v48 = kO (m (c.tc.loc main_arg0)) (m (c.tc.loc main_arg1)) (m (c.tc.loc main_arg2)) (m (c.tc.loc main_arg3)) (m (c.tc.loc main_arg4)) := by
  unfold V
  simp only [hostOps0, hostOps0_1, hostOps0_2, List.flatten_cons, List.flatten_nil, List.cons_append, List.nil_append, List.append_nil, StableHlo.TRef.unary, StableHlo.TRef.ternary, StableHlo.TRef.toBuf, StableHlo.TRef.ofBuf, cast_eq, cat2_eq, cat3_eq, cat4_eq]
  after_results_simp
  dsimp only [Matrix.cons_val_zero, Matrix.cons_val_one, Matrix.cons_val]
  after_results_simp
  rfl
end
section
open Cert.Proof.ReferenceIdeal Cert.Proof.Grad
variable {A0 A1 : FVec Ideal S16x8192x256 .f32} {A2 : FVec Ideal S8192x64 .f32} {A3 A4 : FVec Ideal S8192x32 .f32} {A5 : FVec Ideal S8192x2048 .f32}
variable {q kv : Fin 16 → Fin 8192 → Fin 256 → ℝ} {kr : Fin 8192 → Fin 64 → ℝ} {cs sn : Fin 8192 → Fin 32 → ℝ} {g : Fin 8192 → Fin 2048 → ℝ}

/-- The padded queries, rotated keys and tables, over the reals. -/
def qx (q : Fin 16 → Fin 8192 → Fin 256 → ℝ) (cs sn : Fin 8192 → Fin 32 → ℝ) (h : Fin 16) (i : Fin 8192) (d : Fin 256) : ℝ :=
  if e : (d : ℕ) < 128 then q h i d else if e' : (d : ℕ) < 192 then qr q cs sn h i ⟨d - 128, by omega⟩ else 0
def kx (kr : Fin 8192 → Fin 64 → ℝ) (j : Fin 8192) (y : Fin 128) : ℝ := if e : (y : ℕ) < 64 then kr j ⟨y, e⟩ else 0
def cx (cs sn : Fin 8192 → Fin 32 → ℝ) (i : Fin 8192) (y : Fin 128) : ℝ :=
  if e : (y : ℕ) < 64 then cs i (half ⟨y, e⟩) else sn i (half ⟨y - 64, by omega⟩)

variable (H : Reals A0 A1 A2 A3 A4 A5 q kv kr cs sn g)
include H

theorem cat4_at (i : Fin 8192) (y : Fin 128) : cat4 A3 A3 A4 A4 (ix2 i y) = ((cx cs sn i y : ℝ) : EReal) := by
  pointwise [cat4]
  simp only [H.a3, H.a4]
  unfold cx
  have hy := y.isLt
  by_cases e1 : (y : ℕ) < 32
  · rw [dif_pos e1, dif_pos (by omega)]
    exact congrArg (fun k => ((cs i k : ℝ) : EReal)) (Fin.ext (show (y : ℕ) = y % 32 by omega))
  by_cases e2 : (y : ℕ) < 64
  · rw [dif_neg e1, dif_pos (by omega), dif_pos e2]
    exact congrArg (fun k => ((cs i k : ℝ) : EReal)) (Fin.ext (show (y : ℕ) - 32 = y % 32 by omega))
  by_cases e3 : (y : ℕ) < 96
  · rw [dif_neg e1, dif_neg (by omega), dif_pos (by omega), dif_neg e2]
    exact congrArg (fun k => ((sn i k : ℝ) : EReal)) (Fin.ext (show (y : ℕ) - 32 - 32 = (y - 64) % 32 by omega))
  · rw [dif_neg e1, dif_neg (by omega), dif_neg (by omega), dif_neg e2]
    exact congrArg (fun k => ((sn i k : ℝ) : EReal)) (Fin.ext (show (y : ℕ) - 32 - 32 - 32 = (y - 64) % 32 by omega))
theorem kQR_at (h : Fin 16) (i : Fin 8192) (x : Fin 64) : kQR A0 A3 A4 (ix3 h i x) = ((qr q cs sn h i x : ℝ) : EReal) := by
  have e := cat4_at H
  unfold kQR
  generalize cat4 A3 A3 A4 A4 = C at e ⊢
  have e1 : ∀ (h : Fin 16) (i : Fin 8192) (x : Fin 64), kWide (extractStridedSlice S8192x64 ![0, 0] C slices_S8192x128_S8192x64_0_0) (ix3 h i x) = ((cs i (half x) : ℝ) : EReal) := fun h i x => by
    pointwise [kWide]
    rw [e]
    exact congrArg (fun k : ℝ => (k : EReal)) (dif_pos x.isLt)
  have e2 : ∀ (h : Fin 16) (i : Fin 8192) (x : Fin 64), kWide (extractStridedSlice S8192x64 ![0, 64] C slices_S8192x128_S8192x64_0_64) (ix3 h i x) = ((sn i (half x) : ℝ) : EReal) := fun h i x => by
    pointwise [kWide]
    rw [e]
    refine congrArg (fun k : ℝ => (k : EReal)) ((dif_neg (show ¬ 64 + (x : ℕ) < 64 by omega)).trans ?_)
    exact congrArg (sn i) (Fin.ext (show (64 + (x : ℕ) - 64) % 32 = x % 32 by omega))
  generalize kWide (extractStridedSlice S8192x64 ![0, 0] C slices_S8192x128_S8192x64_0_0) = U at e1 ⊢
  generalize kWide (extractStridedSlice S8192x64 ![0, 64] C slices_S8192x128_S8192x64_0_64) = W at e2 ⊢
  pointwise []
  rw [e1, e2, H.a0, H.a0, ← EReal.coe_mul, ← EReal.coe_mul, ← EReal.coe_add]
  rfl
theorem kQ_at (h : Fin 16) (i : Fin 8192) (d : Fin 256) : kQ A0 A3 A4 (ix3 h i d) = ((qx q cs sn h i d : ℝ) : EReal) := by
  have e1 := QN_at H
  have e2 := kQR_at H
  unfold kQ
  generalize stQN A0 = N at e1 ⊢
  generalize kQR A0 A3 A4 = R at e2 ⊢
  pointwise [cat3]
  unfold qx
  split
  · exact e1 ..
  · split
    · rw [dif_pos (by omega)]
      exact e2 ..
    · rw [dif_neg (by omega)]
      rfl
theorem kX_at (h : Fin 16) (i j : Fin 8192) :
    kX A0 A1 A2 A3 A4 (ix3 h i j) = if (j : ℕ) / 64 ≤ (i : ℕ) / 64 then ((Grad.sc q kv kr cs sn h i j : ℝ) : EReal) else ⊥ := by
  have e := kQ_at H
  unfold kX
  generalize kQ A0 A3 A4 = Q at e ⊢
  refine X_at _ (S_at _ _ _ (fun h i y => ?_) (KN_at H) (fun h i x => ?_) H.a2) h i j
  · pointwise [stQN]
    rw [e]
    exact congrArg (fun k : ℝ => (k : EReal)) (dif_pos y.isLt)
  · pointwise []
    rw [e]
    refine congrArg (fun k : ℝ => (k : EReal)) ((dif_neg (show ¬ 128 + (x : ℕ) < 128 by omega)).trans ((dif_pos (show 128 + (x : ℕ) < 192 by omega)).trans ?_))
    exact congrArg (qr q cs sn h i) (Fin.ext (show 128 + (x : ℕ) - 128 = x by omega))
omit H in
theorem stO_at (VV : FVec Ideal S16x8192x128 .f32) (P : FVec Ideal S16x8192x8192 .f32) (h : Fin 16) (i : Fin 8192) (y : Fin 128) :
    stO VV P (ix2 i (lane h y)) = ∑ j, VV (ix3 h j y) * P (ix3 h i j) := by
  pointwise [stO]
  have a : ∀ p, (⟨(lane h y : ℕ) / 128, p⟩ : Fin 16) = h := fun p => Fin.ext (show (128 * (h : ℕ) + y) / 128 = h by omega)
  have b : ∀ p, (⟨(lane h y : ℕ) % 128, p⟩ : Fin 128) = y := fun p => Fin.ext (show (128 * (h : ℕ) + y) % 128 = y by omega)
  simp only [a, b]
omit H in
theorem stLse_at (M L : FVec Ideal S16x8192 .f32) (h : Fin 16) (i : Fin 8192) (l : Fin 128) : stLse M L (ix3 h i l) = M (ix2 h i) + Ideal.log (L (ix2 h i)) := by
  pointwise [stLse]
/-- The forward output and the rows' logarithms, over the reals. -/
theorem kO_kLse : (∀ h i y, kO A0 A1 A2 A3 A4 (ix2 i (lane h y)) = ((∑ j, kv h j (hi y) * pr q kv kr cs sn h i j : ℝ) : EReal))
    ∧ ∀ h i l, kLse A0 A1 A2 A3 A4 (ix3 h i l) = ((Real.log (tot q kv kr cs sn h i) : ℝ) : EReal) := by
  choose μ hμ using Mx_real (kX A0 A1 A2 A3 A4) (kX_at H)
  have hE := E_at _ _ μ (kX_at H) hμ
  have hL := Sum_at _ μ hE
  have hP := P_at _ _ μ hE hL
  refine ⟨fun h i y => ?_, fun h i l => ?_⟩
  · refine (stO_at _ _ h i y).trans ?_
    rw [← coe_dot]
    exact Finset.sum_congr rfl fun j _ => congrArg₂ (fun a b : EReal => a * b) (VV_at H h j y) (hP h i j)
  · refine (stLse_at _ _ h i l).trans ?_
    have hZ := tot_pos q kv kr cs sn h i
    refine (congrArg₂ (fun a b : EReal => a + Ideal.log b) (hμ h i) (hL h i)).trans ?_
    show ((μ h i : ℝ) : EReal) + Ideal.log _ = _
    rw [Ideal.log_coe, if_neg (not_le.2 (mul_pos hZ (Real.exp_pos _))), Real.log_mul hZ.ne' (Real.exp_pos _).ne', Real.log_exp, ← EReal.coe_add]
    exact congrArg (fun k : ℝ => (k : EReal)) (by ring)
end

section
open Cert.Proof.ReferenceIdeal Cert.Proof.Grad
variable (m : (ℓ : Loc nD τ sig) → Buf (Elt Ideal) ℓ) (c : Dev nD)
variable {q kv : Fin 16 → Fin 8192 → Fin 256 → ℝ} {kr : Fin 8192 → Fin 64 → ℝ} {cs sn : Fin 8192 → Fin 32 → ℝ} {g : Fin 8192 → Fin 2048 → ℝ}
variable (H : Reals (m (c.tc.loc main_arg0)) (m (c.tc.loc main_arg1)) (m (c.tc.loc main_arg2)) (m (c.tc.loc main_arg3)) (m (c.tc.loc main_arg4)) (m (c.tc.loc main_arg5)) q kv kr cs sn g)
include H
/-! The arrays the call is given, over the reals. -/
theorem AQ_real (h : Fin 16) (i : Fin 8192) (d : Fin 256) : AQ m c h i d = ((qx q cs sn h i d : ℝ) : EReal) :=
  (congrFun (V52_eq m c) (ix3 h i d)).trans (kQ_at H h i d)
theorem AKV_real (h : Fin 16) (j : Fin 8192) (d : Fin 256) : AKV m c h j d = ((kv h j d : ℝ) : EReal) :=
  (congrFun (V53_eq m c) (ix3 h j d)).trans (H.a1 h j d)
omit H in
theorem cat2_at (A : FVec Ideal S8192x64 .f32) (j : Fin 8192) (y : Fin 128) :
    cat2 A (broadcastInDim S8192x64 ![] bcast_S_S8192x64 (constant (F := Ideal) S_ .f32 0#32)) (ix2 j y) = if e : (y : ℕ) < 64 then A (ix2 j ⟨y, e⟩) else 0 := by
  pointwise [cat2]
theorem AKR_real (j : Fin 8192) (y : Fin 128) : AKR m c j y = ((kx kr j y : ℝ) : EReal) := by
  refine (congrFun (V54_eq m c) (ix2 j y)).trans ((cat2_at _ j y).trans ?_)
  unfold kx
  split
  · exact H.a2 ..
  · rfl
theorem AO_real (h : Fin 16) (i : Fin 8192) (y : Fin 128) : AO m c i (ln h y) = ((∑ j, kv h j (hi y) * pr q kv kr cs sn h i j : ℝ) : EReal) :=
  (congrFun (V48_eq m c) (ix2 i (lane h y))).trans ((kO_kLse H).1 h i y)
theorem AL_real (h : Fin 16) (i : Fin 8192) (l : Fin 128) : AL m c h i l = ((Real.log (tot q kv kr cs sn h i) : ℝ) : EReal) :=
  (congrFun (V51_eq m c) (ix3 h i l)).trans ((kO_kLse H).2 h i l)
theorem AdO_real (i : Fin 8192) (x : Fin 2048) : AdO m c i x = ((g i x : ℝ) : EReal) :=
  (congrFun (V_main_arg5 m c) (ix2 i x)).trans (H.a5 i x)
theorem ACS_real (i : Fin 8192) (y : Fin 128) : ACS m c i y = ((cx cs sn i y : ℝ) : EReal) :=
  (congrFun (V0_eq m c) (ix2 i y)).trans (cat4_at H i y)

/-- The rows' logarithms are the same along the lanes. -/
theorem rows_same (n : ℕ) (r : Fin 1024) (l : Fin 128) : bL m c n (ix3 0 r l) = Lr m c n r := by
  have e : ∀ d, bL m c n (ix3 0 r d) = ((Real.log (tot q kv kr cs sn ⟨n % 128 / 8, by omega⟩ (row ⟨n % 128 % 8, by omega⟩ r)) : ℝ) : EReal) := fun d => by
    have e1 : bL m c n = bL m c (8 * (⟨n % 128 / 8, by omega⟩ : Fin 16) + (⟨n % 128 % 8, by omega⟩ : Fin 8)) := by
      show iblk m c 5 (pt n) = iblk m c 5 (pt (8 * (n % 128 / 8) + n % 128 % 8))
      have e2 : pt n = pt (8 * (n % 128 / 8) + n % 128 % 8) := Fin.ext (show n % 128 = (8 * (n % 128 / 8) + n % 128 % 8) % 128 by omega)
      rw [e2]
    rw [e1, bL_at, AL_real m c H]
  exact (e l).trans (e 0).symm
end
end Cert.Proof.KernelIdeal
-- ==== Proof.Alg.lean ====
module

public import proofs.«01_k».proof.Defs
public import proofs.«01_k».proof.Proof.Gen.KernelIdeal.Launch
public import proofs.«01_k».proof.Proof.Gen.KernelIdeal.Frame
public import proofs.«01_k».proof.Proof.Arr
public import proofs.«01_k».proof.Proof.Ref
public import proofs.«01_k».proof.Proof.Prelude
public import Idealize.ShloMosaic.Lib.Claim
public import Idealize.ShloMosaic.Lib.Tactic
public import Idealize.ShloMosaic.Lib.Pipeline.ValueKit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

section
open Cert.Proof.Grad
variable {Q KV : Fin 16 → Fin 8192 → Fin 256 → EReal} {KR : Fin 8192 → Fin 128 → EReal} {O dO : Fin 8192 → Fin 2048 → EReal}
variable {L : Fin 16 → Fin 8192 → EReal} {CS : Fin 8192 → Fin 128 → EReal}
variable (q kv : Fin 16 → Fin 8192 → Fin 256 → ℝ) (kr : Fin 8192 → Fin 64 → ℝ) (cs sn : Fin 8192 → Fin 32 → ℝ) (g : Fin 8192 → Fin 2048 → ℝ)

/-- The arrays of the call hold these reals. -/
structure Operands (Q KV : Fin 16 → Fin 8192 → Fin 256 → EReal) (KR : Fin 8192 → Fin 128 → EReal) (O dO : Fin 8192 → Fin 2048 → EReal)
    (L : Fin 16 → Fin 8192 → EReal) (CS : Fin 8192 → Fin 128 → EReal) : Prop where
  fq : ∀ h i d, Q h i d = ((qx q cs sn h i d : ℝ) : EReal)
  fkv : ∀ h j d, KV h j d = ((kv h j d : ℝ) : EReal)
  fkr : ∀ j y, KR j y = ((kx kr j y : ℝ) : EReal)
  fo : ∀ h i y, O i (ln h y) = ((∑ j, kv h j (hi y) * pr q kv kr cs sn h i j : ℝ) : EReal)
  fg : ∀ i x, dO i x = ((g i x : ℝ) : EReal)
  fl : ∀ h i, L h i = ((Real.log (tot q kv kr cs sn h i) : ℝ) : EReal)
  fc : ∀ i y, CS i y = ((cx cs sn i y : ℝ) : EReal)

/-- A sum over 128 lanes of which the last 64 are zero. -/
theorem sum_half (f : Fin 128 → ℝ) (hf : ∀ x : Fin 64, f ⟨64 + x, by omega⟩ = 0) : ∑ y, f y = ∑ x : Fin 64, f ⟨x, by omega⟩ := by
  refine (Fin.sum_univ_add (a := 64) (b := 64) f).trans ?_
  rw [Finset.sum_eq_zero (s := Finset.univ) (f := fun x : Fin 64 => f (Fin.natAdd 64 x)) fun x _ => hf x, add_zero]
  rfl
theorem kx_hi (j : Fin 8192) (y : Fin 128) (hy : 64 ≤ (y : ℕ)) : kx kr j y = 0 := dif_neg (by omega)
theorem qx_lo (h : Fin 16) (i : Fin 8192) (d : Fin 256) (hd : (d : ℕ) < 128) : qx q cs sn h i d = q h i d := dif_pos hd
theorem qx_rope (h : Fin 16) (i : Fin 8192) (d : Fin 256) (x : Fin 64) (hd : (d : ℕ) = 128 + x) : qx q cs sn h i d = qr q cs sn h i x :=
  (dif_neg (by omega)).trans ((dif_pos (by omega)).trans (congrArg (qr q cs sn h i) (Fin.ext (show (d : ℕ) - 128 = x by omega))))
theorem qx_pad (h : Fin 16) (i : Fin 8192) (d : Fin 256) (hd : 192 ≤ (d : ℕ)) : qx q cs sn h i d = 0 :=
  (dif_neg (by omega)).trans (dif_neg (by omega))

variable {q kv kr cs sn g} (B : Operands q kv kr cs sn g Q KV KR O dO L CS)
include B

theorem gS_real (h : Fin 16) (i j : Fin 8192) : gS Q KV KR h i j = ((Grad.sc q kv kr cs sn h i j * Real.sqrt 192 : ℝ) : EReal) := by
  unfold gS
  simp only [B.fq, B.fkv, B.fkr]
  rw [coe_dot, coe_dot, ← EReal.coe_add]
  refine congrArg (fun k : ℝ => (k : EReal)) ?_
  unfold Grad.sc
  rw [div_mul_cancel₀ _ root_pos.ne', sum_half (fun y : Fin 128 => qx q cs sn h i ⟨128 + y, by omega⟩ * kx kr j y) fun x => by rw [kx_hi kr j _ (Nat.le_add_right 64 x), mul_zero]]
  refine congrArg₂ (fun a b : ℝ => a + b) (Finset.sum_congr rfl fun y _ => ?_) (Finset.sum_congr rfl fun x _ => ?_)
  · rw [qx_lo q cs sn h i _ y.isLt]
    rfl
  · rw [qx_rope q cs sn h i _ x rfl]
    exact congrArg (fun k => qr q cs sn h i x * k) (dif_pos x.isLt)
theorem gP_real (h : Fin 16) (i j : Fin 8192) : gP Q KV KR L h i j = ((pr q kv kr cs sn h i j : ℝ) : EReal) := by
  by_cases hj : (j : ℕ) / 64 ≤ (i : ℕ) / 64
  · have hZ := tot_pos q kv kr cs sn h i
    have h2 : Real.log 2 ≠ 0 := (Real.log_pos (by norm_num)).ne'
    unfold gP
    rw [if_pos hj, gS_real B, B.fl, κe_val, log2e_val, ← EReal.coe_mul, ← EReal.coe_mul, ← EReal.coe_sub]
    refine (Ideal.exp2_coe _).trans (congrArg (fun k : ℝ => (k : EReal)) ?_)
    unfold pr wt
    rw [if_pos hj]
    show (2 : ℝ) ^ (_ : ℝ) = _
    rw [Real.rpow_def_of_pos (by norm_num), show Real.log 2 * (Grad.sc q kv kr cs sn h i j * Real.sqrt 192 * ((Real.sqrt 192)⁻¹ * (Real.log 2)⁻¹) - Real.log (tot q kv kr cs sn h i) * (Real.log 2)⁻¹)
      = Grad.sc q kv kr cs sn h i j - Real.log (tot q kv kr cs sn h i) by have := root_pos.ne'; field_simp, Real.exp_sub, Real.exp_log hZ]
  · rw [gP_zero _ _ _ _ _ _ _ hj]
    unfold pr wt
    rw [if_neg hj, zero_div]
    rfl
theorem gE_real (h : Fin 16) (i j : Fin 8192) : gE KV dO h i j = ((dp kv g h i j : ℝ) : EReal) := by
  unfold gE
  simp only [B.fg, B.fkv]
  exact coe_dot _ _ _
theorem gD_real (h : Fin 16) (i : Fin 8192) : gD O dO h i = ((dl q kv kr cs sn g h i : ℝ) : EReal) := by
  unfold gD
  simp only [B.fg, B.fo]
  rw [coe_dot]
  refine congrArg (fun k : ℝ => (k : EReal)) ?_
  unfold dl dp
  simp only [Finset.mul_sum]
  rw [Finset.sum_comm]
  refine Finset.sum_congr rfl fun j _ => Finset.sum_congr rfl fun y _ => ?_
  show g i (lane h y) * _ = _
  ring
theorem gG_real (h : Fin 16) (i j : Fin 8192) : gG Q KV KR O dO L h i j = ((gs q kv kr cs sn g h i j : ℝ) : EReal) := by
  unfold gG
  rw [gP_real B, gE_real B, gD_real B, ← EReal.coe_sub, ← EReal.coe_mul]
  rfl
theorem gDQ_lo (h : Fin 16) (i : Fin 8192) (d : Fin 256) (hd : (d : ℕ) < 128) :
    gDQ Q KV KR O dO L h i d = ((∑ j, gs q kv kr cs sn g h i j * kv h j d : ℝ) : EReal) := by
  unfold gDQ gK
  simp only [dif_pos hd, gG_real B, B.fkv]
  exact coe_dot _ _ _
theorem gDQ_hi (h : Fin 16) (i : Fin 8192) (y : Fin 128) (d : Fin 256) (hd : (d : ℕ) = 128 + y) :
    gDQ Q KV KR O dO L h i d = ((∑ j, gs q kv kr cs sn g h i j * kx kr j y : ℝ) : EReal) := by
  unfold gDQ gK
  have e : ∀ p, (⟨(d : ℕ) - 128, p⟩ : Fin 128) = y := fun p => Fin.ext (show (d : ℕ) - 128 = y by omega)
  simp only [dif_neg (show ¬ (d : ℕ) < 128 by omega), e, gG_real B, B.fkr]
  exact coe_dot _ _ _
omit B in
theorem scaled (f k : Fin 8192 → ℝ) : (((∑ j, f j * k j : ℝ) : EReal)) * κs = ((∑ j, f j / Real.sqrt 192 * k j : ℝ) : EReal) := by
  rw [κs_val, ← EReal.coe_mul, Finset.sum_mul]
  exact congrArg (fun k : ℝ => (k : EReal)) (Finset.sum_congr rfl fun j _ => by ring)
omit B in
theorem zeros (f : Fin 8192 → ℝ) (y : Fin 128) (hy : 64 ≤ (y : ℕ)) : (((∑ j, f j * kx kr j y : ℝ) : EReal)) * κs = 0 := by
  rw [Finset.sum_eq_zero fun j _ => by rw [kx_hi kr j y hy, mul_zero]]
  exact zero_mul _
omit B in
theorem ropes (h : Fin 16) (i : Fin 8192) (x : Fin 64) (y : Fin 128) (hy : (y : ℕ) = x) :
    (((∑ j, gs q kv kr cs sn g h i j * kx kr j y : ℝ) : EReal)) * κs = ((dr q kv kr cs sn g h i x : ℝ) : EReal) := by
  rw [scaled]
  refine congrArg (fun k : ℝ => (k : EReal)) (Finset.sum_congr rfl fun j _ => congrArg (fun k => ds q kv kr cs sn g h i j * k) ?_)
  exact (dif_pos (by omega)).trans (congrArg (kr j) (Fin.ext hy))
theorem rDQ_real (h : Fin 16) (i : Fin 8192) (d : Fin 256) : rDQ Q KV KR O dO L CS h i d = ((Grad.DQ q kv kr cs sn g h i d : ℝ) : EReal) := by
  unfold rDQ Grad.DQ
  have hd := d.isLt
  by_cases e : (d : ℕ) < 128
  · rw [dif_pos e, dif_pos e, gDQ_lo B h i d e, scaled]
    rfl
  · rw [dif_neg e, dif_neg e, gDQ_hi B h i ⟨d - 128, by omega⟩ _ rfl, gDQ_hi B h i ⟨(d - 128 + 128 - 64) % 128, by omega⟩ _ rfl, B.fc]
    by_cases e' : (d : ℕ) < 192
    · rw [dif_pos e', ropes h i ⟨d - 128, by omega⟩ _ rfl, zeros _ _ (show 64 ≤ ((d : ℕ) - 128 + 128 - 64) % 128 by omega), add_zero, ← EReal.coe_mul]
      exact congrArg (fun k : ℝ => ((dr q kv kr cs sn g h i ⟨d - 128, by omega⟩ * k : ℝ) : EReal)) (dif_pos (show (d : ℕ) - 128 < 64 by omega))
    · rw [dif_neg e', zeros _ _ (show 64 ≤ (d : ℕ) - 128 by omega), ropes h i ⟨d - 192, by omega⟩ _ (show ((d : ℕ) - 128 + 128 - 64) % 128 = d - 192 by omega), zero_add, ← EReal.coe_mul]
      refine congrArg (fun k : ℝ => ((dr q kv kr cs sn g h i ⟨d - 192, by omega⟩ * k : ℝ) : EReal)) ((dif_neg (show ¬ (d : ℕ) - 128 < 64 by omega)).trans ?_)
      exact congrArg (fun k : ℕ => sn i ⟨k % 32, Nat.mod_lt _ (by norm_num)⟩) (show (d : ℕ) - 128 - 64 = d - 192 by omega)
theorem gDK_real (h : Fin 16) (j : Fin 8192) (d : Fin 256) :
    gDK Q KV KR O dO L h j d * κs = ((∑ i, ds q kv kr cs sn g h i j * qx q cs sn h i d : ℝ) : EReal) := by
  unfold gDK
  simp only [gG_real B, B.fq]
  rw [coe_dot, scaled]
  rfl
theorem rDKV_real (h : Fin 16) (j : Fin 8192) (d : Fin 256) : rDKV Q KV KR O dO L h j d = ((Grad.DKV q kv kr cs sn g h j d : ℝ) : EReal) := by
  unfold rDKV Grad.DKV
  by_cases e : (d : ℕ) < 128
  · rw [dif_pos e, dif_pos e, gDK_real B]
    exact congrArg (fun k : ℝ => (k : EReal)) (Finset.sum_congr rfl fun i _ => by rw [qx_lo q cs sn h i d e])
  · rw [dif_neg e, dif_neg e]
    unfold gDV
    simp only [gP_real B, B.fg]
    rw [coe_dot]
    exact congrArg (fun k : ℝ => (k : EReal)) (Finset.sum_congr rfl fun i _ => mul_comm _ _)
theorem rDKR_real (j : Fin 8192) (y : Fin 128) : rDKR Q KV KR O dO L j y = ((Grad.DKR q kv kr cs sn g j y : ℝ) : EReal) := by
  unfold rDKR Grad.DKR
  simp only [gDK_real B]
  rw [coe_sum]
  refine congrArg (fun k : ℝ => (k : EReal)) ?_
  by_cases e : (y : ℕ) < 64
  · rw [dif_pos e]
    exact Finset.sum_congr rfl fun h _ => Finset.sum_congr rfl fun i _ => by rw [qx_rope q cs sn h i _ ⟨y, e⟩ rfl]
  · rw [dif_neg e]
    exact Finset.sum_eq_zero fun h _ => Finset.sum_eq_zero fun i _ => by rw [qx_pad q cs sn h i _ (show 192 ≤ 128 + (y : ℕ) by omega), mul_zero]
end

section
open Cert.Proof.ReferenceIdeal Cert.Proof.Grad
variable (m : (ℓ : Loc nD τ sig) → Buf (Elt Ideal) ℓ) (c : Dev nD)
variable {q kv : Fin 16 → Fin 8192 → Fin 256 → ℝ} {kr : Fin 8192 → Fin 64 → ℝ} {cs sn : Fin 8192 → Fin 32 → ℝ} {g : Fin 8192 → Fin 2048 → ℝ}
variable (H : Reals (m (c.tc.loc main_arg0)) (m (c.tc.loc main_arg1)) (m (c.tc.loc main_arg2)) (m (c.tc.loc main_arg3)) (m (c.tc.loc main_arg4)) (m (c.tc.loc main_arg5)) q kv kr cs sn g)
include H
theorem operands : Operands q kv kr cs sn g (AQ m c) (AKV m c) (AKR m c) (AO m c) (AdO m c) (fun h i => AL m c h i 0) (ACS m c) :=
  ⟨AQ_real m c H, AKV_real m c H, AKR_real m c H, AO_real m c H, AdO_real m c H, fun h i => AL_real m c H h i 0, ACS_real m c H⟩
/-! The call's result arrays are the reference's. -/
theorem same0 : (exactDats m 0 c).arrAt 7 cfg0.N = (arDQ (m (c.tc.loc main_arg0)) (m (c.tc.loc main_arg1)) (m (c.tc.loc main_arg2)) (m (c.tc.loc main_arg3)) (m (c.tc.loc main_arg4)) (m (c.tc.loc main_arg5)) : S16x8192x256.Idx → EReal) := by
  refine (arr7 m c).trans (funext fun x => ?_)
  refine (rDQ_real (operands m c H) _ _ _).trans ?_
  rw [eq_ix3 x]
  exact (arDQ_at H _ _ _).symm
theorem same1 : (exactDats m 0 c).arrAt 8 cfg0.N = (arDKV (m (c.tc.loc main_arg0)) (m (c.tc.loc main_arg1)) (m (c.tc.loc main_arg2)) (m (c.tc.loc main_arg3)) (m (c.tc.loc main_arg4)) (m (c.tc.loc main_arg5)) : S16x8192x256.Idx → EReal) := by
  refine (arr8 m c).trans (funext fun x => ?_)
  refine (rDKV_real (operands m c H) _ _ _).trans ?_
  rw [eq_ix3 x]
  exact (arDKV_at H _ _ _).symm
theorem same2 : (exactDats m 0 c).arrAt 9 cfg0.N = (arDKR (m (c.tc.loc main_arg0)) (m (c.tc.loc main_arg1)) (m (c.tc.loc main_arg2)) (m (c.tc.loc main_arg3)) (m (c.tc.loc main_arg4)) (m (c.tc.loc main_arg5)) : S8192x128.Idx → EReal) := by
  refine (arr9 m c).trans (funext fun x => ?_)
  refine (rDKR_real (operands m c H) _ _).trans ?_
  rw [eq_ix2 x]
  exact (arDKR_at H _ _).symm
end
end Cert.Proof.KernelIdeal
-- ==== Proof.Finite.lean ====
module

public import proofs.«01_k».proof.Defs
public import proofs.«01_k».proof.Proof.Ref
public import Idealize.ShloMosaic.Lib.ReduceAll
public import Idealize.ShloMosaic.Lib.Affine

@[expose] public section

noncomputable section

namespace Cert.Proof.Finite

open Idealize.ShloMosaic Cert.Pre_finite

/-- The shape relations the precondition's operations take. -/
theorem facts : Cert.Pre_finite.Facts where
  bcast_S_S16x8192x256 := by decide
  reducesTo_S16x8192x256_S_d0_1_2 := by decide
  h_S_ := by decide
  bcast_S_S8192x64 := by decide
  reducesTo_S8192x64_S_d0_1 := by decide
  bcast_S_S8192x32 := by decide
  reducesTo_S8192x32_S_d0_1 := by decide
  bcast_S_S8192x2048 := by decide
  reducesTo_S8192x2048_S_d0_1 := by decide

instance : Subsingleton S_.Idx := ⟨fun a b => funext fun i => i.elim0⟩

theorem top_val : Ideal.ofBits .f32 2139095040#32 = (⊤ : EReal) := by
  simp [Ideal.ofBits, Ideal.ieee]

/-- A number whose absolute value is below infinity is a real. -/
theorem real_of (a : EReal) (h : max a (-a) < ⊤) : a = ((a.toReal : ℝ) : EReal) := by
  refine (EReal.coe_toReal ?_ ?_).symm
  · rintro rfl
    simp at h
  · rintro rfl
    simp at h

/-- The conjunction over an array, read at an entry. -/
theorem entry {s : Shape} {axes : List (Fin s.rank)} (A : FVec Ideal s .f32) (hb : S_.BroadcastsInDim s (![] : Fin 0 → Fin s.rank)) (hr : s.ReducesTo axes S_)
    (hu : 0 < S_.numel)
    (e : Host.reduce IntOp.andi (cmpf .olt (Host.absf A) (broadcastInDim s ![] hb (constant S_ .f32 0x7F800000#32))) (constantI S_ 1 1#1) hr hu = fun _ => 1#1)
    (i : s.Idx) : A i = (((A i).toReal : ℝ) : EReal) := by
  have h := Host.reduce_andi_all _ _ hr hu (fun k => k.elim0) (congrFun e _) i
  refine real_of _ ?_
  have h' : Ideal.cmp .olt (max (A i) (-(A i))) (Ideal.ofBits .f32 2139095040#32) = 1#1 := h
  rw [top_val] at h'
  by_contra hn
  simp [Ideal.cmp, hn] at h'

theorem both {p q : IVec S_ 1} (e : andi p q = fun _ => 1#1) : (p = fun _ => 1#1) ∧ q = fun _ => 1#1 :=
  ⟨funext fun i => (IntOp.andi_eq_one.1 (congrFun e i)).1, funext fun i => (IntOp.andi_eq_one.1 (congrFun e i)).2⟩

/-- Under the precondition the six arrays hold reals. -/
theorem reals (A0 A1 : FVec Ideal S16x8192x256 .f32) (A2 : FVec Ideal S8192x64 .f32) (A3 A4 : FVec Ideal S8192x32 .f32) (A5 : FVec Ideal S8192x2048 .f32)
    (e : letI := facts; Cert.Pre_finite.fn (F := Ideal) A0 A1 A2 A3 A4 A5 = fun _ => 1#1) :
    Cert.Proof.ReferenceIdeal.Reals A0 A1 A2 A3 A4 A5 (fun h i d => (A0 (ix3 h i d)).toReal) (fun h i d => (A1 (ix3 h i d)).toReal)
      (fun i x => (A2 (ix2 i x)).toReal) (fun i x => (A3 (ix2 i x)).toReal) (fun i x => (A4 (ix2 i x)).toReal) (fun i x => (A5 (ix2 i x)).toReal) := by
  letI := facts
  simp only [Cert.Pre_finite.fn, Cert.Pre_finite.fn_part1] at e
  obtain ⟨e, e5⟩ := both e
  obtain ⟨e, e4⟩ := both e
  obtain ⟨e, e3⟩ := both e
  obtain ⟨e, e2⟩ := both e
  obtain ⟨e0, e1⟩ := both e
  exact ⟨fun h i d => entry A0 _ _ _ e0 _, fun h i d => entry A1 _ _ _ e1 _, fun i x => entry A2 _ _ _ e2 _, fun i x => entry A3 _ _ _ e3 _,
    fun i x => entry A4 _ _ _ e4 _, fun i x => entry A5 _ _ _ e5 _⟩

end Cert.Proof.Finite
-- ==== Proof.Prod.Sums.lean ====
module

public import Idealize.ShloMosaic.Lib.Tactic
public import Idealize.ShloMosaic.Lib.Pipeline.ValueKit

/-!
The three products of two arrays of numbers, entry by entry, and the rows and columns of a block.
-/

@[expose] public section

noncomputable section

namespace Cert.Proof.Prod

open Idealize.ShloMosaic Idealize.ShloMosaic.Tactic

variable {A B C : ℕ}

/-- Rows times columns. -/
def nn (x : (⟨2, ![A, B]⟩ : Shape).Idx → EReal) (y : (⟨2, ![B, C]⟩ : Shape).Idx → EReal) (i : (⟨2, ![A, C]⟩ : Shape).Idx) : EReal :=
  ∑ k : Fin B, x (ix2 (i 0) k) * y (ix2 k (i 1))
/-- Rows times rows. -/
def nt (x : (⟨2, ![A, B]⟩ : Shape).Idx → EReal) (y : (⟨2, ![C, B]⟩ : Shape).Idx → EReal) (i : (⟨2, ![A, C]⟩ : Shape).Idx) : EReal :=
  ∑ k : Fin B, x (ix2 (i 0) k) * y (ix2 (i 1) k)
/-- Columns times columns. -/
def tn (x : (⟨2, ![B, A]⟩ : Shape).Idx → EReal) (y : (⟨2, ![B, C]⟩ : Shape).Idx → EReal) (i : (⟨2, ![A, C]⟩ : Shape).Idx) : EReal :=
  ∑ k : Fin B, x (ix2 k (i 0)) * y (ix2 k (i 1))

end Cert.Proof.Prod

end
-- ==== Proof.Prod.In.lean ====
module

public import proofs.«01_k».proof.Defs
public import proofs.«01_k».proof.Proof.Prod.Sums
public import proofs.«01_k».proof.Proof.Gen.InIdeal.Value
public import Idealize.ShloMosaic.Lib.Claim
public import Idealize.ShloMosaic.Lib.Tactic
public import Idealize.ShloMosaic.Lib.Pipeline.ValueKit

/-!
The input projection: each block of the result is one product of a block of rows and a block of columns.
-/

@[expose] public section

set_option maxRecDepth 16384

noncomputable section

namespace Cert.Proof.InIdeal

open Cert.InIdeal Cert.InIdeal.Gen Cert.InIdeal.Value Cert.Proof.Prod
open Idealize.ShloMosaic Idealize.ShloMosaic.TcCoe Idealize.ShloMosaic.Tactic

/-- What the body leaves is the product of its two blocks. -/
theorem body_at (x : FVec Ideal S1024x2048 .bf16) (y : FVec Ideal S2048x1280 .bf16) (j : S1024x1280.Idx) : out0_2 (F := Ideal) x y j = nn (A := 1024) (B := 2048) (C := 1280) x y j := by
  obtain ⟨r, l, rfl⟩ : ∃ r l, j = ix2 r l := ⟨j 0, j 1, eq_ix2 j⟩
  frame_out
  unfold nn
  pointwise [k0_pay1]

section
variable (m : (ℓ : Loc nD τ sig) → Buf (Elt Ideal) ℓ) (c : Dev nD)

theorem idx : ∀ t : Fin cfg0.N, win0_0.index t = ![t.val / 9, 0] ∧ win0_1.index t = ![0, t.val % 9] ∧ win0_2.index t = ![t.val / 9, t.val % 9] :=
  (by decide +kernel : ∀ t : Fin grid0.N, _)

/-- The arguments as arrays of numbers. -/
def X : S8192x2048.Idx → EReal := (m ((c : Thread nD τ).loc main_arg0) : FVec Ideal S8192x2048 .f32)
def W : S2048x11520.Idx → EReal := (m ((c : Thread nD τ).loc main_arg1) : FVec Ideal S2048x11520 .f32)
theorem x_eq : (V m c main_v0 : S8192x2048.Idx → EReal) = X m c := by
  unfold V X
  after_results_simp
  rfl
theorem w_eq : (V m c main_v1 : S2048x11520.Idx → EReal) = W m c := by
  unfold V W
  after_results_simp
  rfl

theorem x_at (t : Fin cfg0.N) (r : Fin 1024) (k : Fin 2048) (hr : t.val / 9 * 1024 + r < 8192) :
    (iblk m c 0 t : S1024x2048.Idx → EReal) (ix2 r k) = X m c (ix2 ⟨t.val / 9 * 1024 + r, hr⟩ k) := by
  rw [← x_eq]
  blk_ext [iblk, idx t]
theorem w_at (t : Fin cfg0.N) (k : Fin 2048) (l : Fin 1280) (hl : t.val % 9 * 1280 + l < 11520) :
    (iblk m c 1 t : S2048x1280.Idx → EReal) (ix2 k l) = W m c (ix2 k ⟨t.val % 9 * 1280 + l, hl⟩) := by
  rw [← w_eq]
  blk_ext [iblk, idx t]

/-- What a point writes is its block of the product. -/
theorem flushed_eq (t : Fin cfg0.N) :
    (dats m 0 c).flushed 2 t = ((cfg0.win 2).blk t).view.read (Elt Ideal) (nn (A := 8192) (B := 2048) (C := 11520) (X m c) (W m c) : S8192x11520.Idx → EReal) := by
  have ht : t.val < 72 := Nat.lt_of_lt_of_eq t.isLt N_0
  rw [flushed2]
  funext y
  obtain ⟨e0, e1, e2⟩ := idx t
  have y0 : (y 0).val < 1024 := (y 0).isLt
  have y1 : (y 1).val < 1280 := (y 1).isLt
  have a0 : (((cfg0.win 2).blk t).view.emb y 0).val = win0_2.index t (0 : Fin 2) * 1024 + 1 * (y 0).val := rfl
  have a1 : (((cfg0.win 2).blk t).view.emb y 1).val = win0_2.index t (1 : Fin 2) * 1280 + 1 * (y 1).val := rfl
  rw [e2] at a0 a1
  have b0 : (((cfg0.win 2).blk t).view.emb y 0).val = t.val / 9 * 1024 + 1 * (y 0).val := a0
  have b1 : (((cfg0.win 2).blk t).view.emb y 1).val = t.val % 9 * 1280 + 1 * (y 1).val := a1
  show out0_2 (F := Ideal) (iblk m c 0 t) (iblk m c 1 t) ((cfg0.win 2).xinj (grid0.coords t) y)
    = nn (A := 8192) (B := 2048) (C := 11520) (X m c) (W m c) (((cfg0.win 2).blk t).view.emb y)
  rw [body_at]
  unfold nn
  refine Finset.sum_congr rfl fun k _ => congrArg₂ (· * ·) ((x_at m c t ⟨(y 0).val, y0⟩ k (by dsimp only; omega)).trans ?_)
    ((w_at m c t k ⟨(y 1).val, y1⟩ (by dsimp only; omega)).trans ?_)
  · exact congrArg (X m c) (congrArg₂ ix2 (Fin.ext (Eq.trans (by dsimp only; omega) b0.symm)) rfl)
  · exact congrArg (W m c) (congrArg₂ ix2 rfl (Fin.ext (Eq.trans (by dsimp only; omega) b1.symm)))

/-- The blocks fill the result. -/
theorem final : (dats m 0 c).arrAt 2 cfg0.N = (nn (A := 8192) (B := 2048) (C := 11520) (X m c) (W m c) : S8192x11520.Idx → EReal) := by
  refine (dats m 0 c).arrAt_eq_of_cover 2 _ (fun t _ => flushed_eq m c t) fun i => ?_
  have i0 : (i 0).val < 8192 := (i 0).isLt
  have i1 : (i 1).val < 11520 := (i 1).isLt
  refine ⟨⟨(i 0).val / 1024 * 9 + (i 1).val / 1280, Nat.lt_of_lt_of_eq (by omega) N_0.symm⟩, flush0_2 _, ?_⟩
  generalize ht : (⟨(i 0).val / 1024 * 9 + (i 1).val / 1280, Nat.lt_of_lt_of_eq (by omega) N_0.symm⟩ : Fin cfg0.N) = t
  have hv : t.val = (i 0).val / 1024 * 9 + (i 1).val / 1280 := by rw [← ht]
  show i ∈ ((View.whole main_v2).slice (win0_2.rect t)).set
  rw [View.set_slice_whole, Rect.mem_set_unit]
  have e0 : win0_2.index t (0 : Fin 2) = t.val / 9 := congrFun (idx t).2.2 0
  have e1 : win0_2.index t (1 : Fin 2) = t.val % 9 := congrFun (idx t).2.2 1
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1280 ≤ (i 1).val ∧ (i 1).val < win0_2.index t (1 : Fin 2) * 1280 + 1280; omega
end

end Cert.Proof.InIdeal

end
-- ==== Proof.Prod.Branch.lean ====
module

public import proofs.«01_k».proof.Defs
public import proofs.«01_k».proof.Proof.Prod.Sums
public import proofs.«01_k».proof.Proof.Gen.BranchIdeal.Value
public import Idealize.ShloMosaic.Lib.Claim
public import Idealize.ShloMosaic.Lib.Tactic
public import Idealize.ShloMosaic.Lib.Pipeline.ValueKit

/-!
A branch's output projection: each block of the result is one product of a block of rows and a block of columns.
-/

@[expose] public section

set_option maxRecDepth 16384

noncomputable section

namespace Cert.Proof.BranchIdeal

open Cert.BranchIdeal Cert.BranchIdeal.Gen Cert.BranchIdeal.Value Cert.Proof.Prod
open Idealize.ShloMosaic Idealize.ShloMosaic.TcCoe Idealize.ShloMosaic.Tactic

/-- What the body leaves is the product of its two blocks. -/
theorem body_at (x : FVec Ideal S1024x2048 .bf16) (y : FVec Ideal S2048x1024 .bf16) (j : S1024x1024.Idx) : out0_2 (F := Ideal) x y j = nn (A := 1024) (B := 2048) (C := 1024) x y j := by
  obtain ⟨r, l, rfl⟩ : ∃ r l, j = ix2 r l := ⟨j 0, j 1, eq_ix2 j⟩
  frame_out
  unfold nn
  pointwise [k0_pay1]

section
variable (m : (ℓ : Loc nD τ sig) → Buf (Elt Ideal) ℓ) (c : Dev nD)

theorem idx : ∀ t : Fin cfg0.N, win0_0.index t = ![t.val / 2, 0] ∧ win0_1.index t = ![0, t.val % 2] ∧ win0_2.index t = ![t.val / 2, t.val % 2] :=
  (by decide +kernel : ∀ t : Fin grid0.N, _)

/-- The arguments as arrays of numbers. -/
def X : S8192x2048.Idx → EReal := (m ((c : Thread nD τ).loc main_arg0) : FVec Ideal S8192x2048 .f32)
def W : S2048x2048.Idx → EReal := (m ((c : Thread nD τ).loc main_arg1) : FVec Ideal S2048x2048 .f32)
theorem x_eq : (V m c main_v0 : S8192x2048.Idx → EReal) = X m c := by
  unfold V X
  after_results_simp
  rfl
theorem w_eq : (V m c main_v1 : S2048x2048.Idx → EReal) = W m c := by
  unfold V W
  after_results_simp
  rfl

theorem x_at (t : Fin cfg0.N) (r : Fin 1024) (k : Fin 2048) (hr : t.val / 2 * 1024 + r < 8192) :
    (iblk m c 0 t : S1024x2048.Idx → EReal) (ix2 r k) = X m c (ix2 ⟨t.val / 2 * 1024 + r, hr⟩ k) := by
  rw [← x_eq]
  blk_ext [iblk, idx t]
theorem w_at (t : Fin cfg0.N) (k : Fin 2048) (l : Fin 1024) (hl : t.val % 2 * 1024 + l < 2048) :
    (iblk m c 1 t : S2048x1024.Idx → EReal) (ix2 k l) = W m c (ix2 k ⟨t.val % 2 * 1024 + l, hl⟩) := by
  rw [← w_eq]
  blk_ext [iblk, idx t]

/-- What a point writes is its block of the product. -/
theorem flushed_eq (t : Fin cfg0.N) :
    (dats m 0 c).flushed 2 t = ((cfg0.win 2).blk t).view.read (Elt Ideal) (nn (A := 8192) (B := 2048) (C := 2048) (X m c) (W m c) : S8192x2048.Idx → EReal) := by
  have ht : t.val < 16 := Nat.lt_of_lt_of_eq t.isLt N_0
  rw [flushed2]
  funext y
  obtain ⟨e0, e1, e2⟩ := idx t
  have y0 : (y 0).val < 1024 := (y 0).isLt
  have y1 : (y 1).val < 1024 := (y 1).isLt
  have a0 : (((cfg0.win 2).blk t).view.emb y 0).val = win0_2.index t (0 : Fin 2) * 1024 + 1 * (y 0).val := rfl
  have a1 : (((cfg0.win 2).blk t).view.emb y 1).val = win0_2.index t (1 : Fin 2) * 1024 + 1 * (y 1).val := rfl
  rw [e2] at a0 a1
  have b0 : (((cfg0.win 2).blk t).view.emb y 0).val = t.val / 2 * 1024 + 1 * (y 0).val := a0
  have b1 : (((cfg0.win 2).blk t).view.emb y 1).val = t.val % 2 * 1024 + 1 * (y 1).val := a1
  show out0_2 (F := Ideal) (iblk m c 0 t) (iblk m c 1 t) ((cfg0.win 2).xinj (grid0.coords t) y)
    = nn (A := 8192) (B := 2048) (C := 2048) (X m c) (W m c) (((cfg0.win 2).blk t).view.emb y)
  rw [body_at]
  unfold nn
  refine Finset.sum_congr rfl fun k _ => congrArg₂ (· * ·) ((x_at m c t ⟨(y 0).val, y0⟩ k (by dsimp only; omega)).trans ?_)
    ((w_at m c t k ⟨(y 1).val, y1⟩ (by dsimp only; omega)).trans ?_)
  · exact congrArg (X m c) (congrArg₂ ix2 (Fin.ext (Eq.trans (by dsimp only; omega) b0.symm)) rfl)
  · exact congrArg (W m c) (congrArg₂ ix2 rfl (Fin.ext (Eq.trans (by dsimp only; omega) b1.symm)))

/-- The blocks fill the result. -/
theorem final : (dats m 0 c).arrAt 2 cfg0.N = (nn (A := 8192) (B := 2048) (C := 2048) (X m c) (W m c) : S8192x2048.Idx → EReal) := by
  refine (dats m 0 c).arrAt_eq_of_cover 2 _ (fun t _ => flushed_eq m c t) fun i => ?_
  have i0 : (i 0).val < 8192 := (i 0).isLt
  have i1 : (i 1).val < 2048 := (i 1).isLt
  refine ⟨⟨(i 0).val / 1024 * 2 + (i 1).val / 1024, Nat.lt_of_lt_of_eq (by omega) N_0.symm⟩, flush0_2 _, ?_⟩
  generalize ht : (⟨(i 0).val / 1024 * 2 + (i 1).val / 1024, Nat.lt_of_lt_of_eq (by omega) N_0.symm⟩ : Fin cfg0.N) = t
  have hv : t.val = (i 0).val / 1024 * 2 + (i 1).val / 1024 := by rw [← ht]
  show i ∈ ((View.whole main_v2).slice (win0_2.rect t)).set
  rw [View.set_slice_whole, Rect.mem_set_unit]
  have e0 : win0_2.index t (0 : Fin 2) = t.val / 2 := congrFun (idx t).2.2 0
  have e1 : win0_2.index t (1 : Fin 2) = t.val % 2 := congrFun (idx t).2.2 1
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega
end

end Cert.Proof.BranchIdeal

end
-- ==== Proof.Prod.BranchWeight.lean ====
module

public import proofs.«01_k».proof.Defs
public import proofs.«01_k».proof.Proof.Gen.BranchWeightIdeal.Value
public import proofs.«01_k».proof.Proof.Prod.Sums
public import Idealize.ShloMosaic.Lib.Claim
public import Idealize.ShloMosaic.Lib.Tactic
public import Idealize.ShloMosaic.Lib.Pipeline.ValueKit

/-!
The gradient of a branch's weights: each block of the result is summed over four points,
2048 rows at each, and the sum of the four is the sum over all 8192 rows.
-/

@[expose] public section

set_option maxRecDepth 16384

noncomputable section

namespace Cert.Proof.BranchWeightIdeal

open Cert.BranchWeightIdeal Cert.BranchWeightIdeal.Gen Cert.BranchWeightIdeal.Value Cert.Proof.Prod
open Idealize.ShloMosaic Idealize.ShloMosaic.TcCoe Idealize.ShloMosaic.Tactic

/-! ## At a point -/

theorem first_at (x : FVec Ideal S2048x1024 .bf16) (y : FVec Ideal S2048x1024 .bf16) (j : S1024x1024.Idx) :
    k0_pay2 (F := Ideal) x y j = tn (A := 1024) (B := 2048) (C := 1024) x y j := by
  obtain ⟨r, l, rfl⟩ : ∃ r l, j = ix2 r l := ⟨j 0, j 1, eq_ix2 j⟩
  unfold tn
  pointwise [k0_pay2, k0_pay1]
theorem later_at (x : FVec Ideal S2048x1024 .bf16) (y : FVec Ideal S2048x1024 .bf16) (a : FVec Ideal S1024x1024 .f32) (j : S1024x1024.Idx) :
    k0_pay3 (F := Ideal) x y a j = a j + tn (A := 1024) (B := 2048) (C := 1024) x y j := by
  obtain ⟨r, l, rfl⟩ : ∃ r l, j = ix2 r l := ⟨j 0, j 1, eq_ix2 j⟩
  unfold tn
  pointwise [k0_pay3, k0_pay1]

section
variable (m : (ℓ : Loc nD τ sig) → Buf (Elt Ideal) ℓ) (c : Dev nD)

/-- What the sum holds when its block is written. -/
theorem held (t : Fin cfg0.N) (hr : t.val % 4 = 3) (j : S1024x1024.Idx) :
    (outsAt0 m c t.val t.isLt).2 j = ∑ s : Fin 4, tn (A := 1024) (B := 2048) (C := 1024) (iblk m c 0 ⟨4 * (t.val / 4) + s.val, Pipeline.run_point_lt_of_flush t hr s⟩)
      (iblk m c 1 ⟨4 * (t.val / 4) + s.val, Pipeline.run_point_lt_of_flush t hr s⟩) j := by
  refine (Pipeline.eq_sum_fin_of_reset_step_apply_of_flush (fun n h => (outsAt0 m c n h).2) 4 (fun _ => (0 : EReal))
    (fun t => tn (A := 1024) (B := 2048) (C := 1024) (iblk m c 0 t) (iblk m c 1 t)) (fun t h i => ?_) (fun t h i => ?_) t hr j).trans (zero_add _)
  · rw [outsAt0_A m c t h (by omega) (by omega)]
    frame_out
    rw [first_at, zero_add]
  · by_cases h3 : t.val % 4 = 3
    · rw [outsAt0_C m c t h (by omega) h3]
      frame_out
      rw [later_at]
      exact congrArg (· + _) (congrFun (Memref.IsWhole.read_unread _ _) i)
    · rw [outsAt0_B m c t h (by omega) h3]
      frame_out
      rw [later_at]
      exact congrArg (· + _) (congrFun (Memref.IsWhole.read_unread _ _) i)

/-- What is written is what the sum holds. -/
theorem written (t : Fin cfg0.N) (hr : t.val % 4 = 3) (j : S1024x1024.Idx) : (outsAt0 m c t.val t.isLt).1 j = (outsAt0 m c t.val t.isLt).2 j := by
  rw [outsAt0_C m c t (by omega) (by omega) hr]
  frame_out
  pointwise [k0_pay4]

/-! ## The blocks of the arguments -/

theorem idx : ∀ t : Fin cfg0.N, win0_0.index t = ![t.val % 4, t.val / 8] ∧ win0_1.index t = ![t.val % 4, t.val / 4 % 2] :=
  (by decide +kernel : ∀ t : Fin grid0.N, _)

/-- The arguments as arrays of numbers. -/
def H : S8192x2048.Idx → EReal := (m ((c : Thread nD τ).loc main_arg0) : FVec Ideal S8192x2048 .f32)
def Z : S8192x2048.Idx → EReal := (m ((c : Thread nD τ).loc main_arg2) : FVec Ideal S8192x2048 .f32)

theorem rows_eq : (V m c main_v0 : S8192x2048.Idx → EReal) = H m c := by
  unfold V H
  after_results_simp
  rfl
theorem grads_eq : (V m c main_v1 : S8192x2048.Idx → EReal) = Z m c := by
  unfold V Z
  after_results_simp
  rfl

theorem rows_at (t : Fin cfg0.N) (k : Fin 2048) (r : Fin 1024) (hk : t.val % 4 * 2048 + k < 8192) (hr : t.val / 8 * 1024 + r < 2048) :
    (iblk m c 0 t : S2048x1024.Idx → EReal) (ix2 k r) = H m c (ix2 ⟨t.val % 4 * 2048 + k, hk⟩ ⟨t.val / 8 * 1024 + r, hr⟩) := by
  rw [← rows_eq]
  blk_ext [iblk, idx t]
theorem grads_at (t : Fin cfg0.N) (k : Fin 2048) (l : Fin 1024) (hk : t.val % 4 * 2048 + k < 8192) (hl : t.val / 4 % 2 * 1024 + l < 2048) :
    (iblk m c 1 t : S2048x1024.Idx → EReal) (ix2 k l) = Z m c (ix2 ⟨t.val % 4 * 2048 + k, hk⟩ ⟨t.val / 4 % 2 * 1024 + l, hl⟩) := by
  rw [← grads_eq]
  blk_ext [iblk, idx t]

/-! ## The result -/

theorem result_at (i : S2048x2048.Idx) : (G2 m c : S2048x2048.Idx → EReal) i = tn (A := 2048) (B := 8192) (C := 2048) (H m c) (Z m c) i := by
  have h0 : (i 0).val < 2048 := (i 0).isLt
  have h1 : (i 1).val < 2048 := (i 1).isLt
  have hN : cfg0.N = 16 := N_0
  have hp : pt2Of i < cfg0.N := by rw [hN]; unfold pt2Of run2Of; omega
  have hr : pt2Of i % 4 = 3 := by unfold pt2Of; omega
  unfold G2
  rw [dif_pos hp, ← outsAt0_sweep]
  refine (written m c ⟨_, hp⟩ hr _).trans ((held m c ⟨_, hp⟩ hr _).trans ?_)
  unfold tn
  refine Fin.sum_mul_add_congr fun s k hl => ?_
  have e : (4 * (pt2Of i / 4) + s.val) % 4 = s := by omega
  have e0 : (4 * (pt2Of i / 4) + s.val) / 8 * 1024 + (i 0).val % 1024 = (i 0).val := by unfold pt2Of run2Of; omega
  have e1 : (4 * (pt2Of i / 4) + s.val) / 4 % 2 * 1024 + (i 1).val % 1024 = (i 1).val := by unfold pt2Of run2Of; omega
  refine congrArg₂ (· * ·) ((rows_at m c _ k ⟨(i 0).val % 1024, by omega⟩ (by dsimp only; omega) (by dsimp only; omega)).trans ?_)
    ((grads_at m c _ k ⟨(i 1).val % 1024, by omega⟩ (by dsimp only; omega) (by dsimp only; omega)).trans ?_)
  · exact congrArg (H m c) (congrArg₂ ix2 (Fin.ext (by dsimp only; rw [e])) (Fin.ext e0))
  · exact congrArg (Z m c) (congrArg₂ ix2 (Fin.ext (by dsimp only; rw [e])) (Fin.ext e1))
end

end Cert.Proof.BranchWeightIdeal

end
-- ==== Proof.Prod.OutWeight.lean ====
module

public import proofs.«01_k».proof.Defs
public import proofs.«01_k».proof.Proof.Gen.OutWeightIdeal.Value
public import proofs.«01_k».proof.Proof.Prod.Sums
public import Idealize.ShloMosaic.Lib.Claim
public import Idealize.ShloMosaic.Lib.Tactic
public import Idealize.ShloMosaic.Lib.Pipeline.ValueKit

/-!
The gradient of the last projection's weights: each block of the result is summed over four points,
2048 rows at each, and the sum of the four is the sum over all 8192 rows.
-/

@[expose] public section

set_option maxRecDepth 16384

noncomputable section

namespace Cert.Proof.OutWeightIdeal

open Cert.OutWeightIdeal Cert.OutWeightIdeal.Gen Cert.OutWeightIdeal.Value Cert.Proof.Prod
open Idealize.ShloMosaic Idealize.ShloMosaic.TcCoe Idealize.ShloMosaic.Tactic

/-! ## At a point -/

theorem first_at (x : FVec Ideal S2048x1024 .bf16) (y : FVec Ideal S2048x1024 .f32) (j : S1024x1024.Idx) :
    k0_pay2 (F := Ideal) x y j = tn (A := 1024) (B := 2048) (C := 1024) x y j := by
  obtain ⟨r, l, rfl⟩ : ∃ r l, j = ix2 r l := ⟨j 0, j 1, eq_ix2 j⟩
  unfold tn
  pointwise [k0_pay2, k0_pay1]
theorem later_at (x : FVec Ideal S2048x1024 .bf16) (y : FVec Ideal S2048x1024 .f32) (a : FVec Ideal S1024x1024 .f32) (j : S1024x1024.Idx) :
    k0_pay3 (F := Ideal) x y a j = a j + tn (A := 1024) (B := 2048) (C := 1024) x y j := by
  obtain ⟨r, l, rfl⟩ : ∃ r l, j = ix2 r l := ⟨j 0, j 1, eq_ix2 j⟩
  unfold tn
  pointwise [k0_pay3, k0_pay1]

section
variable (m : (ℓ : Loc nD τ sig) → Buf (Elt Ideal) ℓ) (c : Dev nD)

/-- What the sum holds when its block is written. -/
theorem held (t : Fin cfg0.N) (hr : t.val % 4 = 3) (j : S1024x1024.Idx) :
    (outsAt0 m c t.val t.isLt).2 j = ∑ s : Fin 4, tn (A := 1024) (B := 2048) (C := 1024) (iblk m c 0 ⟨4 * (t.val / 4) + s.val, Pipeline.run_point_lt_of_flush t hr s⟩)
      (iblk m c 1 ⟨4 * (t.val / 4) + s.val, Pipeline.run_point_lt_of_flush t hr s⟩) j := by
  refine (Pipeline.eq_sum_fin_of_reset_step_apply_of_flush (fun n h => (outsAt0 m c n h).2) 4 (fun _ => (0 : EReal))
    (fun t => tn (A := 1024) (B := 2048) (C := 1024) (iblk m c 0 t) (iblk m c 1 t)) (fun t h i => ?_) (fun t h i => ?_) t hr j).trans (zero_add _)
  · rw [outsAt0_A m c t h (by omega) (by omega)]
    frame_out
    rw [first_at, zero_add]
  · by_cases h3 : t.val % 4 = 3
    · rw [outsAt0_C m c t h (by omega) h3]
      frame_out
      rw [later_at]
      exact congrArg (· + _) (congrFun (Memref.IsWhole.read_unread _ _) i)
    · rw [outsAt0_B m c t h (by omega) h3]
      frame_out
      rw [later_at]
      exact congrArg (· + _) (congrFun (Memref.IsWhole.read_unread _ _) i)

/-- What is written is what the sum holds. -/
theorem written (t : Fin cfg0.N) (hr : t.val % 4 = 3) (j : S1024x1024.Idx) : (outsAt0 m c t.val t.isLt).1 j = (outsAt0 m c t.val t.isLt).2 j := by
  rw [outsAt0_C m c t (by omega) (by omega) hr]
  frame_out
  pointwise [k0_pay4]

/-! ## The blocks of the arguments -/

theorem idx : ∀ t : Fin cfg0.N, win0_0.index t = ![t.val % 4, t.val / 8] ∧ win0_1.index t = ![t.val % 4, t.val / 4 % 2] :=
  (by decide +kernel : ∀ t : Fin grid0.N, _)

/-- The arguments as arrays of numbers. -/
def H : S8192x2048.Idx → EReal := (m ((c : Thread nD τ).loc main_arg0) : FVec Ideal S8192x2048 .f32)
def Z : S8192x2048.Idx → EReal := (m ((c : Thread nD τ).loc main_arg2) : FVec Ideal S8192x2048 .f32)

theorem rows_eq : (V m c main_v0 : S8192x2048.Idx → EReal) = H m c := by
  unfold V H
  after_results_simp
  rfl
theorem grads_eq : (V m c main_arg2 : S8192x2048.Idx → EReal) = Z m c := by
  unfold V Z
  after_results_simp

theorem rows_at (t : Fin cfg0.N) (k : Fin 2048) (r : Fin 1024) (hk : t.val % 4 * 2048 + k < 8192) (hr : t.val / 8 * 1024 + r < 2048) :
    (iblk m c 0 t : S2048x1024.Idx → EReal) (ix2 k r) = H m c (ix2 ⟨t.val % 4 * 2048 + k, hk⟩ ⟨t.val / 8 * 1024 + r, hr⟩) := by
  rw [← rows_eq]
  blk_ext [iblk, idx t]
theorem grads_at (t : Fin cfg0.N) (k : Fin 2048) (l : Fin 1024) (hk : t.val % 4 * 2048 + k < 8192) (hl : t.val / 4 % 2 * 1024 + l < 2048) :
    (iblk m c 1 t : S2048x1024.Idx → EReal) (ix2 k l) = Z m c (ix2 ⟨t.val % 4 * 2048 + k, hk⟩ ⟨t.val / 4 % 2 * 1024 + l, hl⟩) := by
  rw [← grads_eq]
  blk_ext [iblk, idx t]

/-! ## The result -/

theorem result_at (i : S2048x2048.Idx) : (G2 m c : S2048x2048.Idx → EReal) i = tn (A := 2048) (B := 8192) (C := 2048) (H m c) (Z m c) i := by
  have h0 : (i 0).val < 2048 := (i 0).isLt
  have h1 : (i 1).val < 2048 := (i 1).isLt
  have hN : cfg0.N = 16 := N_0
  have hp : pt2Of i < cfg0.N := by rw [hN]; unfold pt2Of run2Of; omega
  have hr : pt2Of i % 4 = 3 := by unfold pt2Of; omega
  unfold G2
  rw [dif_pos hp, ← outsAt0_sweep]
  refine (written m c ⟨_, hp⟩ hr _).trans ((held m c ⟨_, hp⟩ hr _).trans ?_)
  unfold tn
  refine Fin.sum_mul_add_congr fun s k hl => ?_
  have e : (4 * (pt2Of i / 4) + s.val) % 4 = s := by omega
  have e0 : (4 * (pt2Of i / 4) + s.val) / 8 * 1024 + (i 0).val % 1024 = (i 0).val := by unfold pt2Of run2Of; omega
  have e1 : (4 * (pt2Of i / 4) + s.val) / 4 % 2 * 1024 + (i 1).val % 1024 = (i 1).val := by unfold pt2Of run2Of; omega
  refine congrArg₂ (· * ·) ((rows_at m c _ k ⟨(i 0).val % 1024, by omega⟩ (by dsimp only; omega) (by dsimp only; omega)).trans ?_)
    ((grads_at m c _ k ⟨(i 1).val % 1024, by omega⟩ (by dsimp only; omega) (by dsimp only; omega)).trans ?_)
  · exact congrArg (H m c) (congrArg₂ ix2 (Fin.ext (by dsimp only; rw [e])) (Fin.ext e0))
  · exact congrArg (Z m c) (congrArg₂ ix2 (Fin.ext (by dsimp only; rw [e])) (Fin.ext e1))
end

end Cert.Proof.OutWeightIdeal

end
-- ==== Proof.Prod.BranchRow.lean ====
module

public import proofs.«01_k».proof.Defs
public import proofs.«01_k».proof.Proof.Prod.Sums
public import proofs.«01_k».proof.Proof.Gen.BranchRowIdeal.Value
public import Idealize.ShloMosaic.Lib.Claim
public import Idealize.ShloMosaic.Lib.Tactic
public import Idealize.ShloMosaic.Lib.Pipeline.ValueKit

/-!
The gradient of a branch's rows: each block of the result is one product of two blocks of rows.
-/

@[expose] public section

set_option maxRecDepth 16384

noncomputable section

namespace Cert.Proof.BranchRowIdeal

open Cert.BranchRowIdeal Cert.BranchRowIdeal.Gen Cert.BranchRowIdeal.Value Cert.Proof.Prod
open Idealize.ShloMosaic Idealize.ShloMosaic.TcCoe Idealize.ShloMosaic.Tactic

/-- What the body leaves is the product of its two blocks. -/
theorem body_at (x : FVec Ideal S1024x2048 .bf16) (y : FVec Ideal S1024x2048 .bf16) (j : S1024x1024.Idx) : out0_2 (F := Ideal) x y j = nt (A := 1024) (B := 2048) (C := 1024) x y j := by
  obtain ⟨r, l, rfl⟩ : ∃ r l, j = ix2 r l := ⟨j 0, j 1, eq_ix2 j⟩
  frame_out
  unfold nt
  pointwise [k0_pay1]

section
variable (m : (ℓ : Loc nD τ sig) → Buf (Elt Ideal) ℓ) (c : Dev nD)

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- The arguments as arrays of numbers. -/
def X : S8192x2048.Idx → EReal := (m ((c : Thread nD τ).loc main_arg2) : FVec Ideal S8192x2048 .f32)
def W : S2048x2048.Idx → EReal := (m ((c : Thread nD τ).loc main_arg1) : FVec Ideal S2048x2048 .f32)
theorem x_eq : (V m c main_v0 : S8192x2048.Idx → EReal) = X m c := by
  unfold V X
  after_results_simp
  rfl
theorem w_eq : (V m c main_v1 : S2048x2048.Idx → EReal) = W m c := by
  unfold V W
  after_results_simp
  rfl

theorem x_at (t : Fin cfg0.N) (r : Fin 1024) (k : Fin 2048) (hr : t.val / 2 * 1024 + r < 8192) :
    (iblk m c 0 t : S1024x2048.Idx → EReal) (ix2 r k) = X m c (ix2 ⟨t.val / 2 * 1024 + r, hr⟩ k) := by
  rw [← x_eq]
  blk_ext [iblk, idx t]
theorem w_at (t : Fin cfg0.N) (l : Fin 1024) (k : Fin 2048) (hl : t.val % 2 * 1024 + l < 2048) :
    (iblk m c 1 t : S1024x2048.Idx → EReal) (ix2 l k) = W m c (ix2 ⟨t.val % 2 * 1024 + l, hl⟩ k) := by
  rw [← w_eq]
  blk_ext [iblk, idx t]

/-- What a point writes is its block of the product. -/
theorem flushed_eq (t : Fin cfg0.N) :
    (dats m 0 c).flushed 2 t = ((cfg0.win 2).blk t).view.read (Elt Ideal) (nt (A := 8192) (B := 2048) (C := 2048) (X m c) (W m c) : S8192x2048.Idx → EReal) := by
  have ht : t.val < 16 := Nat.lt_of_lt_of_eq t.isLt N_0
  rw [flushed2]
  funext y
  obtain ⟨e0, e1, e2⟩ := idx t
  have y0 : (y 0).val < 1024 := (y 0).isLt
  have y1 : (y 1).val < 1024 := (y 1).isLt
  have a0 : (((cfg0.win 2).blk t).view.emb y 0).val = win0_2.index t (0 : Fin 2) * 1024 + 1 * (y 0).val := rfl
  have a1 : (((cfg0.win 2).blk t).view.emb y 1).val = win0_2.index t (1 : Fin 2) * 1024 + 1 * (y 1).val := rfl
  rw [e2] at a0 a1
  have b0 : (((cfg0.win 2).blk t).view.emb y 0).val = t.val / 2 * 1024 + 1 * (y 0).val := a0
  have b1 : (((cfg0.win 2).blk t).view.emb y 1).val = t.val % 2 * 1024 + 1 * (y 1).val := a1
  show out0_2 (F := Ideal) (iblk m c 0 t) (iblk m c 1 t) ((cfg0.win 2).xinj (grid0.coords t) y)
    = nt (A := 8192) (B := 2048) (C := 2048) (X m c) (W m c) (((cfg0.win 2).blk t).view.emb y)
  rw [body_at]
  unfold nt
  refine Finset.sum_congr rfl fun k _ => congrArg₂ (· * ·) ((x_at m c t ⟨(y 0).val, y0⟩ k (by dsimp only; omega)).trans ?_)
    ((w_at m c t ⟨(y 1).val, y1⟩ k (by dsimp only; omega)).trans ?_)
  · exact congrArg (X m c) (congrArg₂ ix2 (Fin.ext (Eq.trans (by dsimp only; omega) b0.symm)) rfl)
  · exact congrArg (W m c) (congrArg₂ ix2 (Fin.ext (Eq.trans (by dsimp only; omega) b1.symm)) rfl)

/-- The blocks fill the result. -/
theorem final : (dats m 0 c).arrAt 2 cfg0.N = (nt (A := 8192) (B := 2048) (C := 2048) (X m c) (W m c) : S8192x2048.Idx → EReal) := by
  refine (dats m 0 c).arrAt_eq_of_cover 2 _ (fun t _ => flushed_eq m c t) fun i => ?_
  have i0 : (i 0).val < 8192 := (i 0).isLt
  have i1 : (i 1).val < 2048 := (i 1).isLt
  refine ⟨⟨(i 0).val / 1024 * 2 + (i 1).val / 1024, Nat.lt_of_lt_of_eq (by omega) N_0.symm⟩, flush0_2 _, ?_⟩
  generalize ht : (⟨(i 0).val / 1024 * 2 + (i 1).val / 1024, Nat.lt_of_lt_of_eq (by omega) N_0.symm⟩ : Fin cfg0.N) = t
  have hv : t.val = (i 0).val / 1024 * 2 + (i 1).val / 1024 := by rw [← ht]
  show i ∈ ((View.whole main_v2).slice (win0_2.rect t)).set
  rw [View.set_slice_whole, Rect.mem_set_unit]
  have e0 : win0_2.index t (0 : Fin 2) = t.val / 2 := congrFun (idx t).2.2 0
  have e1 : win0_2.index t (1 : Fin 2) = t.val % 2 := congrFun (idx t).2.2 1
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega
end

end Cert.Proof.BranchRowIdeal

end
-- ==== Proof.Prod.OutRow.lean ====
module

public import proofs.«01_k».proof.Defs
public import proofs.«01_k».proof.Proof.Prod.Sums
public import proofs.«01_k».proof.Proof.Gen.OutRowIdeal.Value
public import Idealize.ShloMosaic.Lib.Claim
public import Idealize.ShloMosaic.Lib.Tactic
public import Idealize.ShloMosaic.Lib.Pipeline.ValueKit

/-!
The gradient of the last projection's rows: each block of the result is one product of two blocks of rows.
-/

@[expose] public section

set_option maxRecDepth 16384

noncomputable section

namespace Cert.Proof.OutRowIdeal

open Cert.OutRowIdeal Cert.OutRowIdeal.Gen Cert.OutRowIdeal.Value Cert.Proof.Prod
open Idealize.ShloMosaic Idealize.ShloMosaic.TcCoe Idealize.ShloMosaic.Tactic

/-- What the body leaves is the product of its two blocks. -/
theorem body_at (x : FVec Ideal S1024x2048 .f32) (y : FVec Ideal S1024x2048 .bf16) (j : S1024x1024.Idx) : out0_2 (F := Ideal) x y j = nt (A := 1024) (B := 2048) (C := 1024) x y j := by
  obtain ⟨r, l, rfl⟩ : ∃ r l, j = ix2 r l := ⟨j 0, j 1, eq_ix2 j⟩
  frame_out
  unfold nt
  pointwise [k0_pay1]

section
variable (m : (ℓ : Loc nD τ sig) → Buf (Elt Ideal) ℓ) (c : Dev nD)

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- The arguments as arrays of numbers. -/
def X : S8192x2048.Idx → EReal := (m ((c : Thread nD τ).loc main_arg2) : FVec Ideal S8192x2048 .f32)
def W : S2048x2048.Idx → EReal := (m ((c : Thread nD τ).loc main_arg1) : FVec Ideal S2048x2048 .f32)
theorem x_eq : (V m c main_arg2 : S8192x2048.Idx → EReal) = X m c := by
  unfold V X
  after_results_simp
theorem w_eq : (V m c main_v0 : S2048x2048.Idx → EReal) = W m c := by
  unfold V W
  after_results_simp
  rfl

theorem x_at (t : Fin cfg0.N) (r : Fin 1024) (k : Fin 2048) (hr : t.val / 2 * 1024 + r < 8192) :
    (iblk m c 0 t : S1024x2048.Idx → EReal) (ix2 r k) = X m c (ix2 ⟨t.val / 2 * 1024 + r, hr⟩ k) := by
  rw [← x_eq]
  blk_ext [iblk, idx t]
theorem w_at (t : Fin cfg0.N) (l : Fin 1024) (k : Fin 2048) (hl : t.val % 2 * 1024 + l < 2048) :
    (iblk m c 1 t : S1024x2048.Idx → EReal) (ix2 l k) = W m c (ix2 ⟨t.val % 2 * 1024 + l, hl⟩ k) := by
  rw [← w_eq]
  blk_ext [iblk, idx t]

/-- What a point writes is its block of the product. -/
theorem flushed_eq (t : Fin cfg0.N) :
    (dats m 0 c).flushed 2 t = ((cfg0.win 2).blk t).view.read (Elt Ideal) (nt (A := 8192) (B := 2048) (C := 2048) (X m c) (W m c) : S8192x2048.Idx → EReal) := by
  have ht : t.val < 16 := Nat.lt_of_lt_of_eq t.isLt N_0
  rw [flushed2]
  funext y
  obtain ⟨e0, e1, e2⟩ := idx t
  have y0 : (y 0).val < 1024 := (y 0).isLt
  have y1 : (y 1).val < 1024 := (y 1).isLt
  have a0 : (((cfg0.win 2).blk t).view.emb y 0).val = win0_2.index t (0 : Fin 2) * 1024 + 1 * (y 0).val := rfl
  have a1 : (((cfg0.win 2).blk t).view.emb y 1).val = win0_2.index t (1 : Fin 2) * 1024 + 1 * (y 1).val := rfl
  rw [e2] at a0 a1
  have b0 : (((cfg0.win 2).blk t).view.emb y 0).val = t.val / 2 * 1024 + 1 * (y 0).val := a0
  have b1 : (((cfg0.win 2).blk t).view.emb y 1).val = t.val % 2 * 1024 + 1 * (y 1).val := a1
  show out0_2 (F := Ideal) (iblk m c 0 t) (iblk m c 1 t) ((cfg0.win 2).xinj (grid0.coords t) y)
    = nt (A := 8192) (B := 2048) (C := 2048) (X m c) (W m c) (((cfg0.win 2).blk t).view.emb y)
  rw [body_at]
  unfold nt
  refine Finset.sum_congr rfl fun k _ => congrArg₂ (· * ·) ((x_at m c t ⟨(y 0).val, y0⟩ k (by dsimp only; omega)).trans ?_)
    ((w_at m c t ⟨(y 1).val, y1⟩ k (by dsimp only; omega)).trans ?_)
  · exact congrArg (X m c) (congrArg₂ ix2 (Fin.ext (Eq.trans (by dsimp only; omega) b0.symm)) rfl)
  · exact congrArg (W m c) (congrArg₂ ix2 (Fin.ext (Eq.trans (by dsimp only; omega) b1.symm)) rfl)

/-- The blocks fill the result. -/
theorem final : (dats m 0 c).arrAt 2 cfg0.N = (nt (A := 8192) (B := 2048) (C := 2048) (X m c) (W m c) : S8192x2048.Idx → EReal) := by
  refine (dats m 0 c).arrAt_eq_of_cover 2 _ (fun t _ => flushed_eq m c t) fun i => ?_
  have i0 : (i 0).val < 8192 := (i 0).isLt
  have i1 : (i 1).val < 2048 := (i 1).isLt
  refine ⟨⟨(i 0).val / 1024 * 2 + (i 1).val / 1024, Nat.lt_of_lt_of_eq (by omega) N_0.symm⟩, flush0_2 _, ?_⟩
  generalize ht : (⟨(i 0).val / 1024 * 2 + (i 1).val / 1024, Nat.lt_of_lt_of_eq (by omega) N_0.symm⟩ : Fin cfg0.N) = t
  have hv : t.val = (i 0).val / 1024 * 2 + (i 1).val / 1024 := by rw [← ht]
  show i ∈ ((View.whole main_v1).slice (win0_2.rect t)).set
  rw [View.set_slice_whole, Rect.mem_set_unit]
  have e0 : win0_2.index t (0 : Fin 2) = t.val / 2 := congrFun (idx t).2.2 0
  have e1 : win0_2.index t (1 : Fin 2) = t.val % 2 := congrFun (idx t).2.2 1
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega
end

end Cert.Proof.OutRowIdeal

end
-- ==== Proof.Prod.Out.lean ====
module

public import proofs.«01_k».proof.Defs
public import proofs.«01_k».proof.Proof.Prod.Sums
public import proofs.«01_k».proof.Proof.Gen.OutIdeal.Value
public import Idealize.ShloMosaic.Lib.Claim
public import Idealize.ShloMosaic.Lib.Tactic
public import Idealize.ShloMosaic.Lib.Pipeline.ValueKit

/-!
The last projection: each block of the result is one product of a block of rows and a block of columns,
added to its block of the residual.
-/

@[expose] public section

set_option maxRecDepth 16384

noncomputable section

namespace Cert.Proof.OutIdeal

open Cert.OutIdeal Cert.OutIdeal.Gen Cert.OutIdeal.Value Cert.Proof.Prod
open Idealize.ShloMosaic Idealize.ShloMosaic.TcCoe Idealize.ShloMosaic.Tactic

/-- What the body leaves is the product of two blocks and the third. -/
theorem body_at (x : FVec Ideal S1024x2048 .bf16) (y : FVec Ideal S2048x1024 .bf16) (z : FVec Ideal S1024x1024 .f32) (j : S1024x1024.Idx) :
    out0_3 (F := Ideal) x y z j = nn (A := 1024) (B := 2048) (C := 1024) x y j + (z : S1024x1024.Idx → EReal) j := by
  obtain ⟨r, l, rfl⟩ : ∃ r l, j = ix2 r l := ⟨j 0, j 1, eq_ix2 j⟩
  frame_out
  unfold nn
  pointwise [k0_pay1]

section
variable (m : (ℓ : Loc nD τ sig) → Buf (Elt Ideal) ℓ) (c : Dev nD)

theorem idx : ∀ t : Fin cfg0.N, win0_0.index t = ![t.val / 2, 0] ∧ win0_1.index t = ![0, t.val % 2] ∧ win0_2.index t = ![t.val / 2, t.val % 2] ∧ win0_3.index t = ![t.val / 2, t.val % 2] :=
  (by decide +kernel : ∀ t : Fin grid0.N, _)

/-- The arguments as arrays of numbers. -/
def X : S8192x2048.Idx → EReal := (m ((c : Thread nD τ).loc main_arg0) : FVec Ideal S8192x2048 .f32)
def W : S2048x2048.Idx → EReal := (m ((c : Thread nD τ).loc main_arg1) : FVec Ideal S2048x2048 .f32)
/-- The residual. -/
def Y : S8192x2048.Idx → EReal := (m ((c : Thread nD τ).loc main_arg2) : FVec Ideal S8192x2048 .f32)
theorem y_eq : (V m c main_arg2 : S8192x2048.Idx → EReal) = Y m c := by
  unfold V Y
  after_results_simp
theorem x_eq : (V m c main_v0 : S8192x2048.Idx → EReal) = X m c := by
  unfold V X
  after_results_simp
  rfl
theorem w_eq : (V m c main_v1 : S2048x2048.Idx → EReal) = W m c := by
  unfold V W
  after_results_simp
  rfl

theorem x_at (t : Fin cfg0.N) (r : Fin 1024) (k : Fin 2048) (hr : t.val / 2 * 1024 + r < 8192) :
    (iblk m c 0 t : S1024x2048.Idx → EReal) (ix2 r k) = X m c (ix2 ⟨t.val / 2 * 1024 + r, hr⟩ k) := by
  rw [← x_eq]
  blk_ext [iblk, idx t]
theorem w_at (t : Fin cfg0.N) (k : Fin 2048) (l : Fin 1024) (hl : t.val % 2 * 1024 + l < 2048) :
    (iblk m c 1 t : S2048x1024.Idx → EReal) (ix2 k l) = W m c (ix2 k ⟨t.val % 2 * 1024 + l, hl⟩) := by
  rw [← w_eq]
  blk_ext [iblk, idx t]

theorem y_at (t : Fin cfg0.N) (r : Fin 1024) (l : Fin 1024) (hr : t.val / 2 * 1024 + r < 8192) (hl : t.val % 2 * 1024 + l < 2048) :
    (iblk m c 2 t : S1024x1024.Idx → EReal) (ix2 r l) = Y m c (ix2 ⟨t.val / 2 * 1024 + r, hr⟩ ⟨t.val % 2 * 1024 + l, hl⟩) := by
  rw [← y_eq]
  blk_ext [iblk, idx t]

/-- The product and the residual. -/
def total (x : S8192x2048.Idx → EReal) (w : S2048x2048.Idx → EReal) (y : S8192x2048.Idx → EReal) (i : S8192x2048.Idx) : EReal :=
  nn (A := 8192) (B := 2048) (C := 2048) x w i + y i

/-- What a point writes is its block of the product. -/
theorem flushed_eq (t : Fin cfg0.N) :
    (dats m 0 c).flushed 3 t = ((cfg0.win 3).blk t).view.read (Elt Ideal) (total (X m c) (W m c) (Y m c) : S8192x2048.Idx → EReal) := by
  have ht : t.val < 16 := Nat.lt_of_lt_of_eq t.isLt N_0
  rw [flushed3]
  funext y
  obtain ⟨e0, e1, e3, e2⟩ := idx t
  have y0 : (y 0).val < 1024 := (y 0).isLt
  have y1 : (y 1).val < 1024 := (y 1).isLt
  have a0 : (((cfg0.win 3).blk t).view.emb y 0).val = win0_3.index t (0 : Fin 2) * 1024 + 1 * (y 0).val := rfl
  have a1 : (((cfg0.win 3).blk t).view.emb y 1).val = win0_3.index t (1 : Fin 2) * 1024 + 1 * (y 1).val := rfl
  rw [e2] at a0 a1
  have b0 : (((cfg0.win 3).blk t).view.emb y 0).val = t.val / 2 * 1024 + 1 * (y 0).val := a0
  have b1 : (((cfg0.win 3).blk t).view.emb y 1).val = t.val % 2 * 1024 + 1 * (y 1).val := a1
  show out0_3 (F := Ideal) (iblk m c 0 t) (iblk m c 1 t) (iblk m c 2 t) ((cfg0.win 3).xinj (grid0.coords t) y)
    = total (X m c) (W m c) (Y m c) (((cfg0.win 3).blk t).view.emb y)
  rw [body_at]
  unfold total nn
  refine congrArg₂ (· + ·) ?_ ((congrArg (iblk m c 2 t : S1024x1024.Idx → EReal) (eq_ix2 ((cfg0.win 3).xinj (grid0.coords t) y))).trans <| (y_at m c t ⟨(y 0).val, y0⟩ ⟨(y 1).val, y1⟩ (by dsimp only; omega) (by dsimp only; omega)).trans
    (congrArg (Y m c) ((congrArg₂ ix2 (Fin.ext (Eq.trans (by dsimp only; omega) b0.symm)) (Fin.ext (Eq.trans (by dsimp only; omega) b1.symm))).trans (eq_ix2 _).symm)))
  refine Finset.sum_congr rfl fun k _ => congrArg₂ (· * ·) ((x_at m c t ⟨(y 0).val, y0⟩ k (by dsimp only; omega)).trans ?_)
    ((w_at m c t k ⟨(y 1).val, y1⟩ (by dsimp only; omega)).trans ?_)
  · exact congrArg (X m c) (congrArg₂ ix2 (Fin.ext (Eq.trans (by dsimp only; omega) b0.symm)) rfl)
  · exact congrArg (W m c) (congrArg₂ ix2 rfl (Fin.ext (Eq.trans (by dsimp only; omega) b1.symm)))

/-- The blocks fill the result. -/
theorem final : (dats m 0 c).arrAt 3 cfg0.N = (total (X m c) (W m c) (Y m c) : S8192x2048.Idx → EReal) := by
  refine (dats m 0 c).arrAt_eq_of_cover 3 _ (fun t _ => flushed_eq m c t) fun i => ?_
  have i0 : (i 0).val < 8192 := (i 0).isLt
  have i1 : (i 1).val < 2048 := (i 1).isLt
  refine ⟨⟨(i 0).val / 1024 * 2 + (i 1).val / 1024, Nat.lt_of_lt_of_eq (by omega) N_0.symm⟩, flush0_3 _, ?_⟩
  generalize ht : (⟨(i 0).val / 1024 * 2 + (i 1).val / 1024, Nat.lt_of_lt_of_eq (by omega) N_0.symm⟩ : Fin cfg0.N) = t
  have hv : t.val = (i 0).val / 1024 * 2 + (i 1).val / 1024 := by rw [← ht]
  show i ∈ ((View.whole main_v2).slice (win0_3.rect t)).set
  rw [View.set_slice_whole, Rect.mem_set_unit]
  have e0 : win0_3.index t (0 : Fin 2) = t.val / 2 := congrFun (idx t).2.2.2 0
  have e1 : win0_3.index t (1 : Fin 2) = t.val % 2 := congrFun (idx t).2.2.2 1
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega
end

end Cert.Proof.OutIdeal

end
-- ==== Proof.Prod.Refs.lean ====
module

public import proofs.«01_k».proof.Defs
public import proofs.«01_k».proof.Proof.Prod.Sums
public import proofs.«01_k».proof.Proof.Gen.InRefIdeal.Run
public import proofs.«01_k».proof.Proof.Gen.BranchRefIdeal.Run
public import proofs.«01_k».proof.Proof.Gen.SquareRowRefIdeal.Run
public import proofs.«01_k».proof.Proof.Gen.SquareWeightRefIdeal.Run
public import proofs.«01_k».proof.Proof.Gen.OutRefIdeal.Run
public import Idealize.ShloMosaic.Lib.Claim
public import Idealize.ShloMosaic.Lib.Tactic

/-!
The references' products, entry by entry.
-/

@[expose] public section

set_option maxRecDepth 16384

noncomputable section

namespace Cert.Proof.InRefIdeal

open Cert.InRefIdeal Cert.InRefIdeal.Gen Cert.Proof.Prod
open Idealize.ShloMosaic Idealize.ShloMosaic.TcCoe Idealize.ShloMosaic.Tactic

/-- The reference's product. -/
theorem result_at (x : FVec Ideal S8192x2048 .f32) (w : FVec Ideal S2048x11520 .f32) (i : S8192x11520.Idx) :
    (Host.dotGeneral dot_S8192x2048_S2048x11520_S8192x11520_1_0_0_1_n_n none x w : FVec Ideal S8192x11520 .f32) i = nn (A := 8192) (B := 2048) (C := 11520) x w i := by
  obtain ⟨r, l, rfl⟩ : ∃ r l, i = ix2 r l := ⟨i 0, i 1, eq_ix2 i⟩
  unfold nn
  pointwise []

end Cert.Proof.InRefIdeal

namespace Cert.Proof.BranchRefIdeal

open Cert.BranchRefIdeal Cert.BranchRefIdeal.Gen Cert.Proof.Prod
open Idealize.ShloMosaic Idealize.ShloMosaic.TcCoe Idealize.ShloMosaic.Tactic

theorem result_at (x : FVec Ideal S8192x2048 .f32) (w : FVec Ideal S2048x2048 .f32) (i : S8192x2048.Idx) :
    (Host.dotGeneral dot_S8192x2048_S2048x2048_S8192x2048_1_0_0_1_n_n none x w : FVec Ideal S8192x2048 .f32) i = nn (A := 8192) (B := 2048) (C := 2048) x w i := by
  obtain ⟨r, l, rfl⟩ : ∃ r l, i = ix2 r l := ⟨i 0, i 1, eq_ix2 i⟩
  unfold nn
  pointwise []

end Cert.Proof.BranchRefIdeal

namespace Cert.Proof.SquareRowRefIdeal

open Cert.SquareRowRefIdeal Cert.SquareRowRefIdeal.Gen Cert.Proof.Prod
open Idealize.ShloMosaic Idealize.ShloMosaic.TcCoe Idealize.ShloMosaic.Tactic

theorem result_at (z : FVec Ideal S8192x2048 .f32) (w : FVec Ideal S2048x2048 .f32) (i : S8192x2048.Idx) :
    (Host.dotGeneral dot_S8192x2048_S2048x2048_S8192x2048_1_1_0_0_n_n none z w : FVec Ideal S8192x2048 .f32) i = nt (A := 8192) (B := 2048) (C := 2048) z w i := by
  obtain ⟨r, l, rfl⟩ : ∃ r l, i = ix2 r l := ⟨i 0, i 1, eq_ix2 i⟩
  unfold nt
  pointwise []

end Cert.Proof.SquareRowRefIdeal

namespace Cert.Proof.SquareWeightRefIdeal

open Cert.SquareWeightRefIdeal Cert.SquareWeightRefIdeal.Gen Cert.Proof.Prod
open Idealize.ShloMosaic Idealize.ShloMosaic.TcCoe Idealize.ShloMosaic.Tactic

/-- The same sum, its factors the other way round. -/
theorem result_at (x : FVec Ideal S8192x2048 .f32) (z : FVec Ideal S8192x2048 .f32) (i : S2048x2048.Idx) :
    (truncf .bf16 (transpose S2048x2048 [1, 0] (Host.dotGeneral dot_S8192x2048_S8192x2048_S2048x2048_0_0_1_1_n_n none z x) transposes_S2048x2048_S2048x2048_1_0) bitsLt_bf16_f32 : FVec Ideal S2048x2048 .bf16) i
      = tn (A := 2048) (B := 8192) (C := 2048) x z i := by
  obtain ⟨r, l, rfl⟩ : ∃ r l, i = ix2 r l := ⟨i 0, i 1, eq_ix2 i⟩
  unfold tn
  refine Eq.trans ?_ (Finset.sum_congr rfl fun x _ => mul_comm _ _)
  pointwise []

end Cert.Proof.SquareWeightRefIdeal

namespace Cert.Proof.OutRefIdeal

open Cert.OutRefIdeal Cert.OutRefIdeal.Gen Cert.Proof.Prod
open Idealize.ShloMosaic Idealize.ShloMosaic.TcCoe Idealize.ShloMosaic.Tactic

/-- The residual and the product. -/
theorem result_at (x : FVec Ideal S8192x2048 .f32) (w : FVec Ideal S2048x2048 .f32) (y : FVec Ideal S8192x2048 .f32) (i : S8192x2048.Idx) :
    (addf y (Host.dotGeneral dot_S8192x2048_S2048x2048_S8192x2048_1_0_0_1_n_n none x w) : FVec Ideal S8192x2048 .f32) i = nn (A := 8192) (B := 2048) (C := 2048) x w i + (y : S8192x2048.Idx → EReal) i := by
  obtain ⟨r, l, rfl⟩ : ∃ r l, i = ix2 r l := ⟨i 0, i 1, eq_ix2 i⟩
  unfold nn
  refine Eq.trans ?_ (add_comm _ _)
  pointwise []

end Cert.Proof.OutRefIdeal

end
-- ==== Proof.Prod.Calls.lean ====
module

public import proofs.«01_k».proof.Defs
public import proofs.«01_k».proof.Proof.Gen.In
public import proofs.«01_k».proof.Proof.Gen.InIdeal.Value
public import proofs.«01_k».proof.Proof.Prod.In
public import proofs.«01_k».proof.Proof.Gen.Branch
public import proofs.«01_k».proof.Proof.Gen.BranchIdeal.Value
public import proofs.«01_k».proof.Proof.Prod.Branch
public import proofs.«01_k».proof.Proof.Gen.BranchWeight
public import proofs.«01_k».proof.Proof.Gen.BranchWeightIdeal.Value
public import proofs.«01_k».proof.Proof.Prod.BranchWeight
public import proofs.«01_k».proof.Proof.Gen.OutWeight
public import proofs.«01_k».proof.Proof.Gen.OutWeightIdeal.Value
public import proofs.«01_k».proof.Proof.Prod.OutWeight
public import proofs.«01_k».proof.Proof.Gen.BranchRow
public import proofs.«01_k».proof.Proof.Gen.BranchRowIdeal.Value
public import proofs.«01_k».proof.Proof.Prod.BranchRow
public import proofs.«01_k».proof.Proof.Gen.OutRow
public import proofs.«01_k».proof.Proof.Gen.OutRowIdeal.Value
public import proofs.«01_k».proof.Proof.Prod.OutRow
public import proofs.«01_k».proof.Proof.Gen.Out
public import proofs.«01_k».proof.Proof.Gen.OutIdeal.Value
public import proofs.«01_k».proof.Proof.Prod.Out
public import proofs.«01_k».proof.Proof.Gen.InRefIdeal.Run
public import proofs.«01_k».proof.Proof.Gen.InRef.Run
public import proofs.«01_k».proof.Proof.Gen.BranchRefIdeal.Run
public import proofs.«01_k».proof.Proof.Gen.BranchRef.Run
public import proofs.«01_k».proof.Proof.Gen.SquareWeightRefIdeal.Run
public import proofs.«01_k».proof.Proof.Gen.SquareWeightRef.Run
public import proofs.«01_k».proof.Proof.Gen.SquareRowRefIdeal.Run
public import proofs.«01_k».proof.Proof.Gen.SquareRowRef.Run
public import proofs.«01_k».proof.Proof.Gen.OutRefIdeal.Run
public import proofs.«01_k».proof.Proof.Gen.OutRef.Run
public import proofs.«01_k».proof.Proof.Prod.Refs
public import Idealize.ShloMosaic.PureOps.IdealRules

/-!
The products on their own: what each call ends with, and that it is what its reference ends with.
-/

@[expose] public section

noncomputable section

namespace Cert.Proof

open Idealize.ShloMosaic Idealize.SL.Sem

/-! ## The references -/

theorem in_frame_ri : Cert.quiescent_InRefIdeal := fun m g _ =>
  (θ_run Cert.InRefIdeal.defs _ _).mono (fun r h => ⟨fun c => (h c).2, sem_eq_zero_of_no_sems (by decide) r.2⟩)
    (Cert.InRefIdeal.Value.run m g)
theorem in_frame_r : Cert.quiescent_InRef := fun m g _ =>
  (θ_run Cert.InRefIdeal.defs _ _).mono (fun r h => ⟨fun c => (h c).2, sem_eq_zero_of_no_sems (by decide) r.2⟩)
    (Cert.InRefIdeal.Value.run (F := Bits) m g)

theorem branch_frame_ri : Cert.quiescent_BranchRefIdeal := fun m g _ =>
  (θ_run Cert.BranchRefIdeal.defs _ _).mono (fun r h => ⟨fun c => (h c).2, sem_eq_zero_of_no_sems (by decide) r.2⟩)
    (Cert.BranchRefIdeal.Value.run m g)
theorem branch_frame_r : Cert.quiescent_BranchRef := fun m g _ =>
  (θ_run Cert.BranchRefIdeal.defs _ _).mono (fun r h => ⟨fun c => (h c).2, sem_eq_zero_of_no_sems (by decide) r.2⟩)
    (Cert.BranchRefIdeal.Value.run (F := Bits) m g)

theorem square_weight_frame_ri : Cert.quiescent_SquareWeightRefIdeal := fun m g _ =>
  (θ_run Cert.SquareWeightRefIdeal.defs _ _).mono (fun r h => ⟨fun c => (h c).2, sem_eq_zero_of_no_sems (by decide) r.2⟩)
    (Cert.SquareWeightRefIdeal.Value.run m g)
theorem square_weight_frame_r : Cert.quiescent_SquareWeightRef := fun m g _ =>
  (θ_run Cert.SquareWeightRefIdeal.defs _ _).mono (fun r h => ⟨fun c => (h c).2, sem_eq_zero_of_no_sems (by decide) r.2⟩)
    (Cert.SquareWeightRefIdeal.Value.run (F := Bits) m g)

theorem square_row_frame_ri : Cert.quiescent_SquareRowRefIdeal := fun m g _ =>
  (θ_run Cert.SquareRowRefIdeal.defs _ _).mono (fun r h => ⟨fun c => (h c).2, sem_eq_zero_of_no_sems (by decide) r.2⟩)
    (Cert.SquareRowRefIdeal.Value.run m g)
theorem square_row_frame_r : Cert.quiescent_SquareRowRef := fun m g _ =>
  (θ_run Cert.SquareRowRefIdeal.defs _ _).mono (fun r h => ⟨fun c => (h c).2, sem_eq_zero_of_no_sems (by decide) r.2⟩)
    (Cert.SquareRowRefIdeal.Value.run (F := Bits) m g)

theorem out_frame_ri : Cert.quiescent_OutRefIdeal := fun m g _ =>
  (θ_run Cert.OutRefIdeal.defs _ _).mono (fun r h => ⟨fun c => (h c).2, sem_eq_zero_of_no_sems (by decide) r.2⟩)
    (Cert.OutRefIdeal.Value.run m g)
theorem out_frame_r : Cert.quiescent_OutRef := fun m g _ =>
  (θ_run Cert.OutRefIdeal.defs _ _).mono (fun r h => ⟨fun c => (h c).2, sem_eq_zero_of_no_sems (by decide) r.2⟩)
    (Cert.OutRefIdeal.Value.run (F := Bits) m g)

/-! ## The calls: each as printed and as read at the real arrays runs one body -/

theorem in_defs : Cert.In.defs (F := Bits) = Cert.InIdeal.defs (F := Bits) := by
  unfold Cert.In.defs Cert.InIdeal.defs
  refine congrArg (Pipeline.defs _) ?_
  unfold Cert.In.defs₀ Cert.InIdeal.defs₀
  congr 1
  funext ⟨ℓ, h⟩ x
  match ℓ, h, x with
  | 0, _, x => rfl

theorem in_frame_p : Cert.quiescent_In := fun m g _ => by
  rw [in_defs]
  exact Cert.InIdeal.Gen.frame (F := Bits) m g
theorem in_frame_pi : Cert.quiescent_InIdeal := fun m g _ => Cert.InIdeal.Gen.frame m g

/-- The call and the reference end with the input projection. -/
theorem in_algebraic : Cert.algebraic_InIdeal_InRefIdeal := by
  intro m g m' g' _ hargs
  refine ⟨fun c => (Cert.InIdeal.Gen.dats m 0 c).arrAt 2 Cert.InIdeal.cfg0.N, Cert.InIdeal.Value.run_blocks m g, ?_⟩
  refine (θ_run Cert.InRefIdeal.defs _ _).mono (fun r h c => ⟨(h c).1.trans ?_, (h c).2⟩) (Cert.InRefIdeal.Value.run m' g')
  obtain ⟨a0, a1⟩ := hargs c
  rw [a0, a1]
  exact (funext fun i => Cert.Proof.InRefIdeal.result_at _ _ i).trans (Cert.Proof.InIdeal.final m c).symm

theorem branch_defs : Cert.Branch.defs (F := Bits) = Cert.BranchIdeal.defs (F := Bits) := by
  unfold Cert.Branch.defs Cert.BranchIdeal.defs
  refine congrArg (Pipeline.defs _) ?_
  unfold Cert.Branch.defs₀ Cert.BranchIdeal.defs₀
  congr 1
  funext ⟨ℓ, h⟩ x
  match ℓ, h, x with
  | 0, _, x => rfl

theorem branch_frame_p : Cert.quiescent_Branch := fun m g _ => by
  rw [branch_defs]
  exact Cert.BranchIdeal.Gen.frame (F := Bits) m g
theorem branch_frame_pi : Cert.quiescent_BranchIdeal := fun m g _ => Cert.BranchIdeal.Gen.frame m g

/-- The call and the reference end with a branch's projection. -/
theorem branch_algebraic : Cert.algebraic_BranchIdeal_BranchRefIdeal := by
  intro m g m' g' _ hargs
  refine ⟨fun c => (Cert.BranchIdeal.Gen.dats m 0 c).arrAt 2 Cert.BranchIdeal.cfg0.N, Cert.BranchIdeal.Value.run_blocks m g, ?_⟩
  refine (θ_run Cert.BranchRefIdeal.defs _ _).mono (fun r h c => ⟨(h c).1.trans ?_, (h c).2⟩) (Cert.BranchRefIdeal.Value.run m' g')
  obtain ⟨a0, a1⟩ := hargs c
  rw [a0, a1]
  exact (funext fun i => Cert.Proof.BranchRefIdeal.result_at _ _ i).trans (Cert.Proof.BranchIdeal.final m c).symm

theorem branch_weight_defs : Cert.BranchWeight.defs (F := Bits) = Cert.BranchWeightIdeal.defs (F := Bits) := by
  unfold Cert.BranchWeight.defs Cert.BranchWeightIdeal.defs
  refine congrArg (Pipeline.defs _) ?_
  unfold Cert.BranchWeight.defs₀ Cert.BranchWeightIdeal.defs₀
  congr 1
  funext ⟨ℓ, h⟩ x
  match ℓ, h, x with
  | 0, _, x => rfl

theorem branch_weight_frame_p : Cert.quiescent_BranchWeight := fun m g _ => by
  rw [branch_weight_defs]
  exact Cert.BranchWeightIdeal.Gen.frame (F := Bits) m g
theorem branch_weight_frame_pi : Cert.quiescent_BranchWeightIdeal := fun m g _ => Cert.BranchWeightIdeal.Gen.frame m g

/-- The call and the reference end with the gradient of a branch's weights. -/
theorem branch_weight_algebraic : Cert.algebraic_BranchWeightIdeal_SquareWeightRefIdeal := by
  intro m g m' g' _ hargs
  refine ⟨fun c => Cert.BranchWeightIdeal.Value.G2 m c, Cert.BranchWeightIdeal.Value.run m g, ?_⟩
  refine (θ_run Cert.SquareWeightRefIdeal.defs _ _).mono (fun r h c => ⟨(h c).1.trans ?_, (h c).2⟩) (Cert.SquareWeightRefIdeal.Value.run m' g')
  obtain ⟨a0, a1, a2⟩ := hargs c
  rw [a0, a2]
  exact funext fun i => (Cert.Proof.SquareWeightRefIdeal.result_at _ _ i).trans (Cert.Proof.BranchWeightIdeal.result_at m c i).symm

theorem out_weight_defs : Cert.OutWeight.defs (F := Bits) = Cert.OutWeightIdeal.defs (F := Bits) := by
  unfold Cert.OutWeight.defs Cert.OutWeightIdeal.defs
  refine congrArg (Pipeline.defs _) ?_
  unfold Cert.OutWeight.defs₀ Cert.OutWeightIdeal.defs₀
  congr 1
  funext ⟨ℓ, h⟩ x
  match ℓ, h, x with
  | 0, _, x => rfl

theorem out_weight_frame_p : Cert.quiescent_OutWeight := fun m g _ => by
  rw [out_weight_defs]
  exact Cert.OutWeightIdeal.Gen.frame (F := Bits) m g
theorem out_weight_frame_pi : Cert.quiescent_OutWeightIdeal := fun m g _ => Cert.OutWeightIdeal.Gen.frame m g

/-- The call and the reference end with the gradient of the last projection's weights. -/
theorem out_weight_algebraic : Cert.algebraic_OutWeightIdeal_SquareWeightRefIdeal := by
  intro m g m' g' _ hargs
  refine ⟨fun c => Cert.OutWeightIdeal.Value.G2 m c, Cert.OutWeightIdeal.Value.run m g, ?_⟩
  refine (θ_run Cert.SquareWeightRefIdeal.defs _ _).mono (fun r h c => ⟨(h c).1.trans ?_, (h c).2⟩) (Cert.SquareWeightRefIdeal.Value.run m' g')
  obtain ⟨a0, a1, a2⟩ := hargs c
  rw [a0, a2]
  exact funext fun i => (Cert.Proof.SquareWeightRefIdeal.result_at _ _ i).trans (Cert.Proof.OutWeightIdeal.result_at m c i).symm

theorem branch_row_defs : Cert.BranchRow.defs (F := Bits) = Cert.BranchRowIdeal.defs (F := Bits) := by
  unfold Cert.BranchRow.defs Cert.BranchRowIdeal.defs
  refine congrArg (Pipeline.defs _) ?_
  unfold Cert.BranchRow.defs₀ Cert.BranchRowIdeal.defs₀
  congr 1
  funext ⟨ℓ, h⟩ x
  match ℓ, h, x with
  | 0, _, x => rfl

theorem branch_row_frame_p : Cert.quiescent_BranchRow := fun m g _ => by
  rw [branch_row_defs]
  exact Cert.BranchRowIdeal.Gen.frame (F := Bits) m g
theorem branch_row_frame_pi : Cert.quiescent_BranchRowIdeal := fun m g _ => Cert.BranchRowIdeal.Gen.frame m g

/-- The call and the reference end with the gradient of a branch's rows. -/
theorem branch_row_algebraic : Cert.algebraic_BranchRowIdeal_SquareRowRefIdeal := by
  intro m g m' g' _ hargs
  refine ⟨fun c => (Cert.BranchRowIdeal.Gen.dats m 0 c).arrAt 2 Cert.BranchRowIdeal.cfg0.N, Cert.BranchRowIdeal.Value.run_blocks m g, ?_⟩
  refine (θ_run Cert.SquareRowRefIdeal.defs _ _).mono (fun r h c => ⟨(h c).1.trans ?_, (h c).2⟩) (Cert.SquareRowRefIdeal.Value.run m' g')
  obtain ⟨a0, a1, a2⟩ := hargs c
  rw [a1, a2]
  exact (funext fun i => Cert.Proof.SquareRowRefIdeal.result_at _ _ i).trans (Cert.Proof.BranchRowIdeal.final m c).symm

theorem out_row_defs : Cert.OutRow.defs (F := Bits) = Cert.OutRowIdeal.defs (F := Bits) := by
  unfold Cert.OutRow.defs Cert.OutRowIdeal.defs
  refine congrArg (Pipeline.defs _) ?_
  unfold Cert.OutRow.defs₀ Cert.OutRowIdeal.defs₀
  congr 1
  funext ⟨ℓ, h⟩ x
  match ℓ, h, x with
  | 0, _, x => rfl

theorem out_row_frame_p : Cert.quiescent_OutRow := fun m g _ => by
  rw [out_row_defs]
  exact Cert.OutRowIdeal.Gen.frame (F := Bits) m g
theorem out_row_frame_pi : Cert.quiescent_OutRowIdeal := fun m g _ => Cert.OutRowIdeal.Gen.frame m g

/-- The call and the reference end with the gradient of the last projection's rows. -/
theorem out_row_algebraic : Cert.algebraic_OutRowIdeal_SquareRowRefIdeal := by
  intro m g m' g' _ hargs
  refine ⟨fun c => (Cert.OutRowIdeal.Gen.dats m 0 c).arrAt 2 Cert.OutRowIdeal.cfg0.N, Cert.OutRowIdeal.Value.run_blocks m g, ?_⟩
  refine (θ_run Cert.SquareRowRefIdeal.defs _ _).mono (fun r h c => ⟨(h c).1.trans ?_, (h c).2⟩) (Cert.SquareRowRefIdeal.Value.run m' g')
  obtain ⟨a0, a1, a2⟩ := hargs c
  rw [a1, a2]
  exact (funext fun i => Cert.Proof.SquareRowRefIdeal.result_at _ _ i).trans (Cert.Proof.OutRowIdeal.final m c).symm

theorem out_defs : Cert.Out.defs (F := Bits) = Cert.OutIdeal.defs (F := Bits) := by
  unfold Cert.Out.defs Cert.OutIdeal.defs
  refine congrArg (Pipeline.defs _) ?_
  unfold Cert.Out.defs₀ Cert.OutIdeal.defs₀
  congr 1
  funext ⟨ℓ, h⟩ x
  match ℓ, h, x with
  | 0, _, x => rfl

theorem out_frame_p : Cert.quiescent_Out := fun m g _ => by
  rw [out_defs]
  exact Cert.OutIdeal.Gen.frame (F := Bits) m g
theorem out_frame_pi : Cert.quiescent_OutIdeal := fun m g _ => Cert.OutIdeal.Gen.frame m g

/-- The call and the reference end with the last projection and the residual. -/
theorem out_algebraic : Cert.algebraic_OutIdeal_OutRefIdeal := by
  intro m g m' g' _ hargs
  refine ⟨fun c => (Cert.OutIdeal.Gen.dats m 0 c).arrAt 3 Cert.OutIdeal.cfg0.N, Cert.OutIdeal.Value.run_blocks m g, ?_⟩
  refine (θ_run Cert.OutRefIdeal.defs _ _).mono (fun r h c => ⟨(h c).1.trans ?_, (h c).2⟩) (Cert.OutRefIdeal.Value.run m' g')
  obtain ⟨a0, a1, a2⟩ := hargs c
  rw [a0, a1, a2]
  exact (funext fun i => Cert.Proof.OutRefIdeal.result_at _ _ _ i).trans (Cert.Proof.OutIdeal.final m c).symm

end Cert.Proof
-- ==== Proof.Prod.Heads.lean ====
module

public import Idealize.ShloMosaic.Lib.Tactic
public import Idealize.ShloMosaic.Lib.Pipeline.ValueKit

/-!
Sixteen heads of 256 columns, side by side and one after the other.
-/

@[expose] public section

noncomputable section

namespace Cert.Proof.Prod

open Idealize.ShloMosaic Idealize.ShloMosaic.Tactic

/-- An array of 4096 columns, cut into sixteen of 256. -/
def headed {A : ℕ} (z : (⟨2, ![A, 4096]⟩ : Shape).Idx → EReal) (i : (⟨3, ![16, A, 256]⟩ : Shape).Idx) : EReal :=
  z (ix2 (i 1) ⟨(i 0).val * 256 + (i 2).val, by have h0 : (i 0).val < 16 := (i 0).isLt; have h2 : (i 2).val < 256 := (i 2).isLt; omega⟩)
/-- And a number of arrays of 256 columns, side by side. -/
def joined {H A C : ℕ} (hC : C = H * 256) (z : (⟨3, ![H, A, 256]⟩ : Shape).Idx → EReal) (i : (⟨2, ![A, C]⟩ : Shape).Idx) : EReal :=
  z (ix3 ⟨(i 1).val / 256, by have h1 : (i 1).val < C := (i 1).isLt; omega⟩ (i 0) ⟨(i 1).val % 256, by omega⟩)

/-- A column of one of the arrays is a column of them all. -/
theorem joined_of {H A C : ℕ} (hC : C = H * 256) (z : (⟨3, ![H, A, 256]⟩ : Shape).Idx → EReal) (k : Fin A) (l : Fin C) (e : Fin H) (l' : Fin 256)
    (h : l.val = e.val * 256 + l'.val) : z (ix3 e k l') = joined hC z (ix2 k l) := by
  have hl : l'.val < 256 := l'.isLt
  have he : e.val = l.val / 256 := by omega
  have hr : l'.val = l.val % 256 := by omega
  exact congrArg z (congr (congrArg (fun e => ix3 e k) (Fin.ext he)) (Fin.ext hr))

end Cert.Proof.Prod

end
-- ==== Proof.Prod.Query.lean ====
module

public import proofs.«01_k».proof.Defs
public import proofs.«01_k».proof.Proof.Prod.Sums
public import proofs.«01_k».proof.Proof.Prod.Heads
public import proofs.«01_k».proof.Proof.Gen.QueryIdeal.Value
public import Idealize.ShloMosaic.Lib.Claim
public import Idealize.ShloMosaic.Lib.Tactic
public import Idealize.ShloMosaic.Lib.Pipeline.ValueKit

/-!
The query projection: each block of four heads is one product of a block of rows and a block of columns.
-/

@[expose] public section

set_option maxRecDepth 16384

noncomputable section

namespace Cert.Proof.QueryIdeal

open Cert.QueryIdeal Cert.QueryIdeal.Gen Cert.QueryIdeal.Value Cert.Proof.Prod
open Idealize.ShloMosaic Idealize.ShloMosaic.TcCoe Idealize.ShloMosaic.Tactic

/-- A slice of the block's product. -/
def piece (x : S1024x512.Idx → EReal) (y : S512x1024.Idx → EReal) (j : S4x1024x256.Idx) : EReal :=
  nn (A := 1024) (B := 512) (C := 1024) x y (ix2 (j 1) ⟨(j 0).val * 256 + (j 2).val, by have h0 : (j 0).val < 4 := (j 0).isLt; have h2 : (j 2).val < 256 := (j 2).isLt; omega⟩)

theorem slice0_at (x : FVec Ideal S1024x512 .bf16) (y : FVec Ideal S512x1024 .bf16) (b : Fin 1) (r : Fin 1024) (l : Fin 256) :
    k0_pay2 (F := Ideal) x y (ix3 b r l) = ∑ k : Fin 512, x (ix2 r k) * y (ix2 k ⟨0 + l.val, by omega⟩) := by
  pointwise [k0_pay2, k0_pay1]
theorem slice1_at (x : FVec Ideal S1024x512 .bf16) (y : FVec Ideal S512x1024 .bf16) (b : Fin 1) (r : Fin 1024) (l : Fin 256) :
    k0_pay3 (F := Ideal) x y (ix3 b r l) = ∑ k : Fin 512, x (ix2 r k) * y (ix2 k ⟨256 + l.val, by omega⟩) := by
  pointwise [k0_pay3, k0_pay1]
theorem slice2_at (x : FVec Ideal S1024x512 .bf16) (y : FVec Ideal S512x1024 .bf16) (b : Fin 1) (r : Fin 1024) (l : Fin 256) :
    k0_pay4 (F := Ideal) x y (ix3 b r l) = ∑ k : Fin 512, x (ix2 r k) * y (ix2 k ⟨512 + l.val, by omega⟩) := by
  pointwise [k0_pay4, k0_pay1]
theorem slice3_at (x : FVec Ideal S1024x512 .bf16) (y : FVec Ideal S512x1024 .bf16) (b : Fin 1) (r : Fin 1024) (l : Fin 256) :
    k0_pay5 (F := Ideal) x y (ix3 b r l) = ∑ k : Fin 512, x (ix2 r k) * y (ix2 k ⟨768 + l.val, by omega⟩) := by
  pointwise [k0_pay5, k0_pay1]

/-- What the body leaves is the product of its two blocks, in four slices of columns. -/
theorem body_at (x : FVec Ideal S1024x512 .bf16) (y : FVec Ideal S512x1024 .bf16) (j : S4x1024x256.Idx) : out0_2 (F := Ideal) x y j = piece x y j := by
  obtain ⟨e, r, l, rfl⟩ : ∃ e r l, j = ix3 e r l := ⟨j 0, j 1, j 2, eq_ix3 j⟩
  have hz : (![0, 0] : Fin 2 → Nat) = fun _ => 0 := by decide
  unfold out0_2 piece nn
  rw [View.ld_unit_zero hz, View.ld_unit_zero hz]
  canon_tiles a h
  all_goals
    obtain ⟨b, r', l', rfl⟩ : ∃ b r' l', a = ix3 b r' l' := ⟨a 0, a 1, a 2, eq_ix3 a⟩
    obtain rfl : r = r' := Fin.ext h1
    obtain rfl : l = l' := Fin.ext h2
  · refine (slice3_at _ _ b r l).trans ?_
    have he : e.val = 3 + b.val := h0
    exact Finset.sum_congr rfl fun k _ => congrArg (x (ix2 r k) * y ·) (congrArg (ix2 k) (Fin.ext (by show 768 + l.val = e.val * 256 + l.val; omega)))
  · refine (slice2_at _ _ b r l).trans ?_
    have he : e.val = 2 + b.val := h0
    exact Finset.sum_congr rfl fun k _ => congrArg (x (ix2 r k) * y ·) (congrArg (ix2 k) (Fin.ext (by show 512 + l.val = e.val * 256 + l.val; omega)))
  · refine (slice1_at _ _ b r l).trans ?_
    have he : e.val = 1 + b.val := h0
    exact Finset.sum_congr rfl fun k _ => congrArg (x (ix2 r k) * y ·) (congrArg (ix2 k) (Fin.ext (by show 256 + l.val = e.val * 256 + l.val; omega)))
  · refine (slice0_at _ _ b r l).trans ?_
    have he : e.val = 0 + b.val := h0.trans (Nat.zero_add _).symm
    exact Finset.sum_congr rfl fun k _ => congrArg (x (ix2 r k) * y ·) (congrArg (ix2 k) (Fin.ext (by show 0 + l.val = e.val * 256 + l.val; omega)))

section
variable (m : (ℓ : Loc nD τ sig) → Buf (Elt Ideal) ℓ) (c : Dev nD)

theorem idx : ∀ t : Fin cfg0.N, win0_0.index t = ![t.val / 4, 0] ∧ win0_1.index t = ![0, t.val % 4] ∧ win0_2.index t = ![t.val % 4, t.val / 4, 0] :=
  (by decide +kernel : ∀ t : Fin grid0.N, _)

/-- The arguments as arrays of numbers. -/
def X : S8192x512.Idx → EReal := (m ((c : Thread nD τ).loc main_arg0) : FVec Ideal S8192x512 .f32)
def W : S512x4096.Idx → EReal := (m ((c : Thread nD τ).loc main_arg1) : FVec Ideal S512x4096 .f32)
theorem x_eq : (V m c main_v0 : S8192x512.Idx → EReal) = X m c := by
  unfold V X
  after_results_simp
  rfl
theorem w_eq : (V m c main_v1 : S512x4096.Idx → EReal) = W m c := by
  unfold V W
  after_results_simp
  rfl

theorem x_at (t : Fin cfg0.N) (r : Fin 1024) (k : Fin 512) (hr : t.val / 4 * 1024 + r < 8192) :
    (iblk m c 0 t : S1024x512.Idx → EReal) (ix2 r k) = X m c (ix2 ⟨t.val / 4 * 1024 + r, hr⟩ k) := by
  rw [← x_eq]
  blk_ext [iblk, idx t]
theorem w_at (t : Fin cfg0.N) (k : Fin 512) (l : Fin 1024) (hl : t.val % 4 * 1024 + l < 4096) :
    (iblk m c 1 t : S512x1024.Idx → EReal) (ix2 k l) = W m c (ix2 k ⟨t.val % 4 * 1024 + l, hl⟩) := by
  rw [← w_eq]
  blk_ext [iblk, idx t]

/-- What a point writes is its block of the product. -/
theorem flushed_eq (t : Fin cfg0.N) :
    (dats m 0 c).flushed 2 t = ((cfg0.win 2).blk t).view.read (Elt Ideal) (headed (A := 8192) (nn (A := 8192) (B := 512) (C := 4096) (X m c) (W m c)) : S16x8192x256.Idx → EReal) := by
  have ht : t.val < 32 := Nat.lt_of_lt_of_eq t.isLt N_0
  rw [flushed2]
  funext y
  obtain ⟨e0, e1, e2⟩ := idx t
  have y0 : (y 0).val < 4 := (y 0).isLt
  have y1 : (y 1).val < 1024 := (y 1).isLt
  have y2 : (y 2).val < 256 := (y 2).isLt
  have a0 : (((cfg0.win 2).blk t).view.emb y 0).val = win0_2.index t (0 : Fin 3) * 4 + 1 * (y 0).val := rfl
  have a1 : (((cfg0.win 2).blk t).view.emb y 1).val = win0_2.index t (1 : Fin 3) * 1024 + 1 * (y 1).val := rfl
  have a2 : (((cfg0.win 2).blk t).view.emb y 2).val = win0_2.index t (2 : Fin 3) * 256 + 1 * (y 2).val := rfl
  rw [e2] at a0 a1 a2
  have b0 : (((cfg0.win 2).blk t).view.emb y 0).val = t.val % 4 * 4 + 1 * (y 0).val := a0
  have b1 : (((cfg0.win 2).blk t).view.emb y 1).val = t.val / 4 * 1024 + 1 * (y 1).val := a1
  have b2 : (((cfg0.win 2).blk t).view.emb y 2).val = 0 * 256 + 1 * (y 2).val := a2
  show out0_2 (F := Ideal) (iblk m c 0 t) (iblk m c 1 t) ((cfg0.win 2).xinj (grid0.coords t) y)
    = headed (A := 8192) (nn (A := 8192) (B := 512) (C := 4096) (X m c) (W m c)) (((cfg0.win 2).blk t).view.emb y)
  rw [body_at]
  unfold piece headed nn
  refine Finset.sum_congr rfl fun k _ => congrArg₂ (· * ·) ((x_at m c t ⟨(y 1).val, y1⟩ k (by dsimp only; omega)).trans ?_)
    ((w_at m c t k ⟨(y 0).val * 256 + (y 2).val, by omega⟩ (by dsimp only; omega)).trans ?_)
  · exact congrArg (X m c) (congrArg₂ ix2 (Fin.ext (Eq.trans (by dsimp only; omega) b1.symm)) rfl)
  · refine congrArg (W m c) (congrArg (ix2 k) (Fin.ext ?_))
    show t.val % 4 * 1024 + ((y 0).val * 256 + (y 2).val) = (((cfg0.win 2).blk t).view.emb y 0).val * 256 + (((cfg0.win 2).blk t).view.emb y 2).val
    rw [b0, b2]
    omega

/-- The blocks fill the result. -/
theorem final : (dats m 0 c).arrAt 2 cfg0.N = (headed (A := 8192) (nn (A := 8192) (B := 512) (C := 4096) (X m c) (W m c)) : S16x8192x256.Idx → EReal) := by
  refine (dats m 0 c).arrAt_eq_of_cover 2 _ (fun t _ => flushed_eq m c t) fun i => ?_
  have i0 : (i 0).val < 16 := (i 0).isLt
  have i1 : (i 1).val < 8192 := (i 1).isLt
  have i2 : (i 2).val < 256 := (i 2).isLt
  refine ⟨⟨(i 1).val / 1024 * 4 + (i 0).val / 4, Nat.lt_of_lt_of_eq (by omega) N_0.symm⟩, flush0_2 _, ?_⟩
  generalize ht : (⟨(i 1).val / 1024 * 4 + (i 0).val / 4, Nat.lt_of_lt_of_eq (by omega) N_0.symm⟩ : Fin cfg0.N) = t
  have hv : t.val = (i 1).val / 1024 * 4 + (i 0).val / 4 := by rw [← ht]
  show i ∈ ((View.whole main_v2).slice (win0_2.rect t)).set
  rw [View.set_slice_whole, Rect.mem_set_unit]
  have e0 : win0_2.index t (0 : Fin 3) = t.val % 4 := congrFun (idx t).2.2 0
  have e1 : win0_2.index t (1 : Fin 3) = t.val / 4 := congrFun (idx t).2.2 1
  have e2 : win0_2.index t (2 : Fin 3) = 0 := congrFun (idx t).2.2 2
  intro a
  match a with
  | ⟨0, _⟩ => show win0_2.index t (0 : Fin 3) * 4 ≤ (i 0).val ∧ (i 0).val < win0_2.index t (0 : Fin 3) * 4 + 4; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 256 ≤ (i 2).val ∧ (i 2).val < win0_2.index t (2 : Fin 3) * 256 + 256; omega
end

end Cert.Proof.QueryIdeal

end
-- ==== Proof.Prod.KeyValue.lean ====
module

public import proofs.«01_k».proof.Defs
public import proofs.«01_k».proof.Proof.Prod.Sums
public import proofs.«01_k».proof.Proof.Prod.Query
public import proofs.«01_k».proof.Proof.Gen.KeyValueIdeal.Value
public import Idealize.ShloMosaic.Lib.Claim
public import Idealize.ShloMosaic.Lib.Tactic
public import Idealize.ShloMosaic.Lib.Pipeline.ValueKit

/-!
The key-value projection: each block of four heads is one product of a block of rows and a block of columns.
-/

@[expose] public section

set_option maxRecDepth 16384

noncomputable section

namespace Cert.Proof.KeyValueIdeal

open Cert.KeyValueIdeal Cert.KeyValueIdeal.Gen Cert.KeyValueIdeal.Value Cert.Proof.Prod
open Idealize.ShloMosaic Idealize.ShloMosaic.TcCoe Idealize.ShloMosaic.Tactic

/-- What the body leaves is what the query projection's body leaves: the two differ in a cast. -/
theorem body_at (x : FVec Ideal S1024x512 .bf16) (y : FVec Ideal S512x1024 .bf16) (j : S4x1024x256.Idx) :
    out0_2 (F := Ideal) x y j = Cert.Proof.QueryIdeal.piece x y j :=
  Eq.trans (congrFun (rfl : (out0_2 (F := Ideal) x y : S4x1024x256.Idx → EReal) = Cert.QueryIdeal.Gen.out0_2 (F := Ideal) x y) j) (Cert.Proof.QueryIdeal.body_at x y j)

section
variable (m : (ℓ : Loc nD τ sig) → Buf (Elt Ideal) ℓ) (c : Dev nD)

theorem idx : ∀ t : Fin cfg0.N, win0_0.index t = ![t.val / 4, 0] ∧ win0_1.index t = ![0, t.val % 4] ∧ win0_2.index t = ![t.val % 4, t.val / 4, 0] :=
  (by decide +kernel : ∀ t : Fin grid0.N, _)

/-- The arguments as arrays of numbers. -/
def X : S8192x512.Idx → EReal := (m ((c : Thread nD τ).loc main_arg0) : FVec Ideal S8192x512 .f32)
def W : S512x4096.Idx → EReal := (m ((c : Thread nD τ).loc main_arg1) : FVec Ideal S512x4096 .f32)
theorem x_eq : (V m c main_v0 : S8192x512.Idx → EReal) = X m c := by
  unfold V X
  after_results_simp
  rfl
theorem w_eq : (V m c main_v1 : S512x4096.Idx → EReal) = W m c := by
  unfold V W
  after_results_simp
  rfl

theorem x_at (t : Fin cfg0.N) (r : Fin 1024) (k : Fin 512) (hr : t.val / 4 * 1024 + r < 8192) :
    (iblk m c 0 t : S1024x512.Idx → EReal) (ix2 r k) = X m c (ix2 ⟨t.val / 4 * 1024 + r, hr⟩ k) := by
  rw [← x_eq]
  blk_ext [iblk, idx t]
theorem w_at (t : Fin cfg0.N) (k : Fin 512) (l : Fin 1024) (hl : t.val % 4 * 1024 + l < 4096) :
    (iblk m c 1 t : S512x1024.Idx → EReal) (ix2 k l) = W m c (ix2 k ⟨t.val % 4 * 1024 + l, hl⟩) := by
  rw [← w_eq]
  blk_ext [iblk, idx t]

/-- What a point writes is its block of the product. -/
theorem flushed_eq (t : Fin cfg0.N) :
    (dats m 0 c).flushed 2 t = ((cfg0.win 2).blk t).view.read (Elt Ideal) (headed (A := 8192) (nn (A := 8192) (B := 512) (C := 4096) (X m c) (W m c)) : S16x8192x256.Idx → EReal) := by
  have ht : t.val < 32 := Nat.lt_of_lt_of_eq t.isLt N_0
  rw [flushed2]
  funext y
  obtain ⟨e0, e1, e2⟩ := idx t
  have y0 : (y 0).val < 4 := (y 0).isLt
  have y1 : (y 1).val < 1024 := (y 1).isLt
  have y2 : (y 2).val < 256 := (y 2).isLt
  have a0 : (((cfg0.win 2).blk t).view.emb y 0).val = win0_2.index t (0 : Fin 3) * 4 + 1 * (y 0).val := rfl
  have a1 : (((cfg0.win 2).blk t).view.emb y 1).val = win0_2.index t (1 : Fin 3) * 1024 + 1 * (y 1).val := rfl
  have a2 : (((cfg0.win 2).blk t).view.emb y 2).val = win0_2.index t (2 : Fin 3) * 256 + 1 * (y 2).val := rfl
  rw [e2] at a0 a1 a2
  have b0 : (((cfg0.win 2).blk t).view.emb y 0).val = t.val % 4 * 4 + 1 * (y 0).val := a0
  have b1 : (((cfg0.win 2).blk t).view.emb y 1).val = t.val / 4 * 1024 + 1 * (y 1).val := a1
  have b2 : (((cfg0.win 2).blk t).view.emb y 2).val = 0 * 256 + 1 * (y 2).val := a2
  show out0_2 (F := Ideal) (iblk m c 0 t) (iblk m c 1 t) ((cfg0.win 2).xinj (grid0.coords t) y)
    = headed (A := 8192) (nn (A := 8192) (B := 512) (C := 4096) (X m c) (W m c)) (((cfg0.win 2).blk t).view.emb y)
  rw [body_at]
  unfold Cert.Proof.QueryIdeal.piece headed nn
  refine Finset.sum_congr rfl fun k _ => congrArg₂ (· * ·) ((x_at m c t ⟨(y 1).val, y1⟩ k (by dsimp only; omega)).trans ?_)
    ((w_at m c t k ⟨(y 0).val * 256 + (y 2).val, by omega⟩ (by dsimp only; omega)).trans ?_)
  · exact congrArg (X m c) (congrArg₂ ix2 (Fin.ext (Eq.trans (by dsimp only; omega) b1.symm)) rfl)
  · refine congrArg (W m c) (congrArg (ix2 k) (Fin.ext ?_))
    show t.val % 4 * 1024 + ((y 0).val * 256 + (y 2).val) = (((cfg0.win 2).blk t).view.emb y 0).val * 256 + (((cfg0.win 2).blk t).view.emb y 2).val
    rw [b0, b2]
    omega

/-- The blocks fill the result. -/
theorem final : (dats m 0 c).arrAt 2 cfg0.N = (headed (A := 8192) (nn (A := 8192) (B := 512) (C := 4096) (X m c) (W m c)) : S16x8192x256.Idx → EReal) := by
  refine (dats m 0 c).arrAt_eq_of_cover 2 _ (fun t _ => flushed_eq m c t) fun i => ?_
  have i0 : (i 0).val < 16 := (i 0).isLt
  have i1 : (i 1).val < 8192 := (i 1).isLt
  have i2 : (i 2).val < 256 := (i 2).isLt
  refine ⟨⟨(i 1).val / 1024 * 4 + (i 0).val / 4, Nat.lt_of_lt_of_eq (by omega) N_0.symm⟩, flush0_2 _, ?_⟩
  generalize ht : (⟨(i 1).val / 1024 * 4 + (i 0).val / 4, Nat.lt_of_lt_of_eq (by omega) N_0.symm⟩ : Fin cfg0.N) = t
  have hv : t.val = (i 1).val / 1024 * 4 + (i 0).val / 4 := by rw [← ht]
  show i ∈ ((View.whole main_v2).slice (win0_2.rect t)).set
  rw [View.set_slice_whole, Rect.mem_set_unit]
  have e0 : win0_2.index t (0 : Fin 3) = t.val % 4 := congrFun (idx t).2.2 0
  have e1 : win0_2.index t (1 : Fin 3) = t.val / 4 := congrFun (idx t).2.2 1
  have e2 : win0_2.index t (2 : Fin 3) = 0 := congrFun (idx t).2.2 2
  intro a
  match a with
  | ⟨0, _⟩ => show win0_2.index t (0 : Fin 3) * 4 ≤ (i 0).val ∧ (i 0).val < win0_2.index t (0 : Fin 3) * 4 + 4; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 256 ≤ (i 2).val ∧ (i 2).val < win0_2.index t (2 : Fin 3) * 256 + 256; omega
end

end Cert.Proof.KeyValueIdeal

end
-- ==== Proof.Prod.QueryWeight.lean ====
module

public import proofs.«01_k».proof.Defs
public import proofs.«01_k».proof.Proof.Gen.QueryWeightIdeal.Value
public import proofs.«01_k».proof.Proof.Prod.Sums
public import proofs.«01_k».proof.Proof.Prod.Heads
public import Idealize.ShloMosaic.Lib.Claim
public import Idealize.ShloMosaic.Lib.Tactic
public import Idealize.ShloMosaic.Lib.Pipeline.ValueKit

/-!
The gradient of a branch's weights: each block of the result is summed over four points,
2048 rows at each, and the sum of the four is the sum over all 8192 rows.
-/

@[expose] public section

set_option maxRecDepth 16384

noncomputable section

namespace Cert.Proof.QueryWeightIdeal

open Cert.QueryWeightIdeal Cert.QueryWeightIdeal.Gen Cert.QueryWeightIdeal.Value Cert.Proof.Prod
open Idealize.ShloMosaic Idealize.ShloMosaic.TcCoe Idealize.ShloMosaic.Tactic

/-! ## At a point -/

theorem first_at (x : FVec Ideal S2048x512 .bf16) (v0 v1 v2 v3 : FVec Ideal S1x2048x256 .bf16) (y : S4x2048x256.Idx → EReal)
    (h0 : ∀ k l, v0 (ix3 0 k l) = y (ix3 0 k l)) (h1 : ∀ k l, v1 (ix3 0 k l) = y (ix3 1 k l))
    (h2 : ∀ k l, v2 (ix3 0 k l) = y (ix3 2 k l)) (h3 : ∀ k l, v3 (ix3 0 k l) = y (ix3 3 k l)) (j : S512x1024.Idx) :
    k0_pay2 (F := Ideal) x v0 v1 v2 v3 j = tn (A := 512) (B := 2048) (C := 1024) x (joined (H := 4) (A := 2048) rfl y) j := by
  obtain ⟨r, l, rfl⟩ : ∃ r l, j = ix2 r l := ⟨j 0, j 1, eq_ix2 j⟩
  unfold tn
  pointwise [k0_pay2, k0_pay1]
  refine Finset.sum_congr rfl fun k _ => congrArg (x (ix2 k r) * ·) ?_
  split_ifs <;> first
    | refine (h0 _ _).trans (joined_of rfl y k l 0 _ ?_); show l.val = 0 * 256 + l.val; omega
    | refine (h1 _ _).trans (joined_of rfl y k l 1 _ ?_); show l.val = 1 * 256 + (l.val - 256); omega
    | refine (h2 _ _).trans (joined_of rfl y k l 2 _ ?_); show l.val = 2 * 256 + (l.val - 256 - 256); omega
    | refine (h3 _ _).trans (joined_of rfl y k l 3 _ ?_); show l.val = 3 * 256 + (l.val - 256 - 256 - 256); omega
theorem later_at (x : FVec Ideal S2048x512 .bf16) (v0 v1 v2 v3 : FVec Ideal S1x2048x256 .bf16) (a : FVec Ideal S512x1024 .f32) (j : S512x1024.Idx) :
    k0_pay3 (F := Ideal) x v0 v1 v2 v3 a j = a j + k0_pay2 (F := Ideal) x v0 v1 v2 v3 j := by
  obtain ⟨r, l, rfl⟩ : ∃ r l, j = ix2 r l := ⟨j 0, j 1, eq_ix2 j⟩
  pointwise [k0_pay3, k0_pay2]

/-- The pieces of a block as the body loads them. -/
theorem piece_at (y : Vec Ideal S4x2048x256 .bf16) (e : Fin 4) (inb) (k : Fin 2048) (l : Fin 256) :
    View.ld (Val := Elt Ideal) y (Rect.unit (s := S4x2048x256) ![e.val, 0, 0] S1x2048x256.size inb) (ix3 0 k l) = y (ix3 e k l) :=
  View.ld_unit_apply_of _ _ _ _ _ _ fun a => match a with
    | ⟨0, _⟩ => (Nat.add_zero _).symm
    | ⟨1, _⟩ => (Nat.zero_add _).symm
    | ⟨2, _⟩ => (Nat.zero_add _).symm

section
variable (m : (ℓ : Loc nD τ sig) → Buf (Elt Ideal) ℓ) (c : Dev nD)

/-- What a point adds to the sum. -/
def term (t : Fin cfg0.N) : S512x1024.Idx → EReal :=
  tn (A := 512) (B := 2048) (C := 1024) (iblk m c 0 t) (joined (H := 4) (A := 2048) rfl (iblk m c 1 t : S4x2048x256.Idx → EReal))

/-- What the sum holds when its block is written. -/
theorem held (t : Fin cfg0.N) (hr : t.val % 4 = 3) (j : S512x1024.Idx) :
    (outsAt0 m c t.val t.isLt).2 j = ∑ s : Fin 4, term m c ⟨4 * (t.val / 4) + s.val, Pipeline.run_point_lt_of_flush t hr s⟩ j := by
  refine (Pipeline.eq_sum_fin_of_reset_step_apply_of_flush (fun n h => (outsAt0 m c n h).2) 4 (fun _ => (0 : EReal))
    (fun t => term m c t) (fun t h i => ?_) (fun t h i => ?_) t hr j).trans (zero_add _)
  · rw [outsAt0_A m c t h (by omega) (by omega)]
    frame_out
    exact (first_at _ _ _ _ _ (iblk m c 1 t) (piece_at _ 0 _) (piece_at _ 1 _) (piece_at _ 2 _) (piece_at _ 3 _) i).trans (zero_add _).symm
  · by_cases h3 : t.val % 4 = 3
    · rw [outsAt0_C m c t h (by omega) h3]
      frame_out
      rw [later_at]
      refine congrArg₂ (· + ·) (congrFun (Memref.IsWhole.read_unread _ _) i) (first_at _ _ _ _ _ (iblk m c 1 t) (piece_at _ 0 _) (piece_at _ 1 _) (piece_at _ 2 _) (piece_at _ 3 _) i)
    · rw [outsAt0_B m c t h (by omega) h3]
      frame_out
      rw [later_at]
      refine congrArg₂ (· + ·) (congrFun (Memref.IsWhole.read_unread _ _) i) (first_at _ _ _ _ _ (iblk m c 1 t) (piece_at _ 0 _) (piece_at _ 1 _) (piece_at _ 2 _) (piece_at _ 3 _) i)

/-- What is written is what the sum holds. -/
theorem written (t : Fin cfg0.N) (hr : t.val % 4 = 3) (j : S512x1024.Idx) : (outsAt0 m c t.val t.isLt).1 j = (outsAt0 m c t.val t.isLt).2 j := by
  rw [outsAt0_C m c t (by omega) (by omega) hr]
  frame_out
  pointwise [k0_pay4]

/-! ## The blocks of the arguments -/

theorem idx : ∀ t : Fin cfg0.N, win0_0.index t = ![t.val % 4, 0] ∧ win0_1.index t = ![t.val / 4, t.val % 4, 0] :=
  (by decide +kernel : ∀ t : Fin grid0.N, _)

/-- The arguments as arrays of numbers. -/
def X : S8192x512.Idx → EReal := (m ((c : Thread nD τ).loc main_arg0) : FVec Ideal S8192x512 .f32)
def Z : S16x8192x256.Idx → EReal := (m ((c : Thread nD τ).loc main_arg2) : FVec Ideal S16x8192x256 .f32)

theorem rows_eq : (V m c main_v0 : S8192x512.Idx → EReal) = X m c := by
  unfold V X
  after_results_simp
  rfl
theorem grads_eq : (V m c main_v1 : S16x8192x256.Idx → EReal) = Z m c := by
  unfold V Z
  after_results_simp
  rfl

theorem rows_at (t : Fin cfg0.N) (k : Fin 2048) (r : Fin 512) (hk : t.val % 4 * 2048 + k < 8192) :
    (iblk m c 0 t : S2048x512.Idx → EReal) (ix2 k r) = X m c (ix2 ⟨t.val % 4 * 2048 + k, hk⟩ r) := by
  rw [← rows_eq]
  blk_ext [iblk, idx t]
theorem grads_at (t : Fin cfg0.N) (e : Fin 4) (k : Fin 2048) (l : Fin 256) (he : t.val / 4 * 4 + e < 16) (hk : t.val % 4 * 2048 + k < 8192) :
    (iblk m c 1 t : S4x2048x256.Idx → EReal) (ix3 e k l) = Z m c (ix3 ⟨t.val / 4 * 4 + e, he⟩ ⟨t.val % 4 * 2048 + k, hk⟩ l) := by
  rw [← grads_eq]
  blk_ext [iblk, idx t]

/-! ## The result -/

theorem result_at (i : S512x4096.Idx) :
    (G2 m c : S512x4096.Idx → EReal) i = tn (A := 512) (B := 8192) (C := 4096) (X m c) (joined (H := 16) (A := 8192) rfl (Z m c)) i := by
  have h0 : (i 0).val < 512 := (i 0).isLt
  have h1 : (i 1).val < 4096 := (i 1).isLt
  have hN : cfg0.N = 16 := N_0
  have hp : pt2Of i < cfg0.N := by rw [hN]; unfold pt2Of run2Of; omega
  have hr : pt2Of i % 4 = 3 := by unfold pt2Of; omega
  unfold G2
  rw [dif_pos hp, ← outsAt0_sweep]
  refine (written m c ⟨_, hp⟩ hr _).trans ((held m c ⟨_, hp⟩ hr _).trans ?_)
  unfold term tn
  refine Fin.sum_mul_add_congr fun s k hl => ?_
  have e : (4 * (pt2Of i / 4) + s.val) % 4 = s := by omega
  have e1 : (4 * (pt2Of i / 4) + s.val) / 4 = (i 1).val / 1024 := by unfold pt2Of run2Of; omega
  have k0 := k.isLt
  refine congrArg₂ (· * ·) ((rows_at m c _ k ⟨(i 0).val % 512, by omega⟩ (by dsimp only; omega)).trans ?_)
    ((grads_at m c _ ⟨(i 1).val % 1024 / 256, by omega⟩ k ⟨(i 1).val % 1024 % 256, by omega⟩ (by dsimp only; omega) (by dsimp only; omega)).trans
      (Eq.trans ?_ (joined_of (H := 16) rfl (Z m c) ⟨s.val * 2048 + k.val, hl⟩ (i 1) ⟨(i 1).val / 256, by omega⟩ ⟨(i 1).val % 256, by omega⟩ (by dsimp only; omega))))
  · exact congrArg (X m c) (congrArg₂ ix2 (Fin.ext (by dsimp only; rw [e])) (Fin.ext (by dsimp only; omega)))
  · have a0 : (4 * (pt2Of i / 4) + s.val) / 4 * 4 + (i 1).val % 1024 / 256 = (i 1).val / 256 := by rw [e1]; omega
    have a1 : (4 * (pt2Of i / 4) + s.val) % 4 * 2048 + k.val = s.val * 2048 + k.val := by rw [e]
    have a2 : (i 1).val % 1024 % 256 = (i 1).val % 256 := by omega
    exact congrArg (Z m c) (congr (congrArg₂ ix3 (Fin.ext a0) (Fin.ext a1)) (Fin.ext a2))
end

end Cert.Proof.QueryWeightIdeal

end
-- ==== Proof.Prod.QueryRow.lean ====
module

public import proofs.«01_k».proof.Defs
public import proofs.«01_k».proof.Proof.Gen.QueryRowIdeal.Value
public import proofs.«01_k».proof.Proof.Prod.Sums
public import proofs.«01_k».proof.Proof.Prod.Heads
public import Idealize.ShloMosaic.Lib.Claim
public import Idealize.ShloMosaic.Lib.Tactic
public import Idealize.ShloMosaic.Lib.Pipeline.ValueKit

/-!
The query projection's gradient at its rows: each block of the result is summed over two points,
eight heads at each, and the sum of the two is the sum over all sixteen.
-/

@[expose] public section

set_option maxRecDepth 16384

noncomputable section

namespace Cert.Proof.QueryRowIdeal

open Cert.QueryRowIdeal Cert.QueryRowIdeal.Gen Cert.QueryRowIdeal.Value Cert.Proof.Prod
open Idealize.ShloMosaic Idealize.ShloMosaic.TcCoe Idealize.ShloMosaic.Tactic

/-! ## At a point -/

theorem first_at (v0 v1 v2 v3 v4 v5 v6 v7 : FVec Ideal S1x1024x256 .bf16) (x : FVec Ideal S512x2048 .bf16) (y : S8x1024x256.Idx → EReal)
    (h0 : ∀ k l, v0 (ix3 0 k l) = y (ix3 0 k l))
    (h1 : ∀ k l, v1 (ix3 0 k l) = y (ix3 1 k l))
    (h2 : ∀ k l, v2 (ix3 0 k l) = y (ix3 2 k l))
    (h3 : ∀ k l, v3 (ix3 0 k l) = y (ix3 3 k l))
    (h4 : ∀ k l, v4 (ix3 0 k l) = y (ix3 4 k l))
    (h5 : ∀ k l, v5 (ix3 0 k l) = y (ix3 5 k l))
    (h6 : ∀ k l, v6 (ix3 0 k l) = y (ix3 6 k l))
    (h7 : ∀ k l, v7 (ix3 0 k l) = y (ix3 7 k l)) (j : S1024x512.Idx) :
    k0_pay3 (F := Ideal) v0 v1 v2 v3 v4 v5 v6 v7 x j = nt (A := 1024) (B := 2048) (C := 512) (joined (H := 8) (A := 1024) rfl y) x j := by
  obtain ⟨r, l, rfl⟩ : ∃ r l, j = ix2 r l := ⟨j 0, j 1, eq_ix2 j⟩
  unfold nt
  pointwise [k0_pay3, k0_pay2]
  refine Finset.sum_congr rfl fun k _ => congrArg (· * x (ix2 l k)) ?_
  split_ifs <;> first
    | refine (h0 _ _).trans (joined_of rfl y r k 0 _ ?_); show k.val = 0 * 256 + k.val; omega
    | refine (h1 _ _).trans (joined_of rfl y r k 1 _ ?_); show k.val = 1 * 256 + (k.val - 256); omega
    | refine (h2 _ _).trans (joined_of rfl y r k 2 _ ?_); show k.val = 2 * 256 + (k.val - 256 - 256); omega
    | refine (h3 _ _).trans (joined_of rfl y r k 3 _ ?_); show k.val = 3 * 256 + (k.val - 256 - 256 - 256); omega
    | refine (h4 _ _).trans (joined_of rfl y r k 4 _ ?_); show k.val = 4 * 256 + (k.val - 256 - 256 - 256 - 256); omega
    | refine (h5 _ _).trans (joined_of rfl y r k 5 _ ?_); show k.val = 5 * 256 + (k.val - 256 - 256 - 256 - 256 - 256); omega
    | refine (h6 _ _).trans (joined_of rfl y r k 6 _ ?_); show k.val = 6 * 256 + (k.val - 256 - 256 - 256 - 256 - 256 - 256); omega
    | refine (h7 _ _).trans (joined_of rfl y r k 7 _ ?_); show k.val = 7 * 256 + (k.val - 256 - 256 - 256 - 256 - 256 - 256 - 256); omega
theorem later_at (v0 v1 v2 v3 v4 v5 v6 v7 : FVec Ideal S1x1024x256 .bf16) (x : FVec Ideal S512x2048 .bf16) (a : FVec Ideal S1024x512 .f32) (j : S1024x512.Idx) :
    k0_pay1 (F := Ideal) (k0_pay2 (F := Ideal) v0 v1 v2 v3 v4 v5 v6 v7 x) a j = a j + k0_pay3 (F := Ideal) v0 v1 v2 v3 v4 v5 v6 v7 x j := by
  obtain ⟨r, l, rfl⟩ : ∃ r l, j = ix2 r l := ⟨j 0, j 1, eq_ix2 j⟩
  pointwise [k0_pay1, k0_pay3]

/-- The pieces of a block as the body loads them. -/
theorem piece_at (y : Vec Ideal S8x1024x256 .bf16) (e : Fin 8) (inb) (k : Fin 1024) (l : Fin 256) :
    View.ld (Val := Elt Ideal) y (Rect.unit (s := S8x1024x256) ![e.val, 0, 0] S1x1024x256.size inb) (ix3 0 k l) = y (ix3 e k l) :=
  View.ld_unit_apply_of _ _ _ _ _ _ fun a => match a with
    | ⟨0, _⟩ => (Nat.add_zero _).symm
    | ⟨1, _⟩ => (Nat.zero_add _).symm
    | ⟨2, _⟩ => (Nat.zero_add _).symm

section
variable (m : (ℓ : Loc nD τ sig) → Buf (Elt Ideal) ℓ) (c : Dev nD)

/-- What a point adds to the sum. -/
def term (t : Fin cfg0.N) : S1024x512.Idx → EReal :=
  nt (A := 1024) (B := 2048) (C := 512) (joined (H := 8) (A := 1024) rfl (iblk m c 0 t : S8x1024x256.Idx → EReal)) (iblk m c 1 t)

/-- What the sum holds when its block is written. -/
theorem held (t : Fin cfg0.N) (hr : t.val % 2 = 1) (j : S1024x512.Idx) :
    (outsAt0 m c t.val t.isLt).2 j = ∑ s : Fin 2, term m c ⟨2 * (t.val / 2) + s.val, Pipeline.run_point_lt_of_flush t hr s⟩ j := by
  refine (Pipeline.eq_sum_fin_of_reset_step_apply_of_flush (fun n h => (outsAt0 m c n h).2) 2 (fun _ => (0 : EReal))
    (fun t => term m c t) (fun t h i => ?_) (fun t h i => ?_) t hr j).trans (zero_add _)
  · rw [outsAt0_A m c t h (by omega) (by omega)]
    frame_out
    exact (first_at _ _ _ _ _ _ _ _ _ (iblk m c 0 t) (piece_at _ 0 _) (piece_at _ 1 _) (piece_at _ 2 _) (piece_at _ 3 _) (piece_at _ 4 _) (piece_at _ 5 _) (piece_at _ 6 _) (piece_at _ 7 _) i).trans (zero_add _).symm
  · rw [outsAt0_B m c t h (by omega) (by omega)]
    frame_out
    rw [later_at]
    exact congrArg₂ (· + ·) (congrFun (Memref.IsWhole.read_unread _ _) i) (first_at _ _ _ _ _ _ _ _ _ (iblk m c 0 t) (piece_at _ 0 _) (piece_at _ 1 _) (piece_at _ 2 _) (piece_at _ 3 _) (piece_at _ 4 _) (piece_at _ 5 _) (piece_at _ 6 _) (piece_at _ 7 _) i)

/-- What is written is what the sum holds. -/
theorem written (t : Fin cfg0.N) (hr : t.val % 2 = 1) (j : S1024x512.Idx) : (outsAt0 m c t.val t.isLt).1 j = (outsAt0 m c t.val t.isLt).2 j := by
  rw [outsAt0_B m c t (by omega) (by omega) hr]
  frame_out

/-! ## The blocks of the arguments -/

theorem idx : ∀ t : Fin cfg0.N, win0_0.index t = ![t.val % 2, t.val / 2, 0] ∧ win0_1.index t = ![0, t.val % 2] :=
  (by decide +kernel : ∀ t : Fin grid0.N, _)

/-- The arguments as arrays of numbers. -/
def W : S512x4096.Idx → EReal := (m ((c : Thread nD τ).loc main_arg1) : FVec Ideal S512x4096 .f32)
def Z : S16x8192x256.Idx → EReal := (m ((c : Thread nD τ).loc main_arg2) : FVec Ideal S16x8192x256 .f32)

theorem grads_eq : (V m c main_v0 : S16x8192x256.Idx → EReal) = Z m c := by
  unfold V Z
  after_results_simp
  rfl
theorem weights_eq : (V m c main_v1 : S512x4096.Idx → EReal) = W m c := by
  unfold V W
  after_results_simp
  rfl

theorem grads_at (t : Fin cfg0.N) (e : Fin 8) (r : Fin 1024) (l : Fin 256) (he : t.val % 2 * 8 + e < 16) (hr : t.val / 2 * 1024 + r < 8192) :
    (iblk m c 0 t : S8x1024x256.Idx → EReal) (ix3 e r l) = Z m c (ix3 ⟨t.val % 2 * 8 + e, he⟩ ⟨t.val / 2 * 1024 + r, hr⟩ l) := by
  rw [← grads_eq]
  blk_ext [iblk, idx t]
theorem weights_at (t : Fin cfg0.N) (l : Fin 512) (k : Fin 2048) (hk : t.val % 2 * 2048 + k < 4096) :
    (iblk m c 1 t : S512x2048.Idx → EReal) (ix2 l k) = W m c (ix2 l ⟨t.val % 2 * 2048 + k, hk⟩) := by
  rw [← weights_eq]
  blk_ext [iblk, idx t]

/-! ## The result -/

theorem result_at (i : S8192x512.Idx) :
    (G2 m c : S8192x512.Idx → EReal) i = nt (A := 8192) (B := 4096) (C := 512) (joined (H := 16) (A := 8192) rfl (Z m c)) (W m c) i := by
  have h0 : (i 0).val < 8192 := (i 0).isLt
  have h1 : (i 1).val < 512 := (i 1).isLt
  have hN : cfg0.N = 16 := N_0
  have hp : pt2Of i < cfg0.N := by rw [hN]; unfold pt2Of run2Of; omega
  have hr : pt2Of i % 2 = 1 := by unfold pt2Of; omega
  unfold G2
  rw [dif_pos hp, ← outsAt0_sweep]
  refine (written m c ⟨_, hp⟩ hr _).trans ((held m c ⟨_, hp⟩ hr _).trans ?_)
  unfold term nt
  refine Fin.sum_mul_add_congr fun s k hl => ?_
  have e : (2 * (pt2Of i / 2) + s.val) % 2 = s := by omega
  have e0 : (2 * (pt2Of i / 2) + s.val) / 2 * 1024 + (i 0).val % 1024 = (i 0).val := by unfold pt2Of run2Of; omega
  have k0 := k.isLt
  refine congrArg₂ (· * ·)
    ((grads_at m c _ ⟨k.val / 256, by omega⟩ ⟨(i 0).val % 1024, by omega⟩ ⟨k.val % 256, by omega⟩ (by dsimp only; omega) (by dsimp only; omega)).trans
      (Eq.trans ?_ (joined_of (H := 16) rfl (Z m c) (i 0) ⟨s.val * 2048 + k.val, hl⟩ ⟨(s.val * 2048 + k.val) / 256, by omega⟩ ⟨(s.val * 2048 + k.val) % 256, by omega⟩ (by dsimp only; omega))))
    ((weights_at m c _ ⟨(i 1).val % 512, by omega⟩ k (by dsimp only; omega)).trans ?_)
  · have a0 : (2 * (pt2Of i / 2) + s.val) % 2 * 8 + k.val / 256 = (s.val * 2048 + k.val) / 256 := by rw [e]; omega
    have a2 : k.val % 256 = (s.val * 2048 + k.val) % 256 := by omega
    exact congrArg (Z m c) (congr (congrArg₂ ix3 (Fin.ext a0) (Fin.ext e0)) (Fin.ext a2))
  · exact congrArg (W m c) (congrArg₂ ix2 (Fin.ext (by dsimp only; omega)) (Fin.ext (by dsimp only; rw [e])))
end

end Cert.Proof.QueryRowIdeal

end
-- ==== Proof.Prod.Embed.lean ====
module

public import proofs.«01_k».proof.Defs
public import proofs.«01_k».proof.Proof.Prod.Sums
public import proofs.«01_k».proof.Proof.Gen.EmbedIdeal.Value
public import Idealize.ShloMosaic.Lib.Claim
public import Idealize.ShloMosaic.Lib.Tactic
public import Idealize.ShloMosaic.Lib.Pipeline.ValueKit

/-!
The per-layer embeddings' projection: each block of the result is one product of a block of rows and a block of columns.
-/

@[expose] public section

set_option maxRecDepth 16384

noncomputable section

namespace Cert.Proof.EmbedIdeal

open Cert.EmbedIdeal Cert.EmbedIdeal.Gen Cert.EmbedIdeal.Value Cert.Proof.Prod
open Idealize.ShloMosaic Idealize.ShloMosaic.TcCoe Idealize.ShloMosaic.Tactic

/-- What the body leaves is the product of its two blocks. -/
theorem body_at (x : FVec Ideal S1024x256 .f32) (y : FVec Ideal S256x1024 .bf16) (j : S1024x1024.Idx) : out0_2 (F := Ideal) x y j = nn (A := 1024) (B := 256) (C := 1024) x y j := by
  obtain ⟨r, l, rfl⟩ : ∃ r l, j = ix2 r l := ⟨j 0, j 1, eq_ix2 j⟩
  frame_out
  unfold nn
  pointwise [k0_pay1]

section
variable (m : (ℓ : Loc nD τ sig) → Buf (Elt Ideal) ℓ) (c : Dev nD)

theorem idx : ∀ t : Fin cfg0.N, win0_0.index t = ![t.val / 2, 0] ∧ win0_1.index t = ![0, t.val % 2] ∧ win0_2.index t = ![t.val / 2, t.val % 2] :=
  (by decide +kernel : ∀ t : Fin grid0.N, _)

/-- The arguments as arrays of numbers. -/
def X : S8192x256.Idx → EReal := (m ((c : Thread nD τ).loc main_arg0) : FVec Ideal S8192x256 .f32)
def W : S256x2048.Idx → EReal := (m ((c : Thread nD τ).loc main_arg1) : FVec Ideal S256x2048 .f32)
theorem x_eq : (V m c main_arg0 : S8192x256.Idx → EReal) = X m c := by
  unfold V X
  after_results_simp
theorem w_eq : (V m c main_v0 : S256x2048.Idx → EReal) = W m c := by
  unfold V W
  after_results_simp
  rfl

theorem x_at (t : Fin cfg0.N) (r : Fin 1024) (k : Fin 256) (hr : t.val / 2 * 1024 + r < 8192) :
    (iblk m c 0 t : S1024x256.Idx → EReal) (ix2 r k) = X m c (ix2 ⟨t.val / 2 * 1024 + r, hr⟩ k) := by
  rw [← x_eq]
  blk_ext [iblk, idx t]
theorem w_at (t : Fin cfg0.N) (k : Fin 256) (l : Fin 1024) (hl : t.val % 2 * 1024 + l < 2048) :
    (iblk m c 1 t : S256x1024.Idx → EReal) (ix2 k l) = W m c (ix2 k ⟨t.val % 2 * 1024 + l, hl⟩) := by
  rw [← w_eq]
  blk_ext [iblk, idx t]

/-- What a point writes is its block of the product. -/
theorem flushed_eq (t : Fin cfg0.N) :
    (dats m 0 c).flushed 2 t = ((cfg0.win 2).blk t).view.read (Elt Ideal) (nn (A := 8192) (B := 256) (C := 2048) (X m c) (W m c) : S8192x2048.Idx → EReal) := by
  have ht : t.val < 16 := Nat.lt_of_lt_of_eq t.isLt N_0
  rw [flushed2]
  funext y
  obtain ⟨e0, e1, e2⟩ := idx t
  have y0 : (y 0).val < 1024 := (y 0).isLt
  have y1 : (y 1).val < 1024 := (y 1).isLt
  have a0 : (((cfg0.win 2).blk t).view.emb y 0).val = win0_2.index t (0 : Fin 2) * 1024 + 1 * (y 0).val := rfl
  have a1 : (((cfg0.win 2).blk t).view.emb y 1).val = win0_2.index t (1 : Fin 2) * 1024 + 1 * (y 1).val := rfl
  rw [e2] at a0 a1
  have b0 : (((cfg0.win 2).blk t).view.emb y 0).val = t.val / 2 * 1024 + 1 * (y 0).val := a0
  have b1 : (((cfg0.win 2).blk t).view.emb y 1).val = t.val % 2 * 1024 + 1 * (y 1).val := a1
  show out0_2 (F := Ideal) (iblk m c 0 t) (iblk m c 1 t) ((cfg0.win 2).xinj (grid0.coords t) y)
    = nn (A := 8192) (B := 256) (C := 2048) (X m c) (W m c) (((cfg0.win 2).blk t).view.emb y)
  rw [body_at]
  unfold nn
  refine Finset.sum_congr rfl fun k _ => congrArg₂ (· * ·) ((x_at m c t ⟨(y 0).val, y0⟩ k (by dsimp only; omega)).trans ?_)
    ((w_at m c t k ⟨(y 1).val, y1⟩ (by dsimp only; omega)).trans ?_)
  · exact congrArg (X m c) (congrArg₂ ix2 (Fin.ext (Eq.trans (by dsimp only; omega) b0.symm)) rfl)
  · exact congrArg (W m c) (congrArg₂ ix2 rfl (Fin.ext (Eq.trans (by dsimp only; omega) b1.symm)))

/-- The blocks fill the result. -/
theorem final : (dats m 0 c).arrAt 2 cfg0.N = (nn (A := 8192) (B := 256) (C := 2048) (X m c) (W m c) : S8192x2048.Idx → EReal) := by
  refine (dats m 0 c).arrAt_eq_of_cover 2 _ (fun t _ => flushed_eq m c t) fun i => ?_
  have i0 : (i 0).val < 8192 := (i 0).isLt
  have i1 : (i 1).val < 2048 := (i 1).isLt
  refine ⟨⟨(i 0).val / 1024 * 2 + (i 1).val / 1024, Nat.lt_of_lt_of_eq (by omega) N_0.symm⟩, flush0_2 _, ?_⟩
  generalize ht : (⟨(i 0).val / 1024 * 2 + (i 1).val / 1024, Nat.lt_of_lt_of_eq (by omega) N_0.symm⟩ : Fin cfg0.N) = t
  have hv : t.val = (i 0).val / 1024 * 2 + (i 1).val / 1024 := by rw [← ht]
  show i ∈ ((View.whole main_v1).slice (win0_2.rect t)).set
  rw [View.set_slice_whole, Rect.mem_set_unit]
  have e0 : win0_2.index t (0 : Fin 2) = t.val / 2 := congrFun (idx t).2.2 0
  have e1 : win0_2.index t (1 : Fin 2) = t.val % 2 := congrFun (idx t).2.2 1
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega
end

end Cert.Proof.EmbedIdeal

end
-- ==== Proof.Prod.EmbedWeight.lean ====
module

public import proofs.«01_k».proof.Defs
public import proofs.«01_k».proof.Proof.Gen.EmbedWeightIdeal.Value
public import proofs.«01_k».proof.Proof.Prod.Sums
public import Idealize.ShloMosaic.Lib.Claim
public import Idealize.ShloMosaic.Lib.Tactic
public import Idealize.ShloMosaic.Lib.Pipeline.ValueKit

/-!
The gradient of the per-layer embeddings' weights: each block of the result is summed over four points,
2048 rows at each, and the sum of the four is the sum over all 8192 rows.
-/

@[expose] public section

set_option maxRecDepth 16384

noncomputable section

namespace Cert.Proof.EmbedWeightIdeal

open Cert.EmbedWeightIdeal Cert.EmbedWeightIdeal.Gen Cert.EmbedWeightIdeal.Value Cert.Proof.Prod
open Idealize.ShloMosaic Idealize.ShloMosaic.TcCoe Idealize.ShloMosaic.Tactic

/-! ## At a point -/

theorem first_at (x : FVec Ideal S2048x256 .f32) (y : FVec Ideal S2048x1024 .bf16) (j : S256x1024.Idx) :
    k0_pay2 (F := Ideal) x y j = tn (A := 256) (B := 2048) (C := 1024) x y j := by
  obtain ⟨r, l, rfl⟩ : ∃ r l, j = ix2 r l := ⟨j 0, j 1, eq_ix2 j⟩
  unfold tn
  pointwise [k0_pay2, k0_pay1]
theorem later_at (x : FVec Ideal S2048x256 .f32) (y : FVec Ideal S2048x1024 .bf16) (a : FVec Ideal S256x1024 .f32) (j : S256x1024.Idx) :
    k0_pay3 (F := Ideal) x y a j = a j + tn (A := 256) (B := 2048) (C := 1024) x y j := by
  obtain ⟨r, l, rfl⟩ : ∃ r l, j = ix2 r l := ⟨j 0, j 1, eq_ix2 j⟩
  unfold tn
  pointwise [k0_pay3, k0_pay1]

section
variable (m : (ℓ : Loc nD τ sig) → Buf (Elt Ideal) ℓ) (c : Dev nD)

/-- What the sum holds when its block is written. -/
theorem held (t : Fin cfg0.N) (hr : t.val % 4 = 3) (j : S256x1024.Idx) :
    (outsAt0 m c t.val t.isLt).2 j = ∑ s : Fin 4, tn (A := 256) (B := 2048) (C := 1024) (iblk m c 0 ⟨4 * (t.val / 4) + s.val, Pipeline.run_point_lt_of_flush t hr s⟩)
      (iblk m c 1 ⟨4 * (t.val / 4) + s.val, Pipeline.run_point_lt_of_flush t hr s⟩) j := by
  refine (Pipeline.eq_sum_fin_of_reset_step_apply_of_flush (fun n h => (outsAt0 m c n h).2) 4 (fun _ => (0 : EReal))
    (fun t => tn (A := 256) (B := 2048) (C := 1024) (iblk m c 0 t) (iblk m c 1 t)) (fun t h i => ?_) (fun t h i => ?_) t hr j).trans (zero_add _)
  · rw [outsAt0_A m c t h (by omega) (by omega)]
    frame_out
    rw [first_at, zero_add]
  · by_cases h3 : t.val % 4 = 3
    · rw [outsAt0_C m c t h (by omega) h3]
      frame_out
      rw [later_at]
      exact congrArg (· + _) (congrFun (Memref.IsWhole.read_unread _ _) i)
    · rw [outsAt0_B m c t h (by omega) h3]
      frame_out
      rw [later_at]
      exact congrArg (· + _) (congrFun (Memref.IsWhole.read_unread _ _) i)

/-- What is written is what the sum holds. -/
theorem written (t : Fin cfg0.N) (hr : t.val % 4 = 3) (j : S256x1024.Idx) : (outsAt0 m c t.val t.isLt).1 j = (outsAt0 m c t.val t.isLt).2 j := by
  rw [outsAt0_C m c t (by omega) (by omega) hr]
  frame_out
  pointwise [k0_pay4]

/-! ## The blocks of the arguments -/

theorem idx : ∀ t : Fin cfg0.N, win0_0.index t = ![t.val % 4, t.val / 8] ∧ win0_1.index t = ![t.val % 4, t.val / 4 % 2] :=
  (by decide +kernel : ∀ t : Fin grid0.N, _)

/-- The arguments as arrays of numbers. -/
def H : S8192x256.Idx → EReal := (m ((c : Thread nD τ).loc main_arg0) : FVec Ideal S8192x256 .f32)
def Z : S8192x2048.Idx → EReal := (m ((c : Thread nD τ).loc main_arg2) : FVec Ideal S8192x2048 .f32)

theorem rows_eq : (V m c main_arg0 : S8192x256.Idx → EReal) = H m c := by
  unfold V H
  after_results_simp
theorem grads_eq : (V m c main_v0 : S8192x2048.Idx → EReal) = Z m c := by
  unfold V Z
  after_results_simp
  rfl

theorem rows_at (t : Fin cfg0.N) (k : Fin 2048) (r : Fin 256) (hk : t.val % 4 * 2048 + k < 8192) (hr : t.val / 8 * 256 + r < 256) :
    (iblk m c 0 t : S2048x256.Idx → EReal) (ix2 k r) = H m c (ix2 ⟨t.val % 4 * 2048 + k, hk⟩ ⟨t.val / 8 * 256 + r, hr⟩) := by
  rw [← rows_eq]
  blk_ext [iblk, idx t]
theorem grads_at (t : Fin cfg0.N) (k : Fin 2048) (l : Fin 1024) (hk : t.val % 4 * 2048 + k < 8192) (hl : t.val / 4 % 2 * 1024 + l < 2048) :
    (iblk m c 1 t : S2048x1024.Idx → EReal) (ix2 k l) = Z m c (ix2 ⟨t.val % 4 * 2048 + k, hk⟩ ⟨t.val / 4 % 2 * 1024 + l, hl⟩) := by
  rw [← grads_eq]
  blk_ext [iblk, idx t]

/-! ## The result -/

theorem result_at (i : S256x2048.Idx) : (G2 m c : S256x2048.Idx → EReal) i = tn (A := 256) (B := 8192) (C := 2048) (H m c) (Z m c) i := by
  have h0 : (i 0).val < 256 := (i 0).isLt
  have h1 : (i 1).val < 2048 := (i 1).isLt
  have hN : cfg0.N = 8 := N_0
  have hp : pt2Of i < cfg0.N := by rw [hN]; unfold pt2Of run2Of; omega
  have hr : pt2Of i % 4 = 3 := by unfold pt2Of; omega
  unfold G2
  rw [dif_pos hp, ← outsAt0_sweep]
  refine (written m c ⟨_, hp⟩ hr _).trans ((held m c ⟨_, hp⟩ hr _).trans ?_)
  unfold tn
  refine Fin.sum_mul_add_congr fun s k hl => ?_
  have e : (4 * (pt2Of i / 4) + s.val) % 4 = s := by omega
  have e0 : (4 * (pt2Of i / 4) + s.val) / 8 * 256 + (i 0).val % 256 = (i 0).val := by unfold pt2Of run2Of; omega
  have e1 : (4 * (pt2Of i / 4) + s.val) / 4 % 2 * 1024 + (i 1).val % 1024 = (i 1).val := by unfold pt2Of run2Of; omega
  refine congrArg₂ (· * ·) ((rows_at m c _ k ⟨(i 0).val % 256, by omega⟩ (by dsimp only; omega) (by dsimp only; omega)).trans ?_)
    ((grads_at m c _ k ⟨(i 1).val % 1024, by omega⟩ (by dsimp only; omega) (by dsimp only; omega)).trans ?_)
  · exact congrArg (H m c) (congrArg₂ ix2 (Fin.ext (by dsimp only; rw [e])) (Fin.ext e0))
  · exact congrArg (Z m c) (congrArg₂ ix2 (Fin.ext (by dsimp only; rw [e])) (Fin.ext e1))
end

end Cert.Proof.EmbedWeightIdeal

end
-- ==== Proof.Prod.HeadRefs.lean ====
module

public import proofs.«01_k».proof.Defs
public import proofs.«01_k».proof.Proof.Prod.Sums
public import proofs.«01_k».proof.Proof.Prod.Heads
public import proofs.«01_k».proof.Proof.Gen.QueryRefIdeal.Run
public import proofs.«01_k».proof.Proof.Gen.KeyValueRefIdeal.Run
public import proofs.«01_k».proof.Proof.Gen.QueryWeightRefIdeal.Run
public import proofs.«01_k».proof.Proof.Gen.QueryRowRefIdeal.Run
public import proofs.«01_k».proof.Proof.Gen.EmbedRefIdeal.Run
public import proofs.«01_k».proof.Proof.Gen.EmbedWeightRefIdeal.Run
public import Idealize.ShloMosaic.Lib.Claim
public import Idealize.ShloMosaic.Lib.Tactic

/-!
The references of the heads' and the embeddings' products, entry by entry.
-/

@[expose] public section

set_option maxRecDepth 16384

noncomputable section

namespace Cert.Proof.QueryRefIdeal

open Cert.QueryRefIdeal Cert.QueryRefIdeal.Gen Cert.Proof.Prod
open Idealize.ShloMosaic Idealize.ShloMosaic.TcCoe Idealize.ShloMosaic.Tactic

/-- The reference's product, cut into heads. -/
theorem result_at (x : FVec Ideal S8192x512 .f32) (w : FVec Ideal S512x4096 .f32) (i : S16x8192x256.Idx) :
    (transpose S16x8192x256 [1, 0, 2] (shapeCast _ (Host.dotGeneral dot_S8192x512_S512x4096_S8192x4096_1_0_0_1_n_n none x w) shapeCasts_S8192x4096_S8192x16x256) transposes_S8192x16x256_S16x8192x256_1_0_2 : FVec Ideal S16x8192x256 .f32) i
      = headed (A := 8192) (nn (A := 8192) (B := 512) (C := 4096) x w) i := by
  obtain ⟨h, r, l, rfl⟩ : ∃ h r l, i = ix3 h r l := ⟨i 0, i 1, i 2, eq_ix3 i⟩
  unfold headed nn
  pointwise []

end Cert.Proof.QueryRefIdeal

namespace Cert.Proof.KeyValueRefIdeal

open Cert.KeyValueRefIdeal Cert.KeyValueRefIdeal.Gen Cert.Proof.Prod
open Idealize.ShloMosaic Idealize.ShloMosaic.TcCoe Idealize.ShloMosaic.Tactic

theorem result_at (x : FVec Ideal S8192x512 .f32) (w : FVec Ideal S512x4096 .f32) (i : S16x8192x256.Idx) :
    (truncf .bf16 (transpose S16x8192x256 [1, 0, 2] (shapeCast _ (Host.dotGeneral dot_S8192x512_S512x4096_S8192x4096_1_0_0_1_n_n none x w) shapeCasts_S8192x4096_S8192x16x256) transposes_S8192x16x256_S16x8192x256_1_0_2) bitsLt_bf16_f32 : FVec Ideal S16x8192x256 .bf16) i
      = headed (A := 8192) (nn (A := 8192) (B := 512) (C := 4096) x w) i :=
  Cert.Proof.QueryRefIdeal.result_at x w i

end Cert.Proof.KeyValueRefIdeal

namespace Cert.Proof.QueryWeightRefIdeal

open Cert.QueryWeightRefIdeal Cert.QueryWeightRefIdeal.Gen Cert.Proof.Prod
open Idealize.ShloMosaic Idealize.ShloMosaic.TcCoe Idealize.ShloMosaic.Tactic

/-- The heads side by side. -/
theorem joined_at (z : FVec Ideal S16x8192x256 .f32) :
    (shapeCast _ (transpose S8192x16x256 [1, 0, 2] z transposes_S16x8192x256_S8192x16x256_1_0_2) shapeCasts_S8192x16x256_S8192x4096 : FVec Ideal S8192x4096 .f32)
      = (joined (H := 16) (A := 8192) rfl z : S8192x4096.Idx → EReal) := by
  funext i
  obtain ⟨r, l, rfl⟩ : ∃ r l, i = ix2 r l := ⟨i 0, i 1, eq_ix2 i⟩
  unfold joined
  pointwise []
/-- The same sum, its factors the other way round. -/
theorem result_at (x : FVec Ideal S8192x512 .f32) (z : FVec Ideal S16x8192x256 .f32) (i : S512x4096.Idx) :
    (truncf .bf16 (transpose S512x4096 [1, 0] (Host.dotGeneral dot_S8192x4096_S8192x512_S4096x512_0_0_1_1_n_n none (shapeCast _ (transpose S8192x16x256 [1, 0, 2] z transposes_S16x8192x256_S8192x16x256_1_0_2) shapeCasts_S8192x16x256_S8192x4096) x) transposes_S4096x512_S512x4096_1_0) bitsLt_bf16_f32 : FVec Ideal S512x4096 .bf16) i
      = tn (A := 512) (B := 8192) (C := 4096) x (joined (H := 16) (A := 8192) rfl z) i := by
  obtain ⟨r, l, rfl⟩ : ∃ r l, i = ix2 r l := ⟨i 0, i 1, eq_ix2 i⟩
  rw [joined_at]
  generalize (joined (H := 16) (A := 8192) rfl z : S8192x4096.Idx → EReal) = y
  unfold tn
  refine Eq.trans ?_ (Finset.sum_congr rfl fun x _ => mul_comm _ _)
  pointwise []

end Cert.Proof.QueryWeightRefIdeal

namespace Cert.Proof.QueryRowRefIdeal

open Cert.QueryRowRefIdeal Cert.QueryRowRefIdeal.Gen Cert.Proof.Prod
open Idealize.ShloMosaic Idealize.ShloMosaic.TcCoe Idealize.ShloMosaic.Tactic

theorem result_at (w : FVec Ideal S512x4096 .f32) (z : FVec Ideal S16x8192x256 .f32) (i : S8192x512.Idx) :
    (Host.dotGeneral dot_S8192x4096_S512x4096_S8192x512_1_1_0_0_n_n none (shapeCast _ (transpose S8192x16x256 [1, 0, 2] z transposes_S16x8192x256_S8192x16x256_1_0_2) shapeCasts_S8192x16x256_S8192x4096) w : FVec Ideal S8192x512 .f32) i
      = nt (A := 8192) (B := 4096) (C := 512) (joined (H := 16) (A := 8192) rfl z) w i := by
  obtain ⟨r, l, rfl⟩ : ∃ r l, i = ix2 r l := ⟨i 0, i 1, eq_ix2 i⟩
  refine (congrArg (fun y : S8192x4096.Idx → EReal => (Host.dotGeneral dot_S8192x4096_S512x4096_S8192x512_1_1_0_0_n_n none (y : FVec Ideal S8192x4096 .f32) w : FVec Ideal S8192x512 .f32) (ix2 r l))
    (Cert.Proof.QueryWeightRefIdeal.joined_at z)).trans ?_
  generalize (joined (H := 16) (A := 8192) rfl z : S8192x4096.Idx → EReal) = y
  unfold nt
  pointwise []

end Cert.Proof.QueryRowRefIdeal

namespace Cert.Proof.EmbedRefIdeal

open Cert.EmbedRefIdeal Cert.EmbedRefIdeal.Gen Cert.Proof.Prod
open Idealize.ShloMosaic Idealize.ShloMosaic.TcCoe Idealize.ShloMosaic.Tactic

theorem result_at (x : FVec Ideal S8192x256 .f32) (w : FVec Ideal S256x2048 .f32) (i : S8192x2048.Idx) :
    (Host.dotGeneral dot_S8192x256_S256x2048_S8192x2048_1_0_0_1_n_n none x w : FVec Ideal S8192x2048 .f32) i = nn (A := 8192) (B := 256) (C := 2048) x w i := by
  obtain ⟨r, l, rfl⟩ : ∃ r l, i = ix2 r l := ⟨i 0, i 1, eq_ix2 i⟩
  unfold nn
  pointwise []

end Cert.Proof.EmbedRefIdeal

namespace Cert.Proof.EmbedWeightRefIdeal

open Cert.EmbedWeightRefIdeal Cert.EmbedWeightRefIdeal.Gen Cert.Proof.Prod
open Idealize.ShloMosaic Idealize.ShloMosaic.TcCoe Idealize.ShloMosaic.Tactic

theorem result_at (x : FVec Ideal S8192x256 .f32) (z : FVec Ideal S8192x2048 .f32) (i : S256x2048.Idx) :
    (truncf .bf16 (transpose S256x2048 [1, 0] (Host.dotGeneral dot_S8192x2048_S8192x256_S2048x256_0_0_1_1_n_n none z x) transposes_S2048x256_S256x2048_1_0) bitsLt_bf16_f32 : FVec Ideal S256x2048 .bf16) i
      = tn (A := 256) (B := 8192) (C := 2048) x z i := by
  obtain ⟨r, l, rfl⟩ : ∃ r l, i = ix2 r l := ⟨i 0, i 1, eq_ix2 i⟩
  unfold tn
  refine Eq.trans ?_ (Finset.sum_congr rfl fun x _ => mul_comm _ _)
  pointwise []

end Cert.Proof.EmbedWeightRefIdeal

end
-- ==== Proof.Prod.HeadCalls.lean ====
module

public import proofs.«01_k».proof.Defs
public import proofs.«01_k».proof.Proof.Gen.Query
public import proofs.«01_k».proof.Proof.Gen.QueryIdeal.Value
public import proofs.«01_k».proof.Proof.Prod.Query
public import proofs.«01_k».proof.Proof.Gen.QueryRefIdeal.Run
public import proofs.«01_k».proof.Proof.Gen.QueryRef.Run
public import proofs.«01_k».proof.Proof.Gen.KeyValue
public import proofs.«01_k».proof.Proof.Gen.KeyValueIdeal.Value
public import proofs.«01_k».proof.Proof.Prod.KeyValue
public import proofs.«01_k».proof.Proof.Gen.KeyValueRefIdeal.Run
public import proofs.«01_k».proof.Proof.Gen.KeyValueRef.Run
public import proofs.«01_k».proof.Proof.Gen.QueryWeight
public import proofs.«01_k».proof.Proof.Gen.QueryWeightIdeal.Value
public import proofs.«01_k».proof.Proof.Prod.QueryWeight
public import proofs.«01_k».proof.Proof.Gen.QueryWeightRefIdeal.Run
public import proofs.«01_k».proof.Proof.Gen.QueryWeightRef.Run
public import proofs.«01_k».proof.Proof.Gen.QueryRow
public import proofs.«01_k».proof.Proof.Gen.QueryRowIdeal.Value
public import proofs.«01_k».proof.Proof.Prod.QueryRow
public import proofs.«01_k».proof.Proof.Gen.QueryRowRefIdeal.Run
public import proofs.«01_k».proof.Proof.Gen.QueryRowRef.Run
public import proofs.«01_k».proof.Proof.Gen.Embed
public import proofs.«01_k».proof.Proof.Gen.EmbedIdeal.Value
public import proofs.«01_k».proof.Proof.Prod.Embed
public import proofs.«01_k».proof.Proof.Gen.EmbedRefIdeal.Run
public import proofs.«01_k».proof.Proof.Gen.EmbedRef.Run
public import proofs.«01_k».proof.Proof.Gen.EmbedWeight
public import proofs.«01_k».proof.Proof.Gen.EmbedWeightIdeal.Value
public import proofs.«01_k».proof.Proof.Prod.EmbedWeight
public import proofs.«01_k».proof.Proof.Gen.EmbedWeightRefIdeal.Run
public import proofs.«01_k».proof.Proof.Gen.EmbedWeightRef.Run
public import proofs.«01_k».proof.Proof.Prod.HeadRefs
public import Idealize.ShloMosaic.PureOps.IdealRules

/-!
The heads' and the embeddings' products on their own: what each call ends with, and that it is what its reference ends with.
-/

@[expose] public section

noncomputable section

namespace Cert.Proof

open Idealize.ShloMosaic Idealize.SL.Sem

/-! ## The references -/

theorem query_frame_ri : Cert.quiescent_QueryRefIdeal := fun m g _ =>
  (θ_run Cert.QueryRefIdeal.defs _ _).mono (fun r h => ⟨fun c => (h c).2, sem_eq_zero_of_no_sems (by decide) r.2⟩)
    (Cert.QueryRefIdeal.Value.run m g)
theorem query_frame_r : Cert.quiescent_QueryRef := fun m g _ =>
  (θ_run Cert.QueryRefIdeal.defs _ _).mono (fun r h => ⟨fun c => (h c).2, sem_eq_zero_of_no_sems (by decide) r.2⟩)
    (Cert.QueryRefIdeal.Value.run (F := Bits) m g)

theorem key_value_frame_ri : Cert.quiescent_KeyValueRefIdeal := fun m g _ =>
  (θ_run Cert.KeyValueRefIdeal.defs _ _).mono (fun r h => ⟨fun c => (h c).2, sem_eq_zero_of_no_sems (by decide) r.2⟩)
    (Cert.KeyValueRefIdeal.Value.run m g)
theorem key_value_frame_r : Cert.quiescent_KeyValueRef := fun m g _ =>
  (θ_run Cert.KeyValueRefIdeal.defs _ _).mono (fun r h => ⟨fun c => (h c).2, sem_eq_zero_of_no_sems (by decide) r.2⟩)
    (Cert.KeyValueRefIdeal.Value.run (F := Bits) m g)

theorem query_weight_frame_ri : Cert.quiescent_QueryWeightRefIdeal := fun m g _ =>
  (θ_run Cert.QueryWeightRefIdeal.defs _ _).mono (fun r h => ⟨fun c => (h c).2, sem_eq_zero_of_no_sems (by decide) r.2⟩)
    (Cert.QueryWeightRefIdeal.Value.run m g)
theorem query_weight_frame_r : Cert.quiescent_QueryWeightRef := fun m g _ =>
  (θ_run Cert.QueryWeightRefIdeal.defs _ _).mono (fun r h => ⟨fun c => (h c).2, sem_eq_zero_of_no_sems (by decide) r.2⟩)
    (Cert.QueryWeightRefIdeal.Value.run (F := Bits) m g)

theorem query_row_frame_ri : Cert.quiescent_QueryRowRefIdeal := fun m g _ =>
  (θ_run Cert.QueryRowRefIdeal.defs _ _).mono (fun r h => ⟨fun c => (h c).2, sem_eq_zero_of_no_sems (by decide) r.2⟩)
    (Cert.QueryRowRefIdeal.Value.run m g)
theorem query_row_frame_r : Cert.quiescent_QueryRowRef := fun m g _ =>
  (θ_run Cert.QueryRowRefIdeal.defs _ _).mono (fun r h => ⟨fun c => (h c).2, sem_eq_zero_of_no_sems (by decide) r.2⟩)
    (Cert.QueryRowRefIdeal.Value.run (F := Bits) m g)

theorem embed_frame_ri : Cert.quiescent_EmbedRefIdeal := fun m g _ =>
  (θ_run Cert.EmbedRefIdeal.defs _ _).mono (fun r h => ⟨fun c => (h c).2, sem_eq_zero_of_no_sems (by decide) r.2⟩)
    (Cert.EmbedRefIdeal.Value.run m g)
theorem embed_frame_r : Cert.quiescent_EmbedRef := fun m g _ =>
  (θ_run Cert.EmbedRefIdeal.defs _ _).mono (fun r h => ⟨fun c => (h c).2, sem_eq_zero_of_no_sems (by decide) r.2⟩)
    (Cert.EmbedRefIdeal.Value.run (F := Bits) m g)

theorem embed_weight_frame_ri : Cert.quiescent_EmbedWeightRefIdeal := fun m g _ =>
  (θ_run Cert.EmbedWeightRefIdeal.defs _ _).mono (fun r h => ⟨fun c => (h c).2, sem_eq_zero_of_no_sems (by decide) r.2⟩)
    (Cert.EmbedWeightRefIdeal.Value.run m g)
theorem embed_weight_frame_r : Cert.quiescent_EmbedWeightRef := fun m g _ =>
  (θ_run Cert.EmbedWeightRefIdeal.defs _ _).mono (fun r h => ⟨fun c => (h c).2, sem_eq_zero_of_no_sems (by decide) r.2⟩)
    (Cert.EmbedWeightRefIdeal.Value.run (F := Bits) m g)

/-! ## The calls: each as printed and as read at the real arrays runs one body -/

theorem query_defs : Cert.Query.defs (F := Bits) = Cert.QueryIdeal.defs (F := Bits) := by
  unfold Cert.Query.defs Cert.QueryIdeal.defs
  refine congrArg (Pipeline.defs _) ?_
  unfold Cert.Query.defs₀ Cert.QueryIdeal.defs₀
  congr 1
  funext ⟨ℓ, h⟩ x
  match ℓ, h, x with
  | 0, _, x => rfl

theorem query_frame_p : Cert.quiescent_Query := fun m g _ => by
  rw [query_defs]
  exact Cert.QueryIdeal.Gen.frame (F := Bits) m g
theorem query_frame_pi : Cert.quiescent_QueryIdeal := fun m g _ => Cert.QueryIdeal.Gen.frame m g

/-- The call and the reference end with the queries. -/
theorem query_algebraic : Cert.algebraic_QueryIdeal_QueryRefIdeal := by
  intro m g m' g' _ hargs
  refine ⟨fun c => (Cert.QueryIdeal.Gen.dats m 0 c).arrAt 2 Cert.QueryIdeal.cfg0.N, Cert.QueryIdeal.Value.run_blocks m g, ?_⟩
  refine (θ_run Cert.QueryRefIdeal.defs _ _).mono (fun r h c => ⟨(h c).1.trans ?_, (h c).2⟩) (Cert.QueryRefIdeal.Value.run m' g')
  obtain ⟨a0, a1⟩ := hargs c
  rw [a0, a1]
  exact (funext fun i => Cert.Proof.QueryRefIdeal.result_at _ _ i).trans (Cert.Proof.QueryIdeal.final m c).symm

theorem key_value_defs : Cert.KeyValue.defs (F := Bits) = Cert.KeyValueIdeal.defs (F := Bits) := by
  unfold Cert.KeyValue.defs Cert.KeyValueIdeal.defs
  refine congrArg (Pipeline.defs _) ?_
  unfold Cert.KeyValue.defs₀ Cert.KeyValueIdeal.defs₀
  congr 1
  funext ⟨ℓ, h⟩ x
  match ℓ, h, x with
  | 0, _, x => rfl

theorem key_value_frame_p : Cert.quiescent_KeyValue := fun m g _ => by
  rw [key_value_defs]
  exact Cert.KeyValueIdeal.Gen.frame (F := Bits) m g
theorem key_value_frame_pi : Cert.quiescent_KeyValueIdeal := fun m g _ => Cert.KeyValueIdeal.Gen.frame m g

/-- The call and the reference end with the keys or the values. -/
theorem key_value_algebraic : Cert.algebraic_KeyValueIdeal_KeyValueRefIdeal := by
  intro m g m' g' _ hargs
  refine ⟨fun c => (Cert.KeyValueIdeal.Gen.dats m 0 c).arrAt 2 Cert.KeyValueIdeal.cfg0.N, Cert.KeyValueIdeal.Value.run_blocks m g, ?_⟩
  refine (θ_run Cert.KeyValueRefIdeal.defs _ _).mono (fun r h c => ⟨(h c).1.trans ?_, (h c).2⟩) (Cert.KeyValueRefIdeal.Value.run m' g')
  obtain ⟨a0, a1⟩ := hargs c
  rw [a0, a1]
  exact (funext fun i => Cert.Proof.KeyValueRefIdeal.result_at _ _ i).trans (Cert.Proof.KeyValueIdeal.final m c).symm

theorem query_weight_defs : Cert.QueryWeight.defs (F := Bits) = Cert.QueryWeightIdeal.defs (F := Bits) := by
  unfold Cert.QueryWeight.defs Cert.QueryWeightIdeal.defs
  refine congrArg (Pipeline.defs _) ?_
  unfold Cert.QueryWeight.defs₀ Cert.QueryWeightIdeal.defs₀
  congr 1
  funext ⟨ℓ, h⟩ x
  match ℓ, h, x with
  | 0, _, x => rfl

theorem query_weight_frame_p : Cert.quiescent_QueryWeight := fun m g _ => by
  rw [query_weight_defs]
  exact Cert.QueryWeightIdeal.Gen.frame (F := Bits) m g
theorem query_weight_frame_pi : Cert.quiescent_QueryWeightIdeal := fun m g _ => Cert.QueryWeightIdeal.Gen.frame m g

/-- The call and the reference end with the gradient of the query projection's weights. -/
theorem query_weight_algebraic : Cert.algebraic_QueryWeightIdeal_QueryWeightRefIdeal := by
  intro m g m' g' _ hargs
  refine ⟨fun c => Cert.QueryWeightIdeal.Value.G2 m c, Cert.QueryWeightIdeal.Value.run m g, ?_⟩
  refine (θ_run Cert.QueryWeightRefIdeal.defs _ _).mono (fun r h c => ⟨(h c).1.trans ?_, (h c).2⟩) (Cert.QueryWeightRefIdeal.Value.run m' g')
  obtain ⟨a0, a1, a2⟩ := hargs c
  rw [a0, a2]
  exact funext fun i => (Cert.Proof.QueryWeightRefIdeal.result_at _ _ i).trans (Cert.Proof.QueryWeightIdeal.result_at m c i).symm

theorem query_row_defs : Cert.QueryRow.defs (F := Bits) = Cert.QueryRowIdeal.defs (F := Bits) := by
  unfold Cert.QueryRow.defs Cert.QueryRowIdeal.defs
  refine congrArg (Pipeline.defs _) ?_
  unfold Cert.QueryRow.defs₀ Cert.QueryRowIdeal.defs₀
  congr 1
  funext ⟨ℓ, h⟩ x
  match ℓ, h, x with
  | 0, _, x => rfl

theorem query_row_frame_p : Cert.quiescent_QueryRow := fun m g _ => by
  rw [query_row_defs]
  exact Cert.QueryRowIdeal.Gen.frame (F := Bits) m g
theorem query_row_frame_pi : Cert.quiescent_QueryRowIdeal := fun m g _ => Cert.QueryRowIdeal.Gen.frame m g

/-- The call and the reference end with the gradient of the query projection's rows. -/
theorem query_row_algebraic : Cert.algebraic_QueryRowIdeal_QueryRowRefIdeal := by
  intro m g m' g' _ hargs
  refine ⟨fun c => Cert.QueryRowIdeal.Value.G2 m c, Cert.QueryRowIdeal.Value.run m g, ?_⟩
  refine (θ_run Cert.QueryRowRefIdeal.defs _ _).mono (fun r h c => ⟨(h c).1.trans ?_, (h c).2⟩) (Cert.QueryRowRefIdeal.Value.run m' g')
  obtain ⟨a0, a1, a2⟩ := hargs c
  rw [a1, a2]
  exact funext fun i => (Cert.Proof.QueryRowRefIdeal.result_at _ _ i).trans (Cert.Proof.QueryRowIdeal.result_at m c i).symm

theorem embed_defs : Cert.Embed.defs (F := Bits) = Cert.EmbedIdeal.defs (F := Bits) := by
  unfold Cert.Embed.defs Cert.EmbedIdeal.defs
  refine congrArg (Pipeline.defs _) ?_
  unfold Cert.Embed.defs₀ Cert.EmbedIdeal.defs₀
  congr 1
  funext ⟨ℓ, h⟩ x
  match ℓ, h, x with
  | 0, _, x => rfl

theorem embed_frame_p : Cert.quiescent_Embed := fun m g _ => by
  rw [embed_defs]
  exact Cert.EmbedIdeal.Gen.frame (F := Bits) m g
theorem embed_frame_pi : Cert.quiescent_EmbedIdeal := fun m g _ => Cert.EmbedIdeal.Gen.frame m g

/-- The call and the reference end with the embeddings' projection. -/
theorem embed_algebraic : Cert.algebraic_EmbedIdeal_EmbedRefIdeal := by
  intro m g m' g' _ hargs
  refine ⟨fun c => (Cert.EmbedIdeal.Gen.dats m 0 c).arrAt 2 Cert.EmbedIdeal.cfg0.N, Cert.EmbedIdeal.Value.run_blocks m g, ?_⟩
  refine (θ_run Cert.EmbedRefIdeal.defs _ _).mono (fun r h c => ⟨(h c).1.trans ?_, (h c).2⟩) (Cert.EmbedRefIdeal.Value.run m' g')
  obtain ⟨a0, a1⟩ := hargs c
  rw [a0, a1]
  exact (funext fun i => Cert.Proof.EmbedRefIdeal.result_at _ _ i).trans (Cert.Proof.EmbedIdeal.final m c).symm

theorem embed_weight_defs : Cert.EmbedWeight.defs (F := Bits) = Cert.EmbedWeightIdeal.defs (F := Bits) := by
  unfold Cert.EmbedWeight.defs Cert.EmbedWeightIdeal.defs
  refine congrArg (Pipeline.defs _) ?_
  unfold Cert.EmbedWeight.defs₀ Cert.EmbedWeightIdeal.defs₀
  congr 1
  funext ⟨ℓ, h⟩ x
  match ℓ, h, x with
  | 0, _, x => rfl

theorem embed_weight_frame_p : Cert.quiescent_EmbedWeight := fun m g _ => by
  rw [embed_weight_defs]
  exact Cert.EmbedWeightIdeal.Gen.frame (F := Bits) m g
theorem embed_weight_frame_pi : Cert.quiescent_EmbedWeightIdeal := fun m g _ => Cert.EmbedWeightIdeal.Gen.frame m g

/-- The call and the reference end with the gradient of the embeddings' weights. -/
theorem embed_weight_algebraic : Cert.algebraic_EmbedWeightIdeal_EmbedWeightRefIdeal := by
  intro m g m' g' _ hargs
  refine ⟨fun c => Cert.EmbedWeightIdeal.Value.G2 m c, Cert.EmbedWeightIdeal.Value.run m g, ?_⟩
  refine (θ_run Cert.EmbedWeightRefIdeal.defs _ _).mono (fun r h c => ⟨(h c).1.trans ?_, (h c).2⟩) (Cert.EmbedWeightRefIdeal.Value.run m' g')
  obtain ⟨a0, a1, a2⟩ := hargs c
  rw [a0, a2]
  exact funext fun i => (Cert.Proof.EmbedWeightRefIdeal.result_at _ _ i).trans (Cert.Proof.EmbedWeightIdeal.result_at m c i).symm

end Cert.Proof
-- ==== Proof.Weight.lean ====
module

public import proofs.«01_k».proof.Defs
public import proofs.«01_k».proof.Proof.Gen.WeightGradIdeal.Value
public import proofs.«01_k».proof.Proof.Gen.WeightGradRefIdeal.Run
public import Idealize.ShloMosaic.Lib.Claim
public import Idealize.ShloMosaic.Lib.Tactic
public import Idealize.ShloMosaic.Lib.Pipeline.ValueKit

/-!
The gradient of the input projection's weights: each block of the result is summed over four points,
2048 rows at each, and the sum of the four is the sum over all 8192 rows.
-/

@[expose] public section

set_option maxRecDepth 16384

noncomputable section

namespace Cert.Proof.WeightGradIdeal

open Cert.WeightGradIdeal Cert.WeightGradIdeal.Gen Cert.WeightGradIdeal.Value
open Idealize.ShloMosaic Idealize.ShloMosaic.TcCoe Idealize.ShloMosaic.Tactic

/-! ## At a point -/

/-- One point's share of an entry: 2048 rows. -/
def share (x : FVec Ideal S2048x1024 .bf16) (y : FVec Ideal S2048x1280 .bf16) (j : S1024x1280.Idx) : EReal :=
  ∑ k : Fin 2048, x (ix2 k (j 0)) * y (ix2 k (j 1))

theorem first_at (x : FVec Ideal S2048x1024 .bf16) (y : FVec Ideal S2048x1280 .bf16) (j : S1024x1280.Idx) :
    k0_pay2 (F := Ideal) x y j = share x y j := by
  obtain ⟨r, l, rfl⟩ : ∃ r l, j = ix2 r l := ⟨j 0, j 1, eq_ix2 j⟩
  unfold share
  pointwise [k0_pay2, k0_pay1]
theorem later_at (x : FVec Ideal S2048x1024 .bf16) (y : FVec Ideal S2048x1280 .bf16) (a : FVec Ideal S1024x1280 .f32) (j : S1024x1280.Idx) :
    k0_pay3 (F := Ideal) x y a j = a j + share x y j := by
  obtain ⟨r, l, rfl⟩ : ∃ r l, j = ix2 r l := ⟨j 0, j 1, eq_ix2 j⟩
  unfold share
  pointwise [k0_pay3, k0_pay1]

section
variable (m : (ℓ : Loc nD τ sig) → Buf (Elt Ideal) ℓ) (c : Dev nD)

/-- What the sum holds when its block is written. -/
theorem held (t : Fin cfg0.N) (hr : t.val % 4 = 3) (j : S1024x1280.Idx) :
    (outsAt0 m c t.val t.isLt).2 j = ∑ s : Fin 4, share (iblk m c 0 ⟨4 * (t.val / 4) + s.val, Pipeline.run_point_lt_of_flush t hr s⟩)
      (iblk m c 1 ⟨4 * (t.val / 4) + s.val, Pipeline.run_point_lt_of_flush t hr s⟩) j := by
  refine (Pipeline.eq_sum_fin_of_reset_step_apply_of_flush (fun n h => (outsAt0 m c n h).2) 4 (fun _ => (0 : EReal))
    (fun t => share (iblk m c 0 t) (iblk m c 1 t)) (fun t h i => ?_) (fun t h i => ?_) t hr j).trans (zero_add _)
  · rw [outsAt0_A m c t h (by omega) (by omega)]
    frame_out
    rw [first_at, zero_add]
  · by_cases h3 : t.val % 4 = 3
    · rw [outsAt0_C m c t h (by omega) h3]
      frame_out
      rw [later_at]
      exact congrArg (· + _) (congrFun (Memref.IsWhole.read_unread _ _) i)
    · rw [outsAt0_B m c t h (by omega) h3]
      frame_out
      rw [later_at]
      exact congrArg (· + _) (congrFun (Memref.IsWhole.read_unread _ _) i)

/-- What is written is what the sum holds. -/
theorem written (t : Fin cfg0.N) (hr : t.val % 4 = 3) (j : S1024x1280.Idx) : (outsAt0 m c t.val t.isLt).1 j = (outsAt0 m c t.val t.isLt).2 j := by
  rw [outsAt0_C m c t (by omega) (by omega) hr]
  frame_out
  pointwise [k0_pay4]

/-! ## The blocks of the arguments -/

theorem idx : ∀ t : Fin cfg0.N, win0_0.index t = ![t.val % 4, t.val / 36] ∧ win0_1.index t = ![t.val % 4, t.val / 4 % 9] :=
  (by decide +kernel : ∀ t : Fin grid0.N, _)

/-- The arguments as arrays of numbers. -/
def H : S8192x2048.Idx → EReal := (m ((c : Thread nD τ).loc main_arg0) : FVec Ideal S8192x2048 .f32)
def Z : S8192x11520.Idx → EReal := (m ((c : Thread nD τ).loc main_arg2) : FVec Ideal S8192x11520 .f32)

theorem rows_eq : (V m c main_v0 : S8192x2048.Idx → EReal) = H m c := by
  unfold V H
  after_results_simp
  rfl
theorem grads_eq : (V m c main_v1 : S8192x11520.Idx → EReal) = Z m c := by
  unfold V Z
  after_results_simp
  rfl

theorem rows_at (t : Fin cfg0.N) (k : Fin 2048) (r : Fin 1024) (hk : t.val % 4 * 2048 + k < 8192) (hr : t.val / 36 * 1024 + r < 2048) :
    (iblk m c 0 t : S2048x1024.Idx → EReal) (ix2 k r) = H m c (ix2 ⟨t.val % 4 * 2048 + k, hk⟩ ⟨t.val / 36 * 1024 + r, hr⟩) := by
  rw [← rows_eq]
  blk_ext [iblk, idx t]
theorem grads_at (t : Fin cfg0.N) (k : Fin 2048) (l : Fin 1280) (hk : t.val % 4 * 2048 + k < 8192) (hl : t.val / 4 % 9 * 1280 + l < 11520) :
    (iblk m c 1 t : S2048x1280.Idx → EReal) (ix2 k l) = Z m c (ix2 ⟨t.val % 4 * 2048 + k, hk⟩ ⟨t.val / 4 % 9 * 1280 + l, hl⟩) := by
  rw [← grads_eq]
  blk_ext [iblk, idx t]

/-! ## The result -/

/-- An entry of the gradient: the sum over the rows. -/
def grad (h : S8192x2048.Idx → EReal) (z : S8192x11520.Idx → EReal) (i : S2048x11520.Idx) : EReal := ∑ x : Fin 8192, h (ix2 x (i 0)) * z (ix2 x (i 1))

theorem result_at (i : S2048x11520.Idx) : (G2 m c : S2048x11520.Idx → EReal) i = grad (H m c) (Z m c) i := by
  have h0 : (i 0).val < 2048 := (i 0).isLt
  have h1 : (i 1).val < 11520 := (i 1).isLt
  have hN : cfg0.N = 72 := N_0
  have hp : pt2Of i < cfg0.N := by rw [hN]; unfold pt2Of run2Of; omega
  have hr : pt2Of i % 4 = 3 := by unfold pt2Of; omega
  unfold G2
  rw [dif_pos hp, ← outsAt0_sweep]
  refine (written m c ⟨_, hp⟩ hr _).trans ((held m c ⟨_, hp⟩ hr _).trans ?_)
  unfold grad share
  refine Fin.sum_mul_add_congr fun s k hl => ?_
  have e : (4 * (pt2Of i / 4) + s.val) % 4 = s := by omega
  have e0 : (4 * (pt2Of i / 4) + s.val) / 36 * 1024 + (i 0).val % 1024 = (i 0).val := by unfold pt2Of run2Of; omega
  have e1 : (4 * (pt2Of i / 4) + s.val) / 4 % 9 * 1280 + (i 1).val % 1280 = (i 1).val := by unfold pt2Of run2Of; omega
  refine congrArg₂ (· * ·) ((rows_at m c _ k ⟨(i 0).val % 1024, by omega⟩ (by dsimp only; omega) (by dsimp only; omega)).trans ?_)
    ((grads_at m c _ k ⟨(i 1).val % 1280, by omega⟩ (by dsimp only; omega) (by dsimp only; omega)).trans ?_)
  · exact congrArg (H m c) (congrArg₂ ix2 (Fin.ext (by dsimp only; rw [e])) (Fin.ext e0))
  · exact congrArg (Z m c) (congrArg₂ ix2 (Fin.ext (by dsimp only; rw [e])) (Fin.ext e1))
end

end Cert.Proof.WeightGradIdeal

namespace Cert.Proof.WeightGradRefIdeal

open Cert.WeightGradRefIdeal Cert.WeightGradRefIdeal.Gen
open Idealize.ShloMosaic Idealize.ShloMosaic.TcCoe Idealize.ShloMosaic.Tactic

/-- The reference's entry: the same sum, its factors the other way round. -/
theorem result_at (h : FVec Ideal S8192x2048 .f32) (z : FVec Ideal S8192x11520 .f32) (i : S2048x11520.Idx) :
    (truncf .bf16 (transpose S2048x11520 [1, 0] (Host.dotGeneral dot_S8192x11520_S8192x2048_S11520x2048_0_0_1_1_n_n none z h) transposes_S11520x2048_S2048x11520_1_0) bitsLt_bf16_f32 : FVec Ideal S2048x11520 .bf16) i
      = Cert.Proof.WeightGradIdeal.grad h z i := by
  obtain ⟨r, l, rfl⟩ : ∃ r l, i = ix2 r l := ⟨i 0, i 1, eq_ix2 i⟩
  unfold Cert.Proof.WeightGradIdeal.grad
  refine Eq.trans ?_ (Finset.sum_congr rfl fun x _ => mul_comm _ _)
  pointwise []

end Cert.Proof.WeightGradRefIdeal

end
-- ==== Proof.Rows.lean ====
module

public import proofs.«01_k».proof.Defs
public import proofs.«01_k».proof.Proof.Gen.RowGradIdeal.Value
public import proofs.«01_k».proof.Proof.Gen.RowGradRefIdeal.Run
public import Idealize.ShloMosaic.Lib.Claim
public import Idealize.ShloMosaic.Lib.Tactic
public import Idealize.ShloMosaic.Lib.Pipeline.ValueKit

/-!
The gradient of the input projection's rows: each block of the result is summed over five points, 2304 columns
of the weights at each, and the sum of the five is the sum over all 11520 columns.
-/

@[expose] public section

set_option maxRecDepth 16384

noncomputable section

namespace Cert.Proof.RowGradIdeal

open Cert.RowGradIdeal Cert.RowGradIdeal.Gen Cert.RowGradIdeal.Value
open Idealize.ShloMosaic Idealize.ShloMosaic.TcCoe Idealize.ShloMosaic.Tactic

/-! ## At a point -/

/-- One point's share of an entry: 2304 columns. -/
def share (x : FVec Ideal S1024x2304 .bf16) (y : FVec Ideal S1024x2304 .bf16) (j : S1024x1024.Idx) : EReal :=
  ∑ k : Fin 2304, x (ix2 (j 0) k) * y (ix2 (j 1) k)

theorem first_at (x : FVec Ideal S1024x2304 .bf16) (y : FVec Ideal S1024x2304 .bf16) (j : S1024x1024.Idx) :
    k0_pay2 (F := Ideal) x y j = share x y j := by
  obtain ⟨r, l, rfl⟩ : ∃ r l, j = ix2 r l := ⟨j 0, j 1, eq_ix2 j⟩
  unfold share
  pointwise [k0_pay2, k0_pay1]
theorem later_at (x : FVec Ideal S1024x2304 .bf16) (y : FVec Ideal S1024x2304 .bf16) (a : FVec Ideal S1024x1024 .f32) (j : S1024x1024.Idx) :
    k0_pay3 (F := Ideal) x y a j = a j + share x y j := by
  obtain ⟨r, l, rfl⟩ : ∃ r l, j = ix2 r l := ⟨j 0, j 1, eq_ix2 j⟩
  unfold share
  pointwise [k0_pay3, k0_pay1]

section
variable (m : (ℓ : Loc nD τ sig) → Buf (Elt Ideal) ℓ) (c : Dev nD)

/-- What the sum holds when its block is written. -/
theorem held (t : Fin cfg0.N) (hr : t.val % 5 = 4) (j : S1024x1024.Idx) :
    (outsAt0 m c t.val t.isLt).2 j = ∑ s : Fin 5, share (iblk m c 0 ⟨5 * (t.val / 5) + s.val, Pipeline.run_point_lt_of_flush t hr s⟩)
      (iblk m c 1 ⟨5 * (t.val / 5) + s.val, Pipeline.run_point_lt_of_flush t hr s⟩) j := by
  refine (Pipeline.eq_sum_fin_of_reset_step_apply_of_flush (fun n h => (outsAt0 m c n h).2) 5 (fun _ => (0 : EReal))
    (fun t => share (iblk m c 0 t) (iblk m c 1 t)) (fun t h i => ?_) (fun t h i => ?_) t hr j).trans (zero_add _)
  · rw [outsAt0_A m c t h (by omega) (by omega)]
    frame_out
    rw [first_at, zero_add]
  · by_cases h3 : t.val % 5 = 4
    · rw [outsAt0_C m c t h (by omega) h3]
      frame_out
      rw [later_at]
      exact congrArg (· + _) (congrFun (Memref.IsWhole.read_unread _ _) i)
    · rw [outsAt0_B m c t h (by omega) h3]
      frame_out
      rw [later_at]
      exact congrArg (· + _) (congrFun (Memref.IsWhole.read_unread _ _) i)

/-- What is written is what the sum holds. -/
theorem written (t : Fin cfg0.N) (hr : t.val % 5 = 4) (j : S1024x1024.Idx) : (outsAt0 m c t.val t.isLt).1 j = (outsAt0 m c t.val t.isLt).2 j := by
  rw [outsAt0_C m c t (by omega) (by omega) hr]
  frame_out

/-! ## The blocks of the arguments -/

theorem idx : ∀ t : Fin cfg0.N, win0_0.index t = ![t.val / 10, t.val % 5] ∧ win0_1.index t = ![t.val / 5 % 2, t.val % 5] :=
  (by decide +kernel : ∀ t : Fin grid0.N, _)

/-- The arguments as arrays of numbers. -/
def Z : S8192x11520.Idx → EReal := (m ((c : Thread nD τ).loc main_arg2) : FVec Ideal S8192x11520 .f32)
def W : S2048x11520.Idx → EReal := (m ((c : Thread nD τ).loc main_arg1) : FVec Ideal S2048x11520 .f32)

theorem grads_eq : (V m c main_v0 : S8192x11520.Idx → EReal) = Z m c := by
  unfold V Z
  after_results_simp
  rfl
theorem weights_eq : (V m c main_v1 : S2048x11520.Idx → EReal) = W m c := by
  unfold V W
  after_results_simp
  rfl

theorem grads_at (t : Fin cfg0.N) (r : Fin 1024) (k : Fin 2304) (hr : t.val / 10 * 1024 + r < 8192) (hk : t.val % 5 * 2304 + k < 11520) :
    (iblk m c 0 t : S1024x2304.Idx → EReal) (ix2 r k) = Z m c (ix2 ⟨t.val / 10 * 1024 + r, hr⟩ ⟨t.val % 5 * 2304 + k, hk⟩) := by
  rw [← grads_eq]
  blk_ext [iblk, idx t]
theorem weights_at (t : Fin cfg0.N) (l : Fin 1024) (k : Fin 2304) (hl : t.val / 5 % 2 * 1024 + l < 2048) (hk : t.val % 5 * 2304 + k < 11520) :
    (iblk m c 1 t : S1024x2304.Idx → EReal) (ix2 l k) = W m c (ix2 ⟨t.val / 5 % 2 * 1024 + l, hl⟩ ⟨t.val % 5 * 2304 + k, hk⟩) := by
  rw [← weights_eq]
  blk_ext [iblk, idx t]

/-! ## The result -/

/-- An entry of the gradient: the sum over the weights' columns. -/
def grad (z : S8192x11520.Idx → EReal) (w : S2048x11520.Idx → EReal) (i : S8192x2048.Idx) : EReal := ∑ x : Fin 11520, z (ix2 (i 0) x) * w (ix2 (i 1) x)

theorem result_at (i : S8192x2048.Idx) : (G2 m c : S8192x2048.Idx → EReal) i = grad (Z m c) (W m c) i := by
  have h0 : (i 0).val < 8192 := (i 0).isLt
  have h1 : (i 1).val < 2048 := (i 1).isLt
  have hN : cfg0.N = 80 := N_0
  have hp : pt2Of i < cfg0.N := by rw [hN]; unfold pt2Of run2Of; omega
  have hr : pt2Of i % 5 = 4 := by unfold pt2Of; omega
  unfold G2
  rw [dif_pos hp, ← outsAt0_sweep]
  refine (written m c ⟨_, hp⟩ hr _).trans ((held m c ⟨_, hp⟩ hr _).trans ?_)
  unfold grad share
  refine Fin.sum_mul_add_congr fun s k hl => ?_
  have e : (5 * (pt2Of i / 5) + s.val) % 5 = s := by omega
  have e0 : (5 * (pt2Of i / 5) + s.val) / 10 * 1024 + (i 0).val % 1024 = (i 0).val := by unfold pt2Of run2Of; omega
  have e1 : (5 * (pt2Of i / 5) + s.val) / 5 % 2 * 1024 + (i 1).val % 1024 = (i 1).val := by unfold pt2Of run2Of; omega
  refine congrArg₂ (· * ·) ((grads_at m c _ ⟨(i 0).val % 1024, by omega⟩ k (by dsimp only; omega) (by dsimp only; omega)).trans ?_)
    ((weights_at m c _ ⟨(i 1).val % 1024, by omega⟩ k (by dsimp only; omega) (by dsimp only; omega)).trans ?_)
  · exact congrArg (Z m c) (congrArg₂ ix2 (Fin.ext e0) (Fin.ext (by dsimp only; rw [e])))
  · exact congrArg (W m c) (congrArg₂ ix2 (Fin.ext e1) (Fin.ext (by dsimp only; rw [e])))
end

end Cert.Proof.RowGradIdeal

namespace Cert.Proof.RowGradRefIdeal

open Cert.RowGradRefIdeal Cert.RowGradRefIdeal.Gen
open Idealize.ShloMosaic Idealize.ShloMosaic.TcCoe Idealize.ShloMosaic.Tactic

/-- The reference's entry: the same sum. -/
theorem result_at (z : FVec Ideal S8192x11520 .f32) (w : FVec Ideal S2048x11520 .f32) (i : S8192x2048.Idx) :
    (Host.dotGeneral dot_S8192x11520_S2048x11520_S8192x2048_1_1_0_0_n_n none z w : FVec Ideal S8192x2048 .f32) i = Cert.Proof.RowGradIdeal.grad z w i := by
  obtain ⟨r, l, rfl⟩ : ∃ r l, i = ix2 r l := ⟨i 0, i 1, eq_ix2 i⟩
  unfold Cert.Proof.RowGradIdeal.grad
  pointwise []

end Cert.Proof.RowGradRefIdeal

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Gen.Reference.Run
public import proofs.«01_k».proof.Proof.Launch
public import proofs.«01_k».proof.Proof.Kernel.Launch
public import proofs.«01_k».proof.Proof.Alg
public import proofs.«01_k».proof.Proof.Finite
public import proofs.«01_k».proof.Proof.Prod.Calls
public import proofs.«01_k».proof.Proof.Prod.HeadCalls
public import proofs.«01_k».proof.Proof.Weight
public import proofs.«01_k».proof.Proof.Rows
public import proofs.«01_k».proof.Proof.Gen.WeightGrad
public import proofs.«01_k».proof.Proof.Gen.WeightGradIdeal.Value
public import proofs.«01_k».proof.Proof.Gen.WeightGradRefIdeal.Run
public import proofs.«01_k».proof.Proof.Gen.WeightGradRef.Run
public import proofs.«01_k».proof.Proof.Gen.RowGrad
public import proofs.«01_k».proof.Proof.Gen.RowGradIdeal.Value
public import proofs.«01_k».proof.Proof.Gen.RowGradRefIdeal.Run
public import proofs.«01_k».proof.Proof.Gen.RowGradRef.Run
public import Idealize.ShloMosaic.PureOps.IdealRules

@[expose] public section

noncomputable section

namespace Cert.Proof

open Idealize.ShloMosaic Idealize.SL.Sem

/-- The kernel as printed ends with its arguments as launched and its counters at zero. -/
theorem frame_p : Cert.quiescent_Kernel := fun m g _ => Cert.Proof.Kernel.frame_run m g

/-- And idealized. -/
theorem frame_pi : Cert.quiescent_KernelIdeal := fun m g _ => Cert.Proof.KernelIdeal.frame_run m g

/-- The reference's run read at its arguments; it declares no semaphore. -/
theorem frame_r : Cert.quiescent_Reference := fun m g _ =>
  (θ_run Cert.Reference.defs _ _).mono (fun r h => ⟨fun c => (h c).2.2.2, sem_eq_zero_of_no_sems (by decide) r.2⟩)
    (Cert.Reference.Value.run m g)

theorem frame_ri : Cert.quiescent_ReferenceIdeal := fun m g _ =>
  (θ_run Cert.ReferenceIdeal.defs _ _).mono (fun r h => ⟨fun c => (h c).2.2.2, sem_eq_zero_of_no_sems (by decide) r.2⟩)
    (Cert.ReferenceIdeal.Value.run m g)

/-- Each named constant is the table's value. -/
theorem preserves_p : Cert.preserves_Kernel_KernelIdeal :=
  ⟨IdealRules.named_const.statement _ _ _ _ _ rfl, IdealRules.named_const.statement _ _ _ _ _ rfl, IdealRules.named_const.statement _ _ _ _ _ rfl⟩

/-- The idealized kernel and the idealized reference end with the same three gradients, at finite arguments. -/
theorem algebraic : Cert.algebraic_KernelIdeal_ReferenceIdeal_pre_finite (hPre_finite := Cert.Proof.Finite.facts) := by
  intro m g m' g' hpre hargs
  have H := fun c => Cert.Proof.Finite.reals _ _ _ _ _ _ (hpre c)
  refine ⟨fun c => (Cert.Proof.KernelIdeal.exactDats m 0 c).arrAt 7 Cert.KernelIdeal.cfg0.N, fun c => (Cert.Proof.KernelIdeal.exactDats m 0 c).arrAt 8 Cert.KernelIdeal.cfg0.N,
    fun c => (Cert.Proof.KernelIdeal.exactDats m 0 c).arrAt 9 Cert.KernelIdeal.cfg0.N, ?_, ?_⟩
  · exact (θ_run Cert.KernelIdeal.defs _ _).mono (fun r h => h.1)
      (Cert.Proof.KernelIdeal.exact_run m g fun c => Cert.Proof.KernelIdeal.rows_same m c (H c))
  · refine (θ_run Cert.ReferenceIdeal.defs _ _).mono (fun r h c => ?_) (Cert.ReferenceIdeal.Value.run m' g')
    obtain ⟨h0, h1, h2, h3⟩ := h c
    obtain ⟨a0, a1, a2, a3, a4, a5⟩ := hargs c
    refine ⟨h0.trans ?_, h1.trans ?_, h2.trans ?_, h3⟩
    · rw [Cert.Proof.ReferenceIdeal.res0_eq, a0, a1, a2, a3, a4, a5]
      exact (Cert.Proof.KernelIdeal.same0 m c (H c)).symm
    · rw [Cert.Proof.ReferenceIdeal.res1_eq, a0, a1, a2, a3, a4, a5]
      exact (Cert.Proof.KernelIdeal.same1 m c (H c)).symm
    · rw [Cert.Proof.ReferenceIdeal.res2_eq, a0, a1, a2, a3, a4, a5]
      exact (Cert.Proof.KernelIdeal.same2 m c (H c)).symm

/-! ## The input projection's weights -/

/-- The call as printed and the call read at the real arrays run one body. -/
theorem weight_defs : Cert.WeightGrad.defs (F := Bits) = Cert.WeightGradIdeal.defs (F := Bits) := by
  unfold Cert.WeightGrad.defs Cert.WeightGradIdeal.defs
  refine congrArg (Pipeline.defs _) ?_
  unfold Cert.WeightGrad.defs₀ Cert.WeightGradIdeal.defs₀
  congr 1
  funext ⟨ℓ, h⟩ x
  match ℓ, h, x with
  | 0, _, x => rfl

theorem weight_frame_p : Cert.quiescent_WeightGrad := fun m g _ => by
  rw [weight_defs]
  exact Cert.WeightGradIdeal.Gen.frame (F := Bits) m g
theorem weight_frame_pi : Cert.quiescent_WeightGradIdeal := fun m g _ => Cert.WeightGradIdeal.Gen.frame m g
theorem weight_frame_ri : Cert.quiescent_WeightGradRefIdeal := fun m g _ =>
  (θ_run Cert.WeightGradRefIdeal.defs _ _).mono (fun r h => ⟨fun c => (h c).2, sem_eq_zero_of_no_sems (by decide) r.2⟩)
    (Cert.WeightGradRefIdeal.Value.run m g)
theorem weight_frame_r : Cert.quiescent_WeightGradRef := fun m g _ =>
  (θ_run Cert.WeightGradRefIdeal.defs _ _).mono (fun r h => ⟨fun c => (h c).2, sem_eq_zero_of_no_sems (by decide) r.2⟩)
    (Cert.WeightGradRefIdeal.Value.run (F := Bits) m g)

/-- The call and the reference end with the same gradient of the weights. -/
theorem weight_algebraic : Cert.algebraic_WeightGradIdeal_WeightGradRefIdeal := by
  intro m g m' g' _ hargs
  refine ⟨fun c => Cert.WeightGradIdeal.Value.G2 m c, Cert.WeightGradIdeal.Value.run m g, ?_⟩
  refine (θ_run Cert.WeightGradRefIdeal.defs _ _).mono (fun r h c => ⟨(h c).1.trans ?_, (h c).2⟩) (Cert.WeightGradRefIdeal.Value.run m' g')
  obtain ⟨a0, a1, a2⟩ := hargs c
  rw [a0, a2]
  exact funext fun i => (Cert.Proof.WeightGradRefIdeal.result_at _ _ i).trans (Cert.Proof.WeightGradIdeal.result_at m c i).symm

/-! ## The input projection's rows -/

/-- The call as printed and the call read at the real arrays run one body. -/
theorem rows_defs : Cert.RowGrad.defs (F := Bits) = Cert.RowGradIdeal.defs (F := Bits) := by
  unfold Cert.RowGrad.defs Cert.RowGradIdeal.defs
  refine congrArg (Pipeline.defs _) ?_
  unfold Cert.RowGrad.defs₀ Cert.RowGradIdeal.defs₀
  congr 1
  funext ⟨ℓ, h⟩ x
  match ℓ, h, x with
  | 0, _, x => rfl

theorem rows_frame_p : Cert.quiescent_RowGrad := fun m g _ => by
  rw [rows_defs]
  exact Cert.RowGradIdeal.Gen.frame (F := Bits) m g
theorem rows_frame_pi : Cert.quiescent_RowGradIdeal := fun m g _ => Cert.RowGradIdeal.Gen.frame m g
theorem rows_frame_ri : Cert.quiescent_RowGradRefIdeal := fun m g _ =>
  (θ_run Cert.RowGradRefIdeal.defs _ _).mono (fun r h => ⟨fun c => (h c).2, sem_eq_zero_of_no_sems (by decide) r.2⟩)
    (Cert.RowGradRefIdeal.Value.run m g)
theorem rows_frame_r : Cert.quiescent_RowGradRef := fun m g _ =>
  (θ_run Cert.RowGradRefIdeal.defs _ _).mono (fun r h => ⟨fun c => (h c).2, sem_eq_zero_of_no_sems (by decide) r.2⟩)
    (Cert.RowGradRefIdeal.Value.run (F := Bits) m g)

/-- The call and the reference end with the same gradient of the rows. -/
theorem rows_algebraic : Cert.algebraic_RowGradIdeal_RowGradRefIdeal := by
  intro m g m' g' _ hargs
  refine ⟨fun c => Cert.RowGradIdeal.Value.G2 m c, Cert.RowGradIdeal.Value.run m g, ?_⟩
  refine (θ_run Cert.RowGradRefIdeal.defs _ _).mono (fun r h c => ⟨(h c).1.trans ?_, (h c).2⟩) (Cert.RowGradRefIdeal.Value.run m' g')
  obtain ⟨a0, a1, a2⟩ := hargs c
  rw [a1, a2]
  exact funext fun i => (Cert.Proof.RowGradRefIdeal.result_at _ _ i).trans (Cert.Proof.RowGradIdeal.result_at m c i).symm

theorem claim : Cert.Claim :=
  ⟨Cert.Kernel.Gen.facts, Cert.KernelIdeal.Gen.facts, Cert.ReferenceIdeal.Gen.facts, Cert.Reference.Gen.facts, Cert.WeightGrad.Gen.facts,
    Cert.WeightGradIdeal.Gen.facts, Cert.WeightGradRefIdeal.Gen.facts, Cert.WeightGradRef.Gen.facts, Cert.RowGrad.Gen.facts,
    Cert.RowGradIdeal.Gen.facts, Cert.RowGradRefIdeal.Gen.facts, Cert.RowGradRef.Gen.facts, Cert.In.Gen.facts, Cert.InIdeal.Gen.facts,
    Cert.InRefIdeal.Gen.facts, Cert.InRef.Gen.facts, Cert.Branch.Gen.facts, Cert.BranchIdeal.Gen.facts, Cert.BranchRefIdeal.Gen.facts,
    Cert.BranchRef.Gen.facts, Cert.BranchWeight.Gen.facts, Cert.BranchWeightIdeal.Gen.facts, Cert.SquareWeightRefIdeal.Gen.facts,
    Cert.SquareWeightRef.Gen.facts, Cert.OutWeight.Gen.facts, Cert.OutWeightIdeal.Gen.facts, Cert.BranchRow.Gen.facts, Cert.BranchRowIdeal.Gen.facts,
    Cert.SquareRowRefIdeal.Gen.facts, Cert.SquareRowRef.Gen.facts, Cert.OutRow.Gen.facts, Cert.OutRowIdeal.Gen.facts, Cert.Out.Gen.facts,
    Cert.OutIdeal.Gen.facts, Cert.OutRefIdeal.Gen.facts, Cert.OutRef.Gen.facts,
    Cert.Query.Gen.facts, Cert.QueryIdeal.Gen.facts, Cert.QueryRefIdeal.Gen.facts, Cert.QueryRef.Gen.facts,
    Cert.KeyValue.Gen.facts, Cert.KeyValueIdeal.Gen.facts, Cert.KeyValueRefIdeal.Gen.facts, Cert.KeyValueRef.Gen.facts,
    Cert.QueryWeight.Gen.facts, Cert.QueryWeightIdeal.Gen.facts, Cert.QueryWeightRefIdeal.Gen.facts, Cert.QueryWeightRef.Gen.facts,
    Cert.QueryRow.Gen.facts, Cert.QueryRowIdeal.Gen.facts, Cert.QueryRowRefIdeal.Gen.facts, Cert.QueryRowRef.Gen.facts,
    Cert.Embed.Gen.facts, Cert.EmbedIdeal.Gen.facts, Cert.EmbedRefIdeal.Gen.facts, Cert.EmbedRef.Gen.facts,
    Cert.EmbedWeight.Gen.facts, Cert.EmbedWeightIdeal.Gen.facts, Cert.EmbedWeightRefIdeal.Gen.facts, Cert.EmbedWeightRef.Gen.facts,
    Cert.Proof.Finite.facts,
    frame_p, frame_pi, fun m g _ => frame_pi m g trivial, frame_ri, fun m g _ => frame_ri m g trivial, frame_r, weight_frame_p, weight_frame_pi,
    weight_frame_ri, weight_frame_r, rows_frame_p, rows_frame_pi, rows_frame_ri, rows_frame_r, in_frame_p, in_frame_pi, in_frame_ri, in_frame_r,
    branch_frame_p, branch_frame_pi, branch_frame_ri, branch_frame_r, branch_weight_frame_p, branch_weight_frame_pi, square_weight_frame_ri,
    square_weight_frame_r, out_weight_frame_p, out_weight_frame_pi, branch_row_frame_p, branch_row_frame_pi, square_row_frame_ri, square_row_frame_r,
    out_row_frame_p, out_row_frame_pi, out_frame_p, out_frame_pi, out_frame_ri, out_frame_r,
    query_frame_p, query_frame_pi, query_frame_ri, query_frame_r,
    key_value_frame_p, key_value_frame_pi, key_value_frame_ri, key_value_frame_r,
    query_weight_frame_p, query_weight_frame_pi, query_weight_frame_ri, query_weight_frame_r,
    query_row_frame_p, query_row_frame_pi, query_row_frame_ri, query_row_frame_r,
    embed_frame_p, embed_frame_pi, embed_frame_ri, embed_frame_r,
    embed_weight_frame_p, embed_weight_frame_pi, embed_weight_frame_ri, embed_weight_frame_r,
    preserves_p, trivial, algebraic, trivial, trivial, weight_algebraic, trivial, trivial, rows_algebraic, trivial, trivial, in_algebraic, trivial,
    trivial, branch_algebraic, trivial, trivial, branch_weight_algebraic, trivial, out_weight_algebraic, trivial, trivial, branch_row_algebraic,
    trivial, out_row_algebraic, trivial, trivial, out_algebraic,
    trivial, trivial, query_algebraic,
    trivial, trivial, key_value_algebraic,
    trivial, trivial, query_weight_algebraic,
    trivial, trivial, query_row_algebraic,
    trivial, trivial, embed_algebraic,
    trivial, trivial, embed_weight_algebraic⟩

end Cert.Proof
